-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_ln [hPre_finite_ln : Cert.Pre_finite_ln.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_ln.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_ln [hPre_finite_ln : Cert.Pre_finite_ln.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_ln.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_latent [hPre_finite_latent : Cert.Pre_finite_latent.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_latent.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_latent [hPre_finite_latent : Cert.Pre_finite_latent.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_latent.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_ln [hKernel7Ideal : Cert.Kernel7Ideal.Facts] [hPre_finite_ln : Cert.Pre_finite_ln.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_ln m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_ln [hReference7Ideal : Cert.Reference7Ideal.Facts] [hPre_finite_ln : Cert.Pre_finite_ln.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_ln m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Kernel10Ideal_pre_finite_latent [hKernel10Ideal : Cert.Kernel10Ideal.Facts] [hPre_finite_latent : Cert.Pre_finite_latent.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_latent m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Reference10Ideal_pre_finite_latent [hReference10Ideal : Cert.Reference10Ideal.Facts] [hPre_finite_latent : Cert.Pre_finite_latent.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_latent m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)) (v2 : (c : Dev Cert.KernelIdeal.nD) → Buf (Elt Ideal) ((c.tc : Thread Cert.KernelIdeal.nD Cert.KernelIdeal.τ).loc Cert.KernelIdeal.main_v69_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_v69_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "alpha" .f32 0x3FB504F3#32 ((Real.sqrt (Real.sqrt 4) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_ln [hKernel7Ideal : Cert.Kernel7Ideal.Facts] [hReference7Ideal : Cert.Reference7Ideal.Facts] [hPre_finite_ln : Cert.Pre_finite_ln.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_ln m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v66) = v0 c
          ∧ r.2.mem ((c.tc : Thread Cert.Reference7Ideal.nD Cert.Reference7Ideal.τ).loc Cert.Reference7Ideal.main_v70) = v1 c
          ∧ r.2.mem ((c.tc : Thread Cert.Reference7Ideal.nD Cert.Reference7Ideal.τ).loc Cert.Reference7Ideal.main_v71) = v2 c
          ∧ r.2.mem ((c.tc : Thread Cert.Reference7Ideal.nD Cert.Reference7Ideal.τ).loc Cert.Reference7Ideal.main_v72) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_v33) = v1 c
          ∧ r.2.mem ((c.tc : Thread Cert.Reference8Ideal.nD Cert.Reference8Ideal.τ).loc Cert.Reference8Ideal.main_v8) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite_latent [hKernel10Ideal : Cert.Kernel10Ideal.Facts] [hReference10Ideal : Cert.Reference10Ideal.Facts] [hPre_finite_latent : Cert.Pre_finite_latent.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_latent m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v40_0)) (v1 : (c : Dev Cert.Kernel10Ideal.nD) → Buf (Elt Ideal) ((c.tc : Thread Cert.Kernel10Ideal.nD Cert.Kernel10Ideal.τ).loc Cert.Kernel10Ideal.main_v40_1)) (v2 : (c : Dev Cert.Kernel10Ideal.nD) → Buf (Elt Ideal) ((c.tc : Thread Cert.Kernel10Ideal.nD Cert.Kernel10Ideal.τ).loc Cert.Kernel10Ideal.main_v40_2)) (v3 : (c : Dev Cert.Kernel10Ideal.nD) → Buf (Elt Ideal) ((c.tc : Thread Cert.Kernel10Ideal.nD Cert.Kernel10Ideal.τ).loc Cert.Kernel10Ideal.main_v40_3)) (v4 : (c : Dev Cert.Kernel10Ideal.nD) → Buf (Elt Ideal) ((c.tc : Thread Cert.Kernel10Ideal.nD Cert.Kernel10Ideal.τ).loc Cert.Kernel10Ideal.main_v40_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v40_0) = v0 c
          ∧ r.2.mem ((c.tc : Thread Cert.Kernel10Ideal.nD Cert.Kernel10Ideal.τ).loc Cert.Kernel10Ideal.main_v40_1) = v1 c
          ∧ r.2.mem ((c.tc : Thread Cert.Kernel10Ideal.nD Cert.Kernel10Ideal.τ).loc Cert.Kernel10Ideal.main_v40_2) = v2 c
          ∧ r.2.mem ((c.tc : Thread Cert.Kernel10Ideal.nD Cert.Kernel10Ideal.τ).loc Cert.Kernel10Ideal.main_v40_3) = v3 c
          ∧ r.2.mem ((c.tc : Thread Cert.Kernel10Ideal.nD Cert.Kernel10Ideal.τ).loc Cert.Kernel10Ideal.main_v40_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v117) = v0 c
          ∧ r.2.mem ((c.tc : Thread Cert.Reference10Ideal.nD Cert.Reference10Ideal.τ).loc Cert.Reference10Ideal.main_v118) = v1 c
          ∧ r.2.mem ((c.tc : Thread Cert.Reference10Ideal.nD Cert.Reference10Ideal.τ).loc Cert.Reference10Ideal.main_v119) = v2 c
          ∧ r.2.mem ((c.tc : Thread Cert.Reference10Ideal.nD Cert.Reference10Ideal.τ).loc Cert.Reference10Ideal.main_v120) = v3 c
          ∧ r.2.mem ((c.tc : Thread Cert.Reference10Ideal.nD Cert.Reference10Ideal.τ).loc Cert.Reference10Ideal.main_v121) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite_ln : Cert.Pre_finite_ln.Facts) (hPre_finite_latent : Cert.Pre_finite_latent.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_ln (hKernel7Ideal := hKernel7Ideal) (hPre_finite_ln := hPre_finite_ln)
    ∧ quiescent_Reference7Ideal (hReference7Ideal := hReference7Ideal)
    ∧ quiescent_Reference7Ideal_pre_finite_ln (hReference7Ideal := hReference7Ideal) (hPre_finite_ln := hPre_finite_ln)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_latent (hKernel10Ideal := hKernel10Ideal) (hPre_finite_latent := hPre_finite_latent)
    ∧ quiescent_Reference10Ideal (hReference10Ideal := hReference10Ideal)
    ∧ quiescent_Reference10Ideal_pre_finite_latent (hReference10Ideal := hReference10Ideal) (hPre_finite_latent := hPre_finite_latent)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_ln (hKernel7Ideal := hKernel7Ideal) (hReference7Ideal := hReference7Ideal) (hPre_finite_ln := hPre_finite_ln)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_latent (hKernel10Ideal := hKernel10Ideal) (hReference10Ideal := hReference10Ideal) (hPre_finite_latent := hPre_finite_latent)
-- ==== Pre_finite.lean ====
abbrev S4096x1536 : Shape := ⟨2, ![4096, 1536]⟩
abbrev S4096x2048 : Shape := ⟨2, ![4096, 2048]⟩
abbrev S4096x8x64 : Shape := ⟨3, ![4096, 8, 64]⟩
abbrev S4096x32 : Shape := ⟨2, ![4096, 32]⟩
abbrev S4096x1024 : Shape := ⟨2, ![4096, 1024]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096x8x64 : S_.BroadcastsInDim S4096x8x64 (![] : Fin 0 → Fin S4096x8x64.rank)
  reducesTo_S4096x8x64_S_d0_1_2 : S4096x8x64.ReducesTo [0, 1, 2] S_
  bcast_S_S4096x32 : S_.BroadcastsInDim S4096x32 (![] : Fin 0 → Fin S4096x32.rank)
  reducesTo_S4096x32_S_d0_1 : S4096x32.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x32 .f32) (main_arg5 : FVec F S4096x1024 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1536 .f32) (main_arg1 : FVec F S4096x2048 .f32) (main_arg2 : FVec F S4096x8x64 .f32) (main_arg3 : FVec F S4096x32 .f32) (main_arg4 : FVec F S4096x32 .f32) (main_arg5 : FVec F S4096x1024 .f32) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x8x64 .f32 := Host.absf main_arg2
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_c_3 : IVec S_ 1 := constantI S_ 1 1#1
  let main_v12 : IVec S_ 1 := (fun x v => Host.reduce IntOp.andi x v reducesTo_S4096x8x64_S_d0_1_2 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_arg5 main_v13 main_v16
-- ==== Pre_finite_latent.lean ====
abbrev S4096x2048 : Shape := ⟨2, ![4096, 2048]⟩
abbrev S4096x8x64 : Shape := ⟨3, ![4096, 8, 64]⟩
abbrev S4096x5120 : Shape := ⟨2, ![4096, 5120]⟩
abbrev S4096x32 : Shape := ⟨2, ![4096, 32]⟩
abbrev S512 : Shape := ⟨1, ![512]⟩
abbrev S256 : Shape := ⟨1, ![256]⟩
abbrev S2048x512 : Shape := ⟨2, ![2048, 512]⟩
abbrev S2048x256 : Shape := ⟨2, ![2048, 256]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x5120 : S_.BroadcastsInDim S4096x5120 (![] : Fin 0 → Fin S4096x5120.rank)
  reducesTo_S4096x5120_S_d0_1 : S4096x5120.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_
  bcast_S_S2048x512 : S_.BroadcastsInDim S2048x512 (![] : Fin 0 → Fin S2048x512.rank)
  reducesTo_S2048x512_S_d0_1 : S2048x512.ReducesTo [0, 1] S_
  bcast_S_S2048x256 : S_.BroadcastsInDim S2048x256 (![] : Fin 0 → Fin S2048x256.rank)
  reducesTo_S2048x256_S_d0_1 : S2048x256.ReducesTo [0, 1] S_

variable [Facts]

def fn_part2 {F : FTy → Type} [FloatOps F] (main_v31 : IVec S_ 1) (main_v33 : FVec F S2048x256 .f32) (main_v34 : FVec F S2048x256 .f32) : IVec S_ 1 :=
  let main_v35 : IVec S2048x256 1 := cmpf .olt main_v33 main_v34
  let main_c_11 : IVec S_ 1 := constantI S_ 1 1#1
  let main_v36 : IVec S_ 1 := (fun x v => Host.reduce IntOp.andi x v reducesTo_S2048x256_S_d0_1 h_S_) main_v35 main_c_11
  let main_v37 : IVec S_ 1 := andi main_v31 main_v36
  main_v37

def fn_part1 {F : FTy → Type} [FloatOps F] (main_arg7 : FVec F S256 .f32) (main_arg8 : FVec F S2048x512 .bf16) (main_arg9 : FVec F S2048x256 .bf16) (main_v15 : IVec S_ 1) (main_v16 : FVec F S512 .f32) (main_cst_4 : FVec F S_ .f32) : IVec S_ 1 :=
  let main_v17 : FVec F S512 .f32 := broadcastInDim S512 ![] bcast_S_S512 main_cst_4
  let main_v18 : IVec S512 1 := cmpf .olt main_v16 main_v17
  let main_c_5 : IVec S_ 1 := constantI S_ 1 1#1
  let main_v19 : IVec S_ 1 := (fun x v => Host.reduce IntOp.andi x v reducesTo_S512_S_d0 h_S_) main_v18 main_c_5
  let main_v20 : IVec S_ 1 := andi main_v15 main_v19
  let main_v21 : FVec F S256 .f32 := Host.absf main_arg7
  let main_cst_6 : FVec F S_ .f32 := constant S_ .f32 0x7F800000#32
  let main_v22 : FVec F S256 .f32 := broadcastInDim S256 ![] bcast_S_S256 main_cst_6
  let main_v23 : IVec S256 1 := cmpf .olt main_v21 main_v22
  let main_c_7 : IVec S_ 1 := constantI S_ 1 1#1
  let main_v24 : IVec S_ 1 := (fun x v => Host.reduce IntOp.andi x v reducesTo_S256_S_d0 h_S_) main_v23 main_c_7
  let main_v25 : IVec S_ 1 := andi main_v20 main_v24
  let main_v26 : FVec F S2048x512 .f32 := (extf .f32 · bitsLt_bf16_f32) main_arg8
  let main_v27 : FVec F S2048x512 .f32 := Host.absf main_v26
  let main_cst_8 : FVec F S_ .f32 := constant S_ .f32 0x7F800000#32
  let main_v28 : FVec F S2048x512 .f32 := broadcastInDim S2048x512 ![] bcast_S_S2048x512 main_cst_8
  let main_v29 : IVec S2048x512 1 := cmpf .olt main_v27 main_v28
  let main_c_9 : IVec S_ 1 := constantI S_ 1 1#1
  let main_v30 : IVec S_ 1 := (fun x v => Host.reduce IntOp.andi x v reducesTo_S2048x512_S_d0_1 h_S_) main_v29 main_c_9
  let main_v31 : IVec S_ 1 := andi main_v25 main_v30
  let main_v32 : FVec F S2048x256 .f32 := (extf .f32 · bitsLt_bf16_f32) main_arg9
  let main_v33 : FVec F S2048x256 .f32 := Host.absf main_v32
  let main_cst_10 : FVec F S_ .f32 := constant S_ .f32 0x7F800000#32
  let main_v34 : FVec F S2048x256 .f32 := broadcastInDim S2048x256 ![] bcast_S_S2048x256 main_cst_10
  fn_part2 (F := F) main_v31 main_v33 main_v34

def fn {F : FTy → Type} [FloatOps F] (main_arg0 : FVec F S4096x2048 .bf16) (main_arg1 : FVec F S4096x2048 .bf16) (main_arg2 : FVec F S4096x8x64 .f32) (main_arg3 : FVec F S4096x5120 .f32) (main_arg4 : FVec F S4096x32 .f32) (main_arg5 : FVec F S4096x32 .f32) (main_arg6 : FVec F S512 .f32) (main_arg7 : FVec F S256 .f32) (main_arg8 : FVec F S2048x512 .bf16) (main_arg9 : FVec F S2048x256 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S4096x5120 .f32 := Host.absf main_arg3
  let main_cst_2 : FVec F S_ .f32 := constant S_ .f32 0x7F800000#32
  let main_v12 : FVec F S4096x5120 .f32 := broadcastInDim S4096x5120 ![] bcast_S_S4096x5120 main_cst_2
  let main_v13 : IVec S4096x5120 1 := cmpf .olt main_v11 main_v12
  let main_c_3 : IVec S_ 1 := constantI S_ 1 1#1
  let main_v14 : IVec S_ 1 := (fun x v => Host.reduce IntOp.andi x v reducesTo_S4096x5120_S_d0_1 h_S_) main_v13 main_c_3
  let main_v15 : IVec S_ 1 := andi main_v10 main_v14
  let main_v16 : FVec F S512 .f32 := Host.absf main_arg6
  let main_cst_4 : FVec F S_ .f32 := constant S_ .f32 0x7F800000#32
  fn_part1 (F := F) main_arg7 main_arg8 main_arg9 main_v15 main_v16 main_cst_4
-- ==== Pre_finite_ln.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S4096x2048 .f32) (main_arg2 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x1536 : Shape := ⟨2, ![4096, 1536]⟩
abbrev S4096x2048 : Shape := ⟨2, ![4096, 2048]⟩
abbrev S4096x8x64 : Shape := ⟨3, ![4096, 8, 64]⟩
abbrev S4096x32 : Shape := ⟨2, ![4096, 32]⟩
abbrev S4096x1024 : Shape := ⟨2, ![4096, 1024]⟩
abbrev S4096x8x192 : Shape := ⟨3, ![4096, 8, 192]⟩
abbrev S4096x8x256 : Shape := ⟨3, ![4096, 8, 256]⟩
abbrev S4096x8x128 : Shape := ⟨3, ![4096, 8, 128]⟩
abbrev S4096x1x32 : Shape := ⟨3, ![4096, 1, 32]⟩
abbrev S4096x8x32 : Shape := ⟨3, ![4096, 8, 32]⟩
abbrev S8x4096x4096 : Shape := ⟨3, ![8, 4096, 4096]⟩
abbrev S4096x4096 : Shape := ⟨2, ![4096, 4096]⟩
abbrev S1x4096x4096 : Shape := ⟨3, ![1, 4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S8x8x512 : Shape := ⟨3, ![8, 8, 512]⟩
abbrev S4096x8 : Shape := ⟨2, ![4096, 8]⟩
abbrev S4096x64 : Shape := ⟨2, ![4096, 64]⟩
abbrev S4096x128 : Shape := ⟨2, ![4096, 128]⟩
abbrev S4096x256 : Shape := ⟨2, ![4096, 256]⟩
abbrev S512x256 : Shape := ⟨2, ![512, 256]⟩
abbrev S512x128 : Shape := ⟨2, ![512, 128]⟩
abbrev S1x8x512 : Shape := ⟨3, ![1, 8, 512]⟩
abbrev S256x256 : Shape := ⟨2, ![256, 256]⟩
abbrev S256x128 : Shape := ⟨2, ![256, 128]⟩
abbrev S1x1x256 : Shape := ⟨3, ![1, 1, 256]⟩
abbrev S1x256 : Shape := ⟨2, ![1, 256]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 90
  | .vmem => 23
  | .smem => 0
  | _ => 0

abbrev bufTy : (tb : Table) → Fin (tcTables nBuf tb) → BufTy
  | .hbm, ⟨0, _⟩ => ⟨S4096x1536, .f32⟩
  | .hbm, ⟨1, _⟩ => ⟨S4096x2048, .f32⟩
  | .hbm, ⟨2, _⟩ => ⟨S4096x8x64, .f32⟩
  | .hbm, ⟨3, _⟩ => ⟨S4096x32, .f32⟩
  | .hbm, ⟨4, _⟩ => ⟨S4096x32, .f32⟩
  | .hbm, ⟨5, _⟩ => ⟨S4096x1024, .f32⟩
  | .hbm, ⟨6, _⟩ => ⟨S4096x8x192, .f32⟩
  | .hbm, ⟨7, _⟩ => ⟨S4096x8x256, .f32⟩
  | .hbm, ⟨8, _⟩ => ⟨S4096x8x128, .f32⟩
  | .hbm, ⟨9, _⟩ => ⟨S4096x8x64, .f32⟩
  | .hbm, ⟨10, _⟩ => ⟨S4096x1x32, .f32⟩
  | .hbm, ⟨11, _⟩ => ⟨S4096x1x32, .f32⟩
  | .hbm, ⟨12, _⟩ => ⟨S4096x8x32, .f32⟩
  | .hbm, ⟨13, _⟩ => ⟨S4096x8x32, .f32⟩
  | .hbm, ⟨14, _⟩ => ⟨S4096x8x32, .f32⟩
  | .hbm, ⟨15, _⟩ => ⟨S4096x8x32, .f32⟩
  | .hbm, ⟨16, _⟩ => ⟨S4096x8x32, .f32⟩
  | .hbm, ⟨17, _⟩ => ⟨S4096x8x32, .f32⟩
  | .hbm, ⟨18, _⟩ => ⟨S4096x8x32, .f32⟩
  | .hbm, ⟨19, _⟩ => ⟨S4096x8x32, .f32⟩
  | .hbm, ⟨20, _⟩ => ⟨S4096x8x32, .f32⟩
  | .hbm, ⟨21, _⟩ => ⟨S4096x8x32, .f32⟩
  | .hbm, ⟨22, _⟩ => ⟨S4096x8x32, .f32⟩
  | .hbm, ⟨23, _⟩ => ⟨S4096x8x32, .f32⟩
  | .hbm, ⟨24, _⟩ => ⟨S4096x8x64, .f32⟩
  | .hbm, ⟨25, _⟩ => ⟨S4096x8x128, .f32⟩
  | .hbm, ⟨26, _⟩ => ⟨S4096x8x128, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S1x4096x4096, .i1⟩
  | .hbm, ⟨34, _⟩ => ⟨S_, .f32⟩
  | .hbm, ⟨35, _⟩ => ⟨S_, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S_, .f32⟩
  | .hbm, ⟨40, _⟩ => ⟨S8x4096x4096, .i1⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x128x4096, .f32⟩
  | .hbm, ⟨55, _⟩ => ⟨S4096x8x128, .f32⟩
  | .hbm, ⟨56, _⟩ => ⟨S4096x1024, .f32⟩
  | .hbm, ⟨57, _⟩ => ⟨S8x4096, .f32⟩
  | .hbm, ⟨58, _⟩ => ⟨S8x4096, .f32⟩
  | .hbm, ⟨59, _⟩ => ⟨S_, .f32⟩
  | .hbm, ⟨60, _⟩ => ⟨S_, .f32⟩
  | .hbm, ⟨61, _⟩ => ⟨S8x4096, .f32⟩
  | .hbm, ⟨62, _⟩ => ⟨S8x4096, .f32⟩
  | .hbm, ⟨63, _⟩ => ⟨S8x8x512, .f32⟩
  | .hbm, ⟨64, _⟩ => ⟨S4096x1024, .f32⟩
  | .hbm, ⟨65, _⟩ => ⟨S4096x8x128, .f32⟩
  | .hbm, ⟨66, _⟩ => ⟨S_, .f32⟩
  | .hbm, ⟨67, _⟩ => ⟨S4096x8, .f32⟩
  | .hbm, ⟨68, _⟩ => ⟨S8x4096, .f32⟩
  | .hbm, ⟨69, _⟩ => ⟨S8x8x512, .f32⟩
  | .hbm, ⟨70, _⟩ => ⟨S_, .f32⟩
  | .hbm, ⟨71, _⟩ => ⟨S4096x8x64, .f32⟩
  | .hbm, ⟨72, _⟩ => ⟨S4096x8x256, .f32⟩
  | .hbm, ⟨73, _⟩ => ⟨S4096x2048, .f32⟩
  | .hbm, ⟨74, _⟩ => ⟨S4096x2048, .bf16⟩
  | .hbm, ⟨75, _⟩ => ⟨S4096x8x256, .f32⟩
  | .hbm, ⟨76, _⟩ => ⟨S4096x2048, .f32⟩
  | .hbm, ⟨77, _⟩ => ⟨S4096x2048, .bf16⟩
  | .hbm, ⟨78, _⟩ => ⟨S_, .f32⟩
  | .hbm, ⟨79, _⟩ => ⟨S4096x64, .f32⟩
  | .hbm, ⟨80, _⟩ => ⟨S4096x128, .f32⟩
  | .hbm, ⟨81, _⟩ => ⟨S4096x32, .f32⟩
  | .hbm, ⟨82, _⟩ => ⟨S_, .f32⟩
  | .hbm, ⟨83, _⟩ => ⟨S4096x64, .f32⟩
  | .hbm, ⟨84, _⟩ => ⟨S4096x128, .f32⟩
  | .hbm, ⟨85, _⟩ => ⟨S4096x1024, .f32⟩
  | .hbm, ⟨86, _⟩ => ⟨S4096x1024, .bf16⟩
  | .hbm, ⟨87, _⟩ => ⟨S4096x2048, .bf16⟩
  | .hbm, ⟨88, _⟩ => ⟨S4096x2048, .bf16⟩
  | .hbm, ⟨89, _⟩ => ⟨S4096x1024, .f32⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S4096x128, .f32⟩
  | .local _ .vmem, ⟨7, _⟩ => ⟨S4096x128, .f32⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S4096x128, .f32⟩
  | .local _ .vmem, ⟨13, _⟩ => ⟨S4096x128, .f32⟩
  | .local _ .vmem, ⟨14, _⟩ => ⟨S4096x256, .bf16⟩
  | .local _ .vmem, ⟨15, _⟩ => ⟨S4096x256, .bf16⟩
  | .local _ .vmem, ⟨16, _⟩ => ⟨S512x256, .bf16⟩
  | .local _ .vmem, ⟨17, _⟩ => ⟨S512x256, .bf16⟩
  | .local _ .vmem, ⟨18, _⟩ => ⟨S512x128, .f32⟩
  | .local _ .vmem, ⟨19, _⟩ => ⟨S512x128, .f32⟩
  | .local _ .vmem, ⟨20, _⟩ => ⟨S4096x256, .f32⟩
  | .local _ .vmem, ⟨21, _⟩ => ⟨S512x256, .f32⟩
  | .local _ .vmem, ⟨22, _⟩ => ⟨S512x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69_0 : Ref sig .tc := ⟨.hbm, 87, rfl⟩
abbrev main_v69_1 : Ref sig .tc := ⟨.hbm, 88, rfl⟩
abbrev main_v69_2 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  let c0_i32_5 : BitVec 32 := 0#32
  let v12 : BitVec 32 := Scalar.addi v11 c0_i32_5
  v12
def k0_off1 (i : grid0.Coords) (c0_i32_5 : BitVec 32) : Fin 2 → Nat :=
  let arg1 : BitVec 32 := BitVec.ofNat 32 (i 1).val
  let c512_i32 : BitVec 32 := 512#32
  let v11 : BitVec 32 := Scalar.muli arg1 c512_i32
  let v12 : BitVec 32 := Scalar.addi v11 c0_i32_5
  let v13 : BitVec 32 := v12
  let v16 : Index := Scalar.indexCast v13
  let c0_8 : Index := 0#32
  ![v16.toNat, 0]
def k0_off2 (i : grid0.Coords) (c0_i32_5 : BitVec 32) : Fin 2 → Nat :=
  let arg1 : BitVec 32 := BitVec.ofNat 32 (i 1).val
  let c512_i32 : BitVec 32 := 512#32
  let v11 : BitVec 32 := Scalar.muli arg1 c512_i32
  let v12 : BitVec 32 := Scalar.addi v11 c0_i32_5
  let v13 : BitVec 32 := v12
  let v19 : Index := Scalar.indexCast v13
  let c0_9 : Index := 0#32
  ![v19.toNat, 0]
def k0_off3 (i : grid0.Coords) : Fin 3 → Nat :=
  let c0_12 : Index := 0#32
  let arg1 : BitVec 32 := BitVec.ofNat 32 (i 1).val
  let v25 : Index := Scalar.indexCast arg1
  let c0_13 : Index := 0#32
  ![0, v25.toNat, 0]
def k0_mult2 (i : grid0.Coords) : BitVec 32 :=
  let arg1 : BitVec 32 := BitVec.ofNat 32 (i 1).val
  let c512_i32_35 : BitVec 32 := 512#32
  let v71 : BitVec 32 := Scalar.muli arg1 c512_i32_35
  let c256_i32 : BitVec 32 := 256#32
  let v72 : BitVec 32 := Scalar.addi v71 c256_i32
  v72
def k0_off4 (i : grid0.Coords) : Fin 3 → Nat :=
  let c0_42 : Index := 0#32
  let arg1 : BitVec 32 := BitVec.ofNat 32 (i 1).val
  let v85 : Index := Scalar.indexCast arg1
  let c256 : Index := 256#32
  ![0, v85.toNat, 256]
@[reducible] def k0_t1_loop (i : grid0.Coords) : Scf.Loop 32 :=
  let c0_i32_70 : BitVec 32 := 0#32
  let c7_i32 : BitVec 32 := 7#32
  let arg1 : BitVec 32 := BitVec.ofNat 32 (i 1).val
  let v131 : BitVec 32 := Scalar.subi c7_i32 arg1
  let c0_i32_64 : BitVec 32 := 0#32
  let v133 : BitVec 1 := Scalar.cmpi .sgt v131 c0_i32_64
  let v134 : BitVec 32 := Scalar.extui v133
  let c0_i32_65 : BitVec 32 := 0#32
  let v135 : BitVec 1 := Scalar.cmpi .slt v131 c0_i32_65
  let v136 : BitVec 32 := Scalar.extui v135
  let v137 : BitVec 32 := Scalar.subi v134 v136
  let c3_i32 : BitVec 32 := 3#32
  let c0_i32_66 : BitVec 32 := 0#32
  let v138 : BitVec 1 := Scalar.cmpi .sgt c3_i32 c0_i32_66
  let v139 : BitVec 32 := Scalar.extui v138
  let c0_i32_67 : BitVec 32 := 0#32
  let v140 : BitVec 1 := Scalar.cmpi .slt c3_i32 c0_i32_67
  let v141 : BitVec 32 := Scalar.extui v140
  let v142 : BitVec 32 := Scalar.subi v139 v141
  let v143 : BitVec 1 := Scalar.cmpi .ne v137 v142
  let v144 : BitVec 32 := Scalar.remsi v131 c3_i32
  let c0_i32_68 : BitVec 32 := 0#32
  let v145 : BitVec 1 := Scalar.cmpi .ne v144 c0_i32_68
  let v146 : BitVec 1 := Scalar.andi v143 v145
  let v132 : BitVec 32 := Scalar.divsi v131 c3_i32
  let c1_i32 : BitVec 32 := 1#32
  let v147 : BitVec 32 := Scalar.subi v132 c1_i32
  let v148 : BitVec 32 := Scalar.select v146 v147 v132
  let v149 : BitVec 32 := Scalar.subi v148 c0_i32_70
  let c1_i32_71 : BitVec 32 := 1#32
  let v151 : BitVec 32 := Scalar.divsi v149 c1_i32_71
  let v152 : BitVec 32 := Scalar.muli v151 c1_i32_71
  let v153 : BitVec 32 := Scalar.addi c0_i32_70 v152
  let c1_i32_72 : BitVec 32 := 1#32
  ⟨c0_i32_70, v153, c1_i32_72⟩
def k0_mult3 (i : grid0.Coords) (k0_t1 : Fin (k0_t1_loop i).trips) : BitVec 32 :=
  let arg1 : BitVec 32 := BitVec.ofNat 32 (i 1).val
  let c1_i32_92 : BitVec 32 := 1#32
  let v175 : BitVec 32 := Scalar.addi arg1 c1_i32_92
  let c3_i32_93 : BitVec 32 := 3#32
  let c0_i32_70 : BitVec 32 := 0#32
  let c1_i32_72 : BitVec 32 := 1#32
  let arg16 : BitVec 32 := Scf.iv c0_i32_70 c1_i32_72 k0_t1
  let v176 : BitVec 32 := Scalar.muli c3_i32_93 arg16
  let v177 : BitVec 32 := Scalar.addi v175 v176
  let c0_i32_94 : BitVec 32 := 0#32
  let v178 : BitVec 32 := Scalar.addi v177 c0_i32_94
  let c512_i32_95 : BitVec 32 := 512#32
  let v179 : BitVec 32 := Scalar.muli v178 c512_i32_95
  let c0_i32_96 : BitVec 32 := 0#32
  let v180 : BitVec 32 := Scalar.addi v179 c0_i32_96
  v180
def k0_off5 (i : grid0.Coords) (k0_t1 : Fin (k0_t1_loop i).trips) (c0_i32_94 : BitVec 32) : Fin 2 → Nat :=
  let arg1 : BitVec 32 := BitVec.ofNat 32 (i 1).val
  let c1_i32_92 : BitVec 32 := 1#32
  let v175 : BitVec 32 := Scalar.addi arg1 c1_i32_92
  let c3_i32_93 : BitVec 32 := 3#32
  let c0_i32_70 : BitVec 32 := 0#32
  let c1_i32_72 : BitVec 32 := 1#32
  let arg16 : BitVec 32 := Scf.iv c0_i32_70 c1_i32_72 k0_t1
  let v176 : BitVec 32 := Scalar.muli c3_i32_93 arg16
  let v177 : BitVec 32 := Scalar.addi v175 v176
  let v178 : BitVec 32 := Scalar.addi v177 c0_i32_94
  let c512_i32_95 : BitVec 32 := 512#32
  let v179 : BitVec 32 := Scalar.muli v178 c512_i32_95
  let c0_i32_96 : BitVec 32 := 0#32
  let v180 : BitVec 32 := Scalar.addi v179 c0_i32_96
  let v181 : BitVec 32 := v180
  let v184 : Index := Scalar.indexCast v181
  let c0_99 : Index := 0#32
  ![v184.toNat, 0]
def k0_off6 (i : grid0.Coords) (k0_t1 : Fin (k0_t1_loop i).trips) (c0_i32_94 : BitVec 32) : Fin 2 → Nat :=
  let arg1 : BitVec 32 := BitVec.ofNat 32 (i 1).val
  let c1_i32_92 : BitVec 32 := 1#32
  let v175 : BitVec 32 := Scalar.addi arg1 c1_i32_92
  let c3_i32_93 : BitVec 32 := 3#32
  let c0_i32_70 : BitVec 32 := 0#32
  let c1_i32_72 : BitVec 32 := 1#32
  let arg16 : BitVec 32 := Scf.iv c0_i32_70 c1_i32_72 k0_t1
  let v176 : BitVec 32 := Scalar.muli c3_i32_93 arg16
  let v177 : BitVec 32 := Scalar.addi v175 v176
  let v178 : BitVec 32 := Scalar.addi v177 c0_i32_94
  let c512_i32_95 : BitVec 32 := 512#32
  let v179 : BitVec 32 := Scalar.muli v178 c512_i32_95
  let c0_i32_96 : BitVec 32 := 0#32
  let v180 : BitVec 32 := Scalar.addi v179 c0_i32_96
  let v181 : BitVec 32 := v180
  let v187 : Index := Scalar.indexCast v181
  let c0_100 : Index := 0#32
  ![v187.toNat, 0]
def k0_off7 (i : grid0.Coords) (k0_t1 : Fin (k0_t1_loop i).trips) (c0_i32_94 : BitVec 32) : Fin 3 → Nat :=
  let c0_103 : Index := 0#32
  let arg1 : BitVec 32 := BitVec.ofNat 32 (i 1).val
  let c1_i32_92 : BitVec 32 := 1#32
  let v175 : BitVec 32 := Scalar.addi arg1 c1_i32_92
  let c3_i32_93 : BitVec 32 := 3#32
  let c0_i32_70 : BitVec 32 := 0#32
  let c1_i32_72 : BitVec 32 := 1#32
  let arg16 : BitVec 32 := Scf.iv c0_i32_70 c1_i32_72 k0_t1
  let v176 : BitVec 32 := Scalar.muli c3_i32_93 arg16
  let v177 : BitVec 32 := Scalar.addi v175 v176
  let v178 : BitVec 32 := Scalar.addi v177 c0_i32_94
  let v193 : Index := Scalar.indexCast v178
  let c0_104 : Index := 0#32
  ![0, v193.toNat, 0]
def k0_mult4 (i : grid0.Coords) (k0_t1 : Fin (k0_t1_loop i).trips) : BitVec 32 :=
  let arg1 : BitVec 32 := BitVec.ofNat 32 (i 1).val
  let c1_i32_124 : BitVec 32 := 1#32
  let v232 : BitVec 32 := Scalar.addi arg1 c1_i32_124
  let c3_i32_125 : BitVec 32 := 3#32
  let c0_i32_70 : BitVec 32 := 0#32
  let c1_i32_72 : BitVec 32 := 1#32
  let arg16 : BitVec 32 := Scf.iv c0_i32_70 c1_i32_72 k0_t1
  let v233 : BitVec 32 := Scalar.muli c3_i32_125 arg16
  let v234 : BitVec 32 := Scalar.addi v232 v233
  let c1_i32_126 : BitVec 32 := 1#32
  let v235 : BitVec 32 := Scalar.addi v234 c1_i32_126
  let c512_i32_127 : BitVec 32 := 512#32
  let v236 : BitVec 32 := Scalar.muli v235 c512_i32_127
  let c0_i32_128 : BitVec 32 := 0#32
  let v237 : BitVec 32 := Scalar.addi v236 c0_i32_128
  v237
def k0_mult5 (i : grid0.Coords) (k0_t1 : Fin (k0_t1_loop i).trips) : BitVec 32 :=
  let arg1 : BitVec 32 := BitVec.ofNat 32 (i 1).val
  let c1_i32_156 : BitVec 32 := 1#32
  let v289 : BitVec 32 := Scalar.addi arg1 c1_i32_156
  let c3_i32_157 : BitVec 32 := 3#32
  let c0_i32_70 : BitVec 32 := 0#32
  let c1_i32_72 : BitVec 32 := 1#32
  let arg16 : BitVec 32 := Scf.iv c0_i32_70 c1_i32_72 k0_t1
  let v290 : BitVec 32 := Scalar.muli c3_i32_157 arg16
  let v291 : BitVec 32 := Scalar.addi v289 v290
  let c2_i32_158 : BitVec 32 := 2#32
  let v292 : BitVec 32 := Scalar.addi v291 c2_i32_158
  let c512_i32_159 : BitVec 32 := 512#32
  let v293 : BitVec 32 := Scalar.muli v292 c512_i32_159
  let c0_i32_160 : BitVec 32 := 0#32
  let v294 : BitVec 32 := Scalar.addi v293 c0_i32_160
  v294
@[reducible] def k0_t2_loop (i : grid0.Coords) : Scf.Loop 32 :=
  let c0_i32_70 : BitVec 32 := 0#32
  let c7_i32 : BitVec 32 := 7#32
  let arg1 : BitVec 32 := BitVec.ofNat 32 (i 1).val
  let v131 : BitVec 32 := Scalar.subi c7_i32 arg1
  let c0_i32_64 : BitVec 32 := 0#32
  let v133 : BitVec 1 := Scalar.cmpi .sgt v131 c0_i32_64
  let v134 : BitVec 32 := Scalar.extui v133
  let c0_i32_65 : BitVec 32 := 0#32
  let v135 : BitVec 1 := Scalar.cmpi .slt v131 c0_i32_65
  let v136 : BitVec 32 := Scalar.extui v135
  let v137 : BitVec 32 := Scalar.subi v134 v136
  let c3_i32 : BitVec 32 := 3#32
  let c0_i32_66 : BitVec 32 := 0#32
  let v138 : BitVec 1 := Scalar.cmpi .sgt c3_i32 c0_i32_66
  let v139 : BitVec 32 := Scalar.extui v138
  let c0_i32_67 : BitVec 32 := 0#32
  let v140 : BitVec 1 := Scalar.cmpi .slt c3_i32 c0_i32_67
  let v141 : BitVec 32 := Scalar.extui v140
  let v142 : BitVec 32 := Scalar.subi v139 v141
  let v143 : BitVec 1 := Scalar.cmpi .ne v137 v142
  let v144 : BitVec 32 := Scalar.remsi v131 c3_i32
  let c0_i32_68 : BitVec 32 := 0#32
  let v145 : BitVec 1 := Scalar.cmpi .ne v144 c0_i32_68
  let v146 : BitVec 1 := Scalar.andi v143 v145
  let v132 : BitVec 32 := Scalar.divsi v131 c3_i32
  let c1_i32 : BitVec 32 := 1#32
  let v147 : BitVec 32 := Scalar.subi v132 c1_i32
  let v148 : BitVec 32 := Scalar.select v146 v147 v132
  let v149 : BitVec 32 := Scalar.subi v148 c0_i32_70
  let c1_i32_71 : BitVec 32 := 1#32
  let v151 : BitVec 32 := Scalar.divsi v149 c1_i32_71
  let v152 : BitVec 32 := Scalar.muli v151 c1_i32_71
  let v153 : BitVec 32 := Scalar.addi c0_i32_70 v152
  let v150 : BitVec 32 := Scalar.addi c0_i32_70 v149
  let c1_i32_73 : BitVec 32 := 1#32
  ⟨v153, v150, c1_i32_73⟩
def k0_mult6 (i : grid0.Coords) (k0_t2 : Fin (k0_t2_loop i).trips) : BitVec 32 :=
  let arg1 : BitVec 32 := BitVec.ofNat 32 (i 1).val
  let c1_i32_92 : BitVec 32 := 1#32
  let v175 : BitVec 32 := Scalar.addi arg1 c1_i32_92
  let c3_i32_93 : BitVec 32 := 3#32
  let c0_i32_70 : BitVec 32 := 0#32
  let c7_i32 : BitVec 32 := 7#32
  let v131 : BitVec 32 := Scalar.subi c7_i32 arg1
  let c0_i32_64 : BitVec 32 := 0#32
  let v133 : BitVec 1 := Scalar.cmpi .sgt v131 c0_i32_64
  let v134 : BitVec 32 := Scalar.extui v133
  let c0_i32_65 : BitVec 32 := 0#32
  let v135 : BitVec 1 := Scalar.cmpi .slt v131 c0_i32_65
  let v136 : BitVec 32 := Scalar.extui v135
  let v137 : BitVec 32 := Scalar.subi v134 v136
  let c3_i32 : BitVec 32 := 3#32
  let c0_i32_66 : BitVec 32 := 0#32
  let v138 : BitVec 1 := Scalar.cmpi .sgt c3_i32 c0_i32_66
  let v139 : BitVec 32 := Scalar.extui v138
  let c0_i32_67 : BitVec 32 := 0#32
  let v140 : BitVec 1 := Scalar.cmpi .slt c3_i32 c0_i32_67
  let v141 : BitVec 32 := Scalar.extui v140
  let v142 : BitVec 32 := Scalar.subi v139 v141
  let v143 : BitVec 1 := Scalar.cmpi .ne v137 v142
  let v144 : BitVec 32 := Scalar.remsi v131 c3_i32
  let c0_i32_68 : BitVec 32 := 0#32
  let v145 : BitVec 1 := Scalar.cmpi .ne v144 c0_i32_68
  let v146 : BitVec 1 := Scalar.andi v143 v145
  let v132 : BitVec 32 := Scalar.divsi v131 c3_i32
  let c1_i32 : BitVec 32 := 1#32
  let v147 : BitVec 32 := Scalar.subi v132 c1_i32
  let v148 : BitVec 32 := Scalar.select v146 v147 v132
  let v149 : BitVec 32 := Scalar.subi v148 c0_i32_70
  let c1_i32_71 : BitVec 32 := 1#32
  let v151 : BitVec 32 := Scalar.divsi v149 c1_i32_71
  let v152 : BitVec 32 := Scalar.muli v151 c1_i32_71
  let v153 : BitVec 32 := Scalar.addi c0_i32_70 v152
  let c1_i32_73 : BitVec 32 := 1#32
  let arg16 : BitVec 32 := Scf.iv v153 c1_i32_73 k0_t2
  let v176 : BitVec 32 := Scalar.muli c3_i32_93 arg16
  let v177 : BitVec 32 := Scalar.addi v175 v176
  let c0_i32_94 : BitVec 32 := 0#32
  let v178 : BitVec 32 := Scalar.addi v177 c0_i32_94
  let c512_i32_95 : BitVec 32 := 512#32
  let v179 : BitVec 32 := Scalar.muli v178 c512_i32_95
  let c0_i32_96 : BitVec 32 := 0#32
  let v180 : BitVec 32 := Scalar.addi v179 c0_i32_96
  v180
def k0_off8 (i : grid0.Coords) (k0_t2 : Fin (k0_t2_loop i).trips) (c0_i32_94 : BitVec 32) : Fin 2 → Nat :=
  let arg1 : BitVec 32 := BitVec.ofNat 32 (i 1).val
  let c1_i32_92 : BitVec 32 := 1#32
  let v175 : BitVec 32 := Scalar.addi arg1 c1_i32_92
  let c3_i32_93 : BitVec 32 := 3#32
  let c0_i32_70 : BitVec 32 := 0#32
  let c7_i32 : BitVec 32 := 7#32
  let v131 : BitVec 32 := Scalar.subi c7_i32 arg1
  let c0_i32_64 : BitVec 32 := 0#32
  let v133 : BitVec 1 := Scalar.cmpi .sgt v131 c0_i32_64
  let v134 : BitVec 32 := Scalar.extui v133
  let c0_i32_65 : BitVec 32 := 0#32
  let v135 : BitVec 1 := Scalar.cmpi .slt v131 c0_i32_65
  let v136 : BitVec 32 := Scalar.extui v135
  let v137 : BitVec 32 := Scalar.subi v134 v136
  let c3_i32 : BitVec 32 := 3#32
  let c0_i32_66 : BitVec 32 := 0#32
  let v138 : BitVec 1 := Scalar.cmpi .sgt c3_i32 c0_i32_66
  let v139 : BitVec 32 := Scalar.extui v138
  let c0_i32_67 : BitVec 32 := 0#32
  let v140 : BitVec 1 := Scalar.cmpi .slt c3_i32 c0_i32_67
  let v141 : BitVec 32 := Scalar.extui v140
  let v142 : BitVec 32 := Scalar.subi v139 v141
  let v143 : BitVec 1 := Scalar.cmpi .ne v137 v142
  let v144 : BitVec 32 := Scalar.remsi v131 c3_i32
  let c0_i32_68 : BitVec 32 := 0#32
  let v145 : BitVec 1 := Scalar.cmpi .ne v144 c0_i32_68
  let v146 : BitVec 1 := Scalar.andi v143 v145
  let v132 : BitVec 32 := Scalar.divsi v131 c3_i32
  let c1_i32 : BitVec 32 := 1#32
  let v147 : BitVec 32 := Scalar.subi v132 c1_i32
  let v148 : BitVec 32 := Scalar.select v146 v147 v132
  let v149 : BitVec 32 := Scalar.subi v148 c0_i32_70
  let c1_i32_71 : BitVec 32 := 1#32
  let v151 : BitVec 32 := Scalar.divsi v149 c1_i32_71
  let v152 : BitVec 32 := Scalar.muli v151 c1_i32_71
  let v153 : BitVec 32 := Scalar.addi c0_i32_70 v152
  let c1_i32_73 : BitVec 32 := 1#32
  let arg16 : BitVec 32 := Scf.iv v153 c1_i32_73 k0_t2
  let v176 : BitVec 32 := Scalar.muli c3_i32_93 arg16
  let v177 : BitVec 32 := Scalar.addi v175 v176
  let v178 : BitVec 32 := Scalar.addi v177 c0_i32_94
  let c512_i32_95 : BitVec 32 := 512#32
  let v179 : BitVec 32 := Scalar.muli v178 c512_i32_95
  let c0_i32_96 : BitVec 32 := 0#32
  let v180 : BitVec 32 := Scalar.addi v179 c0_i32_96
  let v181 : BitVec 32 := v180
  let v184 : Index := Scalar.indexCast v181
  let c0_99 : Index := 0#32
  ![v184.toNat, 0]
def k0_off9 (i : grid0.Coords) (k0_t2 : Fin (k0_t2_loop i).trips) (c0_i32_94 : BitVec 32) : Fin 2 → Nat :=
  let arg1 : BitVec 32 := BitVec.ofNat 32 (i 1).val
  let c1_i32_92 : BitVec 32 := 1#32
  let v175 : BitVec 32 := Scalar.addi arg1 c1_i32_92
  let c3_i32_93 : BitVec 32 := 3#32
  let c0_i32_70 : BitVec 32 := 0#32
  let c7_i32 : BitVec 32 := 7#32
  let v131 : BitVec 32 := Scalar.subi c7_i32 arg1
  let c0_i32_64 : BitVec 32 := 0#32
  let v133 : BitVec 1 := Scalar.cmpi .sgt v131 c0_i32_64
  let v134 : BitVec 32 := Scalar.extui v133
  let c0_i32_65 : BitVec 32 := 0#32
  let v135 : BitVec 1 := Scalar.cmpi .slt v131 c0_i32_65
  let v136 : BitVec 32 := Scalar.extui v135
  let v137 : BitVec 32 := Scalar.subi v134 v136
  let c3_i32 : BitVec 32 := 3#32
  let c0_i32_66 : BitVec 32 := 0#32
  let v138 : BitVec 1 := Scalar.cmpi .sgt c3_i32 c0_i32_66
  let v139 : BitVec 32 := Scalar.extui v138
  let c0_i32_67 : BitVec 32 := 0#32
  let v140 : BitVec 1 := Scalar.cmpi .slt c3_i32 c0_i32_67
  let v141 : BitVec 32 := Scalar.extui v140
  let v142 : BitVec 32 := Scalar.subi v139 v141
  let v143 : BitVec 1 := Scalar.cmpi .ne v137 v142
  let v144 : BitVec 32 := Scalar.remsi v131 c3_i32
  let c0_i32_68 : BitVec 32 := 0#32
  let v145 : BitVec 1 := Scalar.cmpi .ne v144 c0_i32_68
  let v146 : BitVec 1 := Scalar.andi v143 v145
  let v132 : BitVec 32 := Scalar.divsi v131 c3_i32
  let c1_i32 : BitVec 32 := 1#32
  let v147 : BitVec 32 := Scalar.subi v132 c1_i32
  let v148 : BitVec 32 := Scalar.select v146 v147 v132
  let v149 : BitVec 32 := Scalar.subi v148 c0_i32_70
  let c1_i32_71 : BitVec 32 := 1#32
  let v151 : BitVec 32 := Scalar.divsi v149 c1_i32_71
  let v152 : BitVec 32 := Scalar.muli v151 c1_i32_71
  let v153 : BitVec 32 := Scalar.addi c0_i32_70 v152
  let c1_i32_73 : BitVec 32 := 1#32
  let arg16 : BitVec 32 := Scf.iv v153 c1_i32_73 k0_t2
  let v176 : BitVec 32 := Scalar.muli c3_i32_93 arg16
  let v177 : BitVec 32 := Scalar.addi v175 v176
  let v178 : BitVec 32 := Scalar.addi v177 c0_i32_94
  let c512_i32_95 : BitVec 32 := 512#32
  let v179 : BitVec 32 := Scalar.muli v178 c512_i32_95
  let c0_i32_96 : BitVec 32 := 0#32
  let v180 : BitVec 32 := Scalar.addi v179 c0_i32_96
  let v181 : BitVec 32 := v180
  let v187 : Index := Scalar.indexCast v181
  let c0_100 : Index := 0#32
  ![v187.toNat, 0]
def k0_off10 (i : grid0.Coords) (k0_t2 : Fin (k0_t2_loop i).trips) (c0_i32_94 : BitVec 32) : Fin 3 → Nat :=
  let c0_103 : Index := 0#32
  let arg1 : BitVec 32 := BitVec.ofNat 32 (i 1).val
  let c1_i32_92 : BitVec 32 := 1#32
  let v175 : BitVec 32 := Scalar.addi arg1 c1_i32_92
  let c3_i32_93 : BitVec 32 := 3#32
  let c0_i32_70 : BitVec 32 := 0#32
  let c7_i32 : BitVec 32 := 7#32
  let v131 : BitVec 32 := Scalar.subi c7_i32 arg1
  let c0_i32_64 : BitVec 32 := 0#32
  let v133 : BitVec 1 := Scalar.cmpi .sgt v131 c0_i32_64
  let v134 : BitVec 32 := Scalar.extui v133
  let c0_i32_65 : BitVec 32 := 0#32
  let v135 : BitVec 1 := Scalar.cmpi .slt v131 c0_i32_65
  let v136 : BitVec 32 := Scalar.extui v135
  let v137 : BitVec 32 := Scalar.subi v134 v136
  let c3_i32 : BitVec 32 := 3#32
  let c0_i32_66 : BitVec 32 := 0#32
  let v138 : BitVec 1 := Scalar.cmpi .sgt c3_i32 c0_i32_66
  let v139 : BitVec 32 := Scalar.extui v138
  let c0_i32_67 : BitVec 32 := 0#32
  let v140 : BitVec 1 := Scalar.cmpi .slt c3_i32 c0_i32_67
  let v141 : BitVec 32 := Scalar.extui v140
  let v142 : BitVec 32 := Scalar.subi v139 v141
  let v143 : BitVec 1 := Scalar.cmpi .ne v137 v142
  let v144 : BitVec 32 := Scalar.remsi v131 c3_i32
  let c0_i32_68 : BitVec 32 := 0#32
  let v145 : BitVec 1 := Scalar.cmpi .ne v144 c0_i32_68
  let v146 : BitVec 1 := Scalar.andi v143 v145
  let v132 : BitVec 32 := Scalar.divsi v131 c3_i32
  let c1_i32 : BitVec 32 := 1#32
  let v147 : BitVec 32 := Scalar.subi v132 c1_i32
  let v148 : BitVec 32 := Scalar.select v146 v147 v132
  let v149 : BitVec 32 := Scalar.subi v148 c0_i32_70
  let c1_i32_71 : BitVec 32 := 1#32
  let v151 : BitVec 32 := Scalar.divsi v149 c1_i32_71
  let v152 : BitVec 32 := Scalar.muli v151 c1_i32_71
  let v153 : BitVec 32 := Scalar.addi c0_i32_70 v152
  let c1_i32_73 : BitVec 32 := 1#32
  let arg16 : BitVec 32 := Scf.iv v153 c1_i32_73 k0_t2
  let v176 : BitVec 32 := Scalar.muli c3_i32_93 arg16
  let v177 : BitVec 32 := Scalar.addi v175 v176
  let v178 : BitVec 32 := Scalar.addi v177 c0_i32_94
  let v193 : Index := Scalar.indexCast v178
  let c0_104 : Index := 0#32
  ![0, v193.toNat, 0]
def k0_mult7 (i : grid0.Coords) (k0_t2 : Fin (k0_t2_loop i).trips) : BitVec 32 :=
  let arg1 : BitVec 32 := BitVec.ofNat 32 (i 1).val
  let c1_i32_124 : BitVec 32 := 1#32
  let v232 : BitVec 32 := Scalar.addi arg1 c1_i32_124
  let c3_i32_125 : BitVec 32 := 3#32
  let c0_i32_70 : BitVec 32 := 0#32
  let c7_i32 : BitVec 32 := 7#32
  let v131 : BitVec 32 := Scalar.subi c7_i32 arg1
  let c0_i32_64 : BitVec 32 := 0#32
  let v133 : BitVec 1 := Scalar.cmpi .sgt v131 c0_i32_64
  let v134 : BitVec 32 := Scalar.extui v133
  let c0_i32_65 : BitVec 32 := 0#32
  let v135 : BitVec 1 := Scalar.cmpi .slt v131 c0_i32_65
  let v136 : BitVec 32 := Scalar.extui v135
  let v137 : BitVec 32 := Scalar.subi v134 v136
  let c3_i32 : BitVec 32 := 3#32
  let c0_i32_66 : BitVec 32 := 0#32
  let v138 : BitVec 1 := Scalar.cmpi .sgt c3_i32 c0_i32_66
  let v139 : BitVec 32 := Scalar.extui v138
  let c0_i32_67 : BitVec 32 := 0#32
  let v140 : BitVec 1 := Scalar.cmpi .slt c3_i32 c0_i32_67
  let v141 : BitVec 32 := Scalar.extui v140
  let v142 : BitVec 32 := Scalar.subi v139 v141
  let v143 : BitVec 1 := Scalar.cmpi .ne v137 v142
  let v144 : BitVec 32 := Scalar.remsi v131 c3_i32
  let c0_i32_68 : BitVec 32 := 0#32
  let v145 : BitVec 1 := Scalar.cmpi .ne v144 c0_i32_68
  let v146 : BitVec 1 := Scalar.andi v143 v145
  let v132 : BitVec 32 := Scalar.divsi v131 c3_i32
  let c1_i32 : BitVec 32 := 1#32
  let v147 : BitVec 32 := Scalar.subi v132 c1_i32
  let v148 : BitVec 32 := Scalar.select v146 v147 v132
  let v149 : BitVec 32 := Scalar.subi v148 c0_i32_70
  let c1_i32_71 : BitVec 32 := 1#32
  let v151 : BitVec 32 := Scalar.divsi v149 c1_i32_71
  let v152 : BitVec 32 := Scalar.muli v151 c1_i32_71
  let v153 : BitVec 32 := Scalar.addi c0_i32_70 v152
  let c1_i32_73 : BitVec 32 := 1#32
  let arg16 : BitVec 32 := Scf.iv v153 c1_i32_73 k0_t2
  let v233 : BitVec 32 := Scalar.muli c3_i32_125 arg16
  let v234 : BitVec 32 := Scalar.addi v232 v233
  let c1_i32_126 : BitVec 32 := 1#32
  let v235 : BitVec 32 := Scalar.addi v234 c1_i32_126
  let c512_i32_127 : BitVec 32 := 512#32
  let v236 : BitVec 32 := Scalar.muli v235 c512_i32_127
  let c0_i32_128 : BitVec 32 := 0#32
  let v237 : BitVec 32 := Scalar.addi v236 c0_i32_128
  v237
def k0_mult8 (i : grid0.Coords) (k0_t2 : Fin (k0_t2_loop i).trips) : BitVec 32 :=
  let arg1 : BitVec 32 := BitVec.ofNat 32 (i 1).val
  let c1_i32_156 : BitVec 32 := 1#32
  let v289 : BitVec 32 := Scalar.addi arg1 c1_i32_156
  let c3_i32_157 : BitVec 32 := 3#32
  let c0_i32_70 : BitVec 32 := 0#32
  let c7_i32 : BitVec 32 := 7#32
  let v131 : BitVec 32 := Scalar.subi c7_i32 arg1
  let c0_i32_64 : BitVec 32 := 0#32
  let v133 : BitVec 1 := Scalar.cmpi .sgt v131 c0_i32_64
  let v134 : BitVec 32 := Scalar.extui v133
  let c0_i32_65 : BitVec 32 := 0#32
  let v135 : BitVec 1 := Scalar.cmpi .slt v131 c0_i32_65
  let v136 : BitVec 32 := Scalar.extui v135
  let v137 : BitVec 32 := Scalar.subi v134 v136
  let c3_i32 : BitVec 32 := 3#32
  let c0_i32_66 : BitVec 32 := 0#32
  let v138 : BitVec 1 := Scalar.cmpi .sgt c3_i32 c0_i32_66
  let v139 : BitVec 32 := Scalar.extui v138
  let c0_i32_67 : BitVec 32 := 0#32
  let v140 : BitVec 1 := Scalar.cmpi .slt c3_i32 c0_i32_67
  let v141 : BitVec 32 := Scalar.extui v140
  let v142 : BitVec 32 := Scalar.subi v139 v141
  let v143 : BitVec 1 := Scalar.cmpi .ne v137 v142
  let v144 : BitVec 32 := Scalar.remsi v131 c3_i32
  let c0_i32_68 : BitVec 32 := 0#32
  let v145 : BitVec 1 := Scalar.cmpi .ne v144 c0_i32_68
  let v146 : BitVec 1 := Scalar.andi v143 v145
  let v132 : BitVec 32 := Scalar.divsi v131 c3_i32
  let c1_i32 : BitVec 32 := 1#32
  let v147 : BitVec 32 := Scalar.subi v132 c1_i32
  let v148 : BitVec 32 := Scalar.select v146 v147 v132
  let v149 : BitVec 32 := Scalar.subi v148 c0_i32_70
  let c1_i32_71 : BitVec 32 := 1#32
  let v151 : BitVec 32 := Scalar.divsi v149 c1_i32_71
  let v152 : BitVec 32 := Scalar.muli v151 c1_i32_71
  let v153 : BitVec 32 := Scalar.addi c0_i32_70 v152
  let c1_i32_73 : BitVec 32 := 1#32
  let arg16 : BitVec 32 := Scf.iv v153 c1_i32_73 k0_t2
  let v290 : BitVec 32 := Scalar.muli c3_i32_157 arg16
  let v291 : BitVec 32 := Scalar.addi v289 v290
  let c2_i32_158 : BitVec 32 := 2#32
  let v292 : BitVec 32 := Scalar.addi v291 c2_i32_158
  let c512_i32_159 : BitVec 32 := 512#32
  let v293 : BitVec 32 := Scalar.muli v292 c512_i32_159
  let c0_i32_160 : BitVec 32 := 0#32
  let v294 : BitVec 32 := Scalar.addi v293 c0_i32_160
  v294
def k0_cond2 (i : grid0.Coords) : BitVec 1 :=
  let c7_i32 : BitVec 32 := 7#32
  let arg1 : BitVec 32 := BitVec.ofNat 32 (i 1).val
  let v131 : BitVec 32 := Scalar.subi c7_i32 arg1
  let c3_i32_74 : BitVec 32 := 3#32
  let c0_i32_64 : BitVec 32 := 0#32
  let v133 : BitVec 1 := Scalar.cmpi .sgt v131 c0_i32_64
  let v134 : BitVec 32 := Scalar.extui v133
  let c0_i32_65 : BitVec 32 := 0#32
  let v135 : BitVec 1 := Scalar.cmpi .slt v131 c0_i32_65
  let v136 : BitVec 32 := Scalar.extui v135
  let v137 : BitVec 32 := Scalar.subi v134 v136
  let c3_i32 : BitVec 32 := 3#32
  let c0_i32_66 : BitVec 32 := 0#32
  let v138 : BitVec 1 := Scalar.cmpi .sgt c3_i32 c0_i32_66
  let v139 : BitVec 32 := Scalar.extui v138
  let c0_i32_67 : BitVec 32 := 0#32
  let v140 : BitVec 1 := Scalar.cmpi .slt c3_i32 c0_i32_67
  let v141 : BitVec 32 := Scalar.extui v140
  let v142 : BitVec 32 := Scalar.subi v139 v141
  let v143 : BitVec 1 := Scalar.cmpi .ne v137 v142
  let v144 : BitVec 32 := Scalar.remsi v131 c3_i32
  let c0_i32_68 : BitVec 32 := 0#32
  let v145 : BitVec 1 := Scalar.cmpi .ne v144 c0_i32_68
  let v146 : BitVec 1 := Scalar.andi v143 v145
  let v132 : BitVec 32 := Scalar.divsi v131 c3_i32
  let c1_i32 : BitVec 32 := 1#32
  let v147 : BitVec 32 := Scalar.subi v132 c1_i32
  let v148 : BitVec 32 := Scalar.select v146 v147 v132
  let v154 : BitVec 32 := Scalar.muli c3_i32_74 v148
  let v155 : BitVec 32 := Scalar.subi v131 v154
  let c1_i32_75 : BitVec 32 := 1#32
  let v156 : BitVec 1 := Scalar.cmpi .eq v155 c1_i32_75
  let v157 : BitVec 32 := Scalar.extui v156
  let c0_i32_76 : BitVec 32 := 0#32
  let v158 : BitVec 1 := Scalar.cmpi .ne v157 c0_i32_76
  v158

def k0_mult9 : BitVec 32 :=
  let c3584_i32 : BitVec 32 := 3584#32
  c3584_i32
def k0_cond3 (i : grid0.Coords) : BitVec 1 :=
  let c7_i32 : BitVec 32 := 7#32
  let arg1 : BitVec 32 := BitVec.ofNat 32 (i 1).val
  let v131 : BitVec 32 := Scalar.subi c7_i32 arg1
  let c3_i32_77 : BitVec 32 := 3#32
  let c0_i32_64 : BitVec 32 := 0#32
  let v133 : BitVec 1 := Scalar.cmpi .sgt v131 c0_i32_64
  let v134 : BitVec 32 := Scalar.extui v133
  let c0_i32_65 : BitVec 32 := 0#32
  let v135 : BitVec 1 := Scalar.cmpi .slt v131 c0_i32_65
  let v136 : BitVec 32 := Scalar.extui v135
  let v137 : BitVec 32 := Scalar.subi v134 v136
  let c3_i32 : BitVec 32 := 3#32
  let c0_i32_66 : BitVec 32 := 0#32
  let v138 : BitVec 1 := Scalar.cmpi .sgt c3_i32 c0_i32_66
  let v139 : BitVec 32 := Scalar.extui v138
  let c0_i32_67 : BitVec 32 := 0#32
  let v140 : BitVec 1 := Scalar.cmpi .slt c3_i32 c0_i32_67
  let v141 : BitVec 32 := Scalar.extui v140
  let v142 : BitVec 32 := Scalar.subi v139 v141
  let v143 : BitVec 1 := Scalar.cmpi .ne v137 v142
  let v144 : BitVec 32 := Scalar.remsi v131 c3_i32
  let c0_i32_68 : BitVec 32 := 0#32
  let v145 : BitVec 1 := Scalar.cmpi .ne v144 c0_i32_68
  let v146 : BitVec 1 := Scalar.andi v143 v145
  let v132 : BitVec 32 := Scalar.divsi v131 c3_i32
  let c1_i32 : BitVec 32 := 1#32
  let v147 : BitVec 32 := Scalar.subi v132 c1_i32
  let v148 : BitVec 32 := Scalar.select v146 v147 v132
  let v159 : BitVec 32 := Scalar.muli c3_i32_77 v148
  let v160 : BitVec 32 := Scalar.subi v131 v159
  let c2_i32 : BitVec 32 := 2#32
  let v161 : BitVec 1 := Scalar.cmpi .eq v160 c2_i32
  let v162 : BitVec 32 := Scalar.extui v161
  let c0_i32_78 : BitVec 32 := 0#32
  let v163 : BitVec 1 := Scalar.cmpi .ne v162 c0_i32_78
  v163

def k0_mult10 : BitVec 32 :=
  let c3072_i32 : BitVec 32 := 3072#32
  c3072_i32
def k0_mult11 : BitVec 32 :=
  let c3584_i32 : BitVec 32 := 3584#32
  c3584_i32
def k0_cond4 (i : grid0.Coords) : BitVec 1 :=
  let arg1 : BitVec 32 := BitVec.ofNat 32 (i 1).val
  let c7_i32_90 : BitVec 32 := 7#32
  let v172 : BitVec 1 := Scalar.cmpi .eq arg1 c7_i32_90
  let v173 : BitVec 32 := Scalar.extui v172
  let c0_i32_91 : BitVec 32 := 0#32
  let v174 : BitVec 1 := Scalar.cmpi .ne v173 c0_i32_91
  v174

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S4096x1536 : Shape := ⟨2, ![4096, 1536]⟩
abbrev S4096x2048 : Shape := ⟨2, ![4096, 2048]⟩
abbrev S4096x8x64 : Shape := ⟨3, ![4096, 8, 64]⟩
abbrev S4096x32 : Shape := ⟨2, ![4096, 32]⟩
abbrev S4096x1024 : Shape := ⟨2, ![4096, 1024]⟩
abbrev S4096x8x192 : Shape := ⟨3, ![4096, 8, 192]⟩
abbrev S4096x8x256 : Shape := ⟨3, ![4096, 8, 256]⟩
abbrev S4096x8x128 : Shape := ⟨3, ![4096, 8, 128]⟩
abbrev S4096x1x32 : Shape := ⟨3, ![4096, 1, 32]⟩
abbrev S4096x8x32 : Shape := ⟨3, ![4096, 8, 32]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x64 : Shape := ⟨3, ![8, 4096, 64]⟩
abbrev S8x4096x128 : Shape := ⟨3, ![8, 4096, 128]⟩

abbrev nBuf : Space → Nat
  | .hbm => 162
  | .vmem => 0
  | .smem => 0
  | _ => 0

abbrev hbmTy0_0 (i : Nat) : BufTy := match i % 128 with
  | 0 => ⟨S4096x1536, .f32⟩
  | 1 => ⟨S4096x2048, .f32⟩
  | 2 => ⟨S4096x8x64, .f32⟩
  | 3 => ⟨S4096x32, .f32⟩
  | 4 => ⟨S4096x32, .f32⟩
  | 5 => ⟨S4096x1024, .f32⟩
  | 6 => ⟨S4096x8x192, .f32⟩
  | 7 => ⟨S4096x8x256, .f32⟩
  | 8 => ⟨S4096x8x128, .f32⟩
  | 9 => ⟨S4096x8x64, .f32⟩
  | 10 => ⟨S4096x8x128, .f32⟩
  | 11 => ⟨S4096x8x128, .f32⟩
  | 12 => ⟨S4096x1x32, .f32⟩
  | 13 => ⟨S4096x1x32, .f32⟩
  | 14 => ⟨S4096x8x32, .f32⟩
  | 15 => ⟨S4096x8x32, .f32⟩
  | 16 => ⟨S4096x8x32, .f32⟩
  | 17 => ⟨S4096x8x32, .f32⟩
  | 18 => ⟨S4096x8x32, .f32⟩
  | 19 => ⟨S4096x8x32, .f32⟩
  | 20 => ⟨S4096x8x32, .f32⟩
  | 21 => ⟨S4096x8x32, .f32⟩
  | 22 => ⟨S4096x8x32, .f32⟩
  | 23 => ⟨S4096x8x32, .f32⟩
  | 24 => ⟨S4096x8x32, .f32⟩
  | 25 => ⟨S4096x8x32, .f32⟩
  | 26 => ⟨S4096x8x64, .f32⟩
  | 27 => ⟨S8x4096x4096, .f32⟩
  | 28 => ⟨S8x4096x4096, .f32⟩
  | 29 => ⟨S8x4096x4096, .f32⟩
  | 30 => ⟨S_, .f32⟩
  | 31 => ⟨S_, .f32⟩
  | 32 => ⟨S8x4096x4096, .f32⟩
  | 33 => ⟨S8x4096x4096, .f32⟩
  | 34 => ⟨S4096, .i32⟩
  | 35 => ⟨S1x4096, .i32⟩
  | 36 => ⟨S4096x1, .i32⟩
  | 37 => ⟨S4096x4096, .i32⟩
  | 38 => ⟨S4096x4096, .i32⟩
  | 39 => ⟨S4096x4096, .i1⟩
  | 40 => ⟨S1x4096x4096, .i1⟩
  | 41 => ⟨S_, .f32⟩
  | 42 => ⟨S_, .f32⟩
  | 43 => ⟨S8x4096x4096, .i1⟩
  | 44 => ⟨S8x4096x4096, .f32⟩
  | 45 => ⟨S8x4096x4096, .f32⟩
  | 46 => ⟨S_, .f32⟩
  | 47 => ⟨S8x4096x4096, .f32⟩
  | 48 => ⟨S_, .f32⟩
  | 49 => ⟨S8x4096, .f32⟩
  | 50 => ⟨S8x4096x1, .f32⟩
  | 51 => ⟨S8x4096x4096, .f32⟩
  | 52 => ⟨S8x4096x4096, .i1⟩
  | 53 => ⟨S8x4096x4096, .f32⟩
  | 54 => ⟨S_, .f32⟩
  | 55 => ⟨S8x4096, .f32⟩
  | 56 => ⟨S_, .f32⟩
  | 57 => ⟨S8x4096, .f32⟩
  | 58 => ⟨S8x4096, .f32⟩
  | 59 => ⟨S_, .f32⟩
  | 60 => ⟨S8x4096, .f32⟩
  | 61 => ⟨S8x4096, .i1⟩
  | 62 => ⟨S_, .f32⟩
  | 63 => ⟨S8x4096, .f32⟩
  | 64 => ⟨S8x4096, .i1⟩
  | 65 => ⟨S_, .f32⟩
  | 66 => ⟨S8x4096, .f32⟩
  | 67 => ⟨S_, .f32⟩
  | 68 => ⟨S8x4096, .f32⟩
  | 69 => ⟨S_, .f32⟩
  | 70 => ⟨S8x4096, .f32⟩
  | 71 => ⟨S8x4096, .f32⟩
  | 72 => ⟨S8x4096, .f32⟩
  | 73 => ⟨S8x4096x1, .f32⟩
  | 74 => ⟨S8x4096x4096, .f32⟩
  | 75 => ⟨S8x4096x4096, .f32⟩
  | 76 => ⟨S8x4096x4096, .f32⟩
  | 77 => ⟨S_, .f32⟩
  | 78 => ⟨S8x4096, .f32⟩
  | 79 => ⟨S8x4096x1, .f32⟩
  | 80 => ⟨S8x4096x4096, .f32⟩
  | 81 => ⟨S8x4096x4096, .f32⟩
  | 82 => ⟨S8x4096x1, .f32⟩
  | 83 => ⟨S_, .f32⟩
  | 84 => ⟨S8x4096x1, .f32⟩
  | 85 => ⟨S8x4096x1, .f32⟩
  | 86 => ⟨S8x128x4096, .f32⟩
  | 87 => ⟨S4096x8x128, .f32⟩
  | 88 => ⟨S4096x1024, .f32⟩
  | 89 => ⟨S4096x8x128, .f32⟩
  | 90 => ⟨S8x128x4096, .f32⟩
  | 91 => ⟨S8x4096x4096, .f32⟩
  | 92 => ⟨S8x128x4096, .f32⟩
  | 93 => ⟨S4096x8x128, .f32⟩
  | 94 => ⟨S8x4096x4096, .f32⟩
  | 95 => ⟨S8x4096x4096, .f32⟩
  | 96 => ⟨S8x4096x4096, .f32⟩
  | 97 => ⟨S_, .f32⟩
  | 98 => ⟨S8x4096, .f32⟩
  | 99 => ⟨S8x4096x1, .f32⟩
  | 100 => ⟨S8x4096x1, .f32⟩
  | 101 => ⟨S8x4096x4096, .f32⟩
  | 102 => ⟨S8x4096x4096, .f32⟩
  | 103 => ⟨S_, .f32⟩
  | 104 => ⟨S8x4096, .f32⟩
  | 105 => ⟨S8x4096x4096, .f32⟩
  | 106 => ⟨S8x4096x4096, .f32⟩
  | 107 => ⟨S8x4096x4096, .f32⟩
  | 108 => ⟨S_, .f32⟩
  | 109 => ⟨S8x4096x4096, .f32⟩
  | 110 => ⟨S8x4096x4096, .f32⟩
  | 111 => ⟨S8x4096x4096, .f32⟩
  | 112 => ⟨S8x4096x4096, .f32⟩
  | 113 => ⟨S8x4096x64, .f32⟩
  | 114 => ⟨S4096x8x64, .f32⟩
  | 115 => ⟨S8x4096x64, .f32⟩
  | 116 => ⟨S4096x8x64, .f32⟩
  | 117 => ⟨S8x4096x128, .f32⟩
  | 118 => ⟨S4096x8x128, .f32⟩
  | 119 => ⟨S8x4096x128, .f32⟩
  | 120 => ⟨S4096x8x128, .f32⟩
  | 121 => ⟨S4096x8x32, .f32⟩
  | 122 => ⟨S4096x8x32, .f32⟩
  | 123 => ⟨S4096x8x32, .f32⟩
  | 124 => ⟨S4096x8x32, .f32⟩
  | 125 => ⟨S4096x8x32, .f32⟩
  | 126 => ⟨S4096x8x32, .f32⟩
  | 127 => ⟨S4096x8x32, .f32⟩
  | _ => ⟨S4096x1536, .f32⟩

abbrev hbmTy0_1 (i : Nat) : BufTy := match i % 128 with
  | 0 => ⟨S4096x8x32, .f32⟩
  | 1 => ⟨S4096x8x32, .f32⟩
  | 2 => ⟨S4096x8x32, .f32⟩
  | 3 => ⟨S4096x8x32, .f32⟩
  | 4 => ⟨S4096x8x32, .f32⟩
  | 5 => ⟨S4096x8x32, .f32⟩
  | 6 => ⟨S_, .f32⟩
  | 7 => ⟨S4096x8x64, .f32⟩
  | 8 => ⟨S_, .f32⟩
  | 9 => ⟨S4096x8x64, .f32⟩
  | 10 => ⟨S4096x8x64, .f32⟩
  | 11 => ⟨S_, .f32⟩
  | 12 => ⟨S4096x8x256, .f32⟩
  | 13 => ⟨S_, .f32⟩
  | 14 => ⟨S4096x8x256, .f32⟩
  | 15 => ⟨S4096x8x256, .f32⟩
  | 16 => ⟨S_, .f32⟩
  | 17 => ⟨S4096x8x192, .f32⟩
  | 18 => ⟨S_, .f32⟩
  | 19 => ⟨S4096x8x192, .f32⟩
  | 20 => ⟨S4096x8x192, .f32⟩
  | 21 => ⟨S4096x2048, .f32⟩
  | 22 => ⟨S4096x1536, .f32⟩
  | 23 => ⟨S4096x8x192, .f32⟩
  | 24 => ⟨S_, .i32⟩
  | 25 => ⟨S_, .f32⟩
  | 26 => ⟨S4096x8x256, .f32⟩
  | 27 => ⟨S4096x2048, .f32⟩
  | 28 => ⟨S_, .i32⟩
  | 29 => ⟨S_, .f32⟩
  | 30 => ⟨S4096x8x128, .f32⟩
  | 31 => ⟨S4096x1024, .f32⟩
  | 32 => ⟨S4096x2048, .bf16⟩
  | 33 => ⟨S4096x2048, .bf16⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_call0_v0 : Ref sig .tc := ⟨.hbm, 42, rfl⟩
abbrev main_v34_1 : Ref sig .tc := ⟨.hbm, 43, rfl⟩
abbrev main_call0_v2 : Ref sig .tc := ⟨.hbm, 44, rfl⟩
abbrev main_v34_0 : Ref sig .tc := ⟨.hbm, 45, rfl⟩
abbrev main_call0_cst : Ref sig .tc := ⟨.hbm, 46, rfl⟩
abbrev main_v34_2 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_call1_cst : Ref sig .tc := ⟨.hbm, 108, rfl⟩
abbrev main_call1_v0 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_13 : Ref sig .tc := ⟨.hbm, 134, rfl⟩
abbrev main_v107 : Ref sig .tc := ⟨.hbm, 135, rfl⟩
abbrev main_cst_14 : Ref sig .tc := ⟨.hbm, 136, rfl⟩
abbrev main_v108 : Ref sig .tc := ⟨.hbm, 137, rfl⟩
abbrev main_v109 : Ref sig .tc := ⟨.hbm, 138, rfl⟩
abbrev main_cst_15 : Ref sig .tc := ⟨.hbm, 139, rfl⟩
abbrev main_v110 : Ref sig .tc := ⟨.hbm, 140, rfl⟩
abbrev main_cst_16 : Ref sig .tc := ⟨.hbm, 141, rfl⟩
abbrev main_v111 : Ref sig .tc := ⟨.hbm, 142, rfl⟩
abbrev main_v112 : Ref sig .tc := ⟨.hbm, 143, rfl⟩
abbrev main_cst_17 : Ref sig .tc := ⟨.hbm, 144, rfl⟩
abbrev main_v113 : Ref sig .tc := ⟨.hbm, 145, rfl⟩
abbrev main_cst_18 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c : Ref sig .tc := ⟨.hbm, 152, rfl⟩
abbrev main_call2_v0 : Ref sig .tc := ⟨.hbm, 153, rfl⟩
abbrev main_v119 : Ref sig .tc := ⟨.hbm, 154, rfl⟩
abbrev main_v120 : Ref sig .tc := ⟨.hbm, 155, rfl⟩
abbrev main_c_19 : Ref sig .tc := ⟨.hbm, 156, rfl⟩
abbrev main_call3_v0 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S4096x2048 : Shape := ⟨2, ![4096, 2048]⟩
abbrev S5120x2048 : Shape := ⟨2, ![5120, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x2048, .bf16⟩
  | .hbm, ⟨3, _⟩ => ⟨S5120x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 2, 2], ![false, false, false]⟩

def k0_cond7 (i : grid0.Coords) : BitVec 1 :=
  let arg2 : BitVec 32 := BitVec.ofNat 32 (i 2).val
  let c1_i32 : BitVec 32 := 1#32
  let v7 : BitVec 1 := Scalar.cmpi .eq arg2 c1_i32
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.select v0 arg2 c1_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 c0_i32_0 arg2
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S4096x4096 : Shape := ⟨2, ![4096, 4096]⟩
abbrev S4096x2048 : Shape := ⟨2, ![4096, 2048]⟩
abbrev S4096x5120 : Shape := ⟨2, ![4096, 5120]⟩
abbrev S5120x2048 : Shape := ⟨2, ![5120, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x2048, .bf16⟩
  | .hbm, ⟨3, _⟩ => ⟨S4096x5120, .bf16⟩
  | .hbm, ⟨4, _⟩ => ⟨S5120x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S5120x2048 : Shape := ⟨2, ![5120, 2048]⟩
abbrev S4096x2048 : Shape := ⟨2, ![4096, 2048]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 5
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S5120x2048, .bf16⟩
  | .hbm, ⟨3, _⟩ => ⟨S4096x2048, .f32⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 3], ![false, false, false]⟩

def k0_mult1 (i : grid0.Coords) : BitVec 32 :=
  let c1024_i32 : BitVec 32 := 1024#32
  let c2048_i32 : BitVec 32 := 2048#32
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let v2 : BitVec 32 := Scalar.muli c2048_i32 v1
  let v3 : BitVec 32 := Scalar.addi c1024_i32 v2
  v3
def k0_mult2 (i : grid0.Coords) : BitVec 32 :=
  let arg1 : BitVec 32 := BitVec.ofNat 32 (i 1).val
  let c1024_i32_0 : BitVec 32 := 1024#32
  let v5 : BitVec 32 := Scalar.muli arg1 c1024_i32_0
  v5
def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2048_i32 : BitVec 32 := 2048#32
  let v2 : BitVec 32 := Scalar.muli c2048_i32 v1
  let c1024_i32 : BitVec 32 := 1024#32
  let v3 : BitVec 32 := Scalar.addi c1024_i32 v2
  let v4 : BitVec 32 := v3
  let c1024_i32_0 : BitVec 32 := 1024#32
  let v5 : BitVec 32 := Scalar.muli arg1 c1024_i32_0
  let v6 : BitVec 32 := v5
  let c0_i32_1 : BitVec 32 := 0#32
  ![v4.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Kernel3Ideal.lean ====
variable {F : FTy → Type} [FloatOps F] [Named F]
def κ : String → Option EReal := fun
  | "alpha" => some ((Real.sqrt (Real.sqrt 4) : ℝ) : EReal)
  | _ => none
-- ==== Reference3Ideal.lean ====
abbrev S4096x1024 : Shape := ⟨2, ![4096, 1024]⟩
abbrev S4096x4096 : Shape := ⟨2, ![4096, 4096]⟩
abbrev S5120x2048 : Shape := ⟨2, ![5120, 2048]⟩
abbrev S4096x2048 : Shape := ⟨2, ![4096, 2048]⟩
abbrev S4096x5120 : Shape := ⟨2, ![4096, 5120]⟩
abbrev S2048x5120 : Shape := ⟨2, ![2048, 5120]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S5120x2048, .bf16⟩
  | .hbm, ⟨3, _⟩ => ⟨S4096x2048, .f32⟩
  | .hbm, ⟨4, _⟩ => ⟨S4096x5120, .bf16⟩
  | .hbm, ⟨5, _⟩ => ⟨S4096x5120, .f32⟩
  | .hbm, ⟨6, _⟩ => ⟨S5120x2048, .f32⟩
  | .hbm, ⟨7, _⟩ => ⟨S2048x5120, .f32⟩
  | .hbm, ⟨8, _⟩ => ⟨S_, .f32⟩
  | .hbm, ⟨9, _⟩ => ⟨S4096x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x5120, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x2048 : Shape := ⟨2, ![4096, 2048]⟩
abbrev S5120x2048 : Shape := ⟨2, ![5120, 2048]⟩
abbrev S4096x5120 : Shape := ⟨2, ![4096, 5120]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5120x2048, .bf16⟩
  | .hbm, ⟨2, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S5120x2048 : Shape := ⟨2, ![5120, 2048]⟩
abbrev S2048x5120 : Shape := ⟨2, ![2048, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5120x2048, .bf16⟩
  | .hbm, ⟨2, _⟩ => ⟨S4096x2048, .f32⟩
  | .hbm, ⟨3, _⟩ => ⟨S5120x2048, .f32⟩
  | .hbm, ⟨4, _⟩ => ⟨S2048x5120, .f32⟩
  | .hbm, ⟨5, _⟩ => ⟨S4096x5120, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S4096x2048 : Shape := ⟨2, ![4096, 2048]⟩
abbrev S2048 : Shape := ⟨1, ![2048]⟩
abbrev S_ : Shape := ⟨0, ![]⟩
abbrev S1x2048 : Shape := ⟨2, ![1, 2048]⟩
abbrev S4096 : Shape := ⟨1, ![4096]⟩
abbrev S4096x1 : Shape := ⟨2, ![4096, 1]⟩

abbrev nBuf : Space → Nat
  | .hbm => 97
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S_, .f32⟩
  | .hbm, ⟨49, _⟩ => ⟨S2048, .f32⟩
  | .hbm, ⟨50, _⟩ => ⟨S4096x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S4096x2048, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x2048, .f32⟩
  | .hbm, ⟨63, _⟩ => ⟨S4096x2048, .f32⟩
  | .hbm, ⟨64, _⟩ => ⟨S4096x1, .f32⟩
  | .hbm, ⟨65, _⟩ => ⟨S4096x2048, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x2048, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x2048, .f32⟩
  | .hbm, ⟨88, _⟩ => ⟨S4096x2048, .f32⟩
  | .hbm, ⟨89, _⟩ => ⟨S_, .f32⟩
  | .hbm, ⟨90, _⟩ => ⟨S2048, .f32⟩
  | .hbm, ⟨91, _⟩ => ⟨S1x2048, .f32⟩
  | .hbm, ⟨92, _⟩ => ⟨S_, .f32⟩
  | .hbm, ⟨93, _⟩ => ⟨S2048, .f32⟩
  | .hbm, ⟨94, _⟩ => ⟨S1x2048, .f32⟩
  | .hbm, ⟨95, _⟩ => ⟨S1x2048, .f32⟩
  | .hbm, ⟨96, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_12 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_v53 : Ref sig .tc := ⟨.hbm, 71, rfl⟩
abbrev main_cst_14 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_15 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_16 : Ref sig .tc := ⟨.hbm, 82, rfl⟩
abbrev main_v62 : Ref sig .tc := ⟨.hbm, 83, rfl⟩
abbrev main_v63 : Ref sig .tc := ⟨.hbm, 84, rfl⟩
abbrev main_cst_17 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_18 : Ref sig .tc := ⟨.hbm, 89, rfl⟩
abbrev main_v67 : Ref sig .tc := ⟨.hbm, 90, rfl⟩
abbrev main_v68 : Ref sig .tc := ⟨.hbm, 91, rfl⟩
abbrev main_cst_19 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S4096x2048, .bf16⟩
  | .hbm, ⟨11, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S4096 : Shape := ⟨1, ![4096]⟩
abbrev S4096x1 : Shape := ⟨2, ![4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048x2048, .f32⟩
  | .hbm, ⟨11, _⟩ => ⟨S4096x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S4096x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel10.lean ====
abbrev S4096x2048 : Shape := ⟨2, ![4096, 2048]⟩
abbrev S4096x8x64 : Shape := ⟨3, ![4096, 8, 64]⟩
abbrev S4096x5120 : Shape := ⟨2, ![4096, 5120]⟩
abbrev S4096x32 : Shape := ⟨2, ![4096, 32]⟩
abbrev S512 : Shape := ⟨1, ![512]⟩
abbrev S256 : Shape := ⟨1, ![256]⟩
abbrev S2048x512 : Shape := ⟨2, ![2048, 512]⟩
abbrev S2048x256 : Shape := ⟨2, ![2048, 256]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S4096x256 : Shape := ⟨2, ![4096, 256]⟩
abbrev S1x256 : Shape := ⟨2, ![1, 256]⟩
abbrev S4096x64 : Shape := ⟨2, ![4096, 64]⟩
abbrev S4096x128 : Shape := ⟨2, ![4096, 128]⟩
abbrev S4096x8x128 : Shape := ⟨3, ![4096, 8, 128]⟩
abbrev S4096x1024 : Shape := ⟨2, ![4096, 1024]⟩
abbrev S512x2048 : Shape := ⟨2, ![512, 2048]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512x1 : Shape := ⟨2, ![512, 1]⟩

abbrev nBuf : Space → Nat
  | .hbm => 64
  | .vmem => 28
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x8x64, .f32⟩
  | .hbm, ⟨3, _⟩ => ⟨S4096x5120, .f32⟩
  | .hbm, ⟨4, _⟩ => ⟨S4096x32, .f32⟩
  | .hbm, ⟨5, _⟩ => ⟨S4096x32, .f32⟩
  | .hbm, ⟨6, _⟩ => ⟨S512, .f32⟩
  | .hbm, ⟨7, _⟩ => ⟨S256, .f32⟩
  | .hbm, ⟨8, _⟩ => ⟨S2048x512, .bf16⟩
  | .hbm, ⟨9, _⟩ => ⟨S2048x256, .bf16⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x512, .bf16⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x256, .f32⟩
  | .hbm, ⟨41, _⟩ => ⟨S4096x256, .f32⟩
  | .hbm, ⟨42, _⟩ => ⟨S1x256, .f32⟩
  | .hbm, ⟨43, _⟩ => ⟨S4096x256, .f32⟩
  | .hbm, ⟨44, _⟩ => ⟨S4096x256, .f32⟩
  | .hbm, ⟨45, _⟩ => ⟨S4096x256, .bf16⟩
  | .hbm, ⟨46, _⟩ => ⟨S_, .f32⟩
  | .hbm, ⟨47, _⟩ => ⟨S4096x64, .f32⟩
  | .hbm, ⟨48, _⟩ => ⟨S4096x128, .f32⟩
  | .hbm, ⟨49, _⟩ => ⟨S4096x32, .f32⟩
  | .hbm, ⟨50, _⟩ => ⟨S_, .f32⟩
  | .hbm, ⟨51, _⟩ => ⟨S4096x64, .f32⟩
  | .hbm, ⟨52, _⟩ => ⟨S4096x128, .f32⟩
  | .hbm, ⟨53, _⟩ => ⟨S_, .f32⟩
  | .hbm, ⟨54, _⟩ => ⟨S4096x8x64, .f32⟩
  | .hbm, ⟨55, _⟩ => ⟨S4096x8x128, .f32⟩
  | .hbm, ⟨56, _⟩ => ⟨S4096x1024, .f32⟩
  | .hbm, ⟨57, _⟩ => ⟨S1x512, .f32⟩
  | .hbm, ⟨58, _⟩ => ⟨S1x256, .f32⟩
  | .hbm, ⟨59, _⟩ => ⟨S4096x1024, .bf16⟩
  | .hbm, ⟨60, _⟩ => ⟨S1x512, .f32⟩
  | .hbm, ⟨61, _⟩ => ⟨S1x256, .f32⟩
  | .hbm, ⟨62, _⟩ => ⟨S2048x512, .f32⟩
  | .hbm, ⟨63, _⟩ => ⟨S2048x256, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S512x512, .f32⟩
  | .local _ .vmem, ⟨11, _⟩ => ⟨S512x512, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512, .f32⟩
  | .local _ .vmem, ⟨19, _⟩ => ⟨S1x256, .f32⟩
  | .local _ .vmem, ⟨20, _⟩ => ⟨S2048x512, .bf16⟩
  | .local _ .vmem, ⟨21, _⟩ => ⟨S2048x256, .bf16⟩
  | .local _ .vmem, ⟨22, _⟩ => ⟨S512x1024, .bf16⟩
  | .local _ .vmem, ⟨23, _⟩ => ⟨S512x1024, .bf16⟩
  | .local _ .vmem, ⟨24, _⟩ => ⟨S1x512, .f32⟩
  | .local _ .vmem, ⟨25, _⟩ => ⟨S1x256, .f32⟩
  | .local _ .vmem, ⟨26, _⟩ => ⟨S2048x512, .f32⟩
  | .local _ .vmem, ⟨27, _⟩ => ⟨S2048x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v40_2 : Ref sig .tc := ⟨.hbm, 61, rfl⟩
abbrev main_v40_3 : Ref sig .tc := ⟨.hbm, 62, rfl⟩
abbrev main_v40_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2048x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference10Ideal.lean ====
abbrev S4096x2048 : Shape := ⟨2, ![4096, 2048]⟩
abbrev S4096x8x64 : Shape := ⟨3, ![4096, 8, 64]⟩
abbrev S4096x5120 : Shape := ⟨2, ![4096, 5120]⟩
abbrev S4096x32 : Shape := ⟨2, ![4096, 32]⟩
abbrev S512 : Shape := ⟨1, ![512]⟩
abbrev S256 : Shape := ⟨1, ![256]⟩
abbrev S2048x512 : Shape := ⟨2, ![2048, 512]⟩
abbrev S2048x256 : Shape := ⟨2, ![2048, 256]⟩
abbrev S512x2048 : Shape := ⟨2, ![512, 2048]⟩
abbrev S256x2048 : Shape := ⟨2, ![256, 2048]⟩
abbrev S4096x512 : Shape := ⟨2, ![4096, 512]⟩
abbrev S4096x256 : Shape := ⟨2, ![4096, 256]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S1x256 : Shape := ⟨2, ![1, 256]⟩
abbrev S4096x1x64 : Shape := ⟨3, ![4096, 1, 64]⟩
abbrev S4096x192 : Shape := ⟨2, ![4096, 192]⟩
abbrev S4096x1024 : Shape := ⟨2, ![4096, 1024]⟩

abbrev nBuf : Space → Nat
  | .hbm => 157
  | .vmem => 0
  | .smem => 0
  | _ => 0

abbrev hbmTy0_0 (i : Nat) : BufTy := match i % 128 with
  | 0 => ⟨S4096x2048, .bf16⟩
  | 1 => ⟨S4096x2048, .bf16⟩
  | 2 => ⟨S4096x8x64, .f32⟩
  | 3 => ⟨S4096x5120, .f32⟩
  | 4 => ⟨S4096x32, .f32⟩
  | 5 => ⟨S4096x32, .f32⟩
  | 6 => ⟨S512, .f32⟩
  | 7 => ⟨S256, .f32⟩
  | 8 => ⟨S2048x512, .bf16⟩
  | 9 => ⟨S2048x256, .bf16⟩
  | 10 => ⟨S2048x512, .f32⟩
  | 11 => ⟨S512x2048, .f32⟩
  | 12 => ⟨S2048x256, .f32⟩
  | 13 => ⟨S256x2048, .f32⟩
  | 14 => ⟨S4096x512, .f32⟩
  | 15 => ⟨S4096x256, .f32⟩
  | 16 => ⟨S4096x64, .f32⟩
  | 17 => ⟨S4096x512, .f32⟩
  | 18 => ⟨S_, .f32⟩
  | 19 => ⟨S4096x512, .f32⟩
  | 20 => ⟨S4096x512, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x512, .f32⟩
  | 36 => ⟨S4096x512, .f32⟩
  | 37 => ⟨S1x512, .f32⟩
  | 38 => ⟨S4096x512, .f32⟩
  | 39 => ⟨S4096x512, .f32⟩
  | 40 => ⟨S4096x2048, .f32⟩
  | 41 => ⟨S4096x256, .f32⟩
  | 42 => ⟨S_, .f32⟩
  | 43 => ⟨S4096x256, .f32⟩
  | 44 => ⟨S4096x256, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x256, .f32⟩
  | 60 => ⟨S4096x256, .f32⟩
  | 61 => ⟨S1x256, .f32⟩
  | 62 => ⟨S4096x256, .f32⟩
  | 63 => ⟨S4096x256, .f32⟩
  | 64 => ⟨S4096x2048, .f32⟩
  | 65 => ⟨S4096x32, .f32⟩
  | 66 => ⟨S4096x32, .f32⟩
  | 67 => ⟨S4096x32, .f32⟩
  | 68 => ⟨S4096x32, .f32⟩
  | 69 => ⟨S4096x32, .f32⟩
  | 70 => ⟨S4096x32, .f32⟩
  | 71 => ⟨S4096x32, .f32⟩
  | 72 => ⟨S4096x32, .f32⟩
  | 73 => ⟨S4096x64, .f32⟩
  | 74 => ⟨S4096x1x64, .f32⟩
  | 75 => ⟨S4096x8x64, .f32⟩
  | 76 => ⟨S4096x2048, .f32⟩
  | 77 => ⟨S4096x2048, .f32⟩
  | 78 => ⟨S_, .f32⟩
  | 79 => ⟨S4096x64, .f32⟩
  | 80 => ⟨S4096x1x64, .f32⟩
  | 81 => ⟨S_, .f32⟩
  | 82 => ⟨S4096x64, .f32⟩
  | 83 => ⟨S4096x32, .f32⟩
  | 84 => ⟨S4096x32, .f32⟩
  | 85 => ⟨S4096x32, .f32⟩
  | 86 => ⟨S4096x32, .f32⟩
  | 87 => ⟨S4096x32, .f32⟩
  | 88 => ⟨S4096x32, .f32⟩
  | 89 => ⟨S4096x32, .f32⟩
  | 90 => ⟨S4096x32, .f32⟩
  | 91 => ⟨S4096x32, .f32⟩
  | 92 => ⟨S_, .f32⟩
  | 93 => ⟨S4096x64, .f32⟩
  | 94 => ⟨S_, .f32⟩
  | 95 => ⟨S4096x64, .f32⟩
  | 96 => ⟨S4096x64, .f32⟩
  | 97 => ⟨S2048x256, .f32⟩
  | 98 => ⟨S256x2048, .f32⟩
  | 99 => ⟨S4096x256, .f32⟩
  | 100 => ⟨S4096x256, .f32⟩
  | 101 => ⟨S_, .f32⟩
  | 102 => ⟨S256, .f32⟩
  | 103 => ⟨S1x256, .f32⟩
  | 104 => ⟨S4096x256, .f32⟩
  | 105 => ⟨S4096x256, .f32⟩
  | 106 => ⟨S_, .f32⟩
  | 107 => ⟨S256, .f32⟩
  | 108 => ⟨S4096x256, .f32⟩
  | 109 => ⟨S_, .f32⟩
  | 110 => ⟨S4096, .f32⟩
  | 111 => ⟨S4096x1, .f32⟩
  | 112 => ⟨S4096x256, .f32⟩
  | 113 => ⟨S4096x256, .f32⟩
  | 114 => ⟨S4096x1, .f32⟩
  | 115 => ⟨S_, .f32⟩
  | 116 => ⟨S4096x1, .f32⟩
  | 117 => ⟨S4096x1, .f32⟩
  | 118 => ⟨S_, .f32⟩
  | 119 => ⟨S4096, .f32⟩
  | 120 => ⟨S4096x256, .f32⟩
  | 121 => ⟨S4096x256, .f32⟩
  | 122 => ⟨S4096x256, .f32⟩
  | 123 => ⟨S2048x512, .f32⟩
  | 124 => ⟨S512x2048, .f32⟩
  | 125 => ⟨S4096x512, .f32⟩
  | 126 => ⟨S4096x512, .f32⟩
  | 127 => ⟨S_, .f32⟩
  | _ => ⟨S4096x2048, .bf16⟩

abbrev hbmTy0_1 (i : Nat) : BufTy := match i % 128 with
  | 0 => ⟨S512, .f32⟩
  | 1 => ⟨S1x512, .f32⟩
  | 2 => ⟨S4096x512, .f32⟩
  | 3 => ⟨S4096x512, .f32⟩
  | 4 => ⟨S_, .f32⟩
  | 5 => ⟨S512, .f32⟩
  | 6 => ⟨S4096x512, .f32⟩
  | 7 => ⟨S_, .f32⟩
  | 8 => ⟨S4096, .f32⟩
  | 9 => ⟨S4096x1, .f32⟩
  | 10 => ⟨S4096x512, .f32⟩
  | 11 => ⟨S4096x512, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096, .f32⟩
  | 18 => ⟨S4096x512, .f32⟩
  | 19 => ⟨S4096x512, .f32⟩
  | 20 => ⟨S4096x512, .f32⟩
  | 21 => ⟨S_, .f32⟩
  | 22 => ⟨S4096x192, .f32⟩
  | 23 => ⟨S4096x1024, .f32⟩
  | 24 => ⟨S4096x1024, .bf16⟩
  | 25 => ⟨S1x512, .f32⟩
  | 26 => ⟨S1x256, .f32⟩
  | 27 => ⟨S2048x512, .f32⟩
  | 28 => ⟨S2048x256, .f32⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_16 : Ref sig .tc := ⟨.hbm, 115, rfl⟩
abbrev main_v88 : Ref sig .tc := ⟨.hbm, 116, rfl⟩
abbrev main_v89 : Ref sig .tc := ⟨.hbm, 117, rfl⟩
abbrev main_cst_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_18 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_19 : Ref sig .tc := ⟨.hbm, 132, rfl⟩
abbrev main_v102 : Ref sig .tc := ⟨.hbm, 133, rfl⟩
abbrev main_v103 : Ref sig .tc := ⟨.hbm, 134, rfl⟩
abbrev main_cst_20 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_21 : Ref sig .tc := ⟨.hbm, 141, rfl⟩
abbrev main_v109 : Ref sig .tc := ⟨.hbm, 142, rfl⟩
abbrev main_v110 : Ref sig .tc := ⟨.hbm, 143, rfl⟩
abbrev main_cst_22 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_23 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩

abbrev nD : Nat := 1
abbrev τ : Topo := Topo.v7x

variable {F : FTy → Type} [FloatOps F]
-- ==== Proof.Dense.Dh.lean ====
/- The gradient of a layer's input: the scaled gradient of the residual plus the product of the input projection's
   gradient with its weights, accumulated over three blocks of columns. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Claim

@[expose] public section

noncomputable section

namespace Cert.Kernel3Ideal.Dh

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

theorem hz : (![0, 0] : Fin 2 → Nat) = fun _ => 0 := funext fun a => by fin_cases a <;> rfl

/-- The factor of the residual, the fourth root of 4. -/
abbrev al : EReal := ((Real.sqrt (Real.sqrt 4) : ℝ) : EReal)
theorem named_al : (Named.named κ "alpha" 0x3FB504F3#32 : Ideal .f32) = al := IdealRules.named_const.ideal_named_scalar _ _ _ _ rfl

theorem pay1_apply (a b : Vec Ideal S1024x1024 .bf16) (i j : Fin 1024) :
    k0_pay1 (F := Ideal) a b (ix2 i j) = ∑ k : Fin 1024, a (ix2 i k) * b (ix2 k j) := by
  pointwise [k0_pay1]
theorem pay2_apply (s : Vec Ideal S1024x1024 .f32) (a : Vec Ideal S1024x2048 .bf16) (b : Vec Ideal S2048x1024 .bf16) (i j : Fin 1024) :
    k0_pay2 (F := Ideal) s a b (ix2 i j) = (s (ix2 i j) : EReal) + ∑ k : Fin 2048, a (ix2 i k) * b (ix2 k j) := by
  pointwise [k0_pay2]
theorem pay3_apply (r s : Vec Ideal S1024x1024 .f32) (i j : Fin 1024) :
    k0_pay3 (F := Ideal) r s (ix2 i j) = al * (r (ix2 i j) : EReal) + (s (ix2 i j) : EReal) := by
  pointwise [k0_pay3, named_al]

set_option maxHeartbeats 1000000 in
/-- The first block of columns: the scratch holds the product. -/
theorem sout_A (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (hc2 : ¬cond0_2 i)
    (x0 : Vec Ideal S1024x1024 .bf16) (x1 : Vec Ideal S1024x2048 .bf16) (x2 : Vec Ideal S1024x1024 .bf16) (x3 : Vec Ideal S2048x1024 .bf16) (x4 : Vec Ideal S1024x1024 .f32) :
    sout0_A_0 c i arg3 harg3 arg4 harg4 arg5 harg5 arg6 harg6 arg7 harg7 arg8 harg8 arg9 harg9 hc0 hc1 hc2 x0 x1 x2 x3 x4 = k0_pay1 x0 x2 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3 x4)]
  unfold kernelRun0_A
  dsimp only
  rw [View.canon_unit_zero hz]
  simp only [View.readAt_eq_ld, harg3.read_unread, harg4.read_unread, harg5.read_unread, harg6.read_unread, harg7.read_unread, harg9.read_unread, View.ld_unit_zero (S := S2048x1024) hz, View.ld_unit_zero (S := S1024x2048) hz, View.ld_unit_zero (S := S1024x1024) hz]

set_option maxHeartbeats 1000000 in
/-- The second block of columns: the product is added to the scratch. -/
theorem sout_B (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (hc2 : ¬cond0_2 i)
    (x0 : Vec Ideal S1024x1024 .bf16) (x1 : Vec Ideal S1024x2048 .bf16) (x2 : Vec Ideal S1024x1024 .bf16) (x3 : Vec Ideal S2048x1024 .bf16) (x4 : Vec Ideal S1024x1024 .f32) (s : Vec Ideal S1024x1024 .f32) :
    sout0_B_0 c i arg3 harg3 arg4 harg4 arg5 harg5 arg6 harg6 arg7 harg7 arg8 harg8 arg9 harg9 hc0 hc1 hc2 x0 x1 x2 x3 x4 s = k0_pay2 s x1 x3 := by
  unfold sout0_B_0
  rw [View.read_writes_eq_canon _ _ _ (scover0_B_0 c i arg3 harg3 arg4 harg4 arg5 harg5 arg6 harg6 arg7 harg7 arg8 harg8 arg9 harg9 hc0 hc1 hc2 x0 x1 x2 x3 x4 s)]
  unfold kernelRun0_B
  dsimp only
  rw [View.canon_unit_zero hz]
  simp only [View.readAt_eq_ld, harg3.read_unread, harg4.read_unread, harg5.read_unread, harg6.read_unread, harg7.read_unread, harg9.read_unread, View.ld_unit_zero (S := S2048x1024) hz, View.ld_unit_zero (S := S1024x2048) hz, View.ld_unit_zero (S := S1024x1024) hz]

set_option maxHeartbeats 1000000 in
/-- The last block of columns: the residual's gradient, scaled, plus the whole sum. -/
theorem out_C (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (hc2 : cond0_2 i)
    (x0 : Vec Ideal S1024x1024 .bf16) (x1 : Vec Ideal S1024x2048 .bf16) (x2 : Vec Ideal S1024x1024 .bf16) (x3 : Vec Ideal S2048x1024 .bf16) (x4 : Vec Ideal S1024x1024 .f32) (s : Vec Ideal S1024x1024 .f32) :
    out0_C_5 c i arg3 harg3 arg4 harg4 arg5 harg5 arg6 harg6 arg7 harg7 arg8 harg8 arg9 harg9 hc0 hc1 hc2 x0 x1 x2 x3 x4 s = k0_pay3 x4 (k0_pay2 s x1 x3) := by
  unfold out0_C_5
  rw [View.read_writes_eq_canon _ _ _ (cover0_C_5 c i arg3 harg3 arg4 harg4 arg5 harg5 arg6 harg6 arg7 harg7 arg8 harg8 arg9 harg9 hc0 hc1 hc2 x0 x1 x2 x3 x4 s)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread, harg7.read_unread, harg9.read_unread, View.ld_unit_zero (S := S2048x1024) hz, View.ld_unit_zero (S := S1024x2048) hz, View.ld_unit_zero (S := S1024x1024) hz]

/-- What the last of a tile's three points writes. -/
theorem out_last (c : Dev nD) (t : Fin cfg0.N) (h : t.val % 3 = 2) (s r : Fin cfg0.N) (hs : s.val + 1 = t.val) (hr : r.val + 1 = s.val) :
    (outsAt0 m c t.val t.isLt).1 = k0_pay3 (iblk m c 4 t) (k0_pay2 (k0_pay2 (k0_pay1 (iblk m c 0 r) (iblk m c 2 r)) (iblk m c 1 s) (iblk m c 3 s)) (iblk m c 1 t) (iblk m c 3 t)) := by
  obtain ⟨t, ht⟩ := t
  obtain ⟨s, hs'⟩ := s
  obtain ⟨r, hr'⟩ := r
  obtain rfl : s = r + 1 := hr.symm
  obtain rfl : t = r + 1 + 1 := hs.symm
  have h2 : (r + 1 + 1) % 3 = 2 := h
  have e0 : (outsAt0 m c r hr').2 = k0_pay1 (iblk m c 0 ⟨r, hr'⟩) (iblk m c 2 ⟨r, hr'⟩) := by
    refine (congrArg Prod.snd (outsAt0_A m c ⟨r, hr'⟩ (by show r % 3 = 0; omega) (by show ¬1 ≤ r % 3; omega) (by show ¬r % 3 = 2; omega))).trans ?_
    dsimp only
    rw [sout_A]
  have e1 : (outsAt0 m c (r + 1) hs').2 = k0_pay2 (k0_pay1 (iblk m c 0 ⟨r, hr'⟩) (iblk m c 2 ⟨r, hr'⟩)) (iblk m c 1 ⟨r + 1, hs'⟩) (iblk m c 3 ⟨r + 1, hs'⟩) := by
    refine (congrArg Prod.snd (outsAt0_B m c ⟨r + 1, hs'⟩ (by show ¬(r + 1) % 3 = 0; omega) (by show 1 ≤ (r + 1) % 3; omega) (by show ¬(r + 1) % 3 = 2; omega))).trans ?_
    dsimp only
    rw [sout_B]
    exact congrArg (fun z => k0_pay2 z (iblk m c 1 ⟨r + 1, hs'⟩) (iblk m c 3 ⟨r + 1, hs'⟩)) e0
  refine (congrArg Prod.fst (outsAt0_C m c ⟨r + 1 + 1, ht⟩ (by show ¬(r + 1 + 1) % 3 = 0; omega) (by show 1 ≤ (r + 1 + 1) % 3; omega) h2)).trans ?_
  dsimp only
  rw [out_C]
  exact congrArg (fun z => k0_pay3 (iblk m c 4 ⟨r + 1 + 1, ht⟩) (k0_pay2 z (iblk m c 1 ⟨r + 1 + 1, ht⟩) (iblk m c 3 ⟨r + 1 + 1, ht⟩))) e1

/-- The index maps, decided over the grid. -/
theorem idx_0 : ∀ t : Fin cfg0.N, win0_0.index t (0 : Fin 2) = t.val / 6 ∧ win0_0.index t (1 : Fin 2) = 0 :=
  (by decide +kernel : ∀ t : Fin grid0.N, _)
theorem idx_1 : ∀ t : Fin cfg0.N, win0_1.index t (0 : Fin 2) = t.val / 6 ∧ win0_1.index t (1 : Fin 2) = t.val % 3 - 1 :=
  (by decide +kernel : ∀ t : Fin grid0.N, _)
theorem idx_2 : ∀ t : Fin cfg0.N, win0_2.index t (0 : Fin 2) = 0 ∧ win0_2.index t (1 : Fin 2) = t.val / 3 % 2 :=
  (by decide +kernel : ∀ t : Fin grid0.N, _)
theorem idx_3 : ∀ t : Fin cfg0.N, win0_3.index t (0 : Fin 2) = 1024 + 2048 * (t.val % 3 - 1) ∧ win0_3.index t (1 : Fin 2) = 1024 * (t.val / 3 % 2) :=
  (by decide +kernel : ∀ t : Fin grid0.N, _)
theorem idx_4 : ∀ t : Fin cfg0.N, win0_4.index t (0 : Fin 2) = t.val / 6 ∧ win0_4.index t (1 : Fin 2) = t.val / 3 % 2 :=
  (by decide +kernel : ∀ t : Fin grid0.N, _)

theorem blk_0 (c : Dev nD) (t : Fin cfg0.N) (a : Fin 1024) (b : Fin 1024) (a' : Fin 4096) (ha : a'.val = t.val / 6 * 1024 + a.val) (b' : Fin 1024) (hb : b'.val = 0 + b.val) :
    (iblk m c 0 t : Vec Ideal S1024x1024 .bf16) (ix2 a b) = (m ((c : Thread nD τ).loc main_arg0)) (ix2 a' b') := by
  obtain ⟨e0, e1⟩ := idx_0 t
  unfold iblk
  rw [View.read_apply]
  show V m c main_arg0 _ = m (c.tc.loc main_arg0) _
  unfold V
  congr 1
  funext x
  apply Fin.ext
  match x with
  | ⟨0, _⟩ => show win0_0.index t 0 * 1024 + 1 * a.val = a'.val; rw [e0]; omega
  | ⟨1, _⟩ => show win0_0.index t 1 * 1024 + 1 * b.val = b'.val; rw [e1]; omega

theorem blk_1 (c : Dev nD) (t : Fin cfg0.N) (a : Fin 1024) (b : Fin 2048) (a' : Fin 4096) (ha : a'.val = t.val / 6 * 1024 + a.val) (b' : Fin 4096) (hb : b'.val = (t.val % 3 - 1) * 2048 + b.val) :
    (iblk m c 1 t : Vec Ideal S1024x2048 .bf16) (ix2 a b) = (m ((c : Thread nD τ).loc main_arg1)) (ix2 a' b') := by
  obtain ⟨e0, e1⟩ := idx_1 t
  unfold iblk
  rw [View.read_apply]
  show V m c main_arg1 _ = m (c.tc.loc main_arg1) _
  unfold V
  congr 1
  funext x
  apply Fin.ext
  match x with
  | ⟨0, _⟩ => show win0_1.index t 0 * 1024 + 1 * a.val = a'.val; rw [e0]; omega
  | ⟨1, _⟩ => show win0_1.index t 1 * 2048 + 1 * b.val = b'.val; rw [e1]; omega

theorem blk_2 (c : Dev nD) (t : Fin cfg0.N) (a : Fin 1024) (b : Fin 1024) (a' : Fin 5120) (ha : a'.val = 0 + a.val) (b' : Fin 2048) (hb : b'.val = t.val / 3 % 2 * 1024 + b.val) :
    (iblk m c 2 t : Vec Ideal S1024x1024 .bf16) (ix2 a b) = (m ((c : Thread nD τ).loc main_arg2)) (ix2 a' b') := by
  obtain ⟨e0, e1⟩ := idx_2 t
  unfold iblk
  rw [View.read_apply]
  show V m c main_arg2 _ = m (c.tc.loc main_arg2) _
  unfold V
  congr 1
  funext x
  apply Fin.ext
  match x with
  | ⟨0, _⟩ => show win0_2.index t 0 * 1024 + 1 * a.val = a'.val; rw [e0]; omega
  | ⟨1, _⟩ => show win0_2.index t 1 * 1024 + 1 * b.val = b'.val; rw [e1]; omega

theorem blk_3 (c : Dev nD) (t : Fin cfg0.N) (a : Fin 2048) (b : Fin 1024) (a' : Fin 5120) (ha : a'.val = 1024 + 2048 * (t.val % 3 - 1) + a.val) (b' : Fin 2048) (hb : b'.val = 1024 * (t.val / 3 % 2) + b.val) :
    (iblk m c 3 t : Vec Ideal S2048x1024 .bf16) (ix2 a b) = (m ((c : Thread nD τ).loc main_arg2)) (ix2 a' b') := by
  obtain ⟨e0, e1⟩ := idx_3 t
  unfold iblk
  rw [View.read_apply]
  show V m c main_arg2 _ = m (c.tc.loc main_arg2) _
  unfold V
  congr 1
  funext x
  apply Fin.ext
  match x with
  | ⟨0, _⟩ => show win0_3.index t 0 + 1 * a.val = a'.val; rw [e0]; omega
  | ⟨1, _⟩ => show win0_3.index t 1 + 1 * b.val = b'.val; rw [e1]; omega

theorem blk_4 (c : Dev nD) (t : Fin cfg0.N) (a : Fin 1024) (b : Fin 1024) (a' : Fin 4096) (ha : a'.val = t.val / 6 * 1024 + a.val) (b' : Fin 2048) (hb : b'.val = t.val / 3 % 2 * 1024 + b.val) :
    (iblk m c 4 t : Vec Ideal S1024x1024 .f32) (ix2 a b) = (m ((c : Thread nD τ).loc main_arg3)) (ix2 a' b') := by
  obtain ⟨e0, e1⟩ := idx_4 t
  unfold iblk
  rw [View.read_apply]
  show V m c main_arg3 _ = m (c.tc.loc main_arg3) _
  unfold V
  congr 1
  funext x
  apply Fin.ext
  match x with
  | ⟨0, _⟩ => show win0_4.index t 0 * 1024 + 1 * a.val = a'.val; rw [e0]; omega
  | ⟨1, _⟩ => show win0_4.index t 1 * 1024 + 1 * b.val = b'.val; rw [e1]; omega

/-- The concatenation of the two operands' columns, read at row `r` and column `n`. -/
def cat (x0 : Vec Ideal S4096x1024 .bf16) (x1 : Vec Ideal S4096x4096 .bf16) (r : Fin 4096) (n : Fin 5120) : EReal :=
  if h : n.val < 1024 then x0 (ix2 r ⟨n.val, h⟩) else x1 (ix2 r ⟨n.val - 1024, by omega⟩)

theorem word_4 : Ideal.ofBits .f32 0x40800000#32 = ((4 : ℝ) : EReal) := by
  simp [Ideal.ofBits, Ideal.ieee, -EReal.coe_mul]; norm_num

theorem root : Ideal.sqrt (Ideal.sqrt (Ideal.ofBits .f32 0x40800000#32)) = al := by
  rw [word_4, Ideal.sqrt_coe, if_neg (by norm_num), Ideal.sqrt_coe, if_neg (not_lt.2 (Real.sqrt_nonneg 4))]

/-- The reference at an entry. -/
theorem ref_apply (x0 : Vec Ideal S4096x1024 .bf16) (x1 : Vec Ideal S4096x4096 .bf16) (x2 : Vec Ideal S5120x2048 .bf16) (x3 : Vec Ideal S4096x2048 .f32) (i : Fin 4096) (j : Fin 2048) :
    Cert.Reference3Ideal.Read.val_main_v13 (F := Ideal) x0 x1 x2 x3 (ix2 i j) = al * (x3 (ix2 i j) : EReal) + ∑ k : Fin 5120, cat x0 x1 i k * x2 (ix2 k j) := by
  rw [Cert.Reference3Ideal.Read.val_main_v13_apply, Cert.Reference3Ideal.Read.val_main_v10_apply, Cert.Reference3Ideal.Read.val_main_v12_apply, Cert.Reference3Ideal.Read.val_main_v11_apply]
  refine (add_comm (G := EReal) _ _).trans ?_
  refine congr (congrArg (fun x y : EReal => x + y) (congrArg (fun x : EReal => x * (x3 (ix2 i j) : EReal)) root)) ?_
  refine Finset.sum_congr rfl fun k _ => ?_
  rw [Cert.Reference3Ideal.Read.val_main_v1_apply, Cert.Reference3Ideal.Read.val_main_v3_apply]
  refine congr (congrArg (fun x y : EReal => x * y) ?_) (congrArg x2 ?_)
  · unfold cat
    pointwise [Cert.Reference3Ideal.Read.val_main_v0]
  · funext x
    match x with
    | ⟨0, _⟩ => rfl
    | ⟨1, _⟩ => rfl

/-- A sum over 5120 columns as the sums over the first 1024 and two times 2048. -/
theorem sum_parts (f : Fin 5120 → EReal) :
    ∑ k : Fin 5120, f k = ((∑ k : Fin 1024, f ⟨k.val, by omega⟩) + ∑ k : Fin 2048, f ⟨1024 + k.val, by omega⟩) + ∑ k : Fin 2048, f ⟨1024 + 2048 + k.val, by omega⟩ := by
  refine (Fin.sum_univ_add (a := 1024 + 2048) (b := 2048) f).trans ?_
  exact congrArg (fun z : EReal => z + ∑ k : Fin 2048, f ⟨1024 + 2048 + k.val, by omega⟩)
    (Fin.sum_univ_add (a := 1024) (b := 2048) (fun k : Fin (1024 + 2048) => f ⟨k.val, by omega⟩))

theorem G_eq (c : Dev nD) :
    Value.G5 m c = Cert.Reference3Ideal.Read.val_main_v13 (F := Ideal) (m ((c : Thread nD τ).loc main_arg0)) (m ((c : Thread nD τ).loc main_arg1)) (m ((c : Thread nD τ).loc main_arg2)) (m ((c : Thread nD τ).loc main_arg3)) := by
  funext i
  have hi0 : (i 0).val < 4096 := (i 0).isLt
  have hi1 : (i 1).val < 2048 := (i 1).isLt
  have hN : cfg0.N = 24 := N_0
  have ht : Value.pt5Of i = 3 * (2 * ((i 0).val / 1024 - 0) + 1 * ((i 1).val / 1024 - 0)) + 2 := rfl
  have hp : Value.pt5Of i < cfg0.N := by rw [hN, ht]; omega
  unfold Value.G5
  rw [dif_pos hp, ← Value.outsAt0_sweep m c _ hp]
  have hs : Value.pt5Of i - 1 < cfg0.N := by omega
  have hr : Value.pt5Of i - 2 < cfg0.N := by omega
  have o := out_last m c ⟨Value.pt5Of i, hp⟩ (by show Value.pt5Of i % 3 = 2; omega) ⟨Value.pt5Of i - 1, hs⟩ ⟨Value.pt5Of i - 2, hr⟩
    (by show Value.pt5Of i - 1 + 1 = Value.pt5Of i; omega) (by show Value.pt5Of i - 2 + 1 = Value.pt5Of i - 1; omega)
  dsimp only at o
  rw [o]
  have el : Value.loc5Of i = ix2 ⟨(i 0).val % 1024, Nat.mod_lt _ (by decide)⟩ ⟨(i 1).val % 1024, Nat.mod_lt _ (by decide)⟩ := by
    funext a
    match a with
    | ⟨0, _⟩ => rfl
    | ⟨1, _⟩ => rfl
  have ei : i = ix2 (⟨(i 0).val, hi0⟩ : Fin 4096) (⟨(i 1).val, hi1⟩ : Fin 2048) := by
    funext a
    match a with
    | ⟨0, _⟩ => rfl
    | ⟨1, _⟩ => rfl
  rw [el]
  conv_rhs => rw [ei]
  rw [ref_apply, sum_parts, pay3_apply, pay2_apply, pay2_apply, pay1_apply]
  clear o
  generalize Value.pt5Of i = p at hp hs hr ht ⊢
  rw [blk_4 m c _ _ _ ⟨(i 0).val, hi0⟩ (by show (i 0).val = p / 6 * 1024 + (i 0).val % 1024; omega) ⟨(i 1).val, hi1⟩
    (by show (i 1).val = p / 3 % 2 * 1024 + (i 1).val % 1024; omega)]
  congr 1
  congr 1
  · congr 1
    · refine Finset.sum_congr rfl fun k _ => ?_
      rw [blk_0 m c _ _ k ⟨(i 0).val, hi0⟩ (by show (i 0).val = (p - 2) / 6 * 1024 + (i 0).val % 1024; omega) k (by omega),
        blk_2 m c _ k _ ⟨k.val, by omega⟩ (by show k.val = 0 + k.val; omega) ⟨(i 1).val, hi1⟩ (by show (i 1).val = (p - 2) / 3 % 2 * 1024 + (i 1).val % 1024; omega)]
      unfold cat
      rw [dif_pos k.isLt]
    · refine Finset.sum_congr rfl fun k _ => ?_
      rw [blk_1 m c _ _ k ⟨(i 0).val, hi0⟩ (by show (i 0).val = (p - 1) / 6 * 1024 + (i 0).val % 1024; omega) ⟨1024 + k.val - 1024, by omega⟩
          (by show 1024 + k.val - 1024 = ((p - 1) % 3 - 1) * 2048 + k.val; omega),
        blk_3 m c _ k _ ⟨1024 + k.val, by omega⟩ (by show 1024 + k.val = 1024 + 2048 * ((p - 1) % 3 - 1) + k.val; omega) ⟨(i 1).val, hi1⟩
          (by show (i 1).val = 1024 * ((p - 1) / 3 % 2) + (i 1).val % 1024; omega)]
      unfold cat
      rw [dif_neg (by show ¬1024 + k.val < 1024; omega)]
  · refine Finset.sum_congr rfl fun k _ => ?_
    rw [blk_1 m c ⟨p, hp⟩ _ k ⟨(i 0).val, hi0⟩ (by show (i 0).val = p / 6 * 1024 + (i 0).val % 1024; omega) ⟨1024 + 2048 + k.val - 1024, by omega⟩
        (by show 1024 + 2048 + k.val - 1024 = (p % 3 - 1) * 2048 + k.val; omega),
      blk_3 m c ⟨p, hp⟩ k _ ⟨1024 + 2048 + k.val, by omega⟩ (by show 1024 + 2048 + k.val = 1024 + 2048 * (p % 3 - 1) + k.val; omega) ⟨(i 1).val, hi1⟩
        (by show (i 1).val = 1024 * (p / 3 % 2) + (i 1).val % 1024; omega)]
    unfold cat
    rw [dif_neg (by show ¬1024 + 2048 + k.val < 1024; omega)]

/-- The kernel's result and the reference's are the same array of extended reals. -/
theorem algebraic : Cert.algebraic_Kernel3Ideal_Reference3Ideal := by
  intro m g m' g' hpre hagree
  refine ⟨fun c => Value.G5 m c, Value.run m g, ?_⟩
  refine (θ_run Cert.Reference3Ideal.defs _ _).mono (fun r h c => ?_) (Cert.Reference3Ideal.Value.run m' g')
  refine ⟨(h c).1.trans ?_, (h c).2⟩
  obtain ⟨e0, e1, e2, e3⟩ := hagree c
  show _ = Value.G5 m c
  rw [G_eq, ← e0, ← e1, ← e2, ← e3]
  rfl

end Cert.Kernel3Ideal.Dh

end
-- ==== Proof.Dense.Dmix.lean ====
/- The gradient of the mixed branches through the output projection: each tile is its rows of the product. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Claim

@[expose] public section

noncomputable section

namespace Cert.Kernel4Ideal.Dmix

open Cert.Kernel4Ideal Cert.Kernel4Ideal.Gen Idealize.ShloMosaic Idealize.ShloMosaic.TcCoe Idealize.SL.Sem

variable (m : (ℓ : Loc nD τ sig) → Buf (Elt Ideal) ℓ)

theorem hz : (![0, 0] : Fin 2 → Nat) = fun _ => 0 := funext fun a => by fin_cases a <;> rfl

/-- The product of a block of rows and a block of columns at an entry. -/
theorem pay_apply (a b : Vec Ideal S1024x2048 .bf16) (i j : Fin 1024) :
    k0_pay1 (F := Ideal) a b (ix2 i j) = ∑ k : Fin 2048, a (ix2 i k) * b (ix2 j k) := by
  pointwise [k0_pay1]

theorem out_eq (a b : Vec Ideal S1024x2048 .bf16) : out0_2 (F := Ideal) a b = k0_pay1 a b := by
  unfold out0_2
  rw [View.canon_unit_zero hz, View.ld_unit_zero (S := S1024x2048) hz, View.ld_unit_zero (S := S1024x2048) hz]

/-- The index maps, decided over the grid. -/
theorem idx_0 : ∀ t : Fin cfg0.N, win0_0.index t (0 : Fin 2) = t.val / 2 ∧ win0_0.index t (1 : Fin 2) = 0 :=
  (by decide +kernel : ∀ t : Fin grid0.N, _)
theorem idx_1 : ∀ t : Fin cfg0.N, win0_1.index t (0 : Fin 2) = t.val % 2 ∧ win0_1.index t (1 : Fin 2) = 0 :=
  (by decide +kernel : ∀ t : Fin grid0.N, _)
theorem idx_2 : ∀ t : Fin cfg0.N, win0_2.index t (0 : Fin 2) = t.val / 2 ∧ win0_2.index t (1 : Fin 2) = t.val % 2 :=
  (by decide +kernel : ∀ t : Fin grid0.N, _)

theorem aBlk_apply (c : Dev nD) (t : Fin cfg0.N) (i : Fin 1024) (k : Fin 2048) (r : Fin 4096) (hr : r.val = t.val / 2 * 1024 + i.val) :
    (iblk m c 0 t : Vec Ideal S1024x2048 .bf16) (ix2 i k) = (m ((c : Thread nD τ).loc main_arg0)) (ix2 r k) := by
  obtain ⟨e0, e1⟩ := idx_0 t
  unfold iblk
  rw [View.read_apply]
  show V m c main_arg0 _ = m (c.tc.loc main_arg0) _
  unfold V
  congr 1
  funext a
  apply Fin.ext
  match a with
  | ⟨0, _⟩ => show win0_0.index t 0 * 1024 + 1 * i.val = r.val; rw [e0]; omega
  | ⟨1, _⟩ => show win0_0.index t 1 * 2048 + 1 * k.val = k.val; rw [e1]; omega

theorem bBlk_apply (c : Dev nD) (t : Fin cfg0.N) (j : Fin 1024) (k : Fin 2048) (r : Fin 2048) (hr : r.val = t.val % 2 * 1024 + j.val) :
    (iblk m c 1 t : Vec Ideal S1024x2048 .bf16) (ix2 j k) = (m ((c : Thread nD τ).loc main_arg1)) (ix2 r k) := by
  obtain ⟨e0, e1⟩ := idx_1 t
  unfold iblk
  rw [View.read_apply]
  show V m c main_arg1 _ = m (c.tc.loc main_arg1) _
  unfold V
  congr 1
  funext a
  apply Fin.ext
  match a with
  | ⟨0, _⟩ => show win0_1.index t 0 * 1024 + 1 * j.val = r.val; rw [e0]; omega
  | ⟨1, _⟩ => show win0_1.index t 1 * 2048 + 1 * k.val = k.val; rw [e1]; omega

/-- The whole product, at an entry. -/
def prod (a : Vec Ideal S4096x2048 .bf16) (b : Vec Ideal S2048x2048 .bf16) : Vec Ideal S4096x2048 .f32 := fun i =>
  (∑ k : Fin 2048, a (ix2 (⟨(i 0).val, (i 0).isLt⟩ : Fin 4096) k) * b (ix2 (⟨(i 1).val, (i 1).isLt⟩ : Fin 2048) k) : EReal)

theorem ref_eq (a : Vec Ideal S4096x2048 .bf16) (b : Vec Ideal S2048x2048 .bf16) :
    Cert.Reference4Ideal.Read.val_main_v4 (F := Ideal) a b = prod a b := by
  funext i
  rw [Cert.Reference4Ideal.Read.val_main_v4_apply]
  refine Finset.sum_congr rfl fun k _ => ?_
  congr 2
  · funext a
    match a with
    | ⟨0, _⟩ => rfl
    | ⟨1, _⟩ => rfl
  · funext a
    match a with
    | ⟨0, _⟩ => rfl
    | ⟨1, _⟩ => rfl

theorem flushed (c : Dev nD) (t : Fin cfg0.N) : (dats m 0 c).flushed 2 t
    = ((cfg0.win 2).blk t).view.read (Elt Ideal) (prod (m ((c : Thread nD τ).loc main_arg0)) (m ((c : Thread nD τ).loc main_arg1))) := by
  rw [Value.flushed2, out_eq]
  obtain ⟨e0, e1⟩ := idx_2 t
  funext y
  have hy0 : (y 0).val < 1024 := (y 0).isLt
  have hy1 : (y 1).val < 1024 := (y 1).isLt
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  rw [View.read_apply]
  have ex : (cfg0.win 2).xinj (grid0.coords t) y = ix2 (⟨(y 0).val, hy0⟩ : Fin 1024) (⟨(y 1).val, hy1⟩ : Fin 1024) := by
    funext a
    match a with
    | ⟨0, _⟩ => rfl
    | ⟨1, _⟩ => rfl
  show k0_pay1 (F := Ideal) (iblk m c 0 t) (iblk m c 1 t) ((cfg0.win 2).xinj (grid0.coords t) y) = _
  rw [ex, pay_apply]
  unfold prod
  refine Finset.sum_congr rfl fun k _ => ?_
  rw [aBlk_apply m c t _ k ⟨(((cfg0.win 2).blk t).view.emb y 0).val, (((cfg0.win 2).blk t).view.emb y 0).isLt⟩ (by show (((cfg0.win 2).blk t).view.emb y 0).val = t.val / 2 * 1024 + (y 0).val; rw [← e0, hb0]; omega),
    bBlk_apply m c t _ k ⟨(((cfg0.win 2).blk t).view.emb y 1).val, (((cfg0.win 2).blk t).view.emb y 1).isLt⟩ (by show (((cfg0.win 2).blk t).view.emb y 1).val = t.val % 2 * 1024 + (y 1).val; rw [← e1, hb1]; omega)]

theorem mem_blk (t : Fin cfg0.N) (i : S4096x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

theorem final (c : Dev nD) : (dats m 0 c).arrAt 2 cfg0.N = prod (m ((c : Thread nD τ).loc main_arg0)) (m ((c : Thread nD τ).loc main_arg1)) :=
  (dats m 0 c).arrAt_eq_of_cover 2 _ (fun t _ => flushed m c t) (fun i => by
    have h0 : (i 0).val < 4096 := (i 0).isLt
    have h1 : (i 1).val < 2048 := (i 1).isLt
    have hN : cfg0.N = 8 := N_0
    have ht : 2 * ((i 0).val / 1024) + (i 1).val / 1024 < cfg0.N := by rw [hN]; omega
    obtain ⟨e0, e1⟩ := idx_2 ⟨2 * ((i 0).val / 1024) + (i 1).val / 1024, ht⟩
    have e0' : win0_2.index ⟨2 * ((i 0).val / 1024) + (i 1).val / 1024, ht⟩ (0 : Fin 2) = (2 * ((i 0).val / 1024) + (i 1).val / 1024) / 2 := e0
    have e1' : win0_2.index ⟨2 * ((i 0).val / 1024) + (i 1).val / 1024, ht⟩ (1 : Fin 2) = (2 * ((i 0).val / 1024) + (i 1).val / 1024) % 2 := e1
    refine ⟨⟨2 * ((i 0).val / 1024) + (i 1).val / 1024, ht⟩, flush0_2 _, (mem_blk _ i).mpr fun a => ?_⟩
    match a with
    | ⟨0, _⟩ => show win0_2.index _ (0 : Fin 2) * 1024 ≤ (i 0).val ∧ (i 0).val < win0_2.index _ (0 : Fin 2) * 1024 + 1024; rw [e0']; omega
    | ⟨1, _⟩ => show win0_2.index _ (1 : Fin 2) * 1024 ≤ (i 1).val ∧ (i 1).val < win0_2.index _ (1 : Fin 2) * 1024 + 1024; rw [e1']; omega)

/-- The kernel's result and the reference's are the same array of extended reals. -/
theorem algebraic : Cert.algebraic_Kernel4Ideal_Reference4Ideal := by
  intro m g m' g' hpre hagree
  refine ⟨fun c => (dats m 0 c).arrAt 2 cfg0.N, Value.run_blocks m g, ?_⟩
  refine (θ_run Cert.Reference4Ideal.defs _ _).mono (fun r h c => ?_) (Cert.Reference4Ideal.Value.run m' g')
  refine ⟨(h c).1.trans ?_, (h c).2⟩
  obtain ⟨e0, e1⟩ := hagree c
  show _ = (dats m 0 c).arrAt 2 cfg0.N
  rw [final, ← ref_eq, ← e0, ← e1]
  rfl

end Cert.Kernel4Ideal.Dmix

end
-- ==== Proof.Dense.DwOut.lean ====
/- The gradient of the output projection's weights: the accumulated tiles are the product over all rows. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Claim

@[expose] public section

noncomputable section

namespace Cert.Kernel5Ideal.DwOut

open Cert.Kernel5Ideal Cert.Kernel5Ideal.Gen Idealize.ShloMosaic Idealize.ShloMosaic.TcCoe Idealize.ShloMosaic.Tactic Idealize.SL.Sem

variable (m : (ℓ : Loc nD τ sig) → Buf (Elt Ideal) ℓ)

theorem hz : (![0, 0] : Fin 2 → Nat) = fun _ => 0 := funext fun a => by fin_cases a <;> rfl

/-- The product of two blocks of 2048 rows over their rows. -/
theorem pay_apply (a b : Vec Ideal S2048x1024 .bf16) (i j : Fin 1024) :
    k0_pay1 (F := Ideal) a b (ix2 i j) = ∑ k : Fin 2048, a (ix2 k i) * b (ix2 k j) := by
  pointwise [k0_pay1]

set_option maxHeartbeats 1000000 in
/-- The first half of the rows: the scratch holds the product of the blocks. -/
theorem sout_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (hc2 : ¬cond0_2 i)
    (x0 x1 : Vec Ideal S2048x1024 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  unfold k0_pay2
  simp only [View.readAt_eq_ld, harg3.read_unread, harg4.read_unread, View.ld_unit_zero (S := S2048x1024) hz, shapeCast_self]

set_option maxHeartbeats 1000000 in
/-- The second half of the rows: the block written is the scratch plus the product. -/
theorem out_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (hc2 : cond0_2 i)
    (x0 x1 : Vec Ideal S2048x1024 .bf16) (s : Vec Ideal S1024x1024 .f32) :
    out0_B_2 c i arg3 harg3 arg4 harg4 arg5 harg5 arg6 harg6 hc0 hc1 hc2 x0 x1 s = addf s (k0_pay1 x0 x1) := by
  unfold out0_B_2
  rw [View.read_writes_eq_canon _ _ _ (cover0_B_2 c i arg3 harg3 arg4 harg4 arg5 harg5 arg6 harg6 hc0 hc1 hc2 x0 x1 s)]
  unfold kernelRun0_B
  dsimp only
  sl_unfold_words
  rw [View.canon_unit_zero hz, View.readCov_unit_zero (S := S1024x1024) _ hz]
  unfold k0_pay3
  simp only [View.readAt_eq_ld, harg3.read_unread, harg4.read_unread, harg6.read_unread, View.ld_unit_zero (S := S2048x1024) hz, View.ld_unit_zero (S := S1024x1024) hz, shapeCast_self]

theorem out_odd (c : Dev nD) (t : Fin cfg0.N) (h : t.val % 2 = 1) (s : Fin cfg0.N) (hs : s.val = t.val - 1) :
    (outsAt0 m c t.val t.isLt).1 = addf (k0_pay1 (iblk m c 0 s) (iblk m c 1 s)) (k0_pay1 (iblk m c 0 t) (iblk m c 1 t)) := by
  have e : (outsAt0 m c (t.val - 1) (Nat.lt_of_le_of_lt (Nat.sub_le _ _) t.isLt)).2 = k0_pay1 (iblk m c 0 s) (iblk m c 1 s) := by
    have hs' : s = ⟨t.val - 1, Nat.lt_of_le_of_lt (Nat.sub_le _ _) t.isLt⟩ := Fin.ext hs
    subst hs'
    have ha : (t.val - 1) % 2 = 0 := by omega
    refine (congrArg Prod.snd (outsAt0_A m c ⟨t.val - 1, Nat.lt_of_le_of_lt (Nat.sub_le _ _) t.isLt⟩ ha (by show ¬(t.val - 1) % 2 = 1; omega) (by show ¬(t.val - 1) % 2 = 1; omega))).trans ?_
    dsimp only
    rw [sout_A]
  rw [outsAt0_B m c t (by omega) h h]
  dsimp only
  rw [out_B, e]

/-- The index maps, decided over the grid. -/
theorem idx_0 : ∀ t : Fin cfg0.N, win0_0.index t (0 : Fin 2) = t.val % 2 ∧ win0_0.index t (1 : Fin 2) = t.val / 4 :=
  (by decide +kernel : ∀ t : Fin grid0.N, _)
theorem idx_1 : ∀ t : Fin cfg0.N, win0_1.index t (0 : Fin 2) = t.val % 2 ∧ win0_1.index t (1 : Fin 2) = t.val / 2 % 2 :=
  (by decide +kernel : ∀ t : Fin grid0.N, _)

theorem aBlk_apply (c : Dev nD) (t : Fin cfg0.N) (k : Fin 2048) (i : Fin 1024) (r : Fin 4096) (hr : r.val = t.val % 2 * 2048 + k.val)
    (i' : Fin 2048) (hi : i'.val = t.val / 4 * 1024 + i.val) :
    (iblk m c 0 t : Vec Ideal S2048x1024 .bf16) (ix2 k i) = (m ((c : Thread nD τ).loc main_arg0)) (ix2 r i') := by
  obtain ⟨e0, e1⟩ := idx_0 t
  unfold iblk
  rw [View.read_apply]
  show V m c main_arg0 _ = m (c.tc.loc main_arg0) _
  unfold V
  congr 1
  funext a
  apply Fin.ext
  match a with
  | ⟨0, _⟩ => show win0_0.index t 0 * 2048 + 1 * k.val = r.val; rw [e0]; omega
  | ⟨1, _⟩ => show win0_0.index t 1 * 1024 + 1 * i.val = i'.val; rw [e1]; omega

theorem bBlk_apply (c : Dev nD) (t : Fin cfg0.N) (k : Fin 2048) (j : Fin 1024) (r : Fin 4096) (hr : r.val = t.val % 2 * 2048 + k.val)
    (j' : Fin 2048) (hj : j'.val = t.val / 2 % 2 * 1024 + j.val) :
    (iblk m c 1 t : Vec Ideal S2048x1024 .bf16) (ix2 k j) = (m ((c : Thread nD τ).loc main_arg1)) (ix2 r j') := by
  obtain ⟨e0, e1⟩ := idx_1 t
  unfold iblk
  rw [View.read_apply]
  show V m c main_arg1 _ = m (c.tc.loc main_arg1) _
  unfold V
  congr 1
  funext a
  apply Fin.ext
  match a with
  | ⟨0, _⟩ => show win0_1.index t 0 * 2048 + 1 * k.val = r.val; rw [e0]; omega
  | ⟨1, _⟩ => show win0_1.index t 1 * 1024 + 1 * j.val = j'.val; rw [e1]; omega

/-- The reference's product at an entry: the sum over all rows. -/
theorem ref_apply (a b : Vec Ideal S4096x2048 .bf16) (i j : Fin 2048) :
    Cert.Reference5Ideal.Read.val_main_v5 (F := Ideal) a b (ix2 i j) = ∑ k : Fin 4096, a (ix2 k i) * b (ix2 k j) := by
  rw [Cert.Reference5Ideal.Read.val_main_v5_apply, Cert.Reference5Ideal.Read.val_main_v4_apply]
  refine Finset.sum_congr rfl fun k _ => (mul_comm _ _).trans ?_
  refine congr (congrArg (fun x y : EReal => x * y) ?_) ?_
  · refine congrArg a ?_
    funext x
    match x with
    | ⟨0, _⟩ => rfl
    | ⟨1, _⟩ => rfl
  · refine congrArg b ?_
    funext x
    match x with
    | ⟨0, _⟩ => rfl
    | ⟨1, _⟩ => rfl

/-- A sum over 4096 rows as the sums over its two halves. -/
theorem sum_halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

theorem G_eq (c : Dev nD) :
    Value.G2 m c = Cert.Reference5Ideal.Read.val_main_v5 (F := Ideal) (m ((c : Thread nD τ).loc main_arg0)) (m ((c : Thread nD τ).loc main_arg1)) := by
  funext i
  have hi0 : (i 0).val < 2048 := (i 0).isLt
  have hi1 : (i 1).val < 2048 := (i 1).isLt
  have hN : cfg0.N = 8 := N_0
  have hp : Value.pt2Of i < cfg0.N := by
    rw [hN]; show 2 * (2 * ((i 0).val / 1024 - 0) + 1 * ((i 1).val / 1024 - 0)) + 1 < 8; omega
  have ht : Value.pt2Of i = 2 * (2 * ((i 0).val / 1024 - 0) + 1 * ((i 1).val / 1024 - 0)) + 1 := rfl
  unfold Value.G2
  rw [dif_pos hp, ← Value.outsAt0_sweep m c _ hp]
  have hs : Value.pt2Of i - 1 < cfg0.N := by omega
  have o := out_odd m c ⟨Value.pt2Of i, hp⟩ (by show Value.pt2Of i % 2 = 1; omega) ⟨Value.pt2Of i - 1, hs⟩ rfl
  dsimp only at o
  rw [o]
  have el : Value.loc2Of i = ix2 ⟨(i 0).val % 1024, Nat.mod_lt _ (by decide)⟩ ⟨(i 1).val % 1024, Nat.mod_lt _ (by decide)⟩ := by
    funext a
    match a with
    | ⟨0, _⟩ => rfl
    | ⟨1, _⟩ => rfl
  have ei : i = ix2 (⟨(i 0).val, hi0⟩ : Fin 2048) (⟨(i 1).val, hi1⟩ : Fin 2048) := by
    funext a
    match a with
    | ⟨0, _⟩ => rfl
    | ⟨1, _⟩ => rfl
  rw [el]
  conv_rhs => rw [ei]
  rw [ref_apply, sum_halves]
  refine (show _ = (k0_pay1 (F := Ideal) _ _ _ : EReal) + k0_pay1 (F := Ideal) _ _ _ from rfl).trans ?_
  rw [pay_apply, pay_apply]
  congr 1
  · refine Finset.sum_congr rfl fun k _ => ?_
    rw [aBlk_apply m c _ k _ ⟨k.val, by omega⟩ (by show k.val = (Value.pt2Of i - 1) % 2 * 2048 + k.val; omega) ⟨(i 0).val, hi0⟩
        (by show (i 0).val = (Value.pt2Of i - 1) / 4 * 1024 + (i 0).val % 1024; omega),
      bBlk_apply m c _ k _ ⟨k.val, by omega⟩ (by show k.val = (Value.pt2Of i - 1) % 2 * 2048 + k.val; omega) ⟨(i 1).val, hi1⟩
        (by show (i 1).val = (Value.pt2Of i - 1) / 2 % 2 * 1024 + (i 1).val % 1024; omega)]
  · refine Finset.sum_congr rfl fun k _ => ?_
    rw [aBlk_apply m c _ k _ ⟨2048 + k.val, by omega⟩ (by show 2048 + k.val = Value.pt2Of i % 2 * 2048 + k.val; omega) ⟨(i 0).val, hi0⟩
        (by show (i 0).val = Value.pt2Of i / 4 * 1024 + (i 0).val % 1024; omega),
      bBlk_apply m c _ k _ ⟨2048 + k.val, by omega⟩ (by show 2048 + k.val = Value.pt2Of i % 2 * 2048 + k.val; omega) ⟨(i 1).val, hi1⟩
        (by show (i 1).val = Value.pt2Of i / 2 % 2 * 1024 + (i 1).val % 1024; omega)]

/-- The kernel's result and the reference's are the same array of extended reals. -/
theorem algebraic : Cert.algebraic_Kernel5Ideal_Reference5Ideal := by
  intro m g m' g' hpre hagree
  refine ⟨fun c => Value.G2 m c, Value.run m g, ?_⟩
  refine (θ_run Cert.Reference5Ideal.defs _ _).mono (fun r h c => ?_) (Cert.Reference5Ideal.Value.run m' g')
  refine ⟨(h c).1.trans ?_, (h c).2⟩
  obtain ⟨e0, e1⟩ := hagree c
  show _ = Value.G2 m c
  rw [G_eq, ← e0, ← e1]
  rfl

end Cert.Kernel5Ideal.DwOut

end
-- ==== Proof.Dense.InProj.lean ====
/- The input projection: each tile is its rows of the product. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Claim

@[expose] public section

noncomputable section

namespace Cert.Kernel6Ideal.InProj

open Cert.Kernel6Ideal Cert.Kernel6Ideal.Gen Idealize.ShloMosaic Idealize.ShloMosaic.TcCoe Idealize.SL.Sem

variable (m : (ℓ : Loc nD τ sig) → Buf (Elt Ideal) ℓ)

theorem hz : (![0, 0] : Fin 2 → Nat) = fun _ => 0 := funext fun a => by fin_cases a <;> rfl

/-- The product of a block of rows and a block of columns at an entry. -/
theorem pay_apply (a b : Vec Ideal S1024x2048 .bf16) (i j : Fin 1024) :
    k0_pay1 (F := Ideal) a b (ix2 i j) = ∑ k : Fin 2048, a (ix2 i k) * b (ix2 j k) := by
  pointwise [k0_pay1]

theorem out_eq (a b : Vec Ideal S1024x2048 .bf16) : out0_2 (F := Ideal) a b = k0_pay1 a b := by
  unfold out0_2
  rw [View.canon_unit_zero hz, View.ld_unit_zero (S := S1024x2048) hz, View.ld_unit_zero (S := S1024x2048) hz]

/-- The index maps, decided over the grid. -/
theorem idx_0 : ∀ t : Fin cfg0.N, win0_0.index t (0 : Fin 2) = t.val / 5 ∧ win0_0.index t (1 : Fin 2) = 0 :=
  (by decide +kernel : ∀ t : Fin grid0.N, _)
theorem idx_1 : ∀ t : Fin cfg0.N, win0_1.index t (0 : Fin 2) = t.val % 5 ∧ win0_1.index t (1 : Fin 2) = 0 :=
  (by decide +kernel : ∀ t : Fin grid0.N, _)
theorem idx_2 : ∀ t : Fin cfg0.N, win0_2.index t (0 : Fin 2) = t.val / 5 ∧ win0_2.index t (1 : Fin 2) = t.val % 5 :=
  (by decide +kernel : ∀ t : Fin grid0.N, _)

theorem aBlk_apply (c : Dev nD) (t : Fin cfg0.N) (i : Fin 1024) (k : Fin 2048) (r : Fin 4096) (hr : r.val = t.val / 5 * 1024 + i.val) :
    (iblk m c 0 t : Vec Ideal S1024x2048 .bf16) (ix2 i k) = (m ((c : Thread nD τ).loc main_arg0)) (ix2 r k) := by
  obtain ⟨e0, e1⟩ := idx_0 t
  unfold iblk
  rw [View.read_apply]
  show V m c main_arg0 _ = m (c.tc.loc main_arg0) _
  unfold V
  congr 1
  funext a
  apply Fin.ext
  match a with
  | ⟨0, _⟩ => show win0_0.index t 0 * 1024 + 1 * i.val = r.val; rw [e0]; omega
  | ⟨1, _⟩ => show win0_0.index t 1 * 2048 + 1 * k.val = k.val; rw [e1]; omega

theorem bBlk_apply (c : Dev nD) (t : Fin cfg0.N) (j : Fin 1024) (k : Fin 2048) (r : Fin 5120) (hr : r.val = t.val % 5 * 1024 + j.val) :
    (iblk m c 1 t : Vec Ideal S1024x2048 .bf16) (ix2 j k) = (m ((c : Thread nD τ).loc main_arg1)) (ix2 r k) := by
  obtain ⟨e0, e1⟩ := idx_1 t
  unfold iblk
  rw [View.read_apply]
  show V m c main_arg1 _ = m (c.tc.loc main_arg1) _
  unfold V
  congr 1
  funext a
  apply Fin.ext
  match a with
  | ⟨0, _⟩ => show win0_1.index t 0 * 1024 + 1 * j.val = r.val; rw [e0]; omega
  | ⟨1, _⟩ => show win0_1.index t 1 * 2048 + 1 * k.val = k.val; rw [e1]; omega

/-- The whole product, at an entry. -/
def prod (a : Vec Ideal S4096x2048 .bf16) (b : Vec Ideal S5120x2048 .bf16) : Vec Ideal S4096x5120 .f32 := fun i =>
  (∑ k : Fin 2048, a (ix2 (⟨(i 0).val, (i 0).isLt⟩ : Fin 4096) k) * b (ix2 (⟨(i 1).val, (i 1).isLt⟩ : Fin 5120) k) : EReal)

theorem ref_eq (a : Vec Ideal S4096x2048 .bf16) (b : Vec Ideal S5120x2048 .bf16) :
    Cert.Reference6Ideal.Read.val_main_v3 (F := Ideal) a b = prod a b := by
  funext i
  rw [Cert.Reference6Ideal.Read.val_main_v3_apply]
  refine Finset.sum_congr rfl fun k _ => ?_
  rw [Cert.Reference6Ideal.Read.val_main_v2_apply]
  congr 2
  · funext a
    match a with
    | ⟨0, _⟩ => rfl
    | ⟨1, _⟩ => rfl
  · funext a
    match a with
    | ⟨0, _⟩ => rfl
    | ⟨1, _⟩ => rfl

theorem flushed (c : Dev nD) (t : Fin cfg0.N) : (dats m 0 c).flushed 2 t
    = ((cfg0.win 2).blk t).view.read (Elt Ideal) (prod (m ((c : Thread nD τ).loc main_arg0)) (m ((c : Thread nD τ).loc main_arg1))) := by
  rw [Value.flushed2, out_eq]
  obtain ⟨e0, e1⟩ := idx_2 t
  funext y
  have hy0 : (y 0).val < 1024 := (y 0).isLt
  have hy1 : (y 1).val < 1024 := (y 1).isLt
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  rw [View.read_apply]
  have ex : (cfg0.win 2).xinj (grid0.coords t) y = ix2 (⟨(y 0).val, hy0⟩ : Fin 1024) (⟨(y 1).val, hy1⟩ : Fin 1024) := by
    funext a
    match a with
    | ⟨0, _⟩ => rfl
    | ⟨1, _⟩ => rfl
  show k0_pay1 (F := Ideal) (iblk m c 0 t) (iblk m c 1 t) ((cfg0.win 2).xinj (grid0.coords t) y) = _
  rw [ex, pay_apply]
  unfold prod
  refine Finset.sum_congr rfl fun k _ => ?_
  rw [aBlk_apply m c t _ k ⟨(((cfg0.win 2).blk t).view.emb y 0).val, (((cfg0.win 2).blk t).view.emb y 0).isLt⟩ (by show (((cfg0.win 2).blk t).view.emb y 0).val = t.val / 5 * 1024 + (y 0).val; rw [← e0, hb0]; omega),
    bBlk_apply m c t _ k ⟨(((cfg0.win 2).blk t).view.emb y 1).val, (((cfg0.win 2).blk t).view.emb y 1).isLt⟩ (by show (((cfg0.win 2).blk t).view.emb y 1).val = t.val % 5 * 1024 + (y 1).val; rw [← e1, hb1]; omega)]

theorem mem_blk (t : Fin cfg0.N) (i : S4096x5120.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

theorem final (c : Dev nD) : (dats m 0 c).arrAt 2 cfg0.N = prod (m ((c : Thread nD τ).loc main_arg0)) (m ((c : Thread nD τ).loc main_arg1)) :=
  (dats m 0 c).arrAt_eq_of_cover 2 _ (fun t _ => flushed m c t) (fun i => by
    have h0 : (i 0).val < 4096 := (i 0).isLt
    have h1 : (i 1).val < 5120 := (i 1).isLt
    have hN : cfg0.N = 20 := N_0
    have ht : 5 * ((i 0).val / 1024) + (i 1).val / 1024 < cfg0.N := by rw [hN]; omega
    obtain ⟨e0, e1⟩ := idx_2 ⟨5 * ((i 0).val / 1024) + (i 1).val / 1024, ht⟩
    have e0' : win0_2.index ⟨5 * ((i 0).val / 1024) + (i 1).val / 1024, ht⟩ (0 : Fin 2) = (5 * ((i 0).val / 1024) + (i 1).val / 1024) / 5 := e0
    have e1' : win0_2.index ⟨5 * ((i 0).val / 1024) + (i 1).val / 1024, ht⟩ (1 : Fin 2) = (5 * ((i 0).val / 1024) + (i 1).val / 1024) % 5 := e1
    refine ⟨⟨5 * ((i 0).val / 1024) + (i 1).val / 1024, ht⟩, flush0_2 _, (mem_blk _ i).mpr fun a => ?_⟩
    match a with
    | ⟨0, _⟩ => show win0_2.index _ (0 : Fin 2) * 1024 ≤ (i 0).val ∧ (i 0).val < win0_2.index _ (0 : Fin 2) * 1024 + 1024; rw [e0']; omega
    | ⟨1, _⟩ => show win0_2.index _ (1 : Fin 2) * 1024 ≤ (i 1).val ∧ (i 1).val < win0_2.index _ (1 : Fin 2) * 1024 + 1024; rw [e1']; omega)

/-- The kernel's result and the reference's are the same array of extended reals. -/
theorem algebraic : Cert.algebraic_Kernel6Ideal_Reference6Ideal := by
  intro m g m' g' hpre hagree
  refine ⟨fun c => (dats m 0 c).arrAt 2 cfg0.N, Value.run_blocks m g, ?_⟩
  refine (θ_run Cert.Reference6Ideal.defs _ _).mono (fun r h c => ?_) (Cert.Reference6Ideal.Value.run m' g')
  refine ⟨(h c).1.trans ?_, (h c).2⟩
  obtain ⟨e0, e1⟩ := hagree c
  show _ = (dats m 0 c).arrAt 2 cfg0.N
  rw [final, ← ref_eq, ← e0, ← e1]
  rfl

end Cert.Kernel6Ideal.InProj

end
-- ==== Proof.Flash.Scalar.lean ====
/- The gradients of causal attention over the reals: one head's scores, weights and gradients as plain sums, and the
identities between the two ways of writing them. -/
module

public import Idealize.ShloMosaic.PureOps.Ideal.Laws
public import Idealize.ShloMosaic.Lib.Pointwise

@[expose] public section

noncomputable section

namespace Cert.Attention

open Idealize.ShloMosaic Idealize.ShloMosaic.TcCoe Idealize.ShloMosaic.Tactic

/-- The six arrays, with real entries: queries, keys and values, the shared key part, the two tables of the rotation, and
the gradient of the heads' results. -/
structure Inp where
  q : Fin 4096 → Fin 1536 → ℝ
  kv : Fin 4096 → Fin 2048 → ℝ
  kr : Fin 4096 → Fin 8 → Fin 64 → ℝ
  cos : Fin 4096 → Fin 32 → ℝ
  sin : Fin 4096 → Fin 32 → ℝ
  g : Fin 4096 → Fin 1024 → ℝ

/-- A finite sum of reals, as an extended real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem sum_coe {ι : Type} [Fintype ι] {f : ι → EReal} {g : ι → ℝ} (h : ∀ k, f k = g k) : ∑ k, f k = ((∑ k, g k : ℝ) : EReal) := by
  rw [coe_sum]
  exact Finset.sum_congr rfl fun k _ => h k

/-- A sum of products of reals, as an extended real. -/
theorem sum_mul_coe {ι : Type} [Fintype ι] {f f' : ι → EReal} {g g' : ι → ℝ} (h : ∀ k, f k = g k) (h' : ∀ k, f' k = g' k) :
    ∑ k, f k * f' k = ((∑ k, g k * g' k : ℝ) : EReal) :=
  sum_coe fun k => by rw [h, h', EReal.coe_mul]

theorem div_coe (x y : ℝ) (h : y ≠ 0) : Ideal.div (x : EReal) (y : EReal) = ((x / y : ℝ) : EReal) := by
  rw [Ideal.div_coe h, ← EReal.coe_mul, div_eq_mul_one_div x y]

theorem word_192 : Ideal.ofBits .f32 0x43400000#32 = ((192 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_bot : Ideal.ofBits .f32 0xFF800000#32 = ⊥ := by simp [Ideal.ofBits, Ideal.ieee]

theorem sqrt_192 : Ideal.sqrt (Ideal.ofBits .f32 0x43400000#32) = ((Real.sqrt 192 : ℝ) : EReal) := by
  rw [word_192, Ideal.sqrt_coe, if_neg (by norm_num)]
theorem log_two : Ideal.log (Ideal.ofBits .f32 0x40000000#32) = ((Real.log 2 : ℝ) : EReal) := by
  rw [word_two, Ideal.log_coe, if_neg (by norm_num)]

theorem sqrt_ne : Real.sqrt 192 ≠ 0 := by
  have : (0 : ℝ) < Real.sqrt 192 := Real.sqrt_pos.2 (by norm_num)
  exact this.ne'
theorem log_ne : Real.log 2 ≠ 0 := by
  have : (0 : ℝ) < Real.log 2 := Real.log_pos (by norm_num)
  exact this.ne'

/-- A key number compared with a query number, as words, is the numbers compared. -/
theorem select_sle (a b : ℕ) (h : a < 2 ^ 31) (h' : b < 2 ^ 31) (x y : EReal) :
    Scalar.select (IntOp.cmpi CmpIPredicate.sle (BitVec.ofNat 32 a) (BitVec.ofNat 32 b)) x y = if a ≤ b then x else y := by
  have e : (BitVec.ofNat 32 a).sle (BitVec.ofNat 32 b) = decide (a ≤ b) := by
    have t : ∀ n : ℕ, n < 2 ^ 31 → (BitVec.ofNat 32 n).toInt = n := fun n hn => by
      rw [BitVec.toInt_eq_toNat_of_lt (by rw [BitVec.toNat_ofNat]; omega), BitVec.toNat_ofNat, Nat.mod_eq_of_lt (by omega)]
    rw [BitVec.sle, t a h, t b h']
    simp
  unfold Scalar.select IntOp.cmpi
  simp only [e]
  by_cases c : a ≤ b
  · simp [c]
  · simp [c]

/-- The six arrays of extended reals whose entries are the reals of `A`. -/
structure Holds (A : Inp) (x0 : (Shape.mk 2 ![4096, 1536]).Idx → EReal) (x1 : (Shape.mk 2 ![4096, 2048]).Idx → EReal)
    (x2 : (Shape.mk 3 ![4096, 8, 64]).Idx → EReal) (x3 x4 : (Shape.mk 2 ![4096, 32]).Idx → EReal)
    (x5 : (Shape.mk 2 ![4096, 1024]).Idx → EReal) : Prop where
  q : ∀ i n, x0 (ix2 i n) = A.q i n
  kv : ∀ i n, x1 (ix2 i n) = A.kv i n
  kr : ∀ i h c, x2 (ix3 i h c) = A.kr i h c
  cos : ∀ i c, x3 (ix2 i c) = A.cos i c
  sin : ∀ i c, x4 (ix2 i c) = A.sin i c
  g : ∀ i n, x5 (ix2 i n) = A.g i n

variable (A : Inp) (h : Fin 8)

/-- The unrotated and the rotated part of a query, the two parts of a key, a value, a gradient. -/
def qn (i : Fin 4096) (d : Fin 128) : ℝ := A.q i ⟨h.val * 192 + d.val, by omega⟩
def qr (i : Fin 4096) (c : Fin 64) : ℝ :=
  if hc : c.val < 32 then
    A.q i ⟨h.val * 192 + (128 + c.val), by omega⟩ * A.cos i ⟨c.val, hc⟩ - A.q i ⟨h.val * 192 + (128 + (32 + c.val)), by omega⟩ * A.sin i ⟨c.val, hc⟩
  else
    A.q i ⟨h.val * 192 + (128 + (32 + (c.val - 32))), by omega⟩ * A.cos i ⟨c.val - 32, by omega⟩
      + A.q i ⟨h.val * 192 + (128 + (c.val - 32)), by omega⟩ * A.sin i ⟨c.val - 32, by omega⟩
def kn (j : Fin 4096) (d : Fin 128) : ℝ := A.kv j ⟨h.val * 256 + d.val, by omega⟩
def vv (j : Fin 4096) (d : Fin 128) : ℝ := A.kv j ⟨h.val * 256 + (128 + d.val), by omega⟩
def gg (i : Fin 4096) (d : Fin 128) : ℝ := A.g i ⟨h.val * 128 + d.val, by omega⟩

/-- The scores, and the scores as the softmax sees them: keys after the query stand for minus infinity. -/
def score (i j : Fin 4096) : ℝ := ((∑ d, qn A h i d * kn A h j d) + ∑ c, qr A h i c * A.kr j h c) / Real.sqrt 192
def masked (i j : Fin 4096) : EReal := if j.val ≤ i.val then (score A h i j : EReal) else ⊥
def rowMax (i : Fin 4096) : ℝ := (Finset.fold max ⊥ (masked A h i) Finset.univ).toReal

/-- A row's largest score is a real. -/
theorem fold_eq (i : Fin 4096) : Finset.fold max ⊥ (masked A h i) Finset.univ = (rowMax A h i : EReal) := by
  refine (EReal.coe_toReal ?_ ?_).symm
  · refine ne_of_lt ((Finset.fold_max_lt _).2 ⟨bot_lt_top, fun j _ => ?_⟩)
    unfold masked
    split
    · exact EReal.coe_lt_top _
    · exact bot_lt_top
  · refine ne_of_gt ((Finset.lt_fold_max _).2 (Or.inr ⟨i, Finset.mem_univ _, ?_⟩))
    unfold masked
    rw [if_pos le_rfl]
    exact EReal.bot_lt_coe _

/-- The unnormalised weights, their sums, the weights. -/
def ex (i j : Fin 4096) : ℝ := if j.val ≤ i.val then Real.exp (score A h i j - rowMax A h i) else 0
def tot (i : Fin 4096) : ℝ := ∑ j, ex A h i j
def prob (i j : Fin 4096) : ℝ := ex A h i j / tot A h i

theorem exp_masked (i j : Fin 4096) : Ideal.exp (masked A h i j - (rowMax A h i : EReal)) = (ex A h i j : EReal) := by
  unfold masked ex
  split
  · rw [← EReal.coe_sub, Ideal.exp_coe]
  · rw [EReal.bot_sub, Ideal.exp_bot, EReal.coe_zero]

theorem ex_nonneg (i j : Fin 4096) : 0 ≤ ex A h i j := by
  unfold ex
  split
  · exact (Real.exp_pos _).le
  · exact le_rfl

theorem tot_pos (i : Fin 4096) : 0 < tot A h i := by
  refine Finset.sum_pos' (fun j _ => ex_nonneg A h i j) ⟨i, Finset.mem_univ _, ?_⟩
  unfold ex
  rw [if_pos le_rfl]
  exact Real.exp_pos _

theorem tot_ne (i : Fin 4096) : tot A h i ≠ 0 := (tot_pos A h i).ne'

/-- The gradient of a weight, and of a score. -/
def gp (i j : Fin 4096) : ℝ := ∑ d, gg A h i d * vv A h j d
def mean (i : Fin 4096) : ℝ := ∑ j, prob A h i j * gp A h i j
def gs (i j : Fin 4096) : ℝ := prob A h i j * (gp A h i j - mean A h i) * (Real.sqrt 192)⁻¹

/-- The gradient of a score as the quotient rule gives it: the weight is an exponential over a sum of exponentials. -/
theorem gs_quotient (i j : Fin 4096) :
    (gp A h i j / tot A h i + -∑ k, gp A h i k * (1 / (tot A h i * tot A h i)) * ex A h i k) * ex A h i j / Real.sqrt 192 = gs A h i j := by
  have e : (∑ k, gp A h i k * (1 / (tot A h i * tot A h i)) * ex A h i k) = mean A h i / tot A h i := by
    unfold mean
    rw [Finset.sum_div]
    refine Finset.sum_congr rfl fun k _ => ?_
    unfold prob
    have := tot_ne A h i
    field_simp
  rw [e]
  unfold gs prob
  have := tot_ne A h i
  have := sqrt_ne
  field_simp
  ring

theorem gs_after {i j : Fin 4096} (hij : ¬ j.val ≤ i.val) : gs A h i j = 0 := by
  unfold gs prob ex
  rw [if_neg hij]
  simp

/-- A weight as a power of two: the exponent is the score less the logarithm of the sum, both in base two. -/
theorem prob_pow {i j : Fin 4096} (hij : j.val ≤ i.val) (s : ℝ) (hs : s / Real.sqrt 192 = score A h i j) :
    Real.rpow 2 (s * ((Real.sqrt 192)⁻¹ * (Real.log 2)⁻¹) - (rowMax A h i + Real.log (tot A h i)) / Real.log 2) = prob A h i j := by
  have e : s * ((Real.sqrt 192)⁻¹ * (Real.log 2)⁻¹) - (rowMax A h i + Real.log (tot A h i)) / Real.log 2
      = (score A h i j - rowMax A h i - Real.log (tot A h i)) / Real.log 2 := by
    rw [← hs]
    have := sqrt_ne
    have := log_ne
    field_simp
    ring
  rw [e, Real.rpow_eq_pow, Real.rpow_def_of_pos (by norm_num), mul_div_cancel₀ _ log_ne, Real.exp_sub, Real.exp_log (tot_pos A h i)]
  unfold prob ex
  rw [if_pos hij]

/-- The mean gradient of a row is the product of the row's result with its gradient. -/
theorem mean_eq (i : Fin 4096) : ∑ d, gg A h i d * (∑ j, vv A h j d * prob A h i j) = mean A h i := by
  unfold mean gp
  simp_rw [Finset.mul_sum]
  rw [Finset.sum_comm]
  refine Finset.sum_congr rfl fun j _ => Finset.sum_congr rfl fun d _ => ?_
  ring

/-- The gradients of the unrotated query, the rotated query, the two key parts and the value. -/
def dqn (i : Fin 4096) (d : Fin 128) : ℝ := ∑ j, gs A h i j * kn A h j d
def dqr (i : Fin 4096) (c : Fin 64) : ℝ := ∑ j, gs A h i j * A.kr j h c
def dkn (j : Fin 4096) (d : Fin 128) : ℝ := ∑ i, gs A h i j * qn A h i d
def dkr (j : Fin 4096) (c : Fin 64) : ℝ := ∑ i, gs A h i j * qr A h i c
def dvv (j : Fin 4096) (d : Fin 128) : ℝ := ∑ i, prob A h i j * gg A h i d

/-- The gradient of the query before its rotation. -/
def turned (i : Fin 4096) (c : Fin 64) : ℝ :=
  if hc : c.val < 32 then dqr A h i c * A.cos i ⟨c.val, hc⟩ + dqr A h i ⟨32 + c.val, by omega⟩ * A.sin i ⟨c.val, hc⟩
  else dqr A h i c * A.cos i ⟨c.val - 32, by omega⟩ - dqr A h i ⟨c.val - 32, by omega⟩ * A.sin i ⟨c.val - 32, by omega⟩

/-- The three arrays of gradients, one head's columns each: the queries' in 192 of 256, the keys' and values', the shared
key part's in 64 of 128. -/
def outQ (i : Fin 4096) (k : Fin 256) : ℝ :=
  if hk : k.val < 128 then dqn A h i ⟨k.val, hk⟩ else if hk' : k.val < 192 then turned A h i ⟨k.val - 128, by omega⟩ else 0
def outKV (j : Fin 4096) (k : Fin 256) : ℝ :=
  if hk : k.val < 128 then dkn A h j ⟨k.val, hk⟩ else dvv A h j ⟨k.val - 128, by omega⟩
def outKR (j : Fin 4096) (k : Fin 128) : ℝ := if hk : k.val < 64 then dkr A h j ⟨k.val, hk⟩ else 0

/-! ## The padded forms: 256 columns to a head, of which the last 64 are zero -/

def qc (i : Fin 4096) (k : Fin 256) : ℝ :=
  if hk : k.val < 128 then qn A h i ⟨k.val, hk⟩ else if hk' : k.val - 128 < 64 then qr A h i ⟨k.val - 128, hk'⟩ else 0
def kc (j : Fin 4096) (k : Fin 256) : ℝ :=
  if hk : k.val < 128 then kn A h j ⟨k.val, hk⟩ else if hk' : k.val - 128 < 64 then A.kr j h ⟨k.val - 128, hk'⟩ else 0
def cosT (i : Fin 4096) (x : Fin 128) : ℝ :=
  if hx : x.val < 32 then A.cos i ⟨x.val, hx⟩ else if hx' : x.val - 32 < 32 then A.cos i ⟨x.val - 32, hx'⟩ else 1
def sinT (i : Fin 4096) (x : Fin 128) : ℝ :=
  if hx : x.val < 32 then -A.sin i ⟨x.val, hx⟩ else if hx' : x.val - 32 < 32 then A.sin i ⟨x.val - 32, hx'⟩ else 0

theorem sum_cat (f : Fin 256 → ℝ) : ∑ k, f k
    = (∑ d : Fin 128, f ⟨d.val, by omega⟩) + ((∑ x : Fin 64, f ⟨128 + x.val, by omega⟩) + ∑ x : Fin 64, f ⟨192 + x.val, by omega⟩) := by
  rw [show (∑ k, f k) = ∑ k : Fin (128 + (64 + 64)), f k from rfl, Fin.sum_univ_add, Fin.sum_univ_add]
  refine congrArg₂ _ rfl (congrArg₂ _ rfl (Finset.sum_congr rfl fun x _ => congrArg f (Fin.ext ?_)))
  show 128 + (64 + x.val) = 192 + x.val
  omega

/-- The padded rows' product is the scores'. -/
theorem score_cat (i j : Fin 4096) : (∑ k, kc A h j k * qc A h i k) / Real.sqrt 192 = score A h i j := by
  unfold score
  rw [sum_cat]
  refine congrArg (· / Real.sqrt 192) (congrArg₂ _ (Finset.sum_congr rfl fun d _ => ?_) ?_)
  · unfold kc qc
    rw [dif_pos d.isLt, dif_pos d.isLt, mul_comm]
  · have z : (∑ x : Fin 64, kc A h j ⟨192 + x.val, by omega⟩ * qc A h i ⟨192 + x.val, by omega⟩) = 0 :=
      Finset.sum_eq_zero fun x _ => by
        unfold kc
        rw [dif_neg (by show ¬(192 + x.val < 128); omega), dif_neg (by show ¬(192 + x.val - 128 < 64); omega), zero_mul]
    rw [z, add_zero]
    refine Finset.sum_congr rfl fun x _ => ?_
    unfold kc qc
    have n1 : ¬((⟨128 + x.val, by omega⟩ : Fin 256).val < 128) := by show ¬(128 + x.val < 128); omega
    have n2 : (⟨128 + x.val, by omega⟩ : Fin 256).val - 128 < 64 := by show 128 + x.val - 128 < 64; omega
    have n3 : (⟨(⟨128 + x.val, by omega⟩ : Fin 256).val - 128, n2⟩ : Fin 64) = x := Fin.ext (by show 128 + x.val - 128 = x.val; omega)
    rw [dif_neg n1, dif_neg n1, dif_pos n2, dif_pos n2, n3, mul_comm]

/-- The gradients of the padded queries and keys. -/
def gq (i : Fin 4096) (k : Fin 256) : ℝ := ∑ j, gs A h i j * kc A h j k
def gk (j : Fin 4096) (k : Fin 256) : ℝ := ∑ i, gs A h i j * qc A h i k

theorem gq_eq (i : Fin 4096) (k : Fin 256) : gq A h i k
    = if hk : k.val < 128 then dqn A h i ⟨k.val, hk⟩ else if hk' : k.val - 128 < 64 then dqr A h i ⟨k.val - 128, hk'⟩ else 0 := by
  unfold gq kc
  by_cases hk : k.val < 128
  · simp only [dif_pos hk]; rfl
  · by_cases hk' : k.val - 128 < 64
    · simp only [dif_neg hk, dif_pos hk']; rfl
    · simp only [dif_neg hk, dif_neg hk', mul_zero, Finset.sum_const_zero]

theorem gk_eq (j : Fin 4096) (k : Fin 256) : gk A h j k
    = if hk : k.val < 128 then dkn A h j ⟨k.val, hk⟩ else if hk' : k.val - 128 < 64 then dkr A h j ⟨k.val - 128, hk'⟩ else 0 := by
  unfold gk qc
  by_cases hk : k.val < 128
  · simp only [dif_pos hk]; rfl
  · by_cases hk' : k.val - 128 < 64
    · simp only [dif_neg hk, dif_pos hk']; rfl
    · simp only [dif_neg hk, dif_neg hk', mul_zero, Finset.sum_const_zero]

theorem gq_mid (i : Fin 4096) {k : Fin 256} {x : Fin 64} (hk : k.val = 128 + x.val) : gq A h i k = dqr A h i x := by
  rw [gq_eq, dif_neg (by omega), dif_pos (by omega)]
  exact congrArg _ (Fin.ext (by show k.val - 128 = x.val; omega))
theorem gq_hi (i : Fin 4096) {k : Fin 256} (hk : 192 ≤ k.val) : gq A h i k = 0 := by
  rw [gq_eq, dif_neg (by omega), dif_neg (by omega)]

/-- Turning the last 128 columns back by two rolls of them and the two tables is turning the 64 that count. -/
theorem turn_eq (i : Fin 4096) (k a b : Fin 256) (x : Fin 128) (hk : k.val = 128 + x.val)
    (ha : a.val = 128 + (x.val + 128 - 32) % 128) (hb : b.val = 128 + (x.val + 128 - 96) % 128) :
    gq A h i k * cosT A i x - (gq A h i a + gq A h i b) * sinT A i x = outQ A h i k := by
  unfold outQ cosT sinT
  have hx := x.isLt
  by_cases c1 : x.val < 32
  · rw [dif_pos c1, dif_pos c1, dif_neg (by omega), dif_pos (by omega), gq_mid A h i (x := ⟨x.val, by omega⟩) hk, gq_hi A h i (k := a) (by omega),
      gq_mid A h i (k := b) (x := ⟨32 + x.val, by omega⟩) (by show b.val = 128 + (32 + x.val); omega)]
    unfold turned
    have e1 : (⟨k.val - 128, by omega⟩ : Fin 64) = ⟨x.val, by omega⟩ := Fin.ext (by show k.val - 128 = x.val; omega)
    rw [e1, dif_pos c1]
    ring
  · by_cases c2 : x.val < 64
    · rw [dif_neg c1, dif_neg c1, dif_pos (by omega), dif_pos (by omega), dif_neg (by omega), dif_pos (by omega), gq_mid A h i (x := ⟨x.val, by omega⟩) hk,
        gq_hi A h i (k := b) (by omega), gq_mid A h i (k := a) (x := ⟨x.val - 32, by omega⟩) (by show a.val = 128 + (x.val - 32); omega)]
      unfold turned
      have e1 : (⟨k.val - 128, by omega⟩ : Fin 64) = ⟨x.val, by omega⟩ := Fin.ext (by show k.val - 128 = x.val; omega)
      rw [e1, dif_neg c1]
      ring
    · rw [dif_neg c1, dif_neg c1, dif_neg (by omega), dif_neg (by omega), dif_neg (by omega), dif_neg (by omega), gq_hi A h i (by omega)]
      ring

end Cert.Attention

end
-- ==== Proof.Norm.Rows.lean ====
/- The layer norm of a row of 2048 reals and its gradient, written the two ways they are computed. -/
module

public import proofs.«01_k».proof.Proof.Flash.Scalar

@[expose] public section

noncomputable section

namespace Cert.Norm

open Idealize.ShloMosaic Idealize.ShloMosaic.TcCoe

/-- The constant added to the variance. -/
def eps : ℝ := 10995116 / 1099511627776

def mu (x : Fin 2048 → ℝ) : ℝ := (∑ k, x k) / 2048
def cen (x : Fin 2048 → ℝ) (j : Fin 2048) : ℝ := x j - mu x
def var (x : Fin 2048 → ℝ) : ℝ := (∑ k, cen x k * cen x k) / 2048
def rs (x : Fin 2048 → ℝ) : ℝ := (Real.sqrt (var x + eps))⁻¹
def hat (x : Fin 2048 → ℝ) (j : Fin 2048) : ℝ := cen x j * rs x

/-- The gradient of the row from the gradient `d` of its normalised entries. -/
def dr (x d : Fin 2048 → ℝ) (j : Fin 2048) : ℝ :=
  rs x * (d j - (∑ k, d k) / 2048 - hat x j * ((∑ k, d k * hat x k) / 2048))

/-- The factor the gradient of the variance carries. -/
def vs (x d : Fin 2048 → ℝ) : ℝ := (∑ k, cen x k * d k) * (-1 / 2 * (rs x / (var x + eps))) / 2048

/-- The same gradient, one path of the chain rule at a time. -/
def paths (x d : Fin 2048 → ℝ) (j : Fin 2048) : ℝ :=
  d j * rs x + vs x d * (2 * cen x j) + ((∑ k, -(d k * rs x)) + ∑ k, -(vs x d * (2 * cen x k))) / 2048

theorem eps_pos : 0 < eps := by unfold eps; norm_num

theorem var_nonneg (x : Fin 2048 → ℝ) : 0 ≤ var x :=
  div_nonneg (Finset.sum_nonneg fun k _ => mul_self_nonneg _) (by norm_num)

theorem var_eps_pos (x : Fin 2048 → ℝ) : 0 < var x + eps := add_pos_of_nonneg_of_pos (var_nonneg x) eps_pos

theorem sum_cen (x : Fin 2048 → ℝ) : ∑ k, cen x k = 0 := by
  unfold cen
  rw [Finset.sum_sub_distrib, Finset.sum_const, Finset.card_univ, Fintype.card_fin, nsmul_eq_mul]
  unfold mu
  push_cast
  ring

theorem rs_sq (x : Fin 2048 → ℝ) : (var x + eps)⁻¹ = rs x * rs x := by
  unfold rs
  rw [← mul_inv, Real.mul_self_sqrt (var_eps_pos x).le]

/-- The two ways agree: the centred entries sum to zero. -/
theorem paths_eq (x d : Fin 2048 → ℝ) (j : Fin 2048) : paths x d j = dr x d j := by
  have h1 : ∑ k, -(d k * rs x) = -(rs x * ∑ k, d k) := by
    rw [Finset.sum_neg_distrib, ← Finset.sum_mul, mul_comm]
  have h2 : ∑ k, -(vs x d * (2 * cen x k)) = 0 := by
    rw [Finset.sum_neg_distrib, ← Finset.mul_sum, ← Finset.mul_sum, sum_cen]
    ring
  have h3 : ∑ k, d k * hat x k = rs x * ∑ k, cen x k * d k := by
    rw [Finset.mul_sum]
    exact Finset.sum_congr rfl fun k _ => by unfold hat; ring
  unfold paths dr
  rw [h1, h2, h3]
  unfold vs hat
  rw [div_eq_mul_inv (rs x), rs_sq]
  ring

theorem word_2048 : Ideal.ofBits .f32 0x45000000#32 = ((2048 : ℝ) : EReal) := by
  simp [Ideal.ofBits, Ideal.ieee, -EReal.coe_mul]; norm_num
theorem word_2 : Ideal.ofBits .f32 0x40000000#32 = ((2 : ℝ) : EReal) := by
  simp [Ideal.ofBits, Ideal.ieee, -EReal.coe_mul]; norm_num
theorem word_neg_half : Ideal.ofBits .f32 0xBF000000#32 = ((-1 / 2 : ℝ) : EReal) := by
  simp [Ideal.ofBits, Ideal.ieee, -EReal.coe_mul]; norm_num
theorem word_eps : Ideal.ofBits .f32 0x3727C5AC#32 = ((eps : ℝ) : EReal) := by
  unfold eps
  simp [Ideal.ofBits, Ideal.ieee, -EReal.coe_mul]; norm_num
theorem word_0 : Ideal.ofBits .f32 0x00000000#32 = ((0 : ℝ) : EReal) := by
  simp [Ideal.ofBits, Ideal.ieee, -EReal.coe_mul]

theorem div_2048 (x : ℝ) : Ideal.div (x : EReal) ((2048 : ℝ) : EReal) = ((x / 2048 : ℝ) : EReal) :=
  Attention.div_coe x 2048 (by norm_num)

theorem rsqrt_pos (x : ℝ) (h : 0 < x) : Ideal.rsqrt (x : EReal) = (((Real.sqrt x)⁻¹ : ℝ) : EReal) := by
  rw [Ideal.rsqrt_coe, if_neg (not_lt.2 h.le), if_neg h.ne']

end Cert.Norm

end
-- ==== Proof.Norm.Kernel.lean ====
/- The layer norm's gradient: what each grid point of the kernel computes. -/
module

public import proofs.«01_k».proof.Defs
public import proofs.«01_k».proof.Proof.Norm.Rows
public import proofs.«01_k».proof.Proof.Gen.Kernel7Ideal.Value
public import Idealize.ShloMosaic.Lib.Pointwise
public import Idealize.ShloMosaic.Lib.VecWindow
public import Idealize.ShloMosaic.Lib.Claim

@[expose] public section

noncomputable section

namespace Cert.Kernel7Ideal.Norm

open Cert.Kernel7Ideal Cert.Kernel7Ideal.Gen Cert.Norm Cert.Attention Idealize.ShloMosaic Idealize.ShloMosaic.TcCoe Idealize.SL.Sem

theorem pay7_apply (x : Vec Ideal S512x2048 .f32) (i : Fin 512) (j : Fin 2048) :
    k0_pay7 (F := Ideal) x (ix2 i j) = x (ix2 i j) - Ideal.div (∑ k : Fin 2048, x (ix2 i k)) (Ideal.ofBits .f32 0x45000000#32) := by
  pointwise [k0_pay7]

theorem pay8_apply (x : Vec Ideal S512x2048 .f32) (i : Fin 512) (z : Fin 1) :
    k0_pay8 (F := Ideal) x (ix2 i z) = Ideal.rsqrt (Ideal.div (∑ k : Fin 2048, k0_pay7 (F := Ideal) x (ix2 i k) * k0_pay7 (F := Ideal) x (ix2 i k)) (Ideal.ofBits .f32 0x45000000#32)
      + Ideal.ofBits .f32 0x3727C5AC#32) := by
  pointwise [k0_pay8]

theorem pay9_apply (x : Vec Ideal S512x2048 .f32) (i : Fin 512) (j : Fin 2048) :
    k0_pay9 (F := Ideal) x (ix2 i j) = k0_pay7 (F := Ideal) x (ix2 i j) * k0_pay8 (F := Ideal) x (ix2 i (0 : Fin 1)) := by
  pointwise [k0_pay9]

theorem pay10_apply (x dy : Vec Ideal S512x2048 .f32) (g : Vec Ideal S1x2048 .f32) (i : Fin 512) (j : Fin 2048) :
    k0_pay10 (F := Ideal) x dy g (ix2 i j) = k0_pay8 (F := Ideal) x (ix2 i (0 : Fin 1))
      * (dy (ix2 i j) * g (ix2 (0 : Fin 1) j) - Ideal.div (∑ k : Fin 2048, dy (ix2 i k) * g (ix2 (0 : Fin 1) k)) (Ideal.ofBits .f32 0x45000000#32)
        - k0_pay9 (F := Ideal) x (ix2 i j) * Ideal.div (∑ k : Fin 2048, dy (ix2 i k) * g (ix2 (0 : Fin 1) k) * k0_pay9 (F := Ideal) x (ix2 i k)) (Ideal.ofBits .f32 0x45000000#32)) := by
  pointwise [k0_pay10]

theorem pay1_apply (dy h : Vec Ideal S512x2048 .f32) (o : Vec Ideal S1x2048 .f32) (j : Fin 2048) :
    k0_pay1 (F := Ideal) dy h o (ix2 (0 : Fin 1) j) = o (ix2 (0 : Fin 1) j) + ∑ i : Fin 512, dy (ix2 i j) * h (ix2 i j) := by
  pointwise [k0_pay1]

theorem pay2_apply (dy : Vec Ideal S512x2048 .f32) (o : Vec Ideal S1x2048 .f32) (j : Fin 2048) :
    k0_pay2 (F := Ideal) dy o (ix2 (0 : Fin 1) j) = o (ix2 (0 : Fin 1) j) + ∑ i : Fin 512, dy (ix2 i j) := by
  pointwise [k0_pay2]

theorem pay3_apply (r : Vec Ideal S512x2048 .f32) (o : Vec Ideal S1x2048 .f32) (j : Fin 2048) :
    k0_pay3 (F := Ideal) r o (ix2 (0 : Fin 1) j) = o (ix2 (0 : Fin 1) j) + ∑ i : Fin 512, r (ix2 i j) := by
  pointwise [k0_pay3]

theorem pay4_apply (j : Fin 2048) : k0_pay4 (F := Ideal) (ix2 (0 : Fin 1) j) = Ideal.ofBits .f32 0x00000000#32 := by
  pointwise [k0_pay4]
theorem pay5_apply (j : Fin 2048) : k0_pay5 (F := Ideal) (ix2 (0 : Fin 1) j) = Ideal.ofBits .f32 0x00000000#32 := by
  pointwise [k0_pay5]
theorem pay6_apply (j : Fin 2048) : k0_pay6 (F := Ideal) (ix2 (0 : Fin 1) j) = Ideal.ofBits .f32 0x00000000#32 := by
  pointwise [k0_pay6]

theorem hz : (![0, 0] : Fin 2 → Nat) = fun _ => 0 := funext fun a => by fin_cases a <;> rfl

section Points

variable (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole)
  (x0 x1 : Vec Ideal S512x2048 .f32) (x2 o4 o5 o6 : Vec Ideal S1x2048 .f32)

theorem out_A_3 (hc0 : cond0_0 i) :
    out0_A_3 c i arg1 harg1 arg2 harg2 arg3 harg3 arg4 harg4 arg5 harg5 arg6 harg6 arg7 harg7 hc0 x0 x1 x2 = k0_pay10 x1 x0 x2 := by
  unfold out0_A_3
  rw [View.read_writes_eq_canon _ _ _ (cover0_A_3 c i arg1 harg1 arg2 harg2 arg3 harg3 arg4 harg4 arg5 harg5 arg6 harg6 arg7 harg7 hc0 x0 x1 x2)]
  unfold kernelRun0_A
  dsimp only
  sl_unfold_words
  rw [View.canon_unit_zero hz]
  simp only [View.readAt_eq_ld, harg1.read_unread, harg2.read_unread, harg3.read_unread, harg5.read_unread, harg6.read_unread, harg7.read_unread, View.ld_unit_zero (S := S512x2048) hz, View.ld_unit_zero (S := S1x2048) hz]

theorem out_A_4 (hc0 : cond0_0 i) :
    out0_A_4 c i arg1 harg1 arg2 harg2 arg3 harg3 arg4 harg4 arg5 harg5 arg6 harg6 arg7 harg7 hc0 x0 x1 x2 = k0_pay1 x0 (k0_pay9 x1) (k0_pay4 (F := Ideal)) := by
  unfold out0_A_4
  unfold kernelRun0_A
  dsimp only
  sl_unfold_words
  refine (View.read_writes_full (s := S1x2048) _ _ _ _ _).trans ?_
  rw [View.readCov_unit_zero (S := S1x2048) _ hz]
  simp only [View.readAt_eq_ld, harg1.read_unread, harg2.read_unread, harg3.read_unread, harg5.read_unread, harg6.read_unread, harg7.read_unread, View.ld_unit_zero (S := S512x2048) hz, View.ld_unit_zero (S := S1x2048) hz]

theorem out_A_5 (hc0 : cond0_0 i) :
    out0_A_5 c i arg1 harg1 arg2 harg2 arg3 harg3 arg4 harg4 arg5 harg5 arg6 harg6 arg7 harg7 hc0 x0 x1 x2 = k0_pay2 x0 (k0_pay5 (F := Ideal)) := by
  unfold out0_A_5
  unfold kernelRun0_A
  dsimp only
  sl_unfold_words
  refine (View.read_writes_full (s := S1x2048) _ _ _ _ _).trans ?_
  rw [View.readCov_unit_zero (S := S1x2048) _ hz]
  simp only [View.readAt_eq_ld, harg1.read_unread, harg2.read_unread, harg3.read_unread, harg5.read_unread, harg6.read_unread, harg7.read_unread, View.ld_unit_zero (S := S512x2048) hz, View.ld_unit_zero (S := S1x2048) hz]

theorem out_A_6 (hc0 : cond0_0 i) :
    out0_A_6 c i arg1 harg1 arg2 harg2 arg3 harg3 arg4 harg4 arg5 harg5 arg6 harg6 arg7 harg7 hc0 x0 x1 x2 = k0_pay3 (k0_pay10 x1 x0 x2) (k0_pay6 (F := Ideal)) := by
  unfold out0_A_6
  unfold kernelRun0_A
  dsimp only
  sl_unfold_words
  refine (View.read_writes_full (s := S1x2048) _ _ _ _ _).trans ?_
  rw [View.readCov_unit_zero (S := S1x2048) _ hz]
  simp only [View.readAt_eq_ld, harg1.read_unread, harg2.read_unread, harg3.read_unread, harg5.read_unread, harg6.read_unread, harg7.read_unread, View.ld_unit_zero (S := S512x2048) hz, View.ld_unit_zero (S := S1x2048) hz]

theorem out_B_3 (hc0 : ¬cond0_0 i) :
    out0_B_3 c i arg1 harg1 arg2 harg2 arg3 harg3 arg4 harg4 arg5 harg5 arg6 harg6 arg7 harg7 hc0 x0 x1 x2 o4 o5 o6 = k0_pay10 x1 x0 x2 := by
  unfold out0_B_3
  rw [View.read_writes_eq_canon _ _ _ (cover0_B_3 c i arg1 harg1 arg2 harg2 arg3 harg3 arg4 harg4 arg5 harg5 arg6 harg6 arg7 harg7 hc0 x0 x1 x2 o4 o5 o6)]
  unfold kernelRun0_B
  dsimp only
  sl_unfold_words
  rw [View.canon_unit_zero hz]
  simp only [View.readAt_eq_ld, harg1.read_unread, harg2.read_unread, harg3.read_unread, harg5.read_unread, harg6.read_unread, harg7.read_unread, View.ld_unit_zero (S := S512x2048) hz, View.ld_unit_zero (S := S1x2048) hz]

theorem out_B_4 (hc0 : ¬cond0_0 i) :
    out0_B_4 c i arg1 harg1 arg2 harg2 arg3 harg3 arg4 harg4 arg5 harg5 arg6 harg6 arg7 harg7 hc0 x0 x1 x2 o4 o5 o6 = k0_pay1 x0 (k0_pay9 x1) o4 := by
  unfold out0_B_4
  rw [View.read_writes_eq_canon _ _ _ (cover0_B_4 c i arg1 harg1 arg2 harg2 arg3 harg3 arg4 harg4 arg5 harg5 arg6 harg6 arg7 harg7 hc0 x0 x1 x2 o4 o5 o6)]
  unfold kernelRun0_B
  dsimp only
  sl_unfold_words
  rw [View.canon_unit_zero hz]
  simp only [View.readAt_eq_ld, harg1.read_unread, harg2.read_unread, harg3.read_unread, harg5.read_unread, harg6.read_unread, harg7.read_unread, View.ld_unit_zero (S := S512x2048) hz, View.ld_unit_zero (S := S1x2048) hz]

theorem out_B_5 (hc0 : ¬cond0_0 i) :
    out0_B_5 c i arg1 harg1 arg2 harg2 arg3 harg3 arg4 harg4 arg5 harg5 arg6 harg6 arg7 harg7 hc0 x0 x1 x2 o4 o5 o6 = k0_pay2 x0 o5 := by
  unfold out0_B_5
  rw [View.read_writes_eq_canon _ _ _ (cover0_B_5 c i arg1 harg1 arg2 harg2 arg3 harg3 arg4 harg4 arg5 harg5 arg6 harg6 arg7 harg7 hc0 x0 x1 x2 o4 o5 o6)]
  unfold kernelRun0_B
  dsimp only
  sl_unfold_words
  rw [View.canon_unit_zero hz]
  simp only [View.readAt_eq_ld, harg1.read_unread, harg2.read_unread, harg3.read_unread, harg5.read_unread, harg6.read_unread, harg7.read_unread, View.ld_unit_zero (S := S512x2048) hz, View.ld_unit_zero (S := S1x2048) hz]

theorem out_B_6 (hc0 : ¬cond0_0 i) :
    out0_B_6 c i arg1 harg1 arg2 harg2 arg3 harg3 arg4 harg4 arg5 harg5 arg6 harg6 arg7 harg7 hc0 x0 x1 x2 o4 o5 o6 = k0_pay3 (k0_pay10 x1 x0 x2) o6 := by
  unfold out0_B_6
  rw [View.read_writes_eq_canon _ _ _ (cover0_B_6 c i arg1 harg1 arg2 harg2 arg3 harg3 arg4 harg4 arg5 harg5 arg6 harg6 arg7 harg7 hc0 x0 x1 x2 o4 o5 o6)]
  unfold kernelRun0_B
  dsimp only
  sl_unfold_words
  rw [View.canon_unit_zero hz]
  simp only [View.readAt_eq_ld, harg1.read_unread, harg2.read_unread, harg3.read_unread, harg5.read_unread, harg6.read_unread, harg7.read_unread, View.ld_unit_zero (S := S512x2048) hz, View.ld_unit_zero (S := S1x2048) hz]

end Points

/-! ## The rows of a block -/

section Block

variable (dy x : Vec Ideal S512x2048 .f32) (g : Vec Ideal S1x2048 .f32) (D X : Fin 512 → Fin 2048 → ℝ) (G : Fin 2048 → ℝ)
  (hd : ∀ i j, dy (ix2 i j) = ((D i j : ℝ) : EReal)) (hx : ∀ i j, x (ix2 i j) = ((X i j : ℝ) : EReal))
  (hg : ∀ j, g (ix2 (0 : Fin 1) j) = ((G j : ℝ) : EReal))

include hx

theorem cen_of (i : Fin 512) (j : Fin 2048) : k0_pay7 (F := Ideal) x (ix2 i j) = ((cen (X i) j : ℝ) : EReal) := by
  rw [pay7_apply, sum_coe fun k => hx i k, hx, word_2048, div_2048, ← EReal.coe_sub]
  rfl

theorem rs_of (i : Fin 512) (z : Fin 1) : k0_pay8 (F := Ideal) x (ix2 i z) = ((rs (X i) : ℝ) : EReal) := by
  rw [pay8_apply, sum_mul_coe (fun k => cen_of x X hx i k) (fun k => cen_of x X hx i k), word_2048, div_2048, word_eps, ← EReal.coe_add]
  exact rsqrt_pos _ (var_eps_pos (X i))

theorem hat_of (i : Fin 512) (j : Fin 2048) : k0_pay9 (F := Ideal) x (ix2 i j) = ((hat (X i) j : ℝ) : EReal) := by
  rw [pay9_apply, cen_of x X hx, rs_of x X hx, ← EReal.coe_mul]
  rfl

include hd hg

theorem dr_of (i : Fin 512) (j : Fin 2048) : k0_pay10 (F := Ideal) x dy g (ix2 i j) = ((dr (X i) (fun k => D i k * G k) j : ℝ) : EReal) := by
  have e : ∀ k, (dy (ix2 i k) : EReal) * g (ix2 (0 : Fin 1) k) = ((D i k * G k : ℝ) : EReal) := fun k => by rw [hd, hg, EReal.coe_mul]
  rw [pay10_apply, sum_coe e, sum_mul_coe e (fun k => hat_of x X hx i k), e, word_2048, div_2048, div_2048, rs_of x X hx, hat_of x X hx,
    ← EReal.coe_mul, ← EReal.coe_sub, ← EReal.coe_sub, ← EReal.coe_mul]
  rfl

end Block

end Cert.Kernel7Ideal.Norm

end
-- ==== Proof.Norm.Ref.lean ====
/- The layer norm's gradient by the chain rule: each operation of the reference's, over the reals. -/
module

public import proofs.«01_k».proof.Defs
public import proofs.«01_k».proof.Proof.Norm.Rows
public import proofs.«01_k».proof.Proof.Gen.Reference7Ideal.Run
public import proofs.«01_k».proof.Proof.Gen.Reference7Ideal.Read

@[expose] public section

noncomputable section

namespace Cert.Reference7Ideal.Norm

open Cert.Reference7Ideal Cert.Reference7Ideal.Read Cert.Norm Cert.Attention Idealize.ShloMosaic Idealize.ShloMosaic.TcCoe

variable (x0 x1 : Vec Ideal S4096x2048 .f32) (x2 : Vec Ideal S2048 .f32)
  (D X : Fin 4096 → Fin 2048 → ℝ) (G : Fin 2048 → ℝ)
  (h0 : ∀ i : S4096x2048.Idx, x0 i = ((D (i 0) (i 1) : ℝ) : EReal)) (h1 : ∀ i : S4096x2048.Idx, x1 i = ((X (i 0) (i 1) : ℝ) : EReal))
  (h2 : ∀ i : S2048.Idx, x2 i = ((G (i 0) : ℝ) : EReal))

/-- A sum from the word of zero. -/
theorem zero_sum {n : ℕ} {f : Fin n → EReal} {g : Fin n → ℝ} (h : ∀ k, f k = g k) :
    Ideal.ofBits .f32 0x00000000#32 + ∑ k, f k = ((∑ k, g k : ℝ) : EReal) := by
  rw [sum_coe h, word_0, ← EReal.coe_add, zero_add]

/-- A sum of one term from the word of zero. -/
theorem zero_sum_one {f : Fin 1 → EReal} {r : ℝ} (h : ∀ k, f k = r) : Ideal.ofBits .f32 0x00000000#32 + ∑ k, f k = (r : EReal) := by
  rw [zero_sum (g := fun _ => r) h, Finset.sum_const, Finset.card_univ, Fintype.card_fin, one_smul]

theorem div_word {a : EReal} {r : ℝ} (h : a = r) : Ideal.div a (Ideal.ofBits .f32 0x45000000#32) = ((r / 2048 : ℝ) : EReal) := by
  rw [h, word_2048, div_2048]

theorem add_of {a b : EReal} {r s : ℝ} (h : a = r) (h' : b = s) : a + b = ((r + s : ℝ) : EReal) := by rw [h, h', EReal.coe_add]
theorem sub_of {a b : EReal} {r s : ℝ} (h : a = r) (h' : b = s) : a - b = ((r - s : ℝ) : EReal) := by rw [h, h', EReal.coe_sub]
theorem mul_of {a b : EReal} {r s : ℝ} (h : a = r) (h' : b = s) : a * b = ((r * s : ℝ) : EReal) := by rw [h, h', EReal.coe_mul]
theorem neg_of {a : EReal} {r : ℝ} (h : a = r) : -a = ((-r : ℝ) : EReal) := by rw [h, EReal.coe_neg]

include h1

theorem v3 (i : S4096x2048.Idx) : val_main_v3 (F := Ideal) x1 i = ((X (i 0) (i 1) : ℝ) : EReal) := by
  refine (add_of (h1 i) word_0).trans ?_
  rw [add_zero]

theorem v7 (i : S4096x1.Idx) : val_main_v7 (F := Ideal) x1 i = ((mu (X (i 0)) : ℝ) : EReal) := by
  rw [val_main_v7_apply, val_main_v5_apply, val_main_v4_apply]
  exact div_word (zero_sum fun k => v3 x1 X h1 _)

theorem v9 (i : S4096x2048.Idx) : val_main_v9 (F := Ideal) x1 i = ((cen (X (i 0)) (i 1) : ℝ) : EReal) := by
  rw [val_main_v9_apply, val_main_v8_apply]
  exact sub_of (v3 x1 X h1 _) (v7 x1 X h1 _)

theorem v18 (i : S4096x2048.Idx) : val_main_v18 (F := Ideal) x1 i = ((cen (X (i 0)) (i 1) : ℝ) : EReal) := by
  rw [val_main_v18_apply, val_main_v17_apply]
  exact sub_of (v3 x1 X h1 _) (v7 x1 X h1 _)

theorem v12 (i : S4096x2048.Idx) : val_main_v12 (F := Ideal) x1 i = ((2 * cen (X (i 0)) (i 1) : ℝ) : EReal) := by
  rw [val_main_v12_apply, val_main_v11_apply]
  exact mul_of word_2 (v9 x1 X h1 _)

theorem v20 (i : S4096x1.Idx) : val_main_v20 (F := Ideal) x1 i = ((var (X (i 0)) + eps : ℝ) : EReal) := by
  rw [val_main_v20_apply, val_main_v16_apply, val_main_v14_apply, val_main_v13_apply]
  exact add_of (div_word (zero_sum fun k => mul_of (v9 x1 X h1 _) (v9 x1 X h1 _))) word_eps

theorem v21 (i : S4096x1.Idx) : val_main_v21 (F := Ideal) x1 i = ((rs (X (i 0)) : ℝ) : EReal) := by
  rw [val_main_v21_apply, v20 x1 X h1, Ideal.hostUnary_rsqrt_def]
  exact rsqrt_pos _ (var_eps_pos _)

theorem v24 (i : S4096x1.Idx) : val_main_v24 (F := Ideal) x1 i = ((-1 / 2 * (rs (X (i 0)) / (var (X (i 0)) + eps)) : ℝ) : EReal) := by
  rw [val_main_v24_apply, val_main_v22_apply, v20 x1 X h1, v21 x1 X h1]
  exact mul_of word_neg_half (Attention.div_coe _ _ (var_eps_pos _).ne')

theorem v26 (i : S4096x2048.Idx) : val_main_v26 (F := Ideal) x1 i = ((hat (X (i 0)) (i 1) : ℝ) : EReal) := by
  rw [val_main_v26_apply, val_main_v25_apply]
  exact mul_of (v18 x1 X h1 _) (v21 x1 X h1 _)

include h0

omit h1 in
theorem v33 (i : S4096x2048.Idx) : val_main_v33 (F := Ideal) x0 i = ((D (i 0) (i 1) : ℝ) : EReal) := by
  have e : val_main_v33 (F := Ideal) x0 i = x0 i := by
    rw [val_main_v33_apply]
    congr 1
    funext a
    match a with
    | ⟨0, _⟩ => exact Fin.ext (by have h1 : (i 1).val < 2048 := (i 1).isLt; show _ = (i 0).val; dsimp only; omega)
    | ⟨1, _⟩ => exact Fin.ext (by have h1 : (i 1).val < 2048 := (i 1).isLt; show _ = (i 1).val; dsimp only; omega)
  rw [e, h0]

omit h1 h0 in
theorem col_eq (i : S2048.Idx) (k : Fin 1) : idx_main_v39 (idx_main_v42 i k) = i := by
  funext a
  match a with
  | ⟨0, _⟩ => exact Fin.ext (by have hk := k.isLt; show k.val * 2048 + (i 0).val = (i 0).val; omega)

omit h1 h0 in
theorem line_eq (i : S4096x1.Idx) : idx_main_v45 i = idx_main_v14 i := by
  funext a
  match a with
  | ⟨0, _⟩ => exact Fin.ext (by have h1 : (i 1).val < 1 := (i 1).isLt; show (i 0).val * 1 + (i 1).val = (i 0).val; omega)

omit h1 h0 in
theorem row_eq (i : S1x2048.Idx) : idx_main_v70 i 0 = i 1 :=
  Fin.ext (by have hk : (i 0).val < 1 := (i 0).isLt; show (i 0).val * 2048 + (i 1).val = (i 1).val; omega)

theorem v70 (i : S1x2048.Idx) : val_main_v70 (F := Ideal) x0 x1 i = ((∑ k, D k (i 1) * hat (X k) (i 1) : ℝ) : EReal) := by
  rw [val_main_v70_apply, val_main_v42_apply, ← row_eq i]
  refine zero_sum_one fun k => ?_
  rw [val_main_v39_apply, val_main_v38_apply, col_eq]
  exact zero_sum fun k => (mul_of (v26 x1 X h1 _) (v33 x0 D h0 _)).trans (congrArg _ (mul_comm _ _))

omit h1 in
theorem v71 (i : S1x2048.Idx) : val_main_v71 (F := Ideal) x0 i = ((∑ k, D k (i 1) : ℝ) : EReal) := by
  rw [val_main_v71_apply, val_main_v36_apply, ← row_eq i]
  refine zero_sum_one fun k => ?_
  rw [val_main_v35_apply, val_main_v34_apply]
  refine zero_sum fun k => ?_
  exact (h0 _).trans (congrArg _ (congrArg (fun z : S2048.Idx => D _ (z 0)) (col_eq _ _)))

include h2

/-- The gradient of the normalised entries of a row. -/
def dn (D : Fin 4096 → Fin 2048 → ℝ) (G : Fin 2048 → ℝ) (i : Fin 4096) (j : Fin 2048) : ℝ := D i j * G j

omit h1 in
theorem v41 (i : S4096x2048.Idx) : val_main_v41 (F := Ideal) x0 x2 i = ((dn D G (i 0) (i 1) : ℝ) : EReal) := by
  rw [val_main_v41_apply, val_main_v40_apply, val_main_v27_apply]
  exact mul_of (v33 x0 D h0 _) (h2 _)

theorem v47 (i : S4096x2048.Idx) : val_main_v47 (F := Ideal) x0 x1 x2 i = ((dn D G (i 0) (i 1) * rs (X (i 0)) : ℝ) : EReal) := by
  rw [val_main_v47_apply, val_main_v46_apply]
  exact mul_of (v41 x0 x2 D G h0 h2 _) (v21 x1 X h1 _)

theorem v53 (i : S4096x1.Idx) : val_main_v53 (F := Ideal) x0 x1 x2 i = ((vs (X (i 0)) (dn D G (i 0)) : ℝ) : EReal) := by
  rw [val_main_v53_apply, val_main_v48_apply, val_main_v45_apply, line_eq, val_main_v44_apply]
  exact div_word (mul_of (zero_sum fun k => mul_of (v18 x1 X h1 _) (v41 x0 x2 D G h0 h2 _)) (v24 x1 X h1 _))

theorem v56 (i : S4096x2048.Idx) :
    val_main_v56 (F := Ideal) x0 x1 x2 i = ((vs (X (i 0)) (dn D G (i 0)) * (2 * cen (X (i 0)) (i 1)) : ℝ) : EReal) := by
  rw [val_main_v56_apply, val_main_v55_apply, val_main_v54_apply]
  exact mul_of (zero_sum_one fun k => v53 x0 x1 x2 D X G h0 h1 h2 _) (v12 x1 X h1 _)

theorem v51 (i : S4096x1.Idx) : val_main_v51 (F := Ideal) x0 x1 x2 i = ((∑ k, -(dn D G (i 0) k * rs (X (i 0))) : ℝ) : EReal) := by
  rw [val_main_v51_apply, show idx_main_v51 i = idx_main_v14 i from line_eq i, val_main_v50_apply]
  exact zero_sum fun k => neg_of (v47 x0 x1 x2 D X G h0 h1 h2 _)

theorem v59 (i : S4096x1.Idx) :
    val_main_v59 (F := Ideal) x0 x1 x2 i = ((∑ k, -(vs (X (i 0)) (dn D G (i 0)) * (2 * cen (X (i 0)) k)) : ℝ) : EReal) := by
  rw [val_main_v59_apply, show idx_main_v59 i = idx_main_v14 i from line_eq i, val_main_v58_apply]
  exact zero_sum fun k => neg_of (v56 x0 x1 x2 D X G h0 h1 h2 _)

theorem v66 (i : S4096x2048.Idx) : val_main_v66 (F := Ideal) x0 x1 x2 i = ((dr (X (i 0)) (dn D G (i 0)) (i 1) : ℝ) : EReal) := by
  rw [val_main_v66_apply, val_main_v60_apply, val_main_v65_apply, val_main_v64_apply]
  refine (add_of (add_of (v47 x0 x1 x2 D X G h0 h1 h2 _) (v56 x0 x1 x2 D X G h0 h1 h2 _)) (zero_sum_one fun k => ?_)).trans
    (congrArg _ (paths_eq (X (i 0)) (dn D G (i 0)) (i 1)))
  rw [val_main_v63_apply, val_main_v61_apply]
  exact div_word (add_of (v51 x0 x1 x2 D X G h0 h1 h2 _) (v59 x0 x1 x2 D X G h0 h1 h2 _))

theorem v72 (i : S1x2048.Idx) : val_main_v72 (F := Ideal) x0 x1 x2 i = ((∑ k, dr (X k) (dn D G k) (i 1) : ℝ) : EReal) := by
  rw [val_main_v72_apply, val_main_v69_apply, ← row_eq i]
  refine zero_sum_one fun k => ?_
  rw [val_main_v68_apply, val_main_v67_apply]
  refine zero_sum fun k => ?_
  exact (v66 x0 x1 x2 D X G h0 h1 h2 _).trans (congrArg _ (congrArg (fun z : S2048.Idx => dr (X _) (dn D G _) (z 0)) (col_eq _ _)))

end Cert.Reference7Ideal.Norm

end
-- ==== Proof.Flash.Finite.lean ====
/- What the precondition says: every entry of the six inputs is a real. -/
module

public import proofs.«01_k».proof.Pre_finite
public import proofs.«01_k».proof.Proof.Flash.Scalar
public import Idealize.ShloMosaic.Lib.ReduceAll

@[expose] public section

noncomputable section

namespace Cert.Attention

open Idealize.ShloMosaic

theorem word_top : Ideal.ofBits .f32 0x7F800000#32 = ⊤ := by simp [Ideal.ofBits, Ideal.ieee]

/-- An extended real whose absolute value is below plus infinity is a real. -/
theorem real_of_abs_lt (x : EReal) (h : max x (-x) < ⊤) : x = ((x.toReal : ℝ) : EReal) := by
  have h' := max_lt_iff.1 h
  refine (EReal.coe_toReal h'.1.ne fun e => ?_).symm
  rw [e, EReal.neg_bot] at h'
  exact lt_irrefl _ h'.2

theorem subsingleton_scalar : Subsingleton (Shape.mk 0 ![]).Idx := ⟨fun a b => funext fun x => x.elim0⟩

/-- If the reduction that compares every entry with plus infinity is one, every entry is a real. -/
theorem real_of_reduce {s : Shape} {axes : List (Fin s.rank)} (x : FVec Ideal s .f32)
    (hb : (Shape.mk 0 ![]).BroadcastsInDim s ![]) (hr : s.ReducesTo axes (Shape.mk 0 ![])) (hu : 0 < (Shape.mk 0 ![]).numel)
    (j : (Shape.mk 0 ![]).Idx)
    (e : Host.reduce IntOp.andi (cmpf .olt (Host.absf x) (broadcastInDim s ![] hb (constant (Shape.mk 0 ![]) .f32 0x7F800000#32)))
      (constantI (Shape.mk 0 ![]) 1 1#1) hr hu j = 1#1) (i : s.Idx) : x i = (((x i).toReal : ℝ) : EReal) := by
  haveI := subsingleton_scalar
  have a := Host.reduce_andi_all _ _ hr hu j e i
  refine real_of_abs_lt (x i) ?_
  have a' : BitVec.ofBool (decide (max (x i : EReal) (-(x i)) < Ideal.ofBits .f32 0x7F800000#32)) = 1#1 := a
  rw [word_top] at a'
  by_contra hn
  rw [decide_eq_false hn] at a'
  exact absurd a' (by decide)

variable [Cert.Pre_finite.Facts]

/-- The reals of six inputs. -/
def inp (x0 : FVec Ideal Pre_finite.S4096x1536 .f32) (x1 : FVec Ideal Pre_finite.S4096x2048 .f32) (x2 : FVec Ideal Pre_finite.S4096x8x64 .f32)
    (x3 x4 : FVec Ideal Pre_finite.S4096x32 .f32) (x5 : FVec Ideal Pre_finite.S4096x1024 .f32) : Inp where
  q i n := (x0 (ix2 i n)).toReal
  kv i n := (x1 (ix2 i n)).toReal
  kr i h c := (x2 (ix3 i h c)).toReal
  cos i c := (x3 (ix2 i c)).toReal
  sin i c := (x4 (ix2 i c)).toReal
  g i n := (x5 (ix2 i n)).toReal

theorem holds_of_finite (x0 : FVec Ideal Pre_finite.S4096x1536 .f32) (x1 : FVec Ideal Pre_finite.S4096x2048 .f32)
    (x2 : FVec Ideal Pre_finite.S4096x8x64 .f32) (x3 x4 : FVec Ideal Pre_finite.S4096x32 .f32) (x5 : FVec Ideal Pre_finite.S4096x1024 .f32)
    (h : Cert.Pre_finite.fn (F := Ideal) x0 x1 x2 x3 x4 x5 = fun _ => 1#1) : Holds (inp x0 x1 x2 x3 x4 x5) x0 x1 x2 x3 x4 x5 := by
  have e := congrFun h (fun a => a.elim0)
  unfold Cert.Pre_finite.fn Cert.Pre_finite.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i n => real_of_reduce x0 _ _ _ _ e0 _, fun i n => real_of_reduce x1 _ _ _ _ e1 _, fun i h c => real_of_reduce x2 _ _ _ _ e2 _,
    fun i c => real_of_reduce x3 _ _ _ _ e3 _, fun i c => real_of_reduce x4 _ _ _ _ e4 _, fun i n => real_of_reduce x5 _ _ _ _ e5 _⟩

end Cert.Attention

end
-- ==== Proof.Norm.Value.lean ====
/- The layer norm's gradient: the kernel's four results are the reference's. -/
module

public import proofs.«01_k».proof.Proof.Norm.Kernel
public import proofs.«01_k».proof.Proof.Norm.Ref
public import proofs.«01_k».proof.Proof.Flash.Finite
public import proofs.«01_k».proof.Proof.Gen.Pre_finite_ln

@[expose] public section

noncomputable section

namespace Cert.Kernel7Ideal.Norm

open Cert.Kernel7Ideal Cert.Kernel7Ideal.Gen Cert.Norm Cert.Attention Idealize.ShloMosaic Idealize.ShloMosaic.TcCoe Idealize.SL.Sem
open Cert.Reference7Ideal.Norm (dn)

variable (m : (ℓ : Loc nD τ sig) → Buf (Elt Ideal) ℓ) (c : Dev nD)

/-- The row of the arrays a row of the `t`th block is. -/
def row (t : ℕ) (i : Fin 512) : Fin 4096 := ⟨t % 8 * 512 + i.val, by have := i.isLt; omega⟩

/-- The sum of a function of the rows over the first blocks. -/
def acc (f : Fin 4096 → ℝ) (n : ℕ) : ℝ := ∑ s ∈ Finset.range (n + 1), ∑ i : Fin 512, f (row s i)

theorem acc_zero (f : Fin 4096 → ℝ) : acc f 0 = 0 + ∑ i : Fin 512, f (row 0 i) := by
  unfold acc
  rw [Finset.sum_range_one, zero_add]

theorem acc_succ (f : Fin 4096 → ℝ) (n : ℕ) : acc f (n + 1) = acc f n + ∑ i : Fin 512, f (row (n + 1) i) := by
  unfold acc
  rw [Finset.sum_range_succ]

theorem acc_all (f : Fin 4096 → ℝ) : acc f 7 = ∑ k, f k := by
  unfold acc
  rw [Finset.sum_range (n := 7 + 1), ← Fintype.sum_prod_type']
  refine Fintype.sum_equiv (finProdFinEquiv (m := 8) (n := 512)) _ _ fun p => congrArg f (Fin.ext ?_)
  have h := p.1.isLt
  show p.1.val % 8 * 512 + p.2.val = p.2.val + 512 * p.1.val
  omega

/-- The index maps, decided over the grid. -/
theorem idx_0 : ∀ t : Fin cfg0.N, win0_0.index t (0 : Fin 2) = t.val % 8 ∧ win0_0.index t (1 : Fin 2) = 0 :=
  (by decide +kernel : ∀ t : Fin grid0.N, _)
theorem idx_1 : ∀ t : Fin cfg0.N, win0_1.index t (0 : Fin 2) = t.val % 8 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = t.val % 8 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)

theorem blk_0 (t : Fin cfg0.N) (i : Fin 512) (k : Fin 2048) :
    (iblk m c 0 t : Vec Ideal S512x2048 .f32) (ix2 i k) = (m ((c : Thread nD τ).loc main_arg0)) (ix2 (row t.val i) k) := by
  obtain ⟨e0, e1⟩ := idx_0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * i.val = t.val % 8 * 512 + i.val; rw [e0]; omega
  | ⟨1, _⟩ => show win0_0.index t 1 * 2048 + 1 * k.val = k.val; rw [e1]; omega

theorem blk_1 (t : Fin cfg0.N) (i : Fin 512) (k : Fin 2048) :
    (iblk m c 1 t : Vec Ideal S512x2048 .f32) (ix2 i k) = (m ((c : Thread nD τ).loc main_arg1)) (ix2 (row t.val i) k) := by
  obtain ⟨e0, e1⟩ := idx_1 t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * i.val = t.val % 8 * 512 + i.val; rw [e0]; omega
  | ⟨1, _⟩ => show win0_1.index t 1 * 2048 + 1 * k.val = k.val; rw [e1]; omega

theorem V_main_v0 : V m c main_v0 = fun i => shapeCast S1x2048 (m ((c : Thread nD τ).loc main_arg2)) shapeCasts_S2048_S1x2048 i := by
  unfold V
  simp only [hostOps0]
  after_results_simp
  rfl

theorem blk_2 (t : Fin cfg0.N) (k : Fin 2048) :
    (iblk m c 2 t : Vec Ideal S1x2048 .f32) (ix2 (0 : Fin 1) k) = (m ((c : Thread nD τ).loc main_arg2)) (ix1 k) := by
  obtain ⟨e0, e1⟩ := idx_2 t
  have e : (iblk m c 2 t : Vec Ideal S1x2048 .f32) (ix2 (0 : Fin 1) k) = V m c main_v0 (ix2 (0 : Fin 1) k) := by
    unfold iblk
    rw [View.read_apply]
    show V m c main_v0 _ = V m c main_v0 _
    congr 1
    funext a
    apply Fin.ext
    match a with
    | ⟨0, _⟩ => show win0_2.index t 0 * 1 + 1 * 0 = 0; rw [e0]
    | ⟨1, _⟩ => show win0_2.index t 1 * 2048 + 1 * k.val = k.val; rw [e1]; omega
  rw [e, V_main_v0]
  exact shapeCast_apply _ shapeCasts_S2048_S1x2048 _ (ix1 k) (by
    rewrite [Shape.rowMajor_val_one, Shape.rowMajor_val_two]
    show k.val = 0 * 2048 + k.val
    omega)

theorem mem_blk_3 (t : Fin cfg0.N) (i : S4096x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v1_0).slice (win0_3.rect t)).set ↔ _
  rw [View.set_slice_whole, Rect.mem_set_unit]
  exact Iff.rfl

theorem mem_blk_4 (t : Fin cfg0.N) (i : S1x2048.Idx) :
    i ∈ ((cfg0.win 4).blk t).view.set ↔ ∀ a : Fin 2, win0_4.index t a * S1x2048.size a ≤ (i a).val ∧ (i a).val < win0_4.index t a * S1x2048.size a + S1x2048.size a := by
  show i ∈ ((View.whole main_v1_1).slice (win0_4.rect t)).set ↔ _
  rw [View.set_slice_whole, Rect.mem_set_unit]
  exact Iff.rfl

theorem mem_blk_5 (t : Fin cfg0.N) (i : S1x2048.Idx) :
    i ∈ ((cfg0.win 5).blk t).view.set ↔ ∀ a : Fin 2, win0_5.index t a * S1x2048.size a ≤ (i a).val ∧ (i a).val < win0_5.index t a * S1x2048.size a + S1x2048.size a := by
  show i ∈ ((View.whole main_v1_2).slice (win0_5.rect t)).set ↔ _
  rw [View.set_slice_whole, Rect.mem_set_unit]
  exact Iff.rfl

theorem mem_blk_6 (t : Fin cfg0.N) (i : S1x2048.Idx) :
    i ∈ ((cfg0.win 6).blk t).view.set ↔ ∀ a : Fin 2, win0_6.index t a * S1x2048.size a ≤ (i a).val ∧ (i a).val < win0_6.index t a * S1x2048.size a + S1x2048.size a := by
  show i ∈ ((View.whole main_v1_3).slice (win0_6.rect t)).set ↔ _
  rw [View.set_slice_whole, Rect.mem_set_unit]
  exact Iff.rfl

section Reals

variable (D X : Fin 4096 → Fin 2048 → ℝ) (G : Fin 2048 → ℝ)
  (hD : ∀ i j, (m ((c : Thread nD τ).loc main_arg0)) (ix2 i j) = ((D i j : ℝ) : EReal))
  (hX : ∀ i j, (m ((c : Thread nD τ).loc main_arg1)) (ix2 i j) = ((X i j : ℝ) : EReal))
  (hG : ∀ j, (m ((c : Thread nD τ).loc main_arg2)) (ix1 j) = ((G j : ℝ) : EReal))

include hD hX hG

/-- What the point writes of the gradient of the rows, and what the three sums hold after it. -/
theorem outs (n : ℕ) (hn : n < cfg0.N) (j : Fin 2048) :
    (∀ i : Fin 512, (outsAt0 m c n hn).1 (ix2 i j) = ((dr (X (row n i)) (dn D G (row n i)) j : ℝ) : EReal))
    ∧ (outsAt0 m c n hn).2.1 (ix2 (0 : Fin 1) j) = ((acc (fun k => D k j * hat (X k) j) n : ℝ) : EReal)
    ∧ (outsAt0 m c n hn).2.2.1 (ix2 (0 : Fin 1) j) = ((acc (fun k => D k j) n : ℝ) : EReal)
    ∧ (outsAt0 m c n hn).2.2.2 (ix2 (0 : Fin 1) j) = ((acc (fun k => dr (X k) (dn D G k) j) n : ℝ) : EReal) := by
  have hd : ∀ i k, (iblk m c 0 ⟨n, hn⟩ : Vec Ideal S512x2048 .f32) (ix2 i k) = ((D (row n i) k : ℝ) : EReal) := fun i k =>
    (blk_0 m c ⟨n, hn⟩ i k).trans (hD _ _)
  have hx : ∀ i k, (iblk m c 1 ⟨n, hn⟩ : Vec Ideal S512x2048 .f32) (ix2 i k) = ((X (row n i) k : ℝ) : EReal) := fun i k =>
    (blk_1 m c ⟨n, hn⟩ i k).trans (hX _ _)
  have hg : ∀ k, (iblk m c 2 ⟨n, hn⟩ : Vec Ideal S1x2048 .f32) (ix2 (0 : Fin 1) k) = ((G k : ℝ) : EReal) := fun k =>
    (blk_2 m c ⟨n, hn⟩ k).trans (hG _)
  have hr := dr_of _ _ _ _ _ _ hd hx hg
  have hh := hat_of _ _ hx
  cases n with
  | zero =>
    rw [outsAt0_A m c ⟨0, hn⟩ rfl]
    dsimp only
    rw [out_A_3, out_A_4, out_A_5, out_A_6]
    refine ⟨fun i => hr i j, ?_, ?_, ?_⟩
    · rw [pay1_apply, pay4_apply, sum_mul_coe (fun i => hd i j) (fun i => hh i j), word_0, ← EReal.coe_add, acc_zero]
    · rw [pay2_apply, pay5_apply, sum_coe (fun i => hd i j), word_0, ← EReal.coe_add, acc_zero]
    · rw [pay3_apply, pay6_apply, sum_coe (fun i => hr i j), word_0, ← EReal.coe_add, acc_zero]
      rfl
  | succ n =>
    have hN : cfg0.N = 8 := N_0
    obtain ⟨-, h4, h5, h6⟩ := outs n (Nat.lt_of_succ_lt hn) j
    rw [outsAt0_B m c ⟨n + 1, hn⟩ (by show ¬(n + 1) % 8 = 0; omega)]
    dsimp only
    rw [out_B_3, out_B_4, out_B_5, out_B_6]
    refine ⟨fun i => hr i j, ?_, ?_, ?_⟩
    · rw [pay1_apply, sum_mul_coe (fun i => hd i j) (fun i => hh i j), acc_succ, EReal.coe_add]
      exact congrArg (· + _) h4
    · rw [pay2_apply, sum_coe (fun i => hd i j), acc_succ, EReal.coe_add]
      exact congrArg (· + _) h5
    · rw [pay3_apply, sum_coe (fun i => hr i j), acc_succ, EReal.coe_add]
      exact congrArg (· + _) h6

/-- The gradient of the rows, as an array. -/
def gx (D X : Fin 4096 → Fin 2048 → ℝ) (G : Fin 2048 → ℝ) : Vec Ideal S4096x2048 .f32 := fun i =>
  ((dr (X (i 0)) (dn D G (i 0)) (i 1) : ℝ) : EReal)

/-- The sum over the rows of a function of row and column, as an array. -/
def cols (f : Fin 4096 → Fin 2048 → ℝ) : Vec Ideal S1x2048 .f32 := fun i => ((∑ k, f k (i 1) : ℝ) : EReal)

theorem flushed_3 (t : Fin cfg0.N) : (dats m 0 c).flushed 3 t = ((cfg0.win 3).blk t).view.read (Elt Ideal) (gx D X G) := by
  rw [Value.flushed3]
  obtain ⟨e0, e1⟩ := idx_3 t
  funext y
  have hy0 : (y 0).val < 512 := (y 0).isLt
  have hy1 : (y 1).val < 2048 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 2048 + 1 * (y 1).val := rfl
  rw [View.read_apply]
  have ex : (cfg0.win 3).xinj (grid0.coords t) y = ix2 (⟨(y 0).val, hy0⟩ : Fin 512) (⟨(y 1).val, hy1⟩ : Fin 2048) := by
    funext a
    match a with
    | ⟨0, _⟩ => rfl
    | ⟨1, _⟩ => rfl
  show (outsAt0 m c t.val t.isLt).1 ((cfg0.win 3).xinj (grid0.coords t) y) = _
  rw [ex, (outs m c D X G hD hX hG t.val t.isLt _).1]
  unfold gx
  have r0 : row t.val ⟨(y 0).val, hy0⟩ = ((cfg0.win 3).blk t).view.emb y 0 :=
    Fin.ext (by rw [hb0, e0]; show t.val % 8 * 512 + (y 0).val = _; omega)
  have r1 : (⟨(y 1).val, hy1⟩ : Fin 2048) = ((cfg0.win 3).blk t).view.emb y 1 :=
    Fin.ext (by rw [hb1, e1]; show (y 1).val = _; omega)
  rw [r0, r1]
  rfl

theorem final_3 : (dats m 0 c).arrAt 3 cfg0.N = gx D X G :=
  (dats m 0 c).arrAt_eq_of_cover 3 _ (fun t _ => flushed_3 m c D X G hD hX hG t) (fun i => by
    have h0 : (i 0).val < 4096 := (i 0).isLt
    have h1 : (i 1).val < 2048 := (i 1).isLt
    have hN : cfg0.N = 8 := N_0
    have ht : (i 0).val / 512 < cfg0.N := by rw [hN]; omega
    obtain ⟨e0, e1⟩ := idx_3 ⟨(i 0).val / 512, ht⟩
    have e0' : win0_3.index ⟨(i 0).val / 512, ht⟩ (0 : Fin 2) = (i 0).val / 512 % 8 := e0
    refine ⟨⟨(i 0).val / 512, ht⟩, flush0_3 _, ?_⟩
    refine (mem_blk_3 _ i).mpr fun a => ?_
    match a with
    | ⟨0, _⟩ => show win0_3.index _ (0 : Fin 2) * 512 ≤ (i 0).val ∧ (i 0).val < win0_3.index _ (0 : Fin 2) * 512 + 512; rw [e0']; omega
    | ⟨1, _⟩ => show win0_3.index _ (1 : Fin 2) * 2048 ≤ (i 1).val ∧ (i 1).val < win0_3.index _ (1 : Fin 2) * 2048 + 2048; rw [e1]; omega)

theorem flushed_4 (t : Fin cfg0.N) (h : t.val % 8 = 7) :
    (dats m 0 c).flushed 4 t = ((cfg0.win 4).blk t).view.read (Elt Ideal) (cols (fun k j => D k j * hat (X k) j)) := by
  rw [Value.flushed4]
  obtain ⟨e0, e1⟩ := idx_4 t
  have hN : cfg0.N = 8 := N_0
  have ht : t.val = 7 := by have := t.isLt; omega
  funext y
  have hy0 : (y 0).val < 1 := (y 0).isLt
  have hy1 : (y 1).val < 2048 := (y 1).isLt
  have hb1 : (((cfg0.win 4).blk t).view.emb y 1).val = win0_4.index t (1 : Fin 2) * 2048 + 1 * (y 1).val := rfl
  rw [View.read_apply]
  have ex : (cfg0.win 4).xinj (grid0.coords t) y = ix2 (0 : Fin 1) (⟨(y 1).val, hy1⟩ : Fin 2048) := by
    funext a
    match a with
    | ⟨0, _⟩ => exact Fin.ext (by show (y 0).val = 0; omega)
    | ⟨1, _⟩ => rfl
  show (outsAt0 m c t.val t.isLt).2.1 ((cfg0.win 4).xinj (grid0.coords t) y) = _
  rw [ex, (outs m c D X G hD hX hG t.val t.isLt _).2.1, ht, acc_all]
  have r1 : (⟨(y 1).val, hy1⟩ : Fin 2048) = ((cfg0.win 4).blk t).view.emb y 1 :=
    Fin.ext (by rw [hb1, e1]; show (y 1).val = _; omega)
  rw [r1]
  rfl

theorem final_4 : (dats m 0 c).arrAt 4 cfg0.N = cols (fun k j => D k j * hat (X k) j) :=
  (dats m 0 c).arrAt_eq_of_cover 4 _ (fun t h => flushed_4 m c D X G hD hX hG t ((flush0_4 t).1 h)) (fun i => by
    have h0 : (i 0).val < 1 := (i 0).isLt
    have h1 : (i 1).val < 2048 := (i 1).isLt
    have ht : 7 < cfg0.N := by rw [show cfg0.N = 8 from N_0]; omega
    obtain ⟨e0, e1⟩ := idx_4 ⟨7, ht⟩
    refine ⟨⟨7, ht⟩, (flush0_4 _).2 rfl, ?_⟩
    refine (mem_blk_4 _ i).mpr fun a => ?_
    match a with
    | ⟨0, _⟩ => show win0_4.index _ (0 : Fin 2) * 1 ≤ (i 0).val ∧ (i 0).val < win0_4.index _ (0 : Fin 2) * 1 + 1; rw [e0]; omega
    | ⟨1, _⟩ => show win0_4.index _ (1 : Fin 2) * 2048 ≤ (i 1).val ∧ (i 1).val < win0_4.index _ (1 : Fin 2) * 2048 + 2048; rw [e1]; omega)

theorem flushed_5 (t : Fin cfg0.N) (h : t.val % 8 = 7) :
    (dats m 0 c).flushed 5 t = ((cfg0.win 5).blk t).view.read (Elt Ideal) (cols (fun k j => D k j)) := by
  rw [Value.flushed5]
  obtain ⟨e0, e1⟩ := idx_5 t
  have hN : cfg0.N = 8 := N_0
  have ht : t.val = 7 := by have := t.isLt; omega
  funext y
  have hy0 : (y 0).val < 1 := (y 0).isLt
  have hy1 : (y 1).val < 2048 := (y 1).isLt
  have hb1 : (((cfg0.win 5).blk t).view.emb y 1).val = win0_5.index t (1 : Fin 2) * 2048 + 1 * (y 1).val := rfl
  rw [View.read_apply]
  have ex : (cfg0.win 5).xinj (grid0.coords t) y = ix2 (0 : Fin 1) (⟨(y 1).val, hy1⟩ : Fin 2048) := by
    funext a
    match a with
    | ⟨0, _⟩ => exact Fin.ext (by show (y 0).val = 0; omega)
    | ⟨1, _⟩ => rfl
  show (outsAt0 m c t.val t.isLt).2.2.1 ((cfg0.win 5).xinj (grid0.coords t) y) = _
  rw [ex, (outs m c D X G hD hX hG t.val t.isLt _).2.2.1, ht, acc_all]
  have r1 : (⟨(y 1).val, hy1⟩ : Fin 2048) = ((cfg0.win 5).blk t).view.emb y 1 :=
    Fin.ext (by rw [hb1, e1]; show (y 1).val = _; omega)
  rw [r1]
  rfl

theorem final_5 : (dats m 0 c).arrAt 5 cfg0.N = cols (fun k j => D k j) :=
  (dats m 0 c).arrAt_eq_of_cover 5 _ (fun t h => flushed_5 m c D X G hD hX hG t ((flush0_5 t).1 h)) (fun i => by
    have h0 : (i 0).val < 1 := (i 0).isLt
    have h1 : (i 1).val < 2048 := (i 1).isLt
    have ht : 7 < cfg0.N := by rw [show cfg0.N = 8 from N_0]; omega
    obtain ⟨e0, e1⟩ := idx_5 ⟨7, ht⟩
    refine ⟨⟨7, ht⟩, (flush0_5 _).2 rfl, ?_⟩
    refine (mem_blk_5 _ i).mpr fun a => ?_
    match a with
    | ⟨0, _⟩ => show win0_5.index _ (0 : Fin 2) * 1 ≤ (i 0).val ∧ (i 0).val < win0_5.index _ (0 : Fin 2) * 1 + 1; rw [e0]; omega
    | ⟨1, _⟩ => show win0_5.index _ (1 : Fin 2) * 2048 ≤ (i 1).val ∧ (i 1).val < win0_5.index _ (1 : Fin 2) * 2048 + 2048; rw [e1]; omega)

theorem flushed_6 (t : Fin cfg0.N) (h : t.val % 8 = 7) :
    (dats m 0 c).flushed 6 t = ((cfg0.win 6).blk t).view.read (Elt Ideal) (cols (fun k j => dr (X k) (dn D G k) j)) := by
  rw [Value.flushed6]
  obtain ⟨e0, e1⟩ := idx_6 t
  have hN : cfg0.N = 8 := N_0
  have ht : t.val = 7 := by have := t.isLt; omega
  funext y
  have hy0 : (y 0).val < 1 := (y 0).isLt
  have hy1 : (y 1).val < 2048 := (y 1).isLt
  have hb1 : (((cfg0.win 6).blk t).view.emb y 1).val = win0_6.index t (1 : Fin 2) * 2048 + 1 * (y 1).val := rfl
  rw [View.read_apply]
  have ex : (cfg0.win 6).xinj (grid0.coords t) y = ix2 (0 : Fin 1) (⟨(y 1).val, hy1⟩ : Fin 2048) := by
    funext a
    match a with
    | ⟨0, _⟩ => exact Fin.ext (by show (y 0).val = 0; omega)
    | ⟨1, _⟩ => rfl
  show (outsAt0 m c t.val t.isLt).2.2.2 ((cfg0.win 6).xinj (grid0.coords t) y) = _
  rw [ex, (outs m c D X G hD hX hG t.val t.isLt _).2.2.2, ht, acc_all]
  have r1 : (⟨(y 1).val, hy1⟩ : Fin 2048) = ((cfg0.win 6).blk t).view.emb y 1 :=
    Fin.ext (by rw [hb1, e1]; show (y 1).val = _; omega)
  rw [r1]
  rfl

theorem final_6 : (dats m 0 c).arrAt 6 cfg0.N = cols (fun k j => dr (X k) (dn D G k) j) :=
  (dats m 0 c).arrAt_eq_of_cover 6 _ (fun t h => flushed_6 m c D X G hD hX hG t ((flush0_6 t).1 h)) (fun i => by
    have h0 : (i 0).val < 1 := (i 0).isLt
    have h1 : (i 1).val < 2048 := (i 1).isLt
    have ht : 7 < cfg0.N := by rw [show cfg0.N = 8 from N_0]; omega
    obtain ⟨e0, e1⟩ := idx_6 ⟨7, ht⟩
    refine ⟨⟨7, ht⟩, (flush0_6 _).2 rfl, ?_⟩
    refine (mem_blk_6 _ i).mpr fun a => ?_
    match a with
    | ⟨0, _⟩ => show win0_6.index _ (0 : Fin 2) * 1 ≤ (i 0).val ∧ (i 0).val < win0_6.index _ (0 : Fin 2) * 1 + 1; rw [e0]; omega
    | ⟨1, _⟩ => show win0_6.index _ (1 : Fin 2) * 2048 ≤ (i 1).val ∧ (i 1).val < win0_6.index _ (1 : Fin 2) * 2048 + 2048; rw [e1]; omega)

end Reals

/-- The kernel's four results and the reference's are the same arrays of extended reals. -/
theorem algebraic : Cert.algebraic_Kernel7Ideal_Reference7Ideal_pre_finite_ln := by
  intro m g m' g' hpre hagree
  refine ⟨fun c => (dats m 0 c).arrAt 3 cfg0.N, fun c => (dats m 0 c).arrAt 4 cfg0.N, fun c => (dats m 0 c).arrAt 5 cfg0.N,
    fun c => (dats m 0 c).arrAt 6 cfg0.N, Value.run_blocks m g, ?_⟩
  refine (θ_run Cert.Reference7Ideal.defs _ _).mono (fun r h c => ?_) (Cert.Reference7Ideal.Value.run m' g')
  obtain ⟨r3, r4, r5, r6, ra⟩ := h c
  obtain ⟨e0, e1, e2⟩ := hagree c
  have e := congrFun (hpre c) (fun a => a.elim0)
  unfold Cert.Pre_finite_ln.fn at e
  obtain ⟨e, p2⟩ := IntOp.andi_eq_one.1 e
  obtain ⟨p0, p1⟩ := IntOp.andi_eq_one.1 e
  have h0 := real_of_reduce _ _ _ _ _ p0
  have h1 := real_of_reduce _ _ _ _ _ p1
  have h2 := real_of_reduce _ _ _ _ _ p2
  have hD : ∀ i j, _ = (((fun i j => ((m (c.tc.loc main_arg0)) (ix2 i j) : EReal).toReal : Fin 4096 → Fin 2048 → ℝ) i j : ℝ) : EReal) := fun i j => h0 (ix2 i j)
  have hX : ∀ i j, _ = (((fun i j => ((m (c.tc.loc main_arg1)) (ix2 i j) : EReal).toReal : Fin 4096 → Fin 2048 → ℝ) i j : ℝ) : EReal) := fun i j => h1 (ix2 i j)
  have hG : ∀ j, _ = (((fun j => ((m (c.tc.loc main_arg2)) (ix1 j) : EReal).toReal : Fin 2048 → ℝ) j : ℝ) : EReal) := fun j => h2 (ix1 j)
  generalize (fun i j => ((m (c.tc.loc main_arg0)) (ix2 i j) : EReal).toReal : Fin 4096 → Fin 2048 → ℝ) = D at hD
  generalize (fun i j => ((m (c.tc.loc main_arg1)) (ix2 i j) : EReal).toReal : Fin 4096 → Fin 2048 → ℝ) = X at hX
  generalize (fun j => ((m (c.tc.loc main_arg2)) (ix1 j) : EReal).toReal : Fin 2048 → ℝ) = G at hG
  have kD : ∀ i : S4096x2048.Idx, (m' (c.tc.loc Cert.Reference7Ideal.main_arg0)) i = ((D (i 0) (i 1) : ℝ) : EReal) := fun i => by
    rw [e0, eq_ix2 i]; exact hD _ _
  have kX : ∀ i : S4096x2048.Idx, (m' (c.tc.loc Cert.Reference7Ideal.main_arg1)) i = ((X (i 0) (i 1) : ℝ) : EReal) := fun i => by
    rw [e1, eq_ix2 i]; exact hX _ _
  have kG : ∀ i : S2048.Idx, (m' (c.tc.loc Cert.Reference7Ideal.main_arg2)) i = ((G (i 0) : ℝ) : EReal) := fun i => by
    rw [e2, eq_ix1 i]; exact hG _
  refine ⟨r3.trans ?_, r4.trans ?_, r5.trans ?_, r6.trans ?_, ra⟩
  · refine (Cert.Reference7Ideal.Read.val_main_v66_eq m' c).trans (Eq.trans ?_ (final_3 m c D X G hD hX hG).symm)
    exact funext fun i => Cert.Reference7Ideal.Norm.v66 _ _ _ D X G kD kX kG i
  · refine (Cert.Reference7Ideal.Read.val_main_v70_eq _ _).trans (Eq.trans ?_ (final_4 m c D X G hD hX hG).symm)
    exact funext fun i => Cert.Reference7Ideal.Norm.v70 _ _ D X kD kX i
  · refine (Cert.Reference7Ideal.Read.val_main_v71_eq _).trans (Eq.trans ?_ (final_5 m c D X G hD hX hG).symm)
    exact funext fun i => Cert.Reference7Ideal.Norm.v71 _ D kD i
  · refine (Cert.Reference7Ideal.Read.val_main_v72_eq m' c).trans (Eq.trans ?_ (final_6 m c D X G hD hX hG).symm)
    exact funext fun i => Cert.Reference7Ideal.Norm.v72 _ _ _ D X G kD kX kG i

end Cert.Kernel7Ideal.Norm

end
-- ==== Proof.OutProj.Rows.lean ====
/- The output projection with its residual, and the layer norm after it: one row of each, over the extended reals. -/
module

public import Idealize.ShloMosaic.PureOps.Ideal.Laws
public import Idealize.ShloMosaic.Lib.ValueIdx

@[expose] public section

noncomputable section

namespace Cert.OutProj

open Idealize.ShloMosaic

/-- The row of the arrays a row of the `t`th block is. -/
def row (t : ℕ) (i : Fin 512) : Fin 4096 := ⟨t % 8 * 512 + i.val, by have := i.isLt; omega⟩

/-- A row of the residual: the layer's constant times the input, plus the product and the bias. -/
def res (x : Fin 2048 → EReal) (w : Fin 2048 → Fin 2048 → EReal) (h b : Fin 2048 → EReal) (j : Fin 2048) : EReal :=
  Ideal.ofBits .f32 0x3FB504F3#32 * h j + ((∑ k, x k * w k j) + b j)

/-- The mean of a row. -/
def mean (r : Fin 2048 → EReal) : EReal := Ideal.div (∑ k, r k) (Ideal.ofBits .f32 0x45000000#32)

/-- A row less its mean. -/
def off (r : Fin 2048 → EReal) (j : Fin 2048) : EReal := r j - mean r

/-- The layer norm of a row. -/
def lnorm (r g b : Fin 2048 → EReal) (j : Fin 2048) : EReal :=
  off r j * Ideal.rsqrt (mean (fun k => off r k * off r k) + Ideal.ofBits .f32 0x3727C5AC#32) * g j + b j

end Cert.OutProj

end
-- ==== Proof.OutProj.Residual.lean ====
/- The output projection with its residual: each block of rows is its rows of the whole. -/
module

public import proofs.«01_k».proof.Defs
public import proofs.«01_k».proof.Proof.OutProj.Rows
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Claim

@[expose] public section

noncomputable section

namespace Cert.Kernel9Ideal.OutProj

open Cert.Kernel9Ideal Cert.Kernel9Ideal.Gen Cert.OutProj Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

theorem pay_apply (x : Vec Ideal S512x2048 .bf16) (w : Vec Ideal S2048x2048 .bf16) (b : Vec Ideal S1x2048 .f32) (h : Vec Ideal S512x2048 .f32)
    (i : Fin 512) (j : Fin 2048) : k0_pay1 (F := Ideal) x w b h (ix2 i j)
    = res (fun k => x (ix2 i k)) (fun k j => w (ix2 k j)) (fun k => h (ix2 i k)) (fun k => b (ix2 (0 : Fin 1) k)) j := by
  unfold res
  pointwise [k0_pay1]

theorem out_eq (x : Vec Ideal S512x2048 .bf16) (w : Vec Ideal S2048x2048 .bf16) (h : Vec Ideal S512x2048 .f32) (b : Vec Ideal S1x2048 .f32) :
    out0_4 (F := Ideal) x w h b = k0_pay1 x w b h := by
  unfold out0_4
  rw [View.canon_unit_zero hz, View.ld_unit_zero (S := S512x2048) hz, View.ld_unit_zero (S := S2048x2048) hz,
    View.ld_unit_zero (S := S512x2048) hz, View.ld_unit_zero (S := S1x2048) hz]

/-- The index maps, decided over the grid. -/
theorem idx_0 : ∀ t : Fin cfg0.N, win0_0.index t (0 : Fin 2) = t.val % 8 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = t.val % 8 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = t.val % 8 ∧ win0_4.index t (1 : Fin 2) = 0 :=
  (by decide +kernel : ∀ t : Fin grid0.N, _)

theorem blk_0 (t : Fin cfg0.N) (i : Fin 512) (k : Fin 2048) :
    (iblk m c 0 t : Vec Ideal S512x2048 .bf16) (ix2 i k) = (m ((c : Thread nD τ).loc main_arg0)) (ix2 (row t.val i) k) := by
  obtain ⟨e0, e1⟩ := idx_0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * i.val = t.val % 8 * 512 + i.val; rw [e0]; omega
  | ⟨1, _⟩ => show win0_0.index t 1 * 2048 + 1 * k.val = k.val; rw [e1]; omega

theorem blk_1 (t : Fin cfg0.N) (k j : Fin 2048) :
    (iblk m c 1 t : Vec Ideal S2048x2048 .bf16) (ix2 k j) = (m ((c : Thread nD τ).loc main_arg1)) (ix2 k j) := by
  obtain ⟨e0, e1⟩ := idx_1 t
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * k.val = k.val; rw [e0]; omega
  | ⟨1, _⟩ => show win0_1.index t 1 * 2048 + 1 * j.val = j.val; rw [e1]; omega

theorem blk_2 (t : Fin cfg0.N) (i : Fin 512) (k : Fin 2048) :
    (iblk m c 2 t : Vec Ideal S512x2048 .f32) (ix2 i k) = (m ((c : Thread nD τ).loc main_arg2)) (ix2 (row t.val i) k) := by
  obtain ⟨e0, e1⟩ := idx_2 t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * i.val = t.val % 8 * 512 + i.val; rw [e0]; omega
  | ⟨1, _⟩ => show win0_2.index t 1 * 2048 + 1 * k.val = k.val; rw [e1]; omega

theorem V_main_v0 : V m c main_v0 = fun i => shapeCast S1x2048 (m ((c : Thread nD τ).loc main_arg3)) shapeCasts_S2048_S1x2048 i := by
  unfold V
  simp only [hostOps0]
  after_results_simp
  rfl

theorem blk_3 (t : Fin cfg0.N) (k : Fin 2048) :
    (iblk m c 3 t : Vec Ideal S1x2048 .f32) (ix2 (0 : Fin 1) k) = (m ((c : Thread nD τ).loc main_arg3)) (ix1 k) := by
  obtain ⟨e0, e1⟩ := idx_3 t
  have e : (iblk m c 3 t : Vec Ideal S1x2048 .f32) (ix2 (0 : Fin 1) k) = V m c main_v0 (ix2 (0 : Fin 1) k) := by
    unfold iblk
    rw [View.read_apply]
    show V m c main_v0 _ = V m c main_v0 _
    congr 1
    funext a
    apply Fin.ext
    match a with
    | ⟨0, _⟩ => show win0_3.index t 0 * 1 + 1 * 0 = 0; rw [e0]
    | ⟨1, _⟩ => show win0_3.index t 1 * 2048 + 1 * k.val = k.val; rw [e1]; omega
  rw [e, V_main_v0]
  exact shapeCast_apply _ shapeCasts_S2048_S1x2048 _ (ix1 k) (by
    rewrite [Shape.rowMajor_val_one, Shape.rowMajor_val_two]
    show k.val = 0 * 2048 + k.val
    omega)

/-- The residual, as an array. -/
def arr (x : Vec Ideal S4096x2048 .bf16) (w : Vec Ideal S2048x2048 .bf16) (h : Vec Ideal S4096x2048 .f32) (b : Vec Ideal S2048 .f32) :
    Vec Ideal S4096x2048 .f32 := fun i =>
  res (fun k => x (ix2 (i 0 : Fin 4096) k)) (fun k j => w (ix2 k j)) (fun k => h (ix2 (i 0 : Fin 4096) k)) (fun k => b (ix1 k)) (i 1)

/-- The array of the device's arguments. -/
abbrev arrOf : Vec Ideal S4096x2048 .f32 := arr (m ((c : Thread nD τ).loc main_arg0)) (m ((c : Thread nD τ).loc main_arg1))
  (m ((c : Thread nD τ).loc main_arg2)) (m ((c : Thread nD τ).loc main_arg3))

theorem pay_blk (t : Fin cfg0.N) (i : Fin 512) (j : Fin 2048) :
    k0_pay1 (F := Ideal) (iblk m c 0 t) (iblk m c 1 t) (iblk m c 3 t) (iblk m c 2 t) (ix2 i j) = arrOf m c (ix2 (row t.val i) j) := by
  rw [pay_apply]
  simp only [blk_0, blk_1, blk_2, blk_3]
  rfl

theorem flushed (t : Fin cfg0.N) : (dats m 0 c).flushed 4 t = ((cfg0.win 4).blk t).view.read (Elt Ideal) (arrOf m c) := by
  rw [Value.flushed4, out_eq]
  obtain ⟨e0, e1⟩ := idx_4 t
  funext y
  have hy0 : (y 0).val < 512 := (y 0).isLt
  have hy1 : (y 1).val < 2048 := (y 1).isLt
  rw [View.read_apply]
  have ex : (cfg0.win 4).xinj (grid0.coords t) y = ix2 (⟨(y 0).val, hy0⟩ : Fin 512) (⟨(y 1).val, hy1⟩ : Fin 2048) := by
    funext a
    match a with
    | ⟨0, _⟩ => rfl
    | ⟨1, _⟩ => rfl
  show k0_pay1 (F := Ideal) (iblk m c 0 t) (iblk m c 1 t) (iblk m c 3 t) (iblk m c 2 t) ((cfg0.win 4).xinj (grid0.coords t) y) = _
  rw [ex, pay_blk]
  congr 1
  funext a
  apply Fin.ext
  match a with
  | ⟨0, _⟩ => show t.val % 8 * 512 + (y 0).val = win0_4.index t (0 : Fin 2) * 512 + 1 * (y 0).val; rw [e0]; omega
  | ⟨1, _⟩ => show (y 1).val = win0_4.index t (1 : Fin 2) * 2048 + 1 * (y 1).val; rw [e1]; omega

theorem mem_blk (t : Fin cfg0.N) (i : S4096x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v1).slice (win0_4.rect t)).set ↔ _
  rw [View.set_slice_whole, Rect.mem_set_unit]
  exact Iff.rfl

theorem final : (dats m 0 c).arrAt 4 cfg0.N = arrOf m c :=
  (dats m 0 c).arrAt_eq_of_cover 4 _ (fun t _ => flushed m c t) (fun i => by
    have h0 : (i 0).val < 4096 := (i 0).isLt
    have h1 : (i 1).val < 2048 := (i 1).isLt
    have hN : cfg0.N = 8 := N_0
    have ht : (i 0).val / 512 < cfg0.N := by rw [hN]; omega
    obtain ⟨e0, e1⟩ := idx_4 ⟨(i 0).val / 512, ht⟩
    have e0' : win0_4.index ⟨(i 0).val / 512, ht⟩ (0 : Fin 2) = (i 0).val / 512 % 8 := e0
    refine ⟨⟨(i 0).val / 512, ht⟩, flush0_4 _, (mem_blk _ i).mpr fun a => ?_⟩
    match a with
    | ⟨0, _⟩ => show win0_4.index _ (0 : Fin 2) * 512 ≤ (i 0).val ∧ (i 0).val < win0_4.index _ (0 : Fin 2) * 512 + 512; rw [e0']; omega
    | ⟨1, _⟩ => show win0_4.index _ (1 : Fin 2) * 2048 ≤ (i 1).val ∧ (i 1).val < win0_4.index _ (1 : Fin 2) * 2048 + 2048; rw [e1]; omega)

open Cert.Reference9Ideal.Read in
theorem ref_eq (x : Vec Ideal S4096x2048 .bf16) (w : Vec Ideal S2048x2048 .bf16) (h : Vec Ideal S4096x2048 .f32) (b : Vec Ideal S2048 .f32) :
    val_main_v8 (F := Ideal) x w h b = arr x w h b := by
  funext i
  rw [val_main_v8_apply, val_main_v1_apply, val_main_v0_apply, val_main_v7_apply, val_main_v4_apply, val_main_v6_apply, val_main_v5_apply]
  unfold arr res
  congr 1
  · congr 1
    exact congrArg h (eq_ix2 i)
  · congr 1
    · refine Finset.sum_congr rfl fun k _ => ?_
      rw [val_main_v2_apply, val_main_v3_apply]
      exact congrArg₂ (fun a b : EReal => a * b) (congrArg x (eq_ix2 _)) (congrArg w (eq_ix2 _))
    · exact congrArg b (eq_ix1 _)

/-- The kernel's result and the reference's are the same array of extended reals. -/
theorem algebraic : Cert.algebraic_Kernel9Ideal_Reference9Ideal := by
  intro m g m' g' hpre hagree
  refine ⟨fun c => (dats m 0 c).arrAt 4 cfg0.N, Value.run_blocks m g, ?_⟩
  refine (θ_run Cert.Reference9Ideal.defs _ _).mono (fun r h c => ?_) (Cert.Reference9Ideal.Value.run m' g')
  refine ⟨(h c).1.trans ?_, (h c).2⟩
  obtain ⟨e0, e1, e2, e3⟩ := hagree c
  refine (Cert.Reference9Ideal.Read.val_main_v8_eq _ _ _ _).trans (Eq.trans ?_ (final m c).symm)
  rw [ref_eq, e0, e1, e2, e3]

end Cert.Kernel9Ideal.OutProj

end
-- ==== Proof.OutProj.Norm.lean ====
/- The output projection with its residual and the layer norm after it: each block of rows is its rows of the whole. -/
module

public import proofs.«01_k».proof.Defs
public import proofs.«01_k».proof.Proof.OutProj.Residual
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Claim

@[expose] public section

noncomputable section

namespace Cert.Kernel8Ideal.OutProj

open Cert.Kernel8Ideal Cert.Kernel8Ideal.Gen Cert.OutProj Idealize.ShloMosaic Idealize.ShloMosaic.TcCoe Idealize.SL.Sem
open Cert.Kernel9Ideal.OutProj (hz arr)

variable (m : (ℓ : Loc nD τ sig) → Buf (Elt Ideal) ℓ) (c : Dev nD)

theorem pay2_apply (x : Vec Ideal S512x2048 .bf16) (w : Vec Ideal S2048x2048 .bf16) (b : Vec Ideal S1x2048 .f32) (h : Vec Ideal S512x2048 .f32)
    (i : Fin 512) (j : Fin 2048) : k0_pay2 (F := Ideal) x w b h (ix2 i j)
    = res (fun k => x (ix2 i k)) (fun k j => w (ix2 k j)) (fun k => h (ix2 i k)) (fun k => b (ix2 (0 : Fin 1) k)) j :=
  Cert.Kernel9Ideal.OutProj.pay_apply x w b h i j

theorem pay3_apply (x : Vec Ideal S512x2048 .bf16) (w : Vec Ideal S2048x2048 .bf16) (b : Vec Ideal S1x2048 .f32) (h : Vec Ideal S512x2048 .f32)
    (g e : Vec Ideal S1x2048 .f32) (i : Fin 512) (j : Fin 2048) : k0_pay3 (F := Ideal) x w b h g e (ix2 i j)
    = lnorm (fun k => k0_pay2 (F := Ideal) x w b h (ix2 i k)) (fun k => g (ix2 (0 : Fin 1) k)) (fun k => e (ix2 (0 : Fin 1) k)) j := by
  unfold lnorm off mean
  pointwise [k0_pay3]

theorem pay1_apply (y : Vec Ideal S512x2048 .f32) (i : Fin 512) (j : Fin 2048) : k0_pay1 (F := Ideal) y (ix2 i j) = y (ix2 i j) := by
  pointwise [k0_pay1]

section Out

variable (x : Vec Ideal S512x2048 .bf16) (w : Vec Ideal S2048x2048 .bf16) (h : Vec Ideal S512x2048 .f32) (b g e : Vec Ideal S1x2048 .f32)

theorem pay4_eq : k0_pay4 (F := Ideal) x w h b g e = k0_pay3 x w b h g e := by
  unfold k0_pay4
  rw [View.ld_unit_zero (S := S512x2048) hz, View.ld_unit_zero (S := S2048x2048) hz, View.ld_unit_zero (S := S512x2048) hz,
    View.ld_unit_zero (S := S1x2048) hz, View.ld_unit_zero (S := S1x2048) hz, View.ld_unit_zero (S := S1x2048) hz]

theorem out_6 : out0_6 (F := Ideal) x w h b g e = k0_pay3 x w b h g e := by
  unfold out0_6
  rw [View.canon_unit_zero hz, pay4_eq]

theorem out_7 : out0_7 (F := Ideal) x w h b g e = k0_pay1 (k0_pay3 x w b h g e) := by
  unfold out0_7
  rw [View.canon_unit_zero hz, pay4_eq]

theorem out_8 : out0_8 (F := Ideal) x w h b g e = k0_pay2 x w b h := by
  unfold out0_8
  rw [View.canon_unit_zero hz, View.ld_unit_zero (S := S512x2048) hz, View.ld_unit_zero (S := S2048x2048) hz,
    View.ld_unit_zero (S := S512x2048) hz, View.ld_unit_zero (S := S1x2048) hz]

end Out

/-- The index maps, decided over the grid. -/
theorem idx_0 : ∀ t : Fin cfg0.N, win0_0.index t (0 : Fin 2) = t.val % 8 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = t.val % 8 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = t.val % 8 ∧ win0_6.index t (1 : Fin 2) = 0 :=
  (by decide +kernel : ∀ t : Fin grid0.N, _)
theorem idx_7 : ∀ t : Fin cfg0.N, win0_7.index t (0 : Fin 2) = t.val % 8 ∧ win0_7.index t (1 : Fin 2) = 0 :=
  (by decide +kernel : ∀ t : Fin grid0.N, _)
theorem idx_8 : ∀ t : Fin cfg0.N, win0_8.index t (0 : Fin 2) = t.val % 8 ∧ win0_8.index t (1 : Fin 2) = 0 :=
  (by decide +kernel : ∀ t : Fin grid0.N, _)

theorem blk_0 (t : Fin cfg0.N) (i : Fin 512) (k : Fin 2048) :
    (iblk m c 0 t : Vec Ideal S512x2048 .bf16) (ix2 i k) = (m ((c : Thread nD τ).loc main_arg0)) (ix2 (row t.val i) k) := by
  obtain ⟨e0, e1⟩ := idx_0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * i.val = t.val % 8 * 512 + i.val; rw [e0]; omega
  | ⟨1, _⟩ => show win0_0.index t 1 * 2048 + 1 * k.val = k.val; rw [e1]; omega

theorem blk_2 (t : Fin cfg0.N) (i : Fin 512) (k : Fin 2048) :
    (iblk m c 2 t : Vec Ideal S512x2048 .f32) (ix2 i k) = (m ((c : Thread nD τ).loc main_arg2)) (ix2 (row t.val i) k) := by
  obtain ⟨e0, e1⟩ := idx_2 t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * i.val = t.val % 8 * 512 + i.val; rw [e0]; omega
  | ⟨1, _⟩ => show win0_2.index t 1 * 2048 + 1 * k.val = k.val; rw [e1]; omega

theorem blk_1 (t : Fin cfg0.N) (k j : Fin 2048) :
    (iblk m c 1 t : Vec Ideal S2048x2048 .bf16) (ix2 k j) = (m ((c : Thread nD τ).loc main_arg1)) (ix2 k j) := by
  obtain ⟨e0, e1⟩ := idx_1 t
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * k.val = k.val; rw [e0]; omega
  | ⟨1, _⟩ => show win0_1.index t 1 * 2048 + 1 * j.val = j.val; rw [e1]; omega

/-- A line of one row, read from the vector it is. -/
theorem line (b : Vec Ideal S2048 .f32) (k : Fin 2048) : shapeCast S1x2048 b shapeCasts_S2048_S1x2048 (ix2 (0 : Fin 1) k) = b (ix1 k) :=
  shapeCast_apply _ shapeCasts_S2048_S1x2048 _ (ix1 k) (by
    rewrite [Shape.rowMajor_val_one, Shape.rowMajor_val_two]
    show k.val = 0 * 2048 + k.val
    omega)

theorem V_main_v0 : V m c main_v0 = fun i => shapeCast S1x2048 (m ((c : Thread nD τ).loc main_arg3)) shapeCasts_S2048_S1x2048 i := by
  unfold V
  simp only [hostOps0]
  after_results_simp
  rfl

theorem blk_3 (t : Fin cfg0.N) (k : Fin 2048) :
    (iblk m c 3 t : Vec Ideal S1x2048 .f32) (ix2 (0 : Fin 1) k) = (m ((c : Thread nD τ).loc main_arg3)) (ix1 k) := by
  obtain ⟨e0, e1⟩ := idx_3 t
  have e : (iblk m c 3 t : Vec Ideal S1x2048 .f32) (ix2 (0 : Fin 1) k) = V m c main_v0 (ix2 (0 : Fin 1) k) := by
    unfold iblk
    rw [View.read_apply]
    show V m c main_v0 _ = V m c main_v0 _
    congr 1
    funext a
    apply Fin.ext
    match a with
    | ⟨0, _⟩ => show win0_3.index t 0 * 1 + 1 * 0 = 0; rw [e0]
    | ⟨1, _⟩ => show win0_3.index t 1 * 2048 + 1 * k.val = k.val; rw [e1]; omega
  rw [e, V_main_v0]
  exact line _ k

theorem V_main_v1 : V m c main_v1 = fun i => shapeCast S1x2048 (m ((c : Thread nD τ).loc main_arg4)) shapeCasts_S2048_S1x2048 i := by
  unfold V
  simp only [hostOps0]
  after_results_simp
  rfl

theorem blk_4 (t : Fin cfg0.N) (k : Fin 2048) :
    (iblk m c 4 t : Vec Ideal S1x2048 .f32) (ix2 (0 : Fin 1) k) = (m ((c : Thread nD τ).loc main_arg4)) (ix1 k) := by
  obtain ⟨e0, e1⟩ := idx_4 t
  have e : (iblk m c 4 t : Vec Ideal S1x2048 .f32) (ix2 (0 : Fin 1) k) = V m c main_v1 (ix2 (0 : Fin 1) k) := by
    unfold iblk
    rw [View.read_apply]
    show V m c main_v1 _ = V m c main_v1 _
    congr 1
    funext a
    apply Fin.ext
    match a with
    | ⟨0, _⟩ => show win0_4.index t 0 * 1 + 1 * 0 = 0; rw [e0]
    | ⟨1, _⟩ => show win0_4.index t 1 * 2048 + 1 * k.val = k.val; rw [e1]; omega
  rw [e, V_main_v1]
  exact line _ k

theorem V_main_v2 : V m c main_v2 = fun i => shapeCast S1x2048 (m ((c : Thread nD τ).loc main_arg5)) shapeCasts_S2048_S1x2048 i := by
  unfold V
  simp only [hostOps0]
  after_results_simp
  rfl

theorem blk_5 (t : Fin cfg0.N) (k : Fin 2048) :
    (iblk m c 5 t : Vec Ideal S1x2048 .f32) (ix2 (0 : Fin 1) k) = (m ((c : Thread nD τ).loc main_arg5)) (ix1 k) := by
  obtain ⟨e0, e1⟩ := idx_5 t
  have e : (iblk m c 5 t : Vec Ideal S1x2048 .f32) (ix2 (0 : Fin 1) k) = V m c main_v2 (ix2 (0 : Fin 1) k) := by
    unfold iblk
    rw [View.read_apply]
    show V m c main_v2 _ = V m c main_v2 _
    congr 1
    funext a
    apply Fin.ext
    match a with
    | ⟨0, _⟩ => show win0_5.index t 0 * 1 + 1 * 0 = 0; rw [e0]
    | ⟨1, _⟩ => show win0_5.index t 1 * 2048 + 1 * k.val = k.val; rw [e1]; omega
  rw [e, V_main_v2]
  exact line _ k

/-- The layer norm of the residual, as an array. -/
def narr (x : Vec Ideal S4096x2048 .bf16) (w : Vec Ideal S2048x2048 .bf16) (h : Vec Ideal S4096x2048 .f32) (b g e : Vec Ideal S2048 .f32) :
    Vec Ideal S4096x2048 .f32 := fun i =>
  lnorm (fun k => arr x w h b (ix2 (i 0 : Fin 4096) k)) (fun k => g (ix1 k)) (fun k => e (ix1 k)) (i 1)

/-- The arrays of the device's arguments. -/
abbrev arrOf : Vec Ideal S4096x2048 .f32 := arr (m ((c : Thread nD τ).loc main_arg0)) (m ((c : Thread nD τ).loc main_arg1))
  (m ((c : Thread nD τ).loc main_arg2)) (m ((c : Thread nD τ).loc main_arg3))
abbrev narrOf : Vec Ideal S4096x2048 .f32 := narr (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))

theorem pay2_blk (t : Fin cfg0.N) (i : Fin 512) (j : Fin 2048) :
    k0_pay2 (F := Ideal) (iblk m c 0 t) (iblk m c 1 t) (iblk m c 3 t) (iblk m c 2 t) (ix2 i j) = arrOf m c (ix2 (row t.val i) j) := by
  rw [pay2_apply]
  simp only [blk_0, blk_1, blk_2, blk_3]
  rfl

theorem pay3_blk (t : Fin cfg0.N) (i : Fin 512) (j : Fin 2048) :
    k0_pay3 (F := Ideal) (iblk m c 0 t) (iblk m c 1 t) (iblk m c 3 t) (iblk m c 2 t) (iblk m c 4 t) (iblk m c 5 t) (ix2 i j)
      = narrOf m c (ix2 (row t.val i) j) := by
  rw [pay3_apply]
  simp only [pay2_blk, blk_4, blk_5]
  rfl

theorem flushed_6 (t : Fin cfg0.N) : (dats m 0 c).flushed 6 t = ((cfg0.win 6).blk t).view.read (Elt Ideal) (narrOf m c) := by
  rw [Value.flushed6, out_6]
  obtain ⟨e0, e1⟩ := idx_6 t
  funext y
  have hy0 : (y 0).val < 512 := (y 0).isLt
  have hy1 : (y 1).val < 2048 := (y 1).isLt
  rw [View.read_apply]
  have ex : (cfg0.win 6).xinj (grid0.coords t) y = ix2 (⟨(y 0).val, hy0⟩ : Fin 512) (⟨(y 1).val, hy1⟩ : Fin 2048) := by
    funext a
    match a with
    | ⟨0, _⟩ => rfl
    | ⟨1, _⟩ => rfl
  show k0_pay3 (F := Ideal) (iblk m c 0 t) (iblk m c 1 t) (iblk m c 3 t) (iblk m c 2 t) (iblk m c 4 t) (iblk m c 5 t) ((cfg0.win 6).xinj (grid0.coords t) y) = _
  rw [ex, pay3_blk]
  congr 1
  funext a
  apply Fin.ext
  match a with
  | ⟨0, _⟩ => show t.val % 8 * 512 + (y 0).val = win0_6.index t (0 : Fin 2) * 512 + 1 * (y 0).val; rw [e0]; omega
  | ⟨1, _⟩ => show (y 1).val = win0_6.index t (1 : Fin 2) * 2048 + 1 * (y 1).val; rw [e1]; omega

theorem mem_blk_6 (t : Fin cfg0.N) (i : S4096x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v3_0).slice (win0_6.rect t)).set ↔ _
  rw [View.set_slice_whole, Rect.mem_set_unit]
  exact Iff.rfl

theorem final_6 : (dats m 0 c).arrAt 6 cfg0.N = narrOf m c :=
  (dats m 0 c).arrAt_eq_of_cover 6 _ (fun t _ => flushed_6 m c t) (fun i => by
    have h0 : (i 0).val < 4096 := (i 0).isLt
    have h1 : (i 1).val < 2048 := (i 1).isLt
    have hN : cfg0.N = 8 := N_0
    have ht : (i 0).val / 512 < cfg0.N := by rw [hN]; omega
    obtain ⟨e0, e1⟩ := idx_6 ⟨(i 0).val / 512, ht⟩
    have e0' : win0_6.index ⟨(i 0).val / 512, ht⟩ (0 : Fin 2) = (i 0).val / 512 % 8 := e0
    refine ⟨⟨(i 0).val / 512, ht⟩, flush0_6 _, (mem_blk_6 _ i).mpr fun a => ?_⟩
    match a with
    | ⟨0, _⟩ => show win0_6.index _ (0 : Fin 2) * 512 ≤ (i 0).val ∧ (i 0).val < win0_6.index _ (0 : Fin 2) * 512 + 512; rw [e0']; omega
    | ⟨1, _⟩ => show win0_6.index _ (1 : Fin 2) * 2048 ≤ (i 1).val ∧ (i 1).val < win0_6.index _ (1 : Fin 2) * 2048 + 2048; rw [e1]; omega)

theorem flushed_7 (t : Fin cfg0.N) : (dats m 0 c).flushed 7 t = ((cfg0.win 7).blk t).view.read (Elt Ideal) (narrOf m c) := by
  rw [Value.flushed7, out_7]
  obtain ⟨e0, e1⟩ := idx_7 t
  funext y
  have hy0 : (y 0).val < 512 := (y 0).isLt
  have hy1 : (y 1).val < 2048 := (y 1).isLt
  rw [View.read_apply]
  have ex : (cfg0.win 7).xinj (grid0.coords t) y = ix2 (⟨(y 0).val, hy0⟩ : Fin 512) (⟨(y 1).val, hy1⟩ : Fin 2048) := by
    funext a
    match a with
    | ⟨0, _⟩ => rfl
    | ⟨1, _⟩ => rfl
  show k0_pay1 (F := Ideal) (k0_pay3 (F := Ideal) (iblk m c 0 t) (iblk m c 1 t) (iblk m c 3 t) (iblk m c 2 t) (iblk m c 4 t) (iblk m c 5 t)) ((cfg0.win 7).xinj (grid0.coords t) y) = _
  rw [ex, pay1_apply, pay3_blk]
  congr 1
  funext a
  apply Fin.ext
  match a with
  | ⟨0, _⟩ => show t.val % 8 * 512 + (y 0).val = win0_7.index t (0 : Fin 2) * 512 + 1 * (y 0).val; rw [e0]; omega
  | ⟨1, _⟩ => show (y 1).val = win0_7.index t (1 : Fin 2) * 2048 + 1 * (y 1).val; rw [e1]; omega

theorem mem_blk_7 (t : Fin cfg0.N) (i : S4096x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v3_1).slice (win0_7.rect t)).set ↔ _
  rw [View.set_slice_whole, Rect.mem_set_unit]
  exact Iff.rfl

theorem final_7 : (dats m 0 c).arrAt 7 cfg0.N = narrOf m c :=
  (dats m 0 c).arrAt_eq_of_cover 7 _ (fun t _ => flushed_7 m c t) (fun i => by
    have h0 : (i 0).val < 4096 := (i 0).isLt
    have h1 : (i 1).val < 2048 := (i 1).isLt
    have hN : cfg0.N = 8 := N_0
    have ht : (i 0).val / 512 < cfg0.N := by rw [hN]; omega
    obtain ⟨e0, e1⟩ := idx_7 ⟨(i 0).val / 512, ht⟩
    have e0' : win0_7.index ⟨(i 0).val / 512, ht⟩ (0 : Fin 2) = (i 0).val / 512 % 8 := e0
    refine ⟨⟨(i 0).val / 512, ht⟩, flush0_7 _, (mem_blk_7 _ i).mpr fun a => ?_⟩
    match a with
    | ⟨0, _⟩ => show win0_7.index _ (0 : Fin 2) * 512 ≤ (i 0).val ∧ (i 0).val < win0_7.index _ (0 : Fin 2) * 512 + 512; rw [e0']; omega
    | ⟨1, _⟩ => show win0_7.index _ (1 : Fin 2) * 2048 ≤ (i 1).val ∧ (i 1).val < win0_7.index _ (1 : Fin 2) * 2048 + 2048; rw [e1]; omega)

theorem flushed_8 (t : Fin cfg0.N) : (dats m 0 c).flushed 8 t = ((cfg0.win 8).blk t).view.read (Elt Ideal) (arrOf m c) := by
  rw [Value.flushed8, out_8]
  obtain ⟨e0, e1⟩ := idx_8 t
  funext y
  have hy0 : (y 0).val < 512 := (y 0).isLt
  have hy1 : (y 1).val < 2048 := (y 1).isLt
  rw [View.read_apply]
  have ex : (cfg0.win 8).xinj (grid0.coords t) y = ix2 (⟨(y 0).val, hy0⟩ : Fin 512) (⟨(y 1).val, hy1⟩ : Fin 2048) := by
    funext a
    match a with
    | ⟨0, _⟩ => rfl
    | ⟨1, _⟩ => rfl
  show k0_pay2 (F := Ideal) (iblk m c 0 t) (iblk m c 1 t) (iblk m c 3 t) (iblk m c 2 t) ((cfg0.win 8).xinj (grid0.coords t) y) = _
  rw [ex, pay2_blk]
  congr 1
  funext a
  apply Fin.ext
  match a with
  | ⟨0, _⟩ => show t.val % 8 * 512 + (y 0).val = win0_8.index t (0 : Fin 2) * 512 + 1 * (y 0).val; rw [e0]; omega
  | ⟨1, _⟩ => show (y 1).val = win0_8.index t (1 : Fin 2) * 2048 + 1 * (y 1).val; rw [e1]; omega

theorem mem_blk_8 (t : Fin cfg0.N) (i : S4096x2048.Idx) :
    i ∈ ((cfg0.win 8).blk t).view.set ↔ ∀ a : Fin 2, win0_8.index t a * S512x2048.size a ≤ (i a).val ∧ (i a).val < win0_8.index t a * S512x2048.size a + S512x2048.size a := by
  show i ∈ ((View.whole main_v3_2).slice (win0_8.rect t)).set ↔ _
  rw [View.set_slice_whole, Rect.mem_set_unit]
  exact Iff.rfl

theorem final_8 : (dats m 0 c).arrAt 8 cfg0.N = arrOf m c :=
  (dats m 0 c).arrAt_eq_of_cover 8 _ (fun t _ => flushed_8 m c t) (fun i => by
    have h0 : (i 0).val < 4096 := (i 0).isLt
    have h1 : (i 1).val < 2048 := (i 1).isLt
    have hN : cfg0.N = 8 := N_0
    have ht : (i 0).val / 512 < cfg0.N := by rw [hN]; omega
    obtain ⟨e0, e1⟩ := idx_8 ⟨(i 0).val / 512, ht⟩
    have e0' : win0_8.index ⟨(i 0).val / 512, ht⟩ (0 : Fin 2) = (i 0).val / 512 % 8 := e0
    refine ⟨⟨(i 0).val / 512, ht⟩, flush0_8 _, (mem_blk_8 _ i).mpr fun a => ?_⟩
    match a with
    | ⟨0, _⟩ => show win0_8.index _ (0 : Fin 2) * 512 ≤ (i 0).val ∧ (i 0).val < win0_8.index _ (0 : Fin 2) * 512 + 512; rw [e0']; omega
    | ⟨1, _⟩ => show win0_8.index _ (1 : Fin 2) * 2048 ≤ (i 1).val ∧ (i 1).val < win0_8.index _ (1 : Fin 2) * 2048 + 2048; rw [e1]; omega)

section Ref

open Cert.Reference8Ideal.Read

variable (x : Vec Ideal S4096x2048 .bf16) (w : Vec Ideal S2048x2048 .bf16) (h : Vec Ideal S4096x2048 .f32) (b g e : Vec Ideal S2048 .f32)

theorem word_0 : Ideal.ofBits .f32 0x00000000#32 = 0 := by simp [Ideal.ofBits, Ideal.ieee]

theorem ref_8 : val_main_v8 (F := Ideal) x w h b = arr x w h b := Cert.Kernel9Ideal.OutProj.ref_eq x w h b

theorem ref_12 (i : Cert.Reference8Ideal.S4096x1.Idx) :
    val_main_v12 (F := Ideal) x w h b i = mean (fun k => arr x w h b (ix2 (i 0 : Fin 4096) k)) := by
  rw [val_main_v12_apply, val_main_v11_apply, val_main_v10_apply, val_main_v9_apply, ref_8]
  refine congrArg (fun s => Ideal.div s (Ideal.ofBits .f32 0x45000000#32)) ?_
  refine (congrArg (· + _) word_0).trans ((zero_add _).trans (Finset.sum_congr rfl fun k _ => ?_))
  exact congrArg (arr x w h b) (eq_ix2 _)

theorem ref_14 (i : S4096x2048.Idx) : val_main_v14 (F := Ideal) x w h b i = off (fun k => arr x w h b (ix2 (i 0 : Fin 4096) k)) (i 1) := by
  rw [val_main_v14_apply, val_main_v13_apply, ref_12, ref_8]
  exact congrArg (· - _) (congrArg (arr x w h b) (eq_ix2 i))

theorem ref_21 (i : S4096x2048.Idx) : val_main_v21 (F := Ideal) x w h b i = off (fun k => arr x w h b (ix2 (i 0 : Fin 4096) k)) (i 1) :=
  ref_14 x w h b i

theorem ref_19 (i : Cert.Reference8Ideal.S4096x1.Idx) : val_main_v19 (F := Ideal) x w h b i
    = mean (fun k => off (fun k => arr x w h b (ix2 (i 0 : Fin 4096) k)) k * off (fun k => arr x w h b (ix2 (i 0 : Fin 4096) k)) k) := by
  rw [val_main_v19_apply, val_main_v18_apply, val_main_v17_apply, val_main_v16_apply]
  refine congrArg (fun s => Ideal.div s (Ideal.ofBits .f32 0x45000000#32)) ?_
  refine (congrArg (· + _) word_0).trans ((zero_add _).trans (Finset.sum_congr rfl fun k _ => ?_))
  rw [val_main_v15_apply, ref_14]
  rfl

theorem ref_32 : val_main_v32 (F := Ideal) x w h b g e = narr x w h b g e := by
  funext i
  rw [val_main_v32_apply, val_main_v29_apply, val_main_v26_apply, val_main_v25_apply, val_main_v24_apply, val_main_v23_apply, val_main_v22_apply,
    val_main_v28_apply, val_main_v27_apply, val_main_v31_apply, val_main_v30_apply, ref_19, ref_21]
  unfold narr lnorm
  refine congrArg₂ (fun a b : EReal => a + b) (congrArg₂ (fun a b : EReal => a * b) ?_ (congrArg g (eq_ix1 _))) (congrArg e (eq_ix1 _))
  rw [Ideal.hostUnary_rsqrt_def]
  rfl

theorem ref_33 : val_main_v33 (F := Ideal) x w h b g e = narr x w h b g e := by
  rw [← ref_32]
  rfl

end Ref

/-- The kernel's three results and the reference's are the same arrays of extended reals. -/
theorem algebraic : Cert.algebraic_Kernel8Ideal_Reference8Ideal := by
  intro m g m' g' hpre hagree
  refine ⟨fun c => (dats m 0 c).arrAt 6 cfg0.N, fun c => (dats m 0 c).arrAt 7 cfg0.N, fun c => (dats m 0 c).arrAt 8 cfg0.N, Value.run_blocks m g, ?_⟩
  refine (θ_run Cert.Reference8Ideal.defs _ _).mono (fun r h c => ?_) (Cert.Reference8Ideal.Value.run m' g')
  obtain ⟨r6, r7, r8, ra⟩ := h c
  obtain ⟨e0, e1, e2, e3, e4, e5⟩ := hagree c
  refine ⟨r6.trans ?_, r7.trans ?_, r8.trans ?_, ra⟩
  · refine (Cert.Reference8Ideal.Read.val_main_v32_eq m' c).trans (Eq.trans ?_ (final_6 m c).symm)
    rw [ref_32, e0, e1, e2, e3, e4, e5]
  · refine (Cert.Reference8Ideal.Read.val_main_v33_eq m' c).trans (Eq.trans ?_ (final_7 m c).symm)
    rw [ref_33, e0, e1, e2, e3, e4, e5]
  · refine (Cert.Reference8Ideal.Read.val_main_v8_eq _ _ _ _).trans (Eq.trans ?_ (final_8 m c).symm)
    rw [ref_8, e0, e1, e2, e3]

end Cert.Kernel8Ideal.OutProj

end
-- ==== Proof.Flash.Steps.lean ====
/- The state that the backward attention kernel carries through one key tile, as plain functions of arrays: the
   accumulators dq, dk and dv, the step of one query tile, the step of the two diagonal blocks, and the sweep over the
   query tiles below the diagonal. -/
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What one grid point reads: the query array, the key and value tiles, the output gradient, and the rows of the
    log-sum-exp and of the row sums. -/
structure Ins (F : FTy → Type) where
  q : Vec F S4096x256 .bf16
  k : Vec F S512x256 .bf16
  v : Vec F S512x128 .bf16
  o : Vec F S4096x128 .f32
  l : Vec F S1x8x512 .f32
  d : Vec F S1x8x512 .f32

/-- The three accumulators. -/
structure St (F : FTy → Type) where
  dq : Vec F S4096x256 .f32
  dk : Vec F S512x256 .f32
  dv : Vec F S512x128 .f32

/-- The offsets of query tile `r` in an array of rows, and in the arrays of one row per tile. -/
abbrev rowQ (r : ℕ) : Fin 2 → ℕ := ![512 * r, 0]
abbrev rowL (r : ℕ) : Fin 3 → ℕ := ![0, r, 0]

theorem inbQ {r : ℕ} (h : r < 8) : ∀ a, rowQ r a + S512x256.size a ≤ S4096x256.size a :=
  Fin.forall_fin_two.mpr ⟨by show 512 * r + 512 ≤ 4096; omega, le_refl _⟩
theorem inbO {r : ℕ} (h : r < 8) : ∀ a, rowQ r a + S512x128.size a ≤ S4096x128.size a :=
  Fin.forall_fin_two.mpr ⟨by show 512 * r + 512 ≤ 4096; omega, le_refl _⟩
theorem inbL {r : ℕ} (h : r < 8) : ∀ a, rowL r a + S1x1x512.size a ≤ S1x8x512.size a := by
  intro a; fin_cases a
  · exact le_refl 1
  · show r + 1 ≤ 8; omega
  · exact le_refl 512

section Tile

variable (x : Ins F) {r : ℕ} (h : r < 8)

/-- Query tile `r` of each array. -/
def qT : Vec F S512x256 .bf16 := VecWindow.window x.q (rowQ r) S512x256.size (inbQ h)
def oT : Vec F S512x128 .f32 := VecWindow.window x.o (rowQ r) S512x128.size (inbO h)
def lT : Vec F S1x1x512 .f32 := VecWindow.window x.l (rowL r) S1x1x512.size (inbL h)
def dT : Vec F S1x1x512 .f32 := VecWindow.window x.d (rowL r) S1x1x512.size (inbL h)

/-- One query tile below the diagonal: the three accumulators after it. -/
def step (s : St F) : St F where
  dq := VecWindow.put s.dq (rowQ r) S512x256.size
    (k0_pay11 (k0_pay3 x.k) (k0_pay6 x.k (qT x h) (lT x h)) (k0_pay8 (oT x h) x.v) (dT x h)
      (VecWindow.window s.dq (rowQ r) S512x256.size (inbQ h)))
  dk := k0_pay10 (k0_pay4 (qT x h)) (k0_pay6 x.k (qT x h) (lT x h)) (k0_pay8 (oT x h) x.v) (dT x h) s.dk
  dv := k0_pay7 x.k (qT x h) (oT x h) (lT x h) s.dv

end Tile

/-- The step of tile `r`, where there is such a tile. -/
def stepN (x : Ins F) (r : ℕ) (s : St F) : St F := if h : r < 8 then step x h s else s

theorem stepN_of_lt (x : Ins F) {r : ℕ} (h : r < 8) (s : St F) : stepN x r s = step x h s := dif_pos h

/-- The steps of `n` tiles from tile `a` on. -/
def sweep (x : Ins F) (a : ℕ) (s : St F) : ℕ → St F
  | 0 => s
  | n + 1 => stepN x (a + n) (sweep x a s n)

theorem sweep_succ (x : Ins F) (a : ℕ) (s : St F) (n : ℕ) : sweep x a s (n + 1) = stepN x (a + n) (sweep x a s n) := rfl

/-! ## The two diagonal blocks -/

/-- The offsets of the lower half of query tile `b`. -/
abbrev rowH (b : ℕ) : Fin 2 → ℕ := ![512 * b + 256 * 1, 0]
abbrev rowG (b : ℕ) : Fin 2 → ℕ := ![512 * b + 256 * 0, 0]

theorem inbG {b : ℕ} (h : b < 8) : ∀ a, rowG b a + S256x256.size a ≤ S4096x256.size a :=
  Fin.forall_fin_two.mpr ⟨by show 512 * b + 256 * 0 + 256 ≤ 4096; omega, le_refl _⟩
theorem inbGo {b : ℕ} (h : b < 8) : ∀ a, rowG b a + S256x128.size a ≤ S4096x128.size a :=
  Fin.forall_fin_two.mpr ⟨by show 512 * b + 256 * 0 + 256 ≤ 4096; omega, le_refl _⟩
theorem inbH {b : ℕ} (h : b < 8) : ∀ a, rowH b a + S256x256.size a ≤ S4096x256.size a :=
  Fin.forall_fin_two.mpr ⟨by show 512 * b + 256 * 1 + 256 ≤ 4096; omega, le_refl _⟩
theorem inbHo {b : ℕ} (h : b < 8) : ∀ a, rowH b a + S256x128.size a ≤ S4096x128.size a :=
  Fin.forall_fin_two.mpr ⟨by show 512 * b + 256 * 1 + 256 ≤ 4096; omega, le_refl _⟩
theorem inbGl {b : ℕ} (h : b < 8) : ∀ a, (![0, b, 0] : Fin 3 → ℕ) a + S1x1x256.size a ≤ S1x8x512.size a := by
  intro a; fin_cases a
  · exact le_refl 1
  · show b + 1 ≤ 8; omega
  · exact (by decide : 0 + 256 ≤ 512)
theorem inbHl {b : ℕ} (h : b < 8) : ∀ a, (![0, b, 256] : Fin 3 → ℕ) a + S1x1x256.size a ≤ S1x8x512.size a := by
  intro a; fin_cases a
  · exact le_refl 1
  · show b + 1 ≤ 8; omega
  · exact le_refl 512

section Diag

variable (x : Ins F) {b : ℕ} (h : b < 8)

/-- The upper halves of query tile `b` and of the key and value tiles; the lower half of the query tile. -/
def kG : Vec F S256x256 .bf16 := VecWindow.window x.k ![0, 0] S256x256.size inb_S512x256_S256x256_0_0
def vG : Vec F S256x128 .bf16 := VecWindow.window x.v ![0, 0] S256x128.size inb_S512x128_S256x128_0_0
def qG : Vec F S256x256 .bf16 := VecWindow.window x.q (rowG b) S256x256.size (inbG h)
def oG : Vec F S256x128 .f32 := VecWindow.window x.o (rowG b) S256x128.size (inbGo h)
def lG : Vec F S1x1x256 .f32 := VecWindow.window x.l ![0, b, 0] S1x1x256.size (inbGl h)
def dG : Vec F S1x1x256 .f32 := VecWindow.window x.d ![0, b, 0] S1x1x256.size (inbGl h)
def qH : Vec F S256x256 .bf16 := VecWindow.window x.q (rowH b) S256x256.size (inbH h)
def oH : Vec F S256x128 .f32 := VecWindow.window x.o (rowH b) S256x128.size (inbHo h)
def lH : Vec F S1x1x256 .f32 := VecWindow.window x.l ![0, b, 256] S1x1x256.size (inbHl h)
def dH : Vec F S1x1x256 .f32 := VecWindow.window x.d ![0, b, 256] S1x1x256.size (inbHl h)

/-- The block of the upper halves of query and key tile. -/
def diagG (s : St F) : St F where
  dq := VecWindow.put s.dq (rowG b) S256x256.size
    (k0_pay84 (k0_pay75 (kG x)) (k0_pay77 (oG x h)) (k0_pay78 (kG x) (qG x h) (lG x h)) k0_pay79 (vG x) (dG x h)
      (VecWindow.window s.dq (rowG b) S256x256.size (inbG h)))
  dk := VecWindow.put s.dk ![0, 0] S256x256.size
    (k0_pay83 (k0_pay76 (qG x h)) (k0_pay77 (oG x h)) (k0_pay78 (kG x) (qG x h) (lG x h)) k0_pay79 (vG x) (dG x h)
      (VecWindow.window s.dk ![0, 0] S256x256.size inb_S512x256_S256x256_0_0))
  dv := VecWindow.put s.dv ![0, 0] S256x128.size
    (k0_pay81 (k0_pay77 (oG x h)) (k0_pay78 (kG x) (qG x h) (lG x h)) k0_pay79
      (VecWindow.window s.dv ![0, 0] S256x128.size inb_S512x128_S256x128_0_0))

/-- The block of the lower half of the query tile and the whole key tile. -/
def diagH (s : St F) : St F where
  dq := VecWindow.put s.dq (rowH b) S256x256.size
    (k0_pay93 (k0_pay85 x.k) (k0_pay88 x.k (qH x h) (lH x h)) (k0_pay90 (oH x h) x.v) (dH x h)
      (VecWindow.window s.dq (rowH b) S256x256.size (inbH h)))
  dk := k0_pay92 (k0_pay86 (qH x h)) (k0_pay88 x.k (qH x h) (lH x h)) (k0_pay90 (oH x h) x.v) (dH x h) s.dk
  dv := k0_pay89 x.k (qH x h) (oH x h) (lH x h) s.dv

end Diag

/-- The accumulators as a key tile begins: dk and dv at zero, and dq too at the first key tile. -/
def start (b : ℕ) (dq : Vec F S4096x256 .f32) : St F := ⟨if b = 0 then k0_pay72 else dq, k0_pay73, k0_pay74⟩

/-- The accumulators after key tile `b`. -/
def after (x : Ins F) {b : ℕ} (h : b < 8) (dq : Vec F S4096x256 .f32) : St F :=
  sweep x (b + 1) (diagH x h (diagG x h (start b dq))) (7 - b)

/-- What goes out: dk's first 128 columns beside dv, dk's last 128 columns, and dq with its last 128 columns turned back. -/
def outKV (s : St F) : Vec F S512x256 .bf16 :=
  VecWindow.put (VecWindow.put (fun _ => Scalar.ofBits .bf16 0#16) ![0, 0] S512x128.size
      (k0_pay106 (VecWindow.window s.dk ![0, 0] S512x128.size inb_S512x256_S512x128_0_0)))
    ![0, 128] S512x128.size (k0_pay107 s.dv)
def outKR (s : St F) : Vec F S512x128 .f32 := VecWindow.window s.dk ![0, 128] S512x128.size inb_S512x256_S512x128_0_128
def outQ (cos sin : Vec F S4096x128 .f32) (s : St F) : Vec F S4096x256 .bf16 :=
  VecWindow.put (VecWindow.put (fun _ => Scalar.ofBits .bf16 0#16) ![0, 0] S4096x128.size
      (k0_pay1 (VecWindow.window s.dq ![0, 0] S4096x128.size inb_S4096x256_S4096x128_0_0)))
    ![0, 128] S4096x128.size (k0_pay2 (VecWindow.window s.dq ![0, 128] S4096x128.size inb_S4096x256_S4096x128_0_128) cos sin)

end Cert.KernelIdeal.Flash
-- ==== Proof.Flash.Diag.lean ====
/- The two diagonal blocks of a key tile: what the kernel stores before it goes over the tiles below the diagonal. -/
module

public import proofs.«01_k».proof.Proof.Flash.Steps

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

theorem blt (i : grid0.Coords) : (i 1).val < 8 := (i 1).isLt

theorem first_iff : ∀ i : grid0.Coords, Scalar.cmpi .ne (Scalar.extui (Scalar.cmpi .eq (BitVec.ofNat 32 (i 1).val) 0#32) : BitVec 32) 0#32 = 1#1 ↔ (i 1).val = 0 := by decide +kernel

section Reads

variable {i : grid0.Coords} {X : Ins F}

theorem read_kG {m : Memref sig .tc .vmem S512x256 .bf16} {f} (hf : m.view.read (Elt F) f = X.k) :
    kG X = m.view.readAt (Elt F) (Rect.unit (s := S512x256) ![0, 0] S256x256.size inb_S512x256_S256x256_0_0).toLoadRect f := by
  rw [View.readAt_unit _ _ _ rfl inb_S512x256_S256x256_0_0, hf]; rfl
theorem read_vG {m : Memref sig .tc .vmem S512x128 .bf16} {f} (hf : m.view.read (Elt F) f = X.v) :
    vG X = m.view.readAt (Elt F) (Rect.unit (s := S512x128) ![0, 0] S256x128.size inb_S512x128_S256x128_0_0).toLoadRect f := by
  rw [View.readAt_unit _ _ _ rfl inb_S512x128_S256x128_0_0, hf]; rfl
theorem read_qG {m : Memref sig .tc .vmem S4096x256 .bf16} {f} (hf : m.view.read (Elt F) f = X.q) :
    qG X (blt i) = m.view.readAt (Elt F) (Rect.unit (s := S4096x256) (k0_off1 i 0#32) S256x256.size (k0_off1_inb i 0)).toLoadRect f := by
  rw [View.readAt_unit _ _ _ (k0_off1_eq i 0) (inbG (blt i)), hf]; rfl
theorem read_oG {m : Memref sig .tc .vmem S4096x128 .f32} {f} (hf : m.view.read (Elt F) f = X.o) :
    oG X (blt i) = m.view.readAt (Elt F) (Rect.unit (s := S4096x128) (k0_off2 i 0#32) S256x128.size (k0_off2_inb i 0)).toLoadRect f := by
  rw [View.readAt_unit _ _ _ (k0_off2_eq i 0) (inbGo (blt i)), hf]; rfl
theorem read_lG {m : Memref sig .tc .vmem S1x8x512 .f32} {f} (hf : m.view.read (Elt F) f = X.l) :
    lG X (blt i) = m.view.readAt (Elt F) (Rect.unit (s := S1x8x512) (k0_off3 i) S1x1x256.size (k0_off3_inb i)).toLoadRect f := by
  rw [View.readAt_unit _ _ _ (k0_off3_eq i) (inbGl (blt i)), hf]; rfl
theorem read_dG {m : Memref sig .tc .vmem S1x8x512 .f32} {f} (hf : m.view.read (Elt F) f = X.d) :
    dG X (blt i) = m.view.readAt (Elt F) (Rect.unit (s := S1x8x512) (k0_off3 i) S1x1x256.size (k0_off3_inb i)).toLoadRect f := by
  rw [View.readAt_unit _ _ _ (k0_off3_eq i) (inbGl (blt i)), hf]; rfl
theorem read_qH {m : Memref sig .tc .vmem S4096x256 .bf16} {f} (hf : m.view.read (Elt F) f = X.q) :
    qH X (blt i) = m.view.readAt (Elt F) (Rect.unit (s := S4096x256) (k0_off1 i 256#32) S256x256.size (k0_off1_inb i 1)).toLoadRect f := by
  rw [View.readAt_unit _ _ _ (k0_off1_eq i 1) (inbH (blt i)), hf]; rfl
theorem read_oH {m : Memref sig .tc .vmem S4096x128 .f32} {f} (hf : m.view.read (Elt F) f = X.o) :
    oH X (blt i) = m.view.readAt (Elt F) (Rect.unit (s := S4096x128) (k0_off2 i 256#32) S256x128.size (k0_off2_inb i 1)).toLoadRect f := by
  rw [View.readAt_unit _ _ _ (k0_off2_eq i 1) (inbHo (blt i)), hf]; rfl
theorem read_lH {m : Memref sig .tc .vmem S1x8x512 .f32} {f} (hf : m.view.read (Elt F) f = X.l) :
    lH X (blt i) = m.view.readAt (Elt F) (Rect.unit (s := S1x8x512) (k0_off4 i) S1x1x256.size (k0_off4_inb i)).toLoadRect f := by
  rw [View.readAt_unit _ _ _ (k0_off4_eq i) (inbHl (blt i)), hf]; rfl
theorem read_dH {m : Memref sig .tc .vmem S1x8x512 .f32} {f} (hf : m.view.read (Elt F) f = X.d) :
    dH X (blt i) = m.view.readAt (Elt F) (Rect.unit (s := S1x8x512) (k0_off4 i) S1x1x256.size (k0_off4_inb i)).toLoadRect f := by
  rw [View.readAt_unit _ _ _ (k0_off4_eq i) (inbHl (blt i)), hf]; rfl

end Reads

theorem part12 (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .bf16) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .f32) (harg13 : arg13.IsWhole) (arg14 : Memref sig .tc .vmem S512x256 .f32) (harg14 : arg14.IsWhole) (arg15 : Memref sig .tc .vmem S512x128 .f32) (harg15 : arg15.IsWhole) (x : Ins F) (s : St F) (E)
    (K : (Σ' (_ : BitVec 32) (_ : BitVec 32) (_ : FVec F S256x256 .bf16) (_ : FVec F S256x256 .bf16) (_ : FVec F S256x128 .bf16) (_ : FVec F S256x256 .f32), IVec S256x256 1) → sProp 𝕄) :
    iprop(owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare s.dq ∗ owns (c : Thread nD τ) arg14 fullShare s.dk ∗ owns (c : Thread nD τ) arg15 fullShare s.dv ∗
      (∀ w, ∀ w', owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare (start (i 1).val s.dq).dq ∗ owns (c : Thread nD τ) arg14 fullShare (start (i 1).val s.dq).dk ∗ owns (c : Thread nD τ) arg15 fullShare (start (i 1).val s.dq).dv -∗ K ⟨w, w', k0_pay75 (kG x), k0_pay76 (qG x (blt i)), k0_pay77 (oG x (blt i)), k0_pay78 (kG x) (qG x (blt i)) (lG x (blt i)), k0_pay79⟩))
    ⊢ wp frame (wpE (defs₀ (F := F)) Variants.none c none) E (k0_part12 i arg2 harg2 arg3 harg3 arg4 harg4 arg5 harg5 arg6 harg6 arg7 harg7 arg8 harg8 arg9 harg9 arg10 harg10 arg11 harg11 arg12 harg12 arg13 harg13 arg14 harg14 arg15 harg15) K := by
  rw [k0_part12_eq_skeleton]
  unfold k0_part12_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f13, %hf13, H13⟩, ⟨%f14, %hf14, H14⟩, ⟨%f15, %hf15, H15⟩, Hk⟩
  rw [read_kG (m := arg3) hf3, read_qG (m := arg2) hf2, read_oG (m := arg5) hf5, read_lG (m := arg6) hf6]
  by_cases hz : (i 1).val = 0
  · have hc := (first_iff i).mpr hz
    sl_exec
    sl_step
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7

    isplitl [H13]
    · iexists _; isplitr; rotate_left
      · iexact H13
      · ipureintro
        rw [View.read_writes_full]; unfold start; rw [if_pos hz]
    isplitl [H14]
    · iexists _; isplitr; rotate_left
      · iexact H14
      · ipureintro; exact View.read_writes_full _ _ _ _ _
    · iexists _; isplitr; rotate_left
      · iexact H15
      · ipureintro; exact View.read_writes_full _ _ _ _ _
  · have hc : ¬ (Scalar.cmpi .ne (Scalar.extui (Scalar.cmpi .eq (BitVec.ofNat 32 (i 1).val) 0#32) : BitVec 32) 0#32 = 1#1) := fun h => hz ((first_iff i).mp h)
    sl_exec
    sl_step
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7

    isplitl [H13]
    · iexists _; isplitr; rotate_left
      · iexact H13
      · ipureintro
        rw [hf13]; unfold start; rw [if_neg hz]
    isplitl [H14]
    · iexists _; isplitr; rotate_left
      · iexact H14
      · ipureintro; exact View.read_writes_full _ _ _ _ _
    · iexists _; isplitr; rotate_left
      · iexact H15
      · ipureintro; exact View.read_writes_full _ _ _ _ _

theorem part13 (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .bf16) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .f32) (harg13 : arg13.IsWhole) (arg14 : Memref sig .tc .vmem S512x256 .f32) (harg14 : arg14.IsWhole) (arg15 : Memref sig .tc .vmem S512x128 .f32) (harg15 : arg15.IsWhole) (a1 a13 : BitVec 32) (x : Ins F) (s : St F) (E) (K : BitVec 32 → sProp 𝕄) :
    iprop(owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare s.dq ∗ owns (c : Thread nD τ) arg14 fullShare s.dk ∗ owns (c : Thread nD τ) arg15 fullShare s.dv ∗
      (∀ w, owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare (diagG x (blt i) s).dq ∗ owns (c : Thread nD τ) arg14 fullShare (diagG x (blt i) s).dk ∗ owns (c : Thread nD τ) arg15 fullShare (diagG x (blt i) s).dv -∗ K w))
    ⊢ wp frame (wpE (defs₀ (F := F)) Variants.none c none) E (k0_part13 i arg2 harg2 arg3 harg3 arg4 harg4 arg5 harg5 arg6 harg6 arg7 harg7 arg8 harg8 arg9 harg9 arg10 harg10 arg11 harg11 arg12 harg12 arg13 harg13 arg14 harg14 arg15 harg15 a1 a13 (k0_pay75 (kG x)) (k0_pay76 (qG x (blt i))) (k0_pay77 (oG x (blt i))) (k0_pay78 (kG x) (qG x (blt i)) (lG x (blt i))) k0_pay79) K := by
  rw [k0_part13_eq_skeleton]
  unfold k0_part13_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f13, %hf13, H13⟩, ⟨%f14, %hf14, H14⟩, ⟨%f15, %hf15, H15⟩, Hk⟩
  have e4 := read_vG (m := arg4) hf4
  have e7 := read_dG (i := i) (m := arg7) hf7
  sl_exec
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H13]
  · iexists _; isplitr; rotate_left
    · iexact H13
    · ipureintro
      rw [View.read_writes_cons_put _ _ _ _ _ (k0_off1_eq i 0), View.writes_nil, hf13]
      unfold diagG
      rw [e4, e7]
      refine congrArg (VecWindow.put _ _ _) (congrArg _ ?_)
      rw [View.readAt_unit _ _ _ (k0_off1_eq i 0) (inbG (blt i)), hf13]; rfl
  isplitl [H14]
  · iexists _; isplitr; rotate_left
    · iexact H14
    · ipureintro
      rw [View.read_writes_cons_put _ _ _ _ _ rfl, View.writes_nil, hf14]
      unfold diagG
      rw [e4, e7]
      refine congrArg (VecWindow.put _ _ _) (congrArg _ ?_)
      rw [View.readAt_unit _ _ _ rfl inb_S512x256_S256x256_0_0, hf14]
  · iexists _; isplitr; rotate_left
    · iexact H15
    · ipureintro
      rw [View.read_writes_cons_put _ _ _ _ _ rfl, View.writes_nil, hf15]
      unfold diagG
      refine congrArg (VecWindow.put _ _ _) (congrArg _ ?_)
      rw [View.readAt_unit _ _ _ rfl inb_S512x128_S256x128_0_0, hf15]

theorem part14 (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .bf16) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .f32) (harg13 : arg13.IsWhole) (arg14 : Memref sig .tc .vmem S512x256 .f32) (harg14 : arg14.IsWhole) (arg15 : Memref sig .tc .vmem S512x128 .f32) (harg15 : arg15.IsWhole) (a1 a71 : BitVec 32) (x : Ins F) (s : St F) (E)
    (K : (Σ' (_ : BitVec 32) (_ : FVec F S512x256 .bf16) (_ : FVec F S256x256 .bf16) (_ : FVec F S512x256 .f32) (_ : FVec F S512x256 .f32), Vec F S1x1x256 .f32) → sProp 𝕄) :
    iprop(owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare s.dq ∗ owns (c : Thread nD τ) arg14 fullShare s.dk ∗ owns (c : Thread nD τ) arg15 fullShare s.dv ∗
      (∀ w, owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare s.dq ∗ owns (c : Thread nD τ) arg14 fullShare s.dk ∗ owns (c : Thread nD τ) arg15 fullShare (diagH x (blt i) s).dv -∗ K ⟨w, k0_pay85 x.k, k0_pay86 (qH x (blt i)), k0_pay88 x.k (qH x (blt i)) (lH x (blt i)), k0_pay90 (oH x (blt i)) x.v, dH x (blt i)⟩))
    ⊢ wp frame (wpE (defs₀ (F := F)) Variants.none c none) E (k0_part14 i arg2 harg2 arg3 harg3 arg4 harg4 arg5 harg5 arg6 harg6 arg7 harg7 arg8 harg8 arg9 harg9 arg10 harg10 arg11 harg11 arg12 harg12 arg13 harg13 arg14 harg14 arg15 harg15 a1 a71) K := by
  rw [k0_part14_eq_skeleton]
  unfold k0_part14_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f13, %hf13, H13⟩, ⟨%f14, %hf14, H14⟩, ⟨%f15, %hf15, H15⟩, Hk⟩
  have e3 : x.k = arg3.view.readAt (Elt F) (Rect.unit (s := S512x256) ![0, 0] S512x256.size inb_S512x256_S512x256_0_0).toLoadRect f3 := by rw [View.readAt_full, hf3]
  have e4 : x.v = arg4.view.readAt (Elt F) (Rect.unit (s := S512x128) ![0, 0] S512x128.size inb_S512x128_S512x128_0_0).toLoadRect f4 := by rw [View.readAt_full, hf4]
  have e15 : s.dv = arg15.view.readAt (Elt F) (Rect.unit (s := S512x128) ![0, 0] S512x128.size inb_S512x128_S512x128_0_0).toLoadRect f15 := by rw [View.readAt_full, hf15]
  have e2 := read_qH (i := i) (m := arg2) hf2
  have e5 := read_oH (i := i) (m := arg5) hf5
  have e6 := read_lH (i := i) (m := arg6) hf6
  have e7 := read_dH (i := i) (m := arg7) hf7
  rw [e2, e5, e6, e7]
  rw [e3, e4]
  sl_exec
  sl_step
  iapply Hk
  isplitl [H2]
  · iexists _; isplitr; · ipureintro; exact hf2
    iexact H2
  isplitl [H3]
  · iexists _; isplitr; · ipureintro; exact hf3.trans e3
    iexact H3
  isplitl [H4]
  · iexists _; isplitr; · ipureintro; exact hf4.trans e4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H13]
  · iexists _; isplitr; · ipureintro; exact hf13
    iexact H13
  isplitl [H14]
  · iexists _; isplitr; · ipureintro; exact hf14
    iexact H14
  · iexists _; isplitr; rotate_left
    · iexact H15
    · ipureintro
      refine (View.read_writes_full _ _ _ _ _).trans ?_
      unfold diagH
      rw [e2, e3, e5, e6, e15]

theorem part15 (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .bf16) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .f32) (harg13 : arg13.IsWhole) (arg14 : Memref sig .tc .vmem S512x256 .f32) (harg14 : arg14.IsWhole) (arg15 : Memref sig .tc .vmem S512x128 .f32) (harg15 : arg15.IsWhole) (a1 a73 : BitVec 32) (x : Ins F) (s : St F) (E) (K : (Σ' (_ : BitVec 32) (_ : BitVec 32), BitVec 32) → sProp 𝕄) :
    iprop(owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare s.dq ∗ owns (c : Thread nD τ) arg14 fullShare s.dk ∗ owns (c : Thread nD τ) arg15 fullShare (diagH x (blt i) s).dv ∗
      (∀ v131, ∀ v148, owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare (diagH x (blt i) s).dq ∗ owns (c : Thread nD τ) arg14 fullShare (diagH x (blt i) s).dk ∗ owns (c : Thread nD τ) arg15 fullShare (diagH x (blt i) s).dv -∗ K ⟨v131, v148, 0#32⟩))
    ⊢ wp frame (wpE (defs₀ (F := F)) Variants.none c none) E (k0_part15 i arg2 harg2 arg3 harg3 arg4 harg4 arg5 harg5 arg6 harg6 arg7 harg7 arg8 harg8 arg9 harg9 arg10 harg10 arg11 harg11 arg12 harg12 arg13 harg13 arg14 harg14 arg15 harg15 a1 a73 (k0_pay85 x.k) (k0_pay86 (qH x (blt i))) (k0_pay88 x.k (qH x (blt i)) (lH x (blt i))) (k0_pay90 (oH x (blt i)) x.v) (dH x (blt i))) K := by
  rw [k0_part15_eq_skeleton]
  unfold k0_part15_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f13, %hf13, H13⟩, ⟨%f14, %hf14, H14⟩, ⟨%f15, %hf15, H15⟩, Hk⟩
  have e14 : s.dk = arg14.view.readAt (Elt F) (Rect.unit (s := S512x256) ![0, 0] S512x256.size inb_S512x256_S512x256_0_0).toLoadRect f14 := by rw [View.readAt_full, hf14]
  sl_exec
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H13]
  · iexists _; isplitr; rotate_left
    · iexact H13
    · ipureintro
      rw [View.read_writes_cons_put _ _ _ _ _ (k0_off1_eq i 1), View.writes_nil, hf13]
      unfold diagH
      refine congrArg (VecWindow.put _ _ _) (congrArg _ ?_)
      rw [View.readAt_unit _ _ _ (k0_off1_eq i 1) (inbH (blt i)), hf13]; rfl
  isplitl [H14]
  · iexists _; isplitr; rotate_left
    · iexact H14
    · ipureintro
      refine (View.read_writes_full _ _ _ _ _).trans ?_
      unfold diagH
      rw [e14]
  · iexists _; isplitr; · ipureintro; exact hf15
    iexact H15

end Cert.KernelIdeal.Flash
-- ==== Proof.Flash.Trip.lean ====
/- One trip of the loop over the query tiles below the diagonal: three tiles, each adding to dk and dv and storing its own
   tile of dq. -/
module

public import proofs.«01_k».proof.Proof.Flash.Steps

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

theorem off5_eq : ∀ (i : grid0.Coords) (t : Fin (k0_t1_loop i).trips) (r : Fin 3), k0_off5 i t (BitVec.ofNat 32 r.val) = ![512 * ((i 1).val + 1 + 3 * t.val + r.val), 0] := by decide +kernel
theorem off6_eq : ∀ (i : grid0.Coords) (t : Fin (k0_t1_loop i).trips) (r : Fin 3), k0_off6 i t (BitVec.ofNat 32 r.val) = ![512 * ((i 1).val + 1 + 3 * t.val + r.val), 0] := by decide +kernel
theorem off7_eq : ∀ (i : grid0.Coords) (t : Fin (k0_t1_loop i).trips) (r : Fin 3), k0_off7 i t (BitVec.ofNat 32 r.val) = ![0, (i 1).val + 1 + 3 * t.val + r.val, 0] := by decide +kernel
instance (i : grid0.Coords) (t : Fin (k0_t1_loop i).trips) : ClosedOff (k0_off5 i t 0#32) := ⟨![512 * ((i 1).val + 1 + 3 * t.val + 0), 0], off5_eq i t 0⟩
instance (i : grid0.Coords) (t : Fin (k0_t1_loop i).trips) : ClosedOff (k0_off5 i t 1#32) := ⟨![512 * ((i 1).val + 1 + 3 * t.val + 1), 0], off5_eq i t 1⟩
instance (i : grid0.Coords) (t : Fin (k0_t1_loop i).trips) : ClosedOff (k0_off5 i t 2#32) := ⟨![512 * ((i 1).val + 1 + 3 * t.val + 2), 0], off5_eq i t 2⟩

theorem lt2 : ∀ (i : grid0.Coords) (t : Fin (k0_t1_loop i).trips), (i 1).val + 1 + 3 * t.val + 2 < 8 := by decide +kernel
theorem lt1 (i : grid0.Coords) (t : Fin (k0_t1_loop i).trips) : (i 1).val + 1 + 3 * t.val + 1 < 8 := by have := lt2 i t; omega
theorem lt0 (i : grid0.Coords) (t : Fin (k0_t1_loop i).trips) : (i 1).val + 1 + 3 * t.val + 0 < 8 := by have := lt2 i t; omega

/-- What one tile stores to dq. -/
def newQ (k : Vec F S512x256 .bf16) (v : Vec F S512x128 .bf16) (q : Vec F S512x256 .bf16) (o : Vec F S512x128 .f32)
    (l d : Vec F S1x1x512 .f32) (w : Vec F S512x256 .f32) : Vec F S512x256 .f32 :=
  k0_pay11 (k0_pay3 k) (k0_pay6 k q l) (k0_pay8 o v) d w
/-- What one tile adds to dk. -/
def newK (k : Vec F S512x256 .bf16) (v : Vec F S512x128 .bf16) (q : Vec F S512x256 .bf16) (o : Vec F S512x128 .f32)
    (l d : Vec F S1x1x512 .f32) (w : Vec F S512x256 .f32) : Vec F S512x256 .f32 :=
  k0_pay10 (k0_pay4 q) (k0_pay6 k q l) (k0_pay8 o v) d w

theorem step_dq (x : Ins F) {r : ℕ} (h : r < 8) (s : St F) : (step x h s).dq = VecWindow.put s.dq (rowQ r) S512x256.size
    (newQ x.k x.v (qT x h) (oT x h) (lT x h) (dT x h) (VecWindow.window s.dq (rowQ r) S512x256.size (inbQ h))) := rfl
theorem step_dk (x : Ins F) {r : ℕ} (h : r < 8) (s : St F) : (step x h s).dk =
    newK x.k x.v (qT x h) (oT x h) (lT x h) (dT x h) s.dk := rfl
theorem step_dv (x : Ins F) {r : ℕ} (h : r < 8) (s : St F) : (step x h s).dv =
    k0_pay7 x.k (qT x h) (oT x h) (lT x h) s.dv := rfl

/-- A tile of dq is not touched by the step of another tile. -/
theorem window_step (x : Ins F) {r r' : ℕ} (h : r < 8) (h' : r' < 8) (hne : r ≠ r') (s : St F) :
    VecWindow.window (step x h s).dq (rowQ r') S512x256.size (inbQ h') = VecWindow.window s.dq (rowQ r') S512x256.size (inbQ h') :=
  VecWindow.window_put_of_disjoint _ _ _ _ _ _ _ 0 (by show 512 * r' + 512 ≤ 512 * r ∨ 512 * r + 512 ≤ 512 * r'; omega)

section Reads

variable {i : grid0.Coords} {t : Fin (k0_t1_loop i).trips}

theorem read_q {m : Memref sig .tc .vmem S4096x256 .bf16} {f} {X : Ins F} (hf : m.view.read (Elt F) f = X.q) (j : Fin 3)
    (h : (i 1).val + 1 + 3 * t.val + j.val < 8) :
    qT X h = m.view.readAt (Elt F) (Rect.unit (s := S4096x256) (k0_off5 i t (BitVec.ofNat 32 j.val)) S512x256.size (by rw [off5_eq]; exact inbQ h)).toLoadRect f := by
  rw [View.readAt_unit _ _ _ (off5_eq i t j) (inbQ h), hf]; rfl
theorem read_o {m : Memref sig .tc .vmem S4096x128 .f32} {f} {X : Ins F} (hf : m.view.read (Elt F) f = X.o) (j : Fin 3)
    (h : (i 1).val + 1 + 3 * t.val + j.val < 8) :
    oT X h = m.view.readAt (Elt F) (Rect.unit (s := S4096x128) (k0_off6 i t (BitVec.ofNat 32 j.val)) S512x128.size (by rw [off6_eq]; exact inbO h)).toLoadRect f := by
  rw [View.readAt_unit _ _ _ (off6_eq i t j) (inbO h), hf]; rfl
theorem read_l {m : Memref sig .tc .vmem S1x8x512 .f32} {f} {X : Ins F} (hf : m.view.read (Elt F) f = X.l) (j : Fin 3)
    (h : (i 1).val + 1 + 3 * t.val + j.val < 8) :
    lT X h = m.view.readAt (Elt F) (Rect.unit (s := S1x8x512) (k0_off7 i t (BitVec.ofNat 32 j.val)) S1x1x512.size (by rw [off7_eq]; exact inbL h)).toLoadRect f := by
  rw [View.readAt_unit _ _ _ (off7_eq i t j) (inbL h), hf]; rfl
theorem read_d {m : Memref sig .tc .vmem S1x8x512 .f32} {f} {X : Ins F} (hf : m.view.read (Elt F) f = X.d) (j : Fin 3)
    (h : (i 1).val + 1 + 3 * t.val + j.val < 8) :
    dT X h = m.view.readAt (Elt F) (Rect.unit (s := S1x8x512) (k0_off7 i t (BitVec.ofNat 32 j.val)) S1x1x512.size (by rw [off7_eq]; exact inbL h)).toLoadRect f := by
  rw [View.readAt_unit _ _ _ (off7_eq i t j) (inbL h), hf]; rfl

end Reads

set_option maxHeartbeats 400000 in
theorem t1_body (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .bf16) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .f32) (harg13 : arg13.IsWhole) (arg14 : Memref sig .tc .vmem S512x256 .f32) (harg14 : arg14.IsWhole) (arg15 : Memref sig .tc .vmem S512x128 .f32) (harg15 : arg15.IsWhole) (a1 : BitVec 32) (t : Fin (k0_t1_loop i).trips)
    (x : Ins F) (s : St F) (E) (K : Unit → sProp 𝕄) :
    iprop(owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare s.dq ∗ owns (c : Thread nD τ) arg14 fullShare s.dk ∗ owns (c : Thread nD τ) arg15 fullShare s.dv ∗
      (owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare (step x (lt2 i t) (step x (lt1 i t) (step x (lt0 i t) s))).dq ∗ owns (c : Thread nD τ) arg14 fullShare (step x (lt2 i t) (step x (lt1 i t) (step x (lt0 i t) s))).dk ∗ owns (c : Thread nD τ) arg15 fullShare (step x (lt2 i t) (step x (lt1 i t) (step x (lt0 i t) s))).dv -∗ K ()))
    ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 a1 0#32 t ()) K := by
  unfold k0_t1_body
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f13, %hf13, H13⟩, ⟨%f14, %hf14, H14⟩, ⟨%f15, %hf15, H15⟩, Hk⟩
  have e3 : x.k = arg3.view.readAt (Elt F) (Rect.unit (s := S512x256) ![0, 0] S512x256.size inb_S512x256_S512x256_0_0).toLoadRect f3 := by rw [View.readAt_full, hf3]
  have e4 : x.v = arg4.view.readAt (Elt F) (Rect.unit (s := S512x128) ![0, 0] S512x128.size inb_S512x128_S512x128_0_0).toLoadRect f4 := by rw [View.readAt_full, hf4]
  have q0 := read_q (m := arg2) hf2 0 (lt0 i t)
  have o0 := read_o (m := arg5) hf5 0 (lt0 i t)
  have l0 := read_l (m := arg6) hf6 0 (lt0 i t)
  have d0 := read_d (m := arg7) hf7 0 (lt0 i t)
  have q1 := read_q (m := arg2) hf2 1 (lt1 i t)
  have o1 := read_o (m := arg5) hf5 1 (lt1 i t)
  have l1 := read_l (m := arg6) hf6 1 (lt1 i t)
  have d1 := read_d (m := arg7) hf7 1 (lt1 i t)
  have q2 := read_q (m := arg2) hf2 2 (lt2 i t)
  have o2 := read_o (m := arg5) hf5 2 (lt2 i t)
  have l2 := read_l (m := arg6) hf6 2 (lt2 i t)
  have d2 := read_d (m := arg7) hf7 2 (lt2 i t)
  have w0 : VecWindow.window s.dq (rowQ ((i 1).val + 1 + 3 * t.val + 0)) S512x256.size (inbQ (lt0 i t)) = arg13.view.readAt (Elt F) (Rect.unit (s := S4096x256) (k0_off5 i t 0#32) S512x256.size (by rw [show (0#32) = BitVec.ofNat 32 (0 : Fin 3).val from rfl, off5_eq i t 0]; exact inbQ (lt0 i t))).toLoadRect f13 := by
    rw [View.readAt_unit _ _ _ (off5_eq i t 0) (inbQ (lt0 i t)), hf13]; rfl
  have w1 : VecWindow.window s.dq (rowQ ((i 1).val + 1 + 3 * t.val + 1)) S512x256.size (inbQ (lt1 i t)) = arg13.view.readAt (Elt F) (Rect.unit (s := S4096x256) (k0_off5 i t 1#32) S512x256.size (by rw [show (1#32) = BitVec.ofNat 32 (1 : Fin 3).val from rfl, off5_eq i t 1]; exact inbQ (lt1 i t))).toLoadRect f13 := by
    rw [View.readAt_unit _ _ _ (off5_eq i t 1) (inbQ (lt1 i t)), hf13]; rfl
  have w2 : VecWindow.window s.dq (rowQ ((i 1).val + 1 + 3 * t.val + 2)) S512x256.size (inbQ (lt2 i t)) = arg13.view.readAt (Elt F) (Rect.unit (s := S4096x256) (k0_off5 i t 2#32) S512x256.size (by rw [show (2#32) = BitVec.ofNat 32 (2 : Fin 3).val from rfl, off5_eq i t 2]; exact inbQ (lt2 i t))).toLoadRect f13 := by
    rw [View.readAt_unit _ _ _ (off5_eq i t 2) (inbQ (lt2 i t)), hf13]; rfl
  have e14 : s.dk = arg14.view.readAt (Elt F) (Rect.unit (s := S512x256) ![0, 0] S512x256.size inb_S512x256_S512x256_0_0).toLoadRect f14 := by rw [View.readAt_full, hf14]
  have e15 : s.dv = arg15.view.readAt (Elt F) (Rect.unit (s := S512x128) ![0, 0] S512x128.size inb_S512x128_S512x128_0_0).toLoadRect f15 := by rw [View.readAt_full, hf15]
  have n01 : (i 1).val + 1 + 3 * t.val + 0 ≠ (i 1).val + 1 + 3 * t.val + 1 := by omega
  have n02 : (i 1).val + 1 + 3 * t.val + 0 ≠ (i 1).val + 1 + 3 * t.val + 2 := by omega
  have n12 : (i 1).val + 1 + 3 * t.val + 1 ≠ (i 1).val + 1 + 3 * t.val + 2 := by omega
  sl_exec
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H13]
  · iexists _; isplitr; rotate_left
    · iexact H13
    · ipureintro
      rw [step_dq, window_step x (lt1 i t) (lt2 i t) n12, window_step x (lt0 i t) (lt2 i t) n02, step_dq, window_step x (lt0 i t) (lt1 i t) n01, step_dq]
      rw [View.read_writes_cons_put _ _ _ _ _ (off5_eq i t 2), View.read_writes_cons_put _ _ _ _ _ (off5_eq i t 1),
        View.read_writes_cons_put _ _ _ _ _ (off5_eq i t 0), View.writes_nil, hf13]
      rw [w0, w1, w2, e3, e4, q0, q1, q2, o0, o1, o2, l0, l1, l2, d0, d1, d2]
      clear e3 e4 q0 q1 q2 o0 o1 o2 l0 l1 l2 d0 d1 d2 w0 w1 w2 hf2 hf3 hf4 hf5 hf6 hf7 hf13 hf14 hf15 e14 e15 n01 n02 n12
      rfl
  isplitl [H14]
  · iexists _; isplitr; rotate_left
    · iexact H14
    · ipureintro
      refine (View.read_writes_full _ _ _ _ _).trans ?_
      rw [step_dk, step_dk, step_dk]
      rw [e14, e3, e4, q0, q1, q2, o0, o1, o2, l0, l1, l2, d0, d1, d2]
      unfold t1_body.sl.v332
      unfold t1_body.sl.H14_2
      rw [View.readCov_full]
      unfold t1_body.sl.v275
      unfold t1_body.sl.H14_1
      rw [View.readCov_full]
      rfl
  · iexists _; isplitr; rotate_left
    · iexact H15
    · ipureintro
      refine (View.read_writes_full _ _ _ _ _).trans ?_
      rw [step_dv, step_dv, step_dv]
      rw [e15, e3, q0, q1, q2, o0, o1, o2, l0, l1, l2]
      unfold t1_body.sl.v313
      unfold t1_body.sl.H15_2
      rw [View.readCov_full]
      unfold t1_body.sl.v256
      unfold t1_body.sl.H15_1
      rw [View.readCov_full]
      rfl

end Cert.KernelIdeal.Flash
-- ==== Proof.Flash.Point.lean ====
/- One grid point of the backward attention kernel: the diagonal blocks, the loop over the tiles below them, the one or
   two tiles the loop leaves, and the results of the key tile. -/
module

public import proofs.«01_k».proof.Proof.Flash.Diag
public import proofs.«01_k».proof.Proof.Flash.Trip

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

theorem trips_eq : ∀ i : grid0.Coords, (k0_t1_loop i).trips = (7 - (i 1).val) / 3 := by decide +kernel
theorem cond2_iff : ∀ i : grid0.Coords, k0_cond2 i = 1#1 ↔ (7 - (i 1).val) % 3 = 1 := by decide +kernel
theorem cond3_iff : ∀ i : grid0.Coords, k0_cond3 i = 1#1 ↔ (7 - (i 1).val) % 3 = 2 := by decide +kernel
theorem cond4_iff : ∀ i : grid0.Coords, k0_cond4 i = 1#1 ↔ (i 1).val = 7 := by decide +kernel
theorem trips2_eq (i : grid0.Coords) : (k0_t2_loop i).trips = 0 := Nat.le_zero.mp (k0_t2_abs i).2.1

/-- Three tiles of a sweep. -/
theorem sweep_trip (x : Ins F) (s : St F) (i : grid0.Coords) (t : Fin (k0_t1_loop i).trips) :
    sweep x ((i 1).val + 1) s (3 * (t.val + 1))
      = step x (lt2 i t) (step x (lt1 i t) (step x (lt0 i t) (sweep x ((i 1).val + 1) s (3 * t.val)))) := by
  show stepN x ((i 1).val + 1 + 3 * t.val + 2) (stepN x ((i 1).val + 1 + 3 * t.val + 1) (stepN x ((i 1).val + 1 + 3 * t.val + 0) _)) = _
  rw [stepN_of_lt x (lt0 i t), stepN_of_lt x (lt1 i t), stepN_of_lt x (lt2 i t)]
  rfl

theorem seven_lt : 7 < 8 := by decide
theorem six_lt : 6 < 8 := by decide

/-- Where the loop leaves no tile, one tile, or two. -/
theorem after_rem0 (x : Ins F) (i : grid0.Coords) (dq : Vec F S4096x256 .f32) (h : (7 - (i 1).val) % 3 = 0) :
    after x (blt i) dq = sweep x ((i 1).val + 1) (diagH x (blt i) (diagG x (blt i) (start (i 1).val dq))) (3 * (k0_t1_loop i).trips) := by
  rw [trips_eq i, show 3 * ((7 - (i 1).val) / 3) = 7 - (i 1).val by omega]; rfl
theorem after_rem1 (x : Ins F) (i : grid0.Coords) (dq : Vec F S4096x256 .f32) (h : (7 - (i 1).val) % 3 = 1) :
    after x (blt i) dq = step x seven_lt (sweep x ((i 1).val + 1) (diagH x (blt i) (diagG x (blt i) (start (i 1).val dq))) (3 * (k0_t1_loop i).trips)) := by
  have hb := blt i
  unfold after
  rw [trips_eq i, show 7 - (i 1).val = 3 * ((7 - (i 1).val) / 3) + 1 by omega, sweep_succ,
    show (3 * ((7 - (i 1).val) / 3) + 1) / 3 = (7 - (i 1).val) / 3 by omega,
    show (i 1).val + 1 + 3 * ((7 - (i 1).val) / 3) = 7 by omega, stepN_of_lt x seven_lt]
theorem after_rem2 (x : Ins F) (i : grid0.Coords) (dq : Vec F S4096x256 .f32) (h : (7 - (i 1).val) % 3 = 2) :
    after x (blt i) dq = step x seven_lt (step x six_lt (sweep x ((i 1).val + 1) (diagH x (blt i) (diagG x (blt i) (start (i 1).val dq))) (3 * (k0_t1_loop i).trips))) := by
  have hb := blt i
  unfold after
  rw [trips_eq i, show 7 - (i 1).val = 3 * ((7 - (i 1).val) / 3) + 1 + 1 by omega, sweep_succ, sweep_succ,
    show (3 * ((7 - (i 1).val) / 3) + 1 + 1) / 3 = (7 - (i 1).val) / 3 by omega,
    show (i 1).val + 1 + (3 * ((7 - (i 1).val) / 3) + 1) = 7 by omega,
    show (i 1).val + 1 + 3 * ((7 - (i 1).val) / 3) = 6 by omega, stepN_of_lt x six_lt, stepN_of_lt x seven_lt]

/-- Two stores of half the columns each leave nothing of what was there. -/
theorem put_cols {α : Type} {n : ℕ} (X Y : (⟨2, ![n, 256]⟩ : Shape).Idx → α) (w1 w2 : ((a : Fin 2) → Fin ((![n, 128] : Fin 2 → ℕ) a)) → α) :
    VecWindow.put (s := ⟨2, ![n, 256]⟩) (VecWindow.put (s := ⟨2, ![n, 256]⟩) X ![0, 0] ![n, 128] w1) ![0, 128] ![n, 128] w2
      = VecWindow.put (s := ⟨2, ![n, 256]⟩) (VecWindow.put (s := ⟨2, ![n, 256]⟩) Y ![0, 0] ![n, 128] w1) ![0, 128] ![n, 128] w2 := by
  funext y
  unfold VecWindow.put
  split
  · rfl
  · rename_i h2
    split
    · rfl
    · rename_i h1
      exfalso
      have hy0 : (y 0).val < n := (y 0).isLt
      have hy1 : (y 1).val < 256 := (y 1).isLt
      rcases Nat.lt_or_ge (y 1).val 128 with h | h
      · exact h1 (Fin.forall_fin_two.mpr ⟨⟨Nat.zero_le _, by show (y 0).val < 0 + n; omega⟩, ⟨Nat.zero_le _, by show (y 1).val < 0 + 128; omega⟩⟩)
      · exact h2 (Fin.forall_fin_two.mpr ⟨⟨Nat.zero_le _, by show (y 0).val < 0 + n; omega⟩, ⟨by show 128 ≤ (y 1).val; omega, by show (y 1).val < 128 + 128; omega⟩⟩)

section Tiles

variable {X : Ins F} {r : ℕ} (h : r < 8)

theorem tile_q {m : Memref sig .tc .vmem S4096x256 .bf16} {f} (hf : m.view.read (Elt F) f = X.q) {off} (ho : off = rowQ r) (inb) :
    qT X h = m.view.readAt (Elt F) (Rect.unit (s := S4096x256) off S512x256.size inb).toLoadRect f := by
  rw [View.readAt_unit _ _ _ ho (inbQ h), hf]; rfl
theorem tile_o {m : Memref sig .tc .vmem S4096x128 .f32} {f} (hf : m.view.read (Elt F) f = X.o) {off} (ho : off = rowQ r) (inb) :
    oT X h = m.view.readAt (Elt F) (Rect.unit (s := S4096x128) off S512x128.size inb).toLoadRect f := by
  rw [View.readAt_unit _ _ _ ho (inbO h), hf]; rfl
theorem tile_l {m : Memref sig .tc .vmem S1x8x512 .f32} {f} (hf : m.view.read (Elt F) f = X.l) {off} (ho : off = rowL r) (inb) :
    lT X h = m.view.readAt (Elt F) (Rect.unit (s := S1x8x512) off S1x1x512.size inb).toLoadRect f := by
  rw [View.readAt_unit _ _ _ ho (inbL h), hf]; rfl
theorem tile_d {m : Memref sig .tc .vmem S1x8x512 .f32} {f} (hf : m.view.read (Elt F) f = X.d) {off} (ho : off = rowL r) (inb) :
    dT X h = m.view.readAt (Elt F) (Rect.unit (s := S1x8x512) off S1x1x512.size inb).toLoadRect f := by
  rw [View.readAt_unit _ _ _ ho (inbL h), hf]; rfl
theorem tile_dq {m : Memref sig .tc .vmem S4096x256 .f32} {f} {S : St F} (hf : m.view.read (Elt F) f = S.dq) {off} (ho : off = rowQ r) (inb) :
    VecWindow.window S.dq (rowQ r) S512x256.size (inbQ h) = m.view.readAt (Elt F) (Rect.unit (s := S4096x256) off S512x256.size inb).toLoadRect f := by
  rw [View.readAt_unit _ _ _ ho (inbQ h), hf]

end Tiles

/-- The two stores of the key tile's packed result. -/
theorem read_kv {m : Memref sig .tc .vmem S512x256 .bf16} (f) (S : St F) (w1 w2)
    (h1 : w1 = VecWindow.window S.dk ![0, 0] S512x128.size inb_S512x256_S512x128_0_0) (h2 : w2 = S.dv) :
    m.view.read (Elt F) (m.view.writes (Elt F) f
      [⟨Rect.unit (s := S512x256) ![0, 128] S512x128.size inb_S512x256_S512x128_0_128, k0_pay107 w2⟩,
       ⟨Rect.unit (s := S512x256) ![0, 0] S512x128.size inb_S512x256_S512x128_0_0, k0_pay106 w1⟩]) = outKV S := by
  rw [View.read_writes_cons_put _ _ _ _ _ rfl, View.read_writes_cons_put _ _ _ _ _ rfl, h1, h2]
  exact put_cols _ _ _ _

set_option maxHeartbeats 1000000 in
theorem part16 (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .bf16) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .f32) (harg13 : arg13.IsWhole) (arg14 : Memref sig .tc .vmem S512x256 .f32) (harg14 : arg14.IsWhole) (arg15 : Memref sig .tc .vmem S512x128 .f32) (harg15 : arg15.IsWhole) (x : Ins F) (s : St F) (E) (K : PUnit → sProp 𝕄) :
    iprop(owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare s.dq ∗ owns (c : Thread nD τ) arg14 fullShare s.dk ∗ owns (c : Thread nD τ) arg15 fullShare s.dv ∗ (∃ d, owns (c : Thread nD τ) arg11 fullShare d) ∗ (∃ d, owns (c : Thread nD τ) arg12 fullShare d) ∗
      (owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare (after x (blt i) s.dq).dq ∗ owns (c : Thread nD τ) arg14 fullShare (after x (blt i) s.dq).dk ∗ owns (c : Thread nD τ) arg15 fullShare (after x (blt i) s.dq).dv ∗ owns (c : Thread nD τ) arg11 fullShare (outKV (after x (blt i) s.dq)) ∗ owns (c : Thread nD τ) arg12 fullShare (outKR (after x (blt i) s.dq)) -∗ K ⟨⟩))
    ⊢ wp frame (wpE (defs₀ (F := F)) Variants.none c none) E (k0_part16 i arg2 harg2 arg3 harg3 arg4 harg4 arg5 harg5 arg6 harg6 arg7 harg7 arg8 harg8 arg9 harg9 arg10 harg10 arg11 harg11 arg12 harg12 arg13 harg13 arg14 harg14 arg15 harg15) K := by
  rw [k0_part16_eq_skeleton]
  unfold k0_part16_skel
  iintro ⟨H2, H3, H4, H5, H6, H7, H13, H14, H15, Ho11, Ho12, Hk⟩
  rw [wp_bind]
  iapply (part12 c i arg2 harg2 arg3 harg3 arg4 harg4 arg5 harg5 arg6 harg6 arg7 harg7 arg8 harg8 arg9 harg9 arg10 harg10 arg11 harg11 arg12 harg12 arg13 harg13 arg14 harg14 arg15 harg15 x s E _)
  isplitl [H2]; · iexact H2
  isplitl [H3]; · iexact H3
  isplitl [H4]; · iexact H4
  isplitl [H5]; · iexact H5
  isplitl [H6]; · iexact H6
  isplitl [H7]; · iexact H7
  isplitl [H13]; · iexact H13
  isplitl [H14]; · iexact H14
  isplitl [H15]; · iexact H15
  iintro %w12 %w13 ⟨H2, H3, H4, H5, H6, H7, H13, H14, H15⟩
  rw [wp_bind]
  iapply (part13 c i arg2 harg2 arg3 harg3 arg4 harg4 arg5 harg5 arg6 harg6 arg7 harg7 arg8 harg8 arg9 harg9 arg10 harg10 arg11 harg11 arg12 harg12 arg13 harg13 arg14 harg14 arg15 harg15 _ _ x _ E _)
  isplitl [H2]; · iexact H2
  isplitl [H3]; · iexact H3
  isplitl [H4]; · iexact H4
  isplitl [H5]; · iexact H5
  isplitl [H6]; · iexact H6
  isplitl [H7]; · iexact H7
  isplitl [H13]; · iexact H13
  isplitl [H14]; · iexact H14
  isplitl [H15]; · iexact H15
  iintro %w71 ⟨H2, H3, H4, H5, H6, H7, H13, H14, H15⟩
  rw [wp_bind]
  iapply (part14 c i arg2 harg2 arg3 harg3 arg4 harg4 arg5 harg5 arg6 harg6 arg7 harg7 arg8 harg8 arg9 harg9 arg10 harg10 arg11 harg11 arg12 harg12 arg13 harg13 arg14 harg14 arg15 harg15 _ _ x _ E _)
  isplitl [H2]; · iexact H2
  isplitl [H3]; · iexact H3
  isplitl [H4]; · iexact H4
  isplitl [H5]; · iexact H5
  isplitl [H6]; · iexact H6
  isplitl [H7]; · iexact H7
  isplitl [H13]; · iexact H13
  isplitl [H14]; · iexact H14
  isplitl [H15]; · iexact H15
  iintro %w73 ⟨H2, H3, H4, H5, H6, H7, H13, H14, H15⟩
  rw [wp_bind]
  iapply (part15 c i arg2 harg2 arg3 harg3 arg4 harg4 arg5 harg5 arg6 harg6 arg7 harg7 arg8 harg8 arg9 harg9 arg10 harg10 arg11 harg11 arg12 harg12 arg13 harg13 arg14 harg14 arg15 harg15 _ _ x _ E _)
  isplitl [H2]; · iexact H2
  isplitl [H3]; · iexact H3
  isplitl [H4]; · iexact H4
  isplitl [H5]; · iexact H5
  isplitl [H6]; · iexact H6
  isplitl [H7]; · iexact H7
  isplitl [H13]; · iexact H13
  isplitl [H14]; · iexact H14
  isplitl [H15]; · iexact H15
  iintro %w131 %w148 ⟨H2, H3, H4, H5, H6, H7, H13, H14, H15⟩
  sl_exec
  sl_for (fun k _ => iprop(owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg13 fullShare (sweep x ((i 1).val + 1) (diagH x (blt i) (diagG x (blt i) (start (i 1).val s.dq))) (3 * k)).dq ∗ owns (c : Thread nD τ) arg14 fullShare (sweep x ((i 1).val + 1) (diagH x (blt i) (diagG x (blt i) (start (i 1).val s.dq))) (3 * k)).dk ∗ owns (c : Thread nD τ) arg15 fullShare (sweep x ((i 1).val + 1) (diagH x (blt i) (diagG x (blt i) (start (i 1).val s.dq))) (3 * k)).dv)) $$ [H2 H3 H4 H5 H6 H7 H13 H14 H15]
  case region =>
    intro t _
    iintro ⟨H2, H3, H4, H5, H6, H7, H13, H14, H15⟩
    iapply (t1_body c i arg2 harg2 arg3 harg3 arg4 harg4 arg5 harg5 arg6 harg6 arg7 harg7 arg8 harg8 arg9 harg9 arg10 harg10 arg11 harg11 arg12 harg12 arg13 harg13 arg14 harg14 arg15 harg15 _ t x _ E _)
    isplitl [H2]; · iexact H2
    isplitl [H3]; · iexact H3
    isplitl [H4]; · iexact H4
    isplitl [H5]; · iexact H5
    isplitl [H6]; · iexact H6
    isplitl [H7]; · iexact H7
    isplitl [H13]; · iexact H13
    isplitl [H14]; · iexact H14
    isplitl [H15]; · iexact H15
    rw [sweep_trip]
    iintro ⟨H2, H3, H4, H5, H6, H7, H13, H14, H15⟩
    isplitl [H2]; · iexact H2
    isplitl [H3]; · iexact H3
    isplitl [H4]; · iexact H4
    isplitl [H5]; · iexact H5
    isplitl [H6]; · iexact H6
    isplitl [H7]; · iexact H7
    isplitl [H13]; · iexact H13
    isplitl [H14]; · iexact H14
    iexact H15
  · isplitl [H2]; · iexact H2
    isplitl [H3]; · iexact H3
    isplitl [H4]; · iexact H4
    isplitl [H5]; · iexact H5
    isplitl [H6]; · iexact H6
    isplitl [H7]; · iexact H7
    isplitl [H13]; · iexact H13
    isplitl [H14]; · iexact H14
    iexact H15
  iintro %_ ⟨H2, H3, H4, H5, H6, H7, H13, H14, H15⟩
  generalize hS : (sweep x ((i 1).val + 1) (diagH x (blt i) (diagG x (blt i) (start (i 1).val s.dq))) (3 * (k0_t1_loop i).trips)) = S
  unfold owns
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H13 with ⟨%f13, %hf13, H13⟩
  icases H14 with ⟨%f14, %hf14, H14⟩
  icases H15 with ⟨%f15, %hf15, H15⟩
  icases Ho11 with ⟨%d11, %f11, %hf11, H11⟩
  icases Ho12 with ⟨%d12, %f12, %hf12, H12⟩
  sl_for0 (trips2_eq i)
  have h3 := Nat.mod_lt (7 - (i 1).val) (show 0 < 3 by decide)
  have h012 : (7 - (i 1).val) % 3 = 0 ∨ (7 - (i 1).val) % 3 = 1 ∨ (7 - (i 1).val) % 3 = 2 := by omega
  rcases h012 with hm | hm | hm
  · have hc2 : ¬ k0_cond2 i = 1#1 := fun h => by have := (cond2_iff i).mp h; omega
    have hc3 : ¬ k0_cond3 i = 1#1 := fun h => by have := (cond3_iff i).mp h; omega
    rw [after_rem0 x i s.dq hm, hS]
    sl_exec
    sl_step
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H13]
    · iexists _; isplitr; rotate_left
      · iexact H13
      · ipureintro
        exact hf13
    isplitl [H14]
    · iexists _; isplitr; rotate_left
      · iexact H14
      · ipureintro
        exact hf14
    isplitl [H15]
    · iexists _; isplitr; rotate_left
      · iexact H15
      · ipureintro
        exact hf15
    isplitl [H11]
    · iexists _; isplitr; rotate_left
      · iexact H11
      · ipureintro
        refine read_kv f11 S _ _ ?_ ?_
        · rw [View.readAt_unit _ _ _ rfl inb_S512x256_S512x128_0_0, hf14]
        · rw [View.readAt_full, hf15]
    · iexists _; isplitr; rotate_left
      · iexact H12
      · ipureintro
        refine (View.read_writes_full _ _ _ _ _).trans ?_
        rw [View.readAt_unit _ _ _ rfl inb_S512x256_S512x128_0_128, hf14]; rfl
  · have hc2 : k0_cond2 i = 1#1 := (cond2_iff i).mpr hm
    have hc3 : ¬ k0_cond3 i = 1#1 := fun h => by have := (cond3_iff i).mp h; omega
    rw [after_rem1 x i s.dq hm, hS]
    sl_exec
    sl_step
    iapply Hk
    have e3 : x.k = arg3.view.readAt (Elt F) (Rect.unit (s := S512x256) ![0, 0] S512x256.size inb_S512x256_S512x256_0_0).toLoadRect f3 := by rw [View.readAt_full, hf3]
    have e4 : x.v = arg4.view.readAt (Elt F) (Rect.unit (s := S512x128) ![0, 0] S512x128.size inb_S512x128_S512x128_0_0).toLoadRect f4 := by rw [View.readAt_full, hf4]
    have e14 : S.dk = arg14.view.readAt (Elt F) (Rect.unit (s := S512x256) ![0, 0] S512x256.size inb_S512x256_S512x256_0_0).toLoadRect f14 := by rw [View.readAt_full, hf14]
    have e15 : S.dv = arg15.view.readAt (Elt F) (Rect.unit (s := S512x128) ![0, 0] S512x128.size inb_S512x128_S512x128_0_0).toLoadRect f15 := by rw [View.readAt_full, hf15]
    have q := tile_q seven_lt (m := arg2) hf2 (off := ![3584, 0]) rfl inb_S4096x256_S512x256_3584_0
    have o := tile_o seven_lt (m := arg5) hf5 (off := ![3584, 0]) rfl inb_S4096x128_S512x128_3584_0
    have l := tile_l seven_lt (m := arg6) hf6 (off := ![0, 7, 0]) rfl inb_S1x8x512_S1x1x512_0_7_0
    have d := tile_d seven_lt (m := arg7) hf7 (off := ![0, 7, 0]) rfl inb_S1x8x512_S1x1x512_0_7_0
    have w := tile_dq seven_lt (m := arg13) hf13 (off := ![3584, 0]) rfl inb_S4096x256_S512x256_3584_0
    have g14 : ∀ f, arg14.view.read (Elt F) (arg14.view.writes (Elt F) f (part16.sl.H14_1 c arg2 arg3 arg4 arg5 arg6 arg7 arg14 f2 f3 f4 f5 f6 f7 f14)) = (step x seven_lt S).dk := by
      intro f
      unfold part16.sl.H14_1
      refine (View.read_writes_full _ _ _ _ _).trans ?_
      rw [step_dk, e14, e3, e4, q, o, l, d]
      rfl
    have g15 : ∀ f, arg15.view.read (Elt F) (arg15.view.writes (Elt F) f (part16.sl.H15_1 c arg2 arg3 arg5 arg6 arg15 f2 f3 f5 f6 f15)) = (step x seven_lt S).dv := by
      intro f
      unfold part16.sl.H15_1
      refine (View.read_writes_full _ _ _ _ _).trans ?_
      rw [step_dv, e15, e3, q, o, l]
      rfl
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H13]
    · iexists _; isplitr; rotate_left
      · iexact H13
      · ipureintro
        rw [View.read_writes_cons_put _ _ _ _ _ (rfl : _ = rowQ 7), View.writes_nil, hf13, step_dq, w, e3, e4, q, o, l, d]
        rfl
    isplitl [H14]
    · iexists _; isplitr; rotate_left
      · iexact H14
      · ipureintro
        exact g14 f14
    isplitl [H15]
    · iexists _; isplitr; rotate_left
      · iexact H15
      · ipureintro
        exact g15 f15
    isplitl [H11]
    · iexists _; isplitr; rotate_left
      · iexact H11
      · ipureintro
        refine read_kv f11 (step x seven_lt S) _ _ ?_ ?_
        · refine (View.readAt_unit arg14.view _ _ rfl inb_S512x256_S512x128_0_0).trans ?_
          rw [g14]
        · exact (View.readAt_full arg15.view _ _).trans (g15 _)
    · iexists _; isplitr; rotate_left
      · iexact H12
      · ipureintro
        refine (View.read_writes_full _ _ _ _ _).trans ?_
        refine (View.readAt_unit arg14.view _ _ rfl inb_S512x256_S512x128_0_128).trans ?_
        rw [g14]; rfl
  · have hc2 : ¬ k0_cond2 i = 1#1 := fun h => by have := (cond2_iff i).mp h; omega
    have hc3 : k0_cond3 i = 1#1 := (cond3_iff i).mpr hm
    rw [after_rem2 x i s.dq hm, hS]
    sl_exec
    sl_step
    iapply Hk
    have e3 : x.k = arg3.view.readAt (Elt F) (Rect.unit (s := S512x256) ![0, 0] S512x256.size inb_S512x256_S512x256_0_0).toLoadRect f3 := by rw [View.readAt_full, hf3]
    have e4 : x.v = arg4.view.readAt (Elt F) (Rect.unit (s := S512x128) ![0, 0] S512x128.size inb_S512x128_S512x128_0_0).toLoadRect f4 := by rw [View.readAt_full, hf4]
    have e14 : S.dk = arg14.view.readAt (Elt F) (Rect.unit (s := S512x256) ![0, 0] S512x256.size inb_S512x256_S512x256_0_0).toLoadRect f14 := by rw [View.readAt_full, hf14]
    have e15 : S.dv = arg15.view.readAt (Elt F) (Rect.unit (s := S512x128) ![0, 0] S512x128.size inb_S512x128_S512x128_0_0).toLoadRect f15 := by rw [View.readAt_full, hf15]
    have q := tile_q seven_lt (m := arg2) hf2 (off := ![3584, 0]) rfl inb_S4096x256_S512x256_3584_0
    have o := tile_o seven_lt (m := arg5) hf5 (off := ![3584, 0]) rfl inb_S4096x128_S512x128_3584_0
    have l := tile_l seven_lt (m := arg6) hf6 (off := ![0, 7, 0]) rfl inb_S1x8x512_S1x1x512_0_7_0
    have d := tile_d seven_lt (m := arg7) hf7 (off := ![0, 7, 0]) rfl inb_S1x8x512_S1x1x512_0_7_0
    have w := tile_dq seven_lt (m := arg13) hf13 (off := ![3584, 0]) rfl inb_S4096x256_S512x256_3584_0
    have q0 := tile_q six_lt (m := arg2) hf2 (off := ![3072, 0]) rfl inb_S4096x256_S512x256_3072_0
    have o0 := tile_o six_lt (m := arg5) hf5 (off := ![3072, 0]) rfl inb_S4096x128_S512x128_3072_0
    have l0 := tile_l six_lt (m := arg6) hf6 (off := ![0, 6, 0]) rfl inb_S1x8x512_S1x1x512_0_6_0
    have d0 := tile_d six_lt (m := arg7) hf7 (off := ![0, 6, 0]) rfl inb_S1x8x512_S1x1x512_0_6_0
    have w0 := tile_dq six_lt (m := arg13) hf13 (off := ![3072, 0]) rfl inb_S4096x256_S512x256_3072_0
    have g14 : ∀ f, arg14.view.read (Elt F) (arg14.view.writes (Elt F) f (part16.sl.H14_2 c arg2 arg3 arg4 arg5 arg6 arg7 arg14 f2 f3 f4 f5 f6 f7 f14)) = (step x seven_lt (step x six_lt S)).dk := by
      intro f
      unfold part16.sl.H14_2
      refine (View.read_writes_full _ _ _ _ _).trans ?_
      rw [step_dk, step_dk, e14, e3, e4, q, o, l, d, q0, o0, l0, d0]
      unfold part16.sl.v259
      unfold part16.sl.H14_1_1
      rw [View.readCov_full]
      rfl
    have g15 : ∀ f, arg15.view.read (Elt F) (arg15.view.writes (Elt F) f (part16.sl.H15_2 c arg2 arg3 arg5 arg6 arg15 f2 f3 f5 f6 f15)) = (step x seven_lt (step x six_lt S)).dv := by
      intro f
      unfold part16.sl.H15_2
      refine (View.read_writes_full _ _ _ _ _).trans ?_
      rw [step_dv, step_dv, e15, e3, q, o, l, q0, o0, l0]
      unfold part16.sl.r_10
      unfold part16.sl.v241
      unfold part16.sl.H15_1_1
      rw [View.readCov_full]
      rfl
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H13]
    · iexists _; isplitr; rotate_left
      · iexact H13
      · ipureintro
        rw [View.read_writes_cons_put _ _ _ _ _ (rfl : _ = rowQ 7), View.read_writes_cons_put _ _ _ _ _ (rfl : _ = rowQ 6), View.writes_nil, hf13]
        rw [step_dq, window_step x six_lt seven_lt (by decide), step_dq, w, w0, e3, e4, q, o, l, d, q0, o0, l0, d0]
        rfl
    isplitl [H14]
    · iexists _; isplitr; rotate_left
      · iexact H14
      · ipureintro
        exact g14 f14
    isplitl [H15]
    · iexists _; isplitr; rotate_left
      · iexact H15
      · ipureintro
        exact g15 f15
    isplitl [H11]
    · iexists _; isplitr; rotate_left
      · iexact H11
      · ipureintro
        refine read_kv f11 (step x seven_lt (step x six_lt S)) _ _ ?_ ?_
        · refine (View.readAt_unit arg14.view _ _ rfl inb_S512x256_S512x128_0_0).trans ?_
          rw [g14]
        · exact (View.readAt_full arg15.view _ _).trans (g15 _)
    · iexists _; isplitr; rotate_left
      · iexact H12
      · ipureintro
        refine (View.read_writes_full _ _ _ _ _).trans ?_
        refine (View.readAt_unit arg14.view _ _ rfl inb_S512x256_S512x128_0_128).trans ?_
        rw [g14]; rfl

/-- The two stores of dq's packed result. -/
theorem read_dq {m : Memref sig .tc .vmem S4096x256 .bf16} (f) (S : St F) (co si : Vec F S4096x128 .f32) (w1 w2 w3 w4)
    (h1 : w1 = VecWindow.window S.dq ![0, 0] S4096x128.size inb_S4096x256_S4096x128_0_0)
    (h2 : w2 = VecWindow.window S.dq ![0, 128] S4096x128.size inb_S4096x256_S4096x128_0_128) (h3 : w3 = co) (h4 : w4 = si) :
    m.view.read (Elt F) (m.view.writes (Elt F) f
      [⟨Rect.unit (s := S4096x256) ![0, 128] S4096x128.size inb_S4096x256_S4096x128_0_128, k0_pay2 w2 w3 w4⟩,
       ⟨Rect.unit (s := S4096x256) ![0, 0] S4096x128.size inb_S4096x256_S4096x128_0_0, k0_pay1 w1⟩]) = outQ co si S := by
  rw [View.read_writes_cons_put _ _ _ _ _ rfl, View.read_writes_cons_put _ _ _ _ _ rfl, h1, h2, h3, h4]
  exact put_cols _ _ _ _

/-- One grid point. -/
theorem point (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x256 .bf16) (harg10 : arg10.IsWhole) (arg11 : Memref sig .tc .vmem S512x256 .bf16) (harg11 : arg11.IsWhole) (arg12 : Memref sig .tc .vmem S512x128 .f32) (harg12 : arg12.IsWhole) (arg13 : Memref sig .tc .vmem S4096x256 .f32) (harg13 : arg13.IsWhole) (arg14 : Memref sig .tc .vmem S512x256 .f32) (harg14 : arg14.IsWhole) (arg15 : Memref sig .tc .vmem S512x128 .f32) (harg15 : arg15.IsWhole) (x : Ins F) (co si : Vec F S4096x128 .f32) (old : Vec F S4096x256 .bf16) (s : St F) (E) (K : PUnit → sProp 𝕄) :
    iprop(owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg8 fullShare co ∗ owns (c : Thread nD τ) arg9 fullShare si ∗ owns (c : Thread nD τ) arg10 fullShare old ∗ (∃ d, owns (c : Thread nD τ) arg11 fullShare d) ∗ (∃ d, owns (c : Thread nD τ) arg12 fullShare d) ∗ owns (c : Thread nD τ) arg13 fullShare s.dq ∗ owns (c : Thread nD τ) arg14 fullShare s.dk ∗ owns (c : Thread nD τ) arg15 fullShare s.dv ∗
      (owns (c : Thread nD τ) arg2 fullShare x.q ∗ owns (c : Thread nD τ) arg3 fullShare x.k ∗ owns (c : Thread nD τ) arg4 fullShare x.v ∗ owns (c : Thread nD τ) arg5 fullShare x.o ∗ owns (c : Thread nD τ) arg6 fullShare x.l ∗ owns (c : Thread nD τ) arg7 fullShare x.d ∗ owns (c : Thread nD τ) arg8 fullShare co ∗ owns (c : Thread nD τ) arg9 fullShare si ∗ owns (c : Thread nD τ) arg10 fullShare (if (i 1).val = 7 then outQ co si (after x (blt i) s.dq) else old) ∗ owns (c : Thread nD τ) arg11 fullShare (outKV (after x (blt i) s.dq)) ∗ owns (c : Thread nD τ) arg12 fullShare (outKR (after x (blt i) s.dq)) ∗ owns (c : Thread nD τ) arg13 fullShare (after x (blt i) s.dq).dq ∗ owns (c : Thread nD τ) arg14 fullShare (after x (blt i) s.dq).dk ∗ owns (c : Thread nD τ) arg15 fullShare (after x (blt i) s.dq).dv -∗ K ⟨⟩))
    ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15) K := by
  rw [cc0_flash_bwd_eq_skeleton]
  unfold cc0_flash_bwd_skel
  iintro ⟨H2, H3, H4, H5, H6, H7, H8, H9, H10, H11, H12, H13, H14, H15, Hk⟩
  rw [wp_bind]
  iapply (part16 c i arg2 harg2 arg3 harg3 arg4 harg4 arg5 harg5 arg6 harg6 arg7 harg7 arg8 harg8 arg9 harg9 arg10 harg10 arg11 harg11 arg12 harg12 arg13 harg13 arg14 harg14 arg15 harg15 x s E _)
  isplitl [H2]; · iexact H2
  isplitl [H3]; · iexact H3
  isplitl [H4]; · iexact H4
  isplitl [H5]; · iexact H5
  isplitl [H6]; · iexact H6
  isplitl [H7]; · iexact H7
  isplitl [H13]; · iexact H13
  isplitl [H14]; · iexact H14
  isplitl [H15]; · iexact H15
  isplitl [H11]; · iexact H11
  isplitl [H12]; · iexact H12
  iintro ⟨H2, H3, H4, H5, H6, H7, H13, H14, H15, H11, H12⟩
  by_cases hz : (i 1).val = 7
  · have hc : k0_cond4 i = 1#1 := (cond4_iff i).mpr hz
    rw [if_pos hz]
    unfold owns
    icases H8 with ⟨%f8, %hf8, H8⟩
    icases H9 with ⟨%f9, %hf9, H9⟩
    icases H10 with ⟨%f10, %hf10, H10⟩
    icases H13 with ⟨%f13, %hf13, H13⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; · ipureintro; exact hf8
      iexact H8
    isplitl [H9]
    · iexists _; isplitr; · ipureintro; exact hf9
      iexact H9
    isplitl [H10]
    · iexists _; isplitr; rotate_left
      · iexact H10
      · ipureintro
        refine read_dq f10 _ _ _ _ _ _ _ ?_ ?_ ?_ ?_
        · rw [View.readAt_unit _ _ _ rfl inb_S4096x256_S4096x128_0_0, hf13]
        · rw [View.readAt_unit _ _ _ rfl inb_S4096x256_S4096x128_0_128, hf13]
        · rw [View.readAt_full, hf8]
        · rw [View.readAt_full, hf9]
    isplitl [H11]; · iexact H11
    isplitl [H12]; · iexact H12
    isplitl [H13]
    · iexists _; isplitr; · ipureintro; exact hf13
      iexact H13
    isplitl [H14]; · iexact H14
    iexact H15
  · have hc : ¬ k0_cond4 i = 1#1 := fun h => hz ((cond4_iff i).mp h)
    rw [if_neg hz]
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.KernelIdeal.Flash
-- ==== Proof.Flash.Run.lean ====
/- The run of the backward attention kernel: what every grid point leaves, the run to the end, and the frame. -/
module

public import proofs.«01_k».proof.Proof.Flash.Point
public import proofs.«01_k».proof.Proof.Gen.KernelIdeal.Frame
public import Idealize.ShloMosaic.Lib.Claim

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the points leave -/

/-- The blocks the body reads at point `t`. -/
def insAt (c : Dev nD) (t : Fin cfg0.N) : Ins F :=
  ⟨iblk m c 0 t, iblk m c 1 t, iblk m c 2 t, iblk m c 3 t, iblk m c 4 t, iblk m c 5 t⟩

/-- The accumulators before point `n`. -/
def pre (c : Dev nD) : ℕ → St F
  | 0 => ⟨k0_pay72, k0_pay73, k0_pay74⟩
  | n + 1 => if h : n < cfg0.N then after (insAt m c ⟨n, h⟩) (blt (grid0.coords ⟨n, h⟩)) (pre c n).dq else pre c n

theorem pre_succ (c : Dev nD) (t : Fin cfg0.N) :
    pre m c (t.val + 1) = after (insAt m c t) (blt (grid0.coords t)) (pre m c t.val).dq := by
  show (if h : t.val < cfg0.N then _ else _) = _
  rw [dif_pos t.isLt]

/-- The first key tile of a head does not read the old gradient of the queries. -/
theorem after_zero (x : Ins F) {b : ℕ} (h : b < 8) (hb : b = 0) (d d' : Vec F S4096x256 .f32) : after x h d = after x h d' := by
  unfold after start
  rw [if_pos hb, if_pos hb]

/-- The accumulators' scratch buffers. -/
abbrev scM0_0 : Memref sig .tc .vmem S4096x256 .f32 := Memref.whole cc0_scratch0
abbrev scM0_1 : Memref sig .tc .vmem S512x256 .f32 := Memref.whole cc0_scratch1
abbrev scM0_2 : Memref sig .tc .vmem S512x128 .f32 := Memref.whole cc0_scratch2

theorem PhiA0_eq (c : Dev nD) : (Pipeline.ΦA spec0 c : sProp 𝕄)
    = iprop(((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The accumulators between the points. -/
def PhiS (c : Dev nD) : (n : ℕ) → n ≤ cfg0.N → sProp 𝕄
  | 0, _ => Pipeline.ΦA spec0 c
  | n + 1, _ => iprop((owns (c : Thread nD τ) scM0_0 fullShare (pre m c (n + 1)).dq ∗ owns (c : Thread nD τ) scM0_1 fullShare (pre m c (n + 1)).dk ∗ owns (c : Thread nD τ) scM0_2 fullShare (pre m c (n + 1)).dv) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop((owns (c : Thread nD τ) scM0_0 fullShare (pre m c (n + 1)).dq ∗ owns (c : Thread nD τ) scM0_1 fullShare (pre m c (n + 1)).dk ∗ owns (c : Thread nD τ) scM0_2 fullShare (pre m c (n + 1)).dv) ∗ (∃ r, prngReg c r)) := rfl

theorem PhiS_pos (c : Dev nD) (n : ℕ) (h : n ≤ cfg0.N) (hz : n ≠ 0) : PhiS m c n h = iprop((owns (c : Thread nD τ) scM0_0 fullShare (pre m c n).dq ∗ owns (c : Thread nD τ) scM0_1 fullShare (pre m c n).dk ∗ owns (c : Thread nD τ) scM0_2 fullShare (pre m c n).dv) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQ (iblk m c 6 t) (iblk m c 7 t) (pre m c (t.val + 1))
    | ⟨9, _⟩ => outKV (pre m c (t.val + 1))
    | ⟨10, _⟩ => outKR (pre m c (t.val + 1))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outQ (iblk m c 6 t) (iblk m c 7 t) (pre m c (t.val + 1)) := by dsimp only [dats]
theorem after0_9 (c : Dev nD) (t : Fin cfg0.N) : (dats m 0 c).after 9 t = outKV (pre m c (t.val + 1)) := by dsimp only [dats]
theorem after0_10 (c : Dev nD) (t : Fin cfg0.N) : (dats m 0 c).after 10 t = outKR (pre m c (t.val + 1)) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

theorem idle_8 : ∀ t : Fin cfg0.N, ¬t.val % 8 = 7 → cfg0.idle 8 (grid0.coords t) = true := by decide +kernel
theorem live_8 : ∀ t : Fin cfg0.N, t.val % 8 = 7 → cfg0.idle 8 (grid0.coords t) = false := by decide +kernel
theorem noFlush_8 (t : Fin cfg0.N) (h : ¬t.val % 8 = 7) : (cfg0.win 8).flush t = false := by
  rw [← Bool.not_eq_true, flush0_8]; exact h

theorem coord_1 (t : Fin cfg0.N) : (grid0.coords t 1).val = t.val % 8 := by
  rw [show (grid0.coords t 1).val = t.val / 1 % 8 from Pipeline.Grid.coords_val t 1 (by decide) rfl, Nat.div_one]
theorem coord_0 (t : Fin cfg0.N) : (grid0.coords t 0).val = t.val / 8 := by
  have ht : t.val < 64 := Nat.lt_of_lt_of_eq t.isLt N_0
  rw [show (grid0.coords t 0).val = t.val / 8 % 8 from Pipeline.Grid.coords_val t 0 (by decide) rfl]; omega

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1000000 in
/-- `point` at the buffers of point `t`, over any contents of the accumulators. -/
theorem point_at (c : Dev nD) (t : Fin cfg0.N) (old : Vec F S4096x256 .bf16) (s : St F) (hs : after (insAt m c t) (blt (grid0.coords t)) s.dq = pre m c (t.val + 1)) (K : PUnit → sProp 𝕄) :
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (old) ∗ (∃ d, owns (c : Thread nD τ) (st0_9 t) fullShare (d)) ∗ (∃ d, owns (c : Thread nD τ) (st0_10 t) fullShare (d)) ∗ owns (c : Thread nD τ) scM0_0 fullShare s.dq ∗ owns (c : Thread nD τ) scM0_1 fullShare s.dk ∗ owns (c : Thread nD τ) scM0_2 fullShare s.dv ∗
      (owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (if t.val % 8 = 7 then outQ (iblk m c 6 t) (iblk m c 7 t) (pre m c (t.val + 1)) else old) ∗ owns (c : Thread nD τ) (st0_9 t) fullShare (outKV (pre m c (t.val + 1))) ∗ owns (c : Thread nD τ) (st0_10 t) fullShare (outKR (pre m c (t.val + 1))) ∗ owns (c : Thread nD τ) scM0_0 fullShare (pre m c (t.val + 1)).dq ∗ owns (c : Thread nD τ) scM0_1 fullShare (pre m c (t.val + 1)).dk ∗ owns (c : Thread nD τ) scM0_2 fullShare (pre m c (t.val + 1)).dv -∗ K ⟨⟩))
    ⊢ wp frame (wpE (defs₀ (F := F)) Variants.none c none) Set.univ (bodyAt0 t) K := by
  have h := point c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scM0_0 (Memref.isWhole_whole _) scM0_1 (Memref.isWhole_whole _) scM0_2 (Memref.isWhole_whole _) (insAt m c t) (iblk m c 6 t) (iblk m c 7 t) old s Set.univ K
  rw [hs, coord_1] at h
  dsimp only [insAt] at h
  exact h

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (st0_0 t) fullShare ((dats m 0 c).after 0 t) from by
    unfold Dat.leavesExact; rw [show cfg0.idle 0 (cfg0.grid.coords t) = false from rfl], after0_0]
  rw [show (dats m 0 c).leavesExact 1 t = owns (c : Thread nD τ) (st0_1 t) fullShare ((dats m 0 c).after 1 t) from by
    unfold Dat.leavesExact; rw [show cfg0.idle 1 (cfg0.grid.coords t) = false from rfl], after0_1]
  rw [show (dats m 0 c).leavesExact 2 t = owns (c : Thread nD τ) (st0_2 t) fullShare ((dats m 0 c).after 2 t) from by
    unfold Dat.leavesExact; rw [show cfg0.idle 2 (cfg0.grid.coords t) = false from rfl], after0_2]
  rw [show (dats m 0 c).leavesExact 3 t = owns (c : Thread nD τ) (st0_3 t) fullShare ((dats m 0 c).after 3 t) from by
    unfold Dat.leavesExact; rw [show cfg0.idle 3 (cfg0.grid.coords t) = false from rfl], after0_3]
  rw [show (dats m 0 c).leavesExact 4 t = owns (c : Thread nD τ) (st0_4 t) fullShare ((dats m 0 c).after 4 t) from by
    unfold Dat.leavesExact; rw [show cfg0.idle 4 (cfg0.grid.coords t) = false from rfl], after0_4]
  rw [show (dats m 0 c).leavesExact 5 t = owns (c : Thread nD τ) (st0_5 t) fullShare ((dats m 0 c).after 5 t) from by
    unfold Dat.leavesExact; rw [show cfg0.idle 5 (cfg0.grid.coords t) = false from rfl], after0_5]
  rw [show (dats m 0 c).leavesExact 6 t = owns (c : Thread nD τ) (st0_6 t) fullShare ((dats m 0 c).after 6 t) from by
    unfold Dat.leavesExact; rw [show cfg0.idle 6 (cfg0.grid.coords t) = false from rfl], after0_6]
  rw [show (dats m 0 c).leavesExact 7 t = owns (c : Thread nD τ) (st0_7 t) fullShare ((dats m 0 c).after 7 t) from by
    unfold Dat.leavesExact; rw [show cfg0.idle 7 (cfg0.grid.coords t) = false from rfl], after0_7]
  rw [show (dats m 0 c).leavesExact 9 t = owns (c : Thread nD τ) (st0_9 t) fullShare ((dats m 0 c).after 9 t) from by
    unfold Dat.leavesExact; rw [show cfg0.idle 9 (cfg0.grid.coords t) = false from rfl], after0_9]
  rw [show (dats m 0 c).leavesExact 10 t = owns (c : Thread nD τ) (st0_10 t) fullShare ((dats m 0 c).after 10 t) from by
    unfold Dat.leavesExact; rw [show cfg0.idle 10 (cfg0.grid.coords t) = false from rfl], after0_10]
  have fin (old) : (owns (c : Thread nD τ) (st0_8 t) fullShare (if t.val % 8 = 7 then outQ (iblk m c 6 t) (iblk m c 7 t) (pre m c (t.val + 1)) else (dats m 0 c).before 8 t old) : sProp 𝕄) ⊢ (dats m 0 c).leavesExact 8 t := by
    by_cases h7 : t.val % 8 = 7
    · rw [if_pos h7, show (dats m 0 c).leavesExact 8 t = owns (c : Thread nD τ) (st0_8 t) fullShare ((dats m 0 c).after 8 t) from by
        unfold Dat.leavesExact; rw [live_8 t h7], after0_8]
    · rw [if_neg h7, Dat.leavesExact_idle (dats m 0 c) 8 t (idle_8 t h7) (noFlush_8 t h7)]
      iintro H
      iexists _; iexact H
  by_cases hz : t.val = 0
  · rw [PhiS_castSucc m c t, PhiS_zero m c _ _ hz, PhiA0_eq]
    iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (point_at m c t ((dats m 0 c).before 8 t d8) ⟨e0, e1, e2⟩ ((after_zero _ _ (by rw [coord_1, hz]) _ _).trans (pre_succ m c t).symm) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (fin d8); iexact H8
    isplitl [H9]; · iexact H9
    iexact H10
  · rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (point_at m c t ((dats m 0 c).before 8 t d8) (pre m c t.val) (pre_succ m c t).symm _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (fin d8); iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- The run to the end, with every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore counter ends at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Flash

end
-- ==== Proof.Flash.Words.lean ====
/- At words, the backward attention kernel's program and its program over named constants are one program: the named
   constants are its words. -/
module

public import proofs.«01_k».proof.Defs
public import proofs.«01_k».proof.Proof.Gen.Kernel
public import proofs.«01_k».proof.Proof.Gen.KernelIdeal

@[expose] public section

noncomputable section

namespace Cert.KernelIdeal.Flash.Words

open Idealize.ShloMosaic Idealize.SL.Sem

/-- At words a named constant is its word. -/
instance wordNamed : Named Bits where
  named _ _ {φ} bits := Scalar.ofBits φ bits

set_option maxHeartbeats 4000000 in
theorem k0_part1_eq : Cert.KernelIdeal.k0_part1 (F := Bits) = Cert.Kernel.k0_part1 (F := Bits) := rfl
set_option maxHeartbeats 4000000 in
theorem k0_part2_eq : Cert.KernelIdeal.k0_part2 (F := Bits) = Cert.Kernel.k0_part2 (F := Bits) := rfl
set_option maxHeartbeats 4000000 in
theorem k0_part3_eq : Cert.KernelIdeal.k0_part3 (F := Bits) = Cert.Kernel.k0_part3 (F := Bits) := rfl
set_option maxHeartbeats 4000000 in
theorem k0_part4_eq : Cert.KernelIdeal.k0_part4 (F := Bits) = Cert.Kernel.k0_part4 (F := Bits) := rfl
set_option maxHeartbeats 4000000 in
theorem k0_part5_eq : Cert.KernelIdeal.k0_part5 (F := Bits) = Cert.Kernel.k0_part5 (F := Bits) := rfl
set_option maxHeartbeats 4000000 in
theorem k0_part6_eq : Cert.KernelIdeal.k0_part6 (F := Bits) = Cert.Kernel.k0_part6 (F := Bits) := rfl
set_option maxHeartbeats 4000000 in
theorem k0_part7_eq : Cert.KernelIdeal.k0_part7 (F := Bits) = Cert.Kernel.k0_part7 (F := Bits) := rfl
set_option maxHeartbeats 4000000 in
theorem k0_part8_eq : Cert.KernelIdeal.k0_part8 (F := Bits) = Cert.Kernel.k0_part8 (F := Bits) := rfl
set_option maxHeartbeats 4000000 in
theorem k0_part9_eq : Cert.KernelIdeal.k0_part9 (F := Bits) = Cert.Kernel.k0_part9 (F := Bits) := rfl
set_option maxHeartbeats 4000000 in
theorem k0_part10_eq : Cert.KernelIdeal.k0_part10 (F := Bits) = Cert.Kernel.k0_part10 (F := Bits) := rfl
set_option maxHeartbeats 4000000 in
theorem k0_part11_eq : Cert.KernelIdeal.k0_part11 (F := Bits) = Cert.Kernel.k0_part11 (F := Bits) := rfl
set_option maxHeartbeats 4000000 in
theorem k0_part12_eq : Cert.KernelIdeal.k0_part12 (F := Bits) = Cert.Kernel.k0_part12 (F := Bits) := rfl
set_option maxHeartbeats 4000000 in
theorem k0_part13_eq : Cert.KernelIdeal.k0_part13 (F := Bits) = Cert.Kernel.k0_part13 (F := Bits) := rfl
set_option maxHeartbeats 4000000 in
theorem k0_part14_eq : Cert.KernelIdeal.k0_part14 (F := Bits) = Cert.Kernel.k0_part14 (F := Bits) := rfl
set_option maxHeartbeats 4000000 in
theorem k0_part15_eq : Cert.KernelIdeal.k0_part15 (F := Bits) = Cert.Kernel.k0_part15 (F := Bits) := rfl
set_option maxHeartbeats 4000000 in
theorem k0_part16_eq : Cert.KernelIdeal.k0_part16 (F := Bits) = Cert.Kernel.k0_part16 (F := Bits) := rfl
set_option maxHeartbeats 4000000 in
theorem cc0_flash_bwd_eq : Cert.KernelIdeal.cc0_flash_bwd (F := Bits) = Cert.Kernel.cc0_flash_bwd (F := Bits) := rfl

set_option maxHeartbeats 2000000 in
theorem defs₀_eq : Cert.KernelIdeal.defs₀ (F := Bits) = Cert.Kernel.defs₀ (F := Bits) := by
  unfold Cert.KernelIdeal.defs₀
  rw [cc0_flash_bwd_eq]
  unfold Cert.Kernel.defs₀
  refine congrArg Defs.onTc (funext fun x => funext fun y => ?_)
  match x, y with
  | 0, (t, s) => rfl
  | ⟨n + 1, h⟩, _ => exact absurd h (Nat.not_lt.2 (Nat.le_add_left _ _))

set_option maxHeartbeats 2000000 in
theorem defs_eq : Cert.KernelIdeal.defs (F := Bits) = Cert.Kernel.defs (F := Bits) := by
  unfold Cert.KernelIdeal.defs Cert.Kernel.defs
  rw [defs₀_eq]
  rfl

set_option maxHeartbeats 2000000 in
theorem main_eq : Cert.KernelIdeal.main (F := Bits) = Cert.Kernel.main (F := Bits) := rfl

end Cert.KernelIdeal.Flash.Words

end
-- ==== Proof.DwIn.Value.lean ====
/- The gradient of the input projection's weights: the kernel's accumulated tiles are the product over all rows. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Claim

@[expose] public section

noncomputable section

namespace Cert.Kernel2Ideal.DwIn

open Cert.Kernel2Ideal Cert.Kernel2Ideal.Gen Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The product of two blocks of 2048 rows over their rows. -/
abbrev prod (h d : Vec F S2048x1024 .bf16) : Vec F S1024x1024 .f32 := k0_pay1 h d

set_option maxHeartbeats 1000000 in
/-- The first half of the rows, for the columns of the first operand: the scratch holds the product of the blocks. -/
theorem sout_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : cond0_1 i) (hc2 : ¬cond0_2 i) (hc3 : ¬cond0_3 i) (hc4 : ¬cond0_4 i)
    (x0 x1 x2 : Vec F S2048x1024 .bf16) :
    sout0_A_0 c i arg3 harg3 arg4 harg4 arg5 harg5 arg6 harg6 arg7 harg7 hc0 hc1 hc2 hc3 hc4 x0 x1 x2 = prod x2 x0 := by
  unfold sout0_A_0
  rw [View.read_writes_eq_canon _ _ _ (scover0_A_0 c i arg3 harg3 arg4 harg4 arg5 harg5 arg6 harg6 arg7 harg7 hc0 hc1 hc2 hc3 hc4 x0 x1 x2)]
  unfold kernelRun0_A
  dsimp only
  rw [View.canon_unit_zero hz]
  unfold k0_pay2
  simp only [View.readAt_eq_ld, harg3.read_unread, harg4.read_unread, harg5.read_unread, View.ld_unit_zero (S := S2048x1024) hz, shapeCast_self]

set_option maxHeartbeats 1000000 in
/-- The first half of the rows, for the columns of the second operand. -/
theorem sout_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc3 : cond0_3 i) (hc4 : ¬cond0_4 i) (hc5 : cond0_5 i) (hc6 : ¬cond0_6 i)
    (x0 x1 x2 : Vec F S2048x1024 .bf16) :
    sout0_C_0 c i arg3 harg3 arg4 harg4 arg5 harg5 arg6 harg6 arg7 harg7 hc0 hc3 hc4 hc5 hc6 x0 x1 x2 = prod x2 x1 := by
  unfold sout0_C_0
  rw [View.read_writes_eq_canon _ _ _ (scover0_C_0 c i arg3 harg3 arg4 harg4 arg5 harg5 arg6 harg6 arg7 harg7 hc0 hc3 hc4 hc5 hc6 x0 x1 x2)]
  unfold kernelRun0_C
  dsimp only
  rw [View.canon_unit_zero hz]
  unfold k0_pay5
  simp only [View.readAt_eq_ld, harg3.read_unread, harg4.read_unread, harg5.read_unread, View.ld_unit_zero (S := S2048x1024) hz, shapeCast_self]
  rfl

set_option maxHeartbeats 1000000 in
/-- The second half of the rows, for the columns of the first operand: the block written is the scratch plus the product. -/
theorem out_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (hc2 : cond0_2 i) (hc3 : ¬cond0_3 i) (hc4 : cond0_4 i)
    (x0 x1 x2 : Vec F S2048x1024 .bf16) (s : Vec F S1024x1024 .f32) :
    out0_B_3 c i arg3 harg3 arg4 harg4 arg5 harg5 arg6 harg6 arg7 harg7 hc0 hc1 hc2 hc3 hc4 x0 x1 x2 s = addf s (prod x2 x0) := by
  unfold out0_B_3
  rw [View.read_writes_eq_canon _ _ _ (cover0_B_3 c i arg3 harg3 arg4 harg4 arg5 harg5 arg6 harg6 arg7 harg7 hc0 hc1 hc2 hc3 hc4 x0 x1 x2 s)]
  unfold kernelRun0_B
  dsimp only
  sl_unfold_words
  rw [View.canon_unit_zero hz, View.readCov_unit_zero (S := S1024x1024) _ hz]
  unfold k0_pay3
  simp only [View.readAt_eq_ld, harg3.read_unread, harg4.read_unread, harg5.read_unread, harg7.read_unread, View.ld_unit_zero (S := S2048x1024) hz, View.ld_unit_zero (S := S1024x1024) hz, shapeCast_self]

set_option maxHeartbeats 1000000 in
/-- The second half of the rows, for the columns of the second operand. -/
theorem out_D (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc3 : cond0_3 i) (hc4 : cond0_4 i) (hc5 : ¬cond0_5 i) (hc6 : cond0_6 i)
    (x0 x1 x2 : Vec F S2048x1024 .bf16) (s : Vec F S1024x1024 .f32) :
    out0_D_3 c i arg3 harg3 arg4 harg4 arg5 harg5 arg6 harg6 arg7 harg7 hc0 hc3 hc4 hc5 hc6 x0 x1 x2 s = addf s (prod x2 x1) := by
  unfold out0_D_3
  rw [View.read_writes_eq_canon _ _ _ (cover0_D_3 c i arg3 harg3 arg4 harg4 arg5 harg5 arg6 harg6 arg7 harg7 hc0 hc3 hc4 hc5 hc6 x0 x1 x2 s)]
  unfold kernelRun0_D
  dsimp only
  sl_unfold_words
  rw [View.canon_unit_zero hz, View.readCov_unit_zero (S := S1024x1024) _ hz]
  unfold k0_pay6
  simp only [View.readAt_eq_ld, harg3.read_unread, harg4.read_unread, harg5.read_unread, harg7.read_unread, View.ld_unit_zero (S := S2048x1024) hz, View.ld_unit_zero (S := S1024x1024) hz, shapeCast_self]
  rfl

/-- The block the columns of tile `t` come from: the first operand in the first tile of columns, else the second. -/
def dBlk (c : Dev nD) (t : Fin cfg0.N) : Vec F S2048x1024 .bf16 := if t.val < 4 then iblk m c 0 t else iblk m c 1 t

/-- After the first half of the rows the scratch holds the product of the half's blocks. -/
theorem scratch_even (c : Dev nD) (t : Fin cfg0.N) (h : t.val % 2 = 0) :
    (outsAt0 m c t.val t.isLt).2 = prod (iblk m c 2 t) (dBlk m c t) := by
  unfold dBlk
  by_cases h4 : t.val < 4
  · rw [outsAt0_A m c t h4 h (by omega) (by omega) (by omega), if_pos h4]
    dsimp only
    rw [sout_A]
  · rw [outsAt0_C m c t h4 (by omega) (by omega) h (by omega), if_neg h4]
    dsimp only
    rw [sout_C]

/-- After the second half of the rows the output's block holds the sum of the products of both halves. -/
theorem out_odd (c : Dev nD) (t : Fin cfg0.N) (h : t.val % 2 = 1) (s : Fin cfg0.N) (hs : s.val = t.val - 1) :
    (outsAt0 m c t.val t.isLt).1 = addf (prod (iblk m c 2 s) (dBlk m c s)) (prod (iblk m c 2 t) (dBlk m c t)) := by
  have e : (outsAt0 m c (t.val - 1) (Nat.lt_of_le_of_lt (Nat.sub_le _ _) t.isLt)).2 = prod (iblk m c 2 s) (dBlk m c s) := by
    have hs' : s = ⟨t.val - 1, Nat.lt_of_le_of_lt (Nat.sub_le _ _) t.isLt⟩ := Fin.ext hs
    subst hs'
    exact scratch_even m c ⟨t.val - 1, Nat.lt_of_le_of_lt (Nat.sub_le _ _) t.isLt⟩ (by show (t.val - 1) % 2 = 0; omega)
  by_cases h4 : t.val < 4
  · rw [outsAt0_B m c t h4 (by omega) h (by omega) h]
    dsimp only
    rw [out_B, e, show dBlk m c t = iblk m c 0 t from if_pos h4]
  · rw [outsAt0_D m c t h4 (by omega) h (by omega) h]
    dsimp only
    rw [out_D, e, show dBlk m c t = iblk m c 1 t from if_neg h4]

/-- The index maps of the three inputs, decided over the grid. -/
theorem idx_0 : ∀ t : Fin cfg0.N, t.val < 4 → win0_0.index t (0 : Fin 2) = t.val % 2 ∧ win0_0.index t (1 : Fin 2) = 0 :=
  (by decide +kernel : ∀ t : Fin grid0.N, _)
theorem idx_1 : ∀ t : Fin cfg0.N, ¬t.val < 4 → win0_1.index t (0 : Fin 2) = t.val % 2 ∧ win0_1.index t (1 : Fin 2) = t.val / 4 - 1 :=
  (by decide +kernel : ∀ t : Fin grid0.N, _)
theorem idx_2 : ∀ t : Fin cfg0.N, win0_2.index t (0 : Fin 2) = t.val % 2 ∧ win0_2.index t (1 : Fin 2) = t.val / 2 % 2 :=
  (by decide +kernel : ∀ t : Fin grid0.N, _)

/-- The concatenation of the two operands' columns, read at row `r` and column `n`. -/
def cat (x0 : Vec F S4096x1024 .bf16) (x1 : Vec F S4096x4096 .bf16) (r : Fin 4096) (n : Fin 5120) : F .bf16 :=
  if h : n.val < 1024 then x0 (ix2 r ⟨n.val, h⟩) else x1 (ix2 r ⟨n.val - 1024, by omega⟩)

theorem dBlk_apply (c : Dev nD) (t : Fin cfg0.N) (k : Fin 2048) (n : Fin 1024) (r : Fin 4096) (hr : r.val = t.val % 2 * 2048 + k.val)
    (n' : Fin 5120) (hn : n'.val = t.val / 4 * 1024 + n.val) :
    dBlk m c t (ix2 k n) = cat (m ((c : Thread nD τ).loc main_arg0)) (m ((c : Thread nD τ).loc main_arg1)) r n' := by
  unfold dBlk cat
  by_cases h : t.val < 4
  · obtain ⟨e0, e1⟩ := idx_0 t h
    rw [if_pos h, dif_pos (by omega)]
    unfold iblk
    rw [View.read_apply]
    show V m c main_arg0 _ = m (c.tc.loc main_arg0) _
    unfold V
    congr 1
    funext a
    apply Fin.ext
    match a with
    | ⟨0, _⟩ => show win0_0.index t 0 * 2048 + 1 * k.val = r.val; rw [e0]; omega
    | ⟨1, _⟩ => show win0_0.index t 1 * 1024 + 1 * n.val = n'.val; rw [e1]; omega
  · obtain ⟨e0, e1⟩ := idx_1 t h
    rw [if_neg h, dif_neg (by omega)]
    unfold iblk
    rw [View.read_apply]
    show V m c main_arg1 _ = m (c.tc.loc main_arg1) _
    unfold V
    congr 1
    funext a
    apply Fin.ext
    match a with
    | ⟨0, _⟩ => show win0_1.index t 0 * 2048 + 1 * k.val = r.val; rw [e0]; omega
    | ⟨1, _⟩ => show win0_1.index t 1 * 1024 + 1 * n.val = n'.val - 1024; rw [e1]; omega

theorem hBlk_apply (c : Dev nD) (t : Fin cfg0.N) (k : Fin 2048) (j : Fin 1024) (r : Fin 4096) (hr : r.val = t.val % 2 * 2048 + k.val)
    (j' : Fin 2048) (hj : j'.val = t.val / 2 % 2 * 1024 + j.val) :
    (iblk m c 2 t : Vec F S2048x1024 .bf16) (ix2 k j) = (m ((c : Thread nD τ).loc main_arg2)) (ix2 r j') := by
  obtain ⟨e0, e1⟩ := idx_2 t
  unfold iblk
  rw [View.read_apply]
  show V m c main_arg2 _ = m (c.tc.loc main_arg2) _
  unfold V
  congr 1
  funext a
  apply Fin.ext
  match a with
  | ⟨0, _⟩ => show win0_2.index t 0 * 2048 + 1 * k.val = r.val; rw [e0]; omega
  | ⟨1, _⟩ => show win0_2.index t 1 * 1024 + 1 * j.val = j'.val; rw [e1]; omega

/-- A product of two blocks at an entry: the sum over the block's rows. -/
theorem prod_apply (h d : Vec Ideal S2048x1024 .bf16) (n j : Fin 1024) :
    prod (F := Ideal) h d (ix2 n j) = ∑ k : Fin 2048, d (ix2 k n) * h (ix2 k j) := by
  pointwise [prod, k0_pay1]

/-- The reference's product at an entry: the sum over all rows. -/
theorem ref_apply (x0 : Vec Ideal S4096x1024 .bf16) (x1 : Vec Ideal S4096x4096 .bf16) (x2 : Vec Ideal S4096x2048 .bf16) (n : Fin 5120) (j : Fin 2048) :
    Cert.Reference2Ideal.Read.val_main_v1 (F := Ideal) x0 x1 x2 (ix2 n j) = ∑ k : Fin 4096, cat x0 x1 k n * x2 (ix2 k j) := by
  rw [Cert.Reference2Ideal.Read.val_main_v1_apply]
  refine Finset.sum_congr rfl fun k _ => ?_
  have e : Cert.Reference2Ideal.Read.val_main_v0 (F := Ideal) x0 x1 (Cert.Reference2Ideal.Read.lidx_main_v1 (ix2 n j) k) = cat x0 x1 k n := by
    unfold cat
    pointwise [Cert.Reference2Ideal.Read.val_main_v0]
  rw [e]
  congr 2
  funext a
  match a with
  | ⟨0, _⟩ => rfl
  | ⟨1, _⟩ => rfl

/-- A sum over 4096 rows as the sums over its two halves. -/
theorem sum_halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

/-- What the kernel's array ends holding is the reference's product. -/
theorem G_eq (m : (ℓ : Loc nD τ sig) → Buf (Elt Ideal) ℓ) (c : Dev nD) :
    Value.G3 m c = Cert.Reference2Ideal.Read.val_main_v1 (F := Ideal) (m ((c : Thread nD τ).loc main_arg0)) (m ((c : Thread nD τ).loc main_arg1)) (m ((c : Thread nD τ).loc main_arg2)) := by
  funext i
  have hi0 : (i 0).val < 5120 := (i 0).isLt
  have hi1 : (i 1).val < 2048 := (i 1).isLt
  have hN : cfg0.N = 20 := N_0
  have hp : Value.pt3Of i < cfg0.N := by
    rw [hN]; show 2 * (2 * ((i 0).val / 1024 - 0) + 1 * ((i 1).val / 1024 - 0)) + 1 < 20; omega
  have ht : Value.pt3Of i = 2 * (2 * ((i 0).val / 1024 - 0) + 1 * ((i 1).val / 1024 - 0)) + 1 := rfl
  unfold Value.G3
  rw [dif_pos hp, ← Value.outsAt0_sweep m c _ hp]
  have hs : Value.pt3Of i - 1 < cfg0.N := by omega
  have o := out_odd m c ⟨Value.pt3Of i, hp⟩ (by show Value.pt3Of i % 2 = 1; omega) ⟨Value.pt3Of i - 1, hs⟩ rfl
  dsimp only at o
  rw [o]
  have el : Value.loc3Of i = ix2 ⟨(i 0).val % 1024, Nat.mod_lt _ (by decide)⟩ ⟨(i 1).val % 1024, Nat.mod_lt _ (by decide)⟩ := by
    funext a
    match a with
    | ⟨0, _⟩ => rfl
    | ⟨1, _⟩ => rfl
  have ei : i = ix2 (⟨(i 0).val, hi0⟩ : Fin 5120) (⟨(i 1).val, hi1⟩ : Fin 2048) := by
    funext a
    match a with
    | ⟨0, _⟩ => rfl
    | ⟨1, _⟩ => rfl
  rw [el]
  conv_rhs => rw [ei]
  rw [ref_apply, sum_halves]
  refine (show _ = (prod (F := Ideal) _ _ _ : EReal) + prod (F := Ideal) _ _ _ from rfl).trans ?_
  rw [prod_apply, prod_apply]
  congr 1
  · refine Finset.sum_congr rfl fun k _ => ?_
    rw [dBlk_apply m c _ k _ ⟨k.val, by omega⟩ (by show k.val = (Value.pt3Of i - 1) % 2 * 2048 + k.val; omega) ⟨(i 0).val, hi0⟩
        (by show (i 0).val = (Value.pt3Of i - 1) / 4 * 1024 + (i 0).val % 1024; omega),
      hBlk_apply m c _ k _ ⟨k.val, by omega⟩ (by show k.val = (Value.pt3Of i - 1) % 2 * 2048 + k.val; omega) ⟨(i 1).val, hi1⟩
        (by show (i 1).val = (Value.pt3Of i - 1) / 2 % 2 * 1024 + (i 1).val % 1024; omega)]
  · refine Finset.sum_congr rfl fun k _ => ?_
    rw [dBlk_apply m c _ k _ ⟨2048 + k.val, by omega⟩ (by show 2048 + k.val = Value.pt3Of i % 2 * 2048 + k.val; omega) ⟨(i 0).val, hi0⟩
        (by show (i 0).val = Value.pt3Of i / 4 * 1024 + (i 0).val % 1024; omega),
      hBlk_apply m c _ k _ ⟨2048 + k.val, by omega⟩ (by show 2048 + k.val = Value.pt3Of i % 2 * 2048 + k.val; omega) ⟨(i 1).val, hi1⟩
        (by show (i 1).val = Value.pt3Of i / 2 % 2 * 1024 + (i 1).val % 1024; omega)]

/-- The kernel's result and the reference's are the same array of extended reals. -/
theorem algebraic : Cert.algebraic_Kernel2Ideal_Reference2Ideal := by
  intro m g m' g' hpre hagree
  refine ⟨fun c => Value.G3 m c, Value.run m g, ?_⟩
  refine (θ_run Cert.Reference2Ideal.defs _ _).mono (fun r h c => ?_) (Cert.Reference2Ideal.Value.run m' g')
  refine ⟨(h c).1.trans ?_, (h c).2⟩
  obtain ⟨e0, e1, e2⟩ := hagree c
  show _ = Value.G3 m c
  rw [G_eq, ← e0, ← e1, ← e2]
  rfl

end Cert.Kernel2Ideal.DwIn

end
-- ==== Proof.Flash.Host.lean ====
/- What the host operations before the backward attention kernel leave in each buffer: every buffer is written once, so
its contents are its operation's function of the operands' contents. -/
module

public import proofs.«01_k».proof.Proof.Gen.KernelIdeal.Frame
public import Idealize.ShloMosaic.Lib.StableHlo.RunRead

@[expose] public section

noncomputable section

namespace Cert.KernelIdeal.Host

open Idealize.ShloMosaic Idealize.ShloMosaic.TcCoe Idealize.ShloMosaic.StableHlo
open Cert.KernelIdeal.Gen

/-- The operations, and the buffers they write, in order. -/
abbrev ops : List (HloOp τ sig (Elt Ideal)) := List.flatten [hostOps0, hostOps0_1, hostOps0_2]
abbrev W : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_cst, main_v28, main_v29, main_v30, main_cst_0, main_call0_v0, main_call0_v1, main_call0_v2, main_v31, main_cst_1, main_v32, main_v33, main_v34, main_v35, main_v36, main_cst_2, main_v37, main_v38, main_v39, main_v40, main_v41, main_v42, main_v43, main_v44, main_v45, main_cst_3, main_v46, main_v47, main_v48, main_v49, main_v50, main_v51, main_cst_4, main_v52, main_v53, main_v54, main_cst_5, main_v55, main_v56, main_v57, main_v58, main_v59, main_v60, main_v61, main_cst_6, main_v62, main_v63, main_v64, main_cst_7, main_v65, main_v66, main_v67, main_v68]

theorem writes_eq : ops.map HloOp.writes = W.map fun w => {Proc.devRef (τ := τ) .tc w} := rfl

theorem writes_drop (n : ℕ) : (ops.drop n).map HloOp.writes = (W.drop n).map fun w => {Proc.devRef (τ := τ) .tc w} := by
  rw [List.map_drop, List.map_drop, writes_eq]

variable (m : (ℓ : Loc nD τ sig) → Buf (Elt Ideal) ℓ) (c : Dev nD)

/-- A buffer holds at the end what its operation, the `n`th, leaves in it. -/
theorem last (n : ℕ) {op : HloOp τ sig (Elt Ideal)} {rest : List (HloOp τ sig (Elt Ideal))} {y : Ref sig .tc}
    (hseg : ops.drop n = op :: rest) (hy : y ∉ W.drop (n + 1)) :
    V m c y = op.result (upto ops (fun b => m (c, b)) n) (Proc.devRef .tc y) := by
  have e := writes_drop (n + 1)
  have t : ops.drop (n + 1) = rest := by rw [← List.tail_drop, hseg]; rfl
  rw [t] at e
  exact after_last_write (W.drop (n + 1)) hseg e hy _

/-- Before the `n`th operation a buffer not written from there on holds what it holds at the end. -/
theorem before (n : ℕ) {x : Ref sig .tc} (hx : x ∉ W.drop n) :
    upto ops (fun b => m (c, b)) n (Proc.devRef .tc x) = V m c x := by
  have h := StableHlo.after_append (ops.take n) (ops.drop n) (fun b => m (c, b))
  rw [List.take_append_drop] at h
  show _ = after ops _ (Proc.devRef .tc x)
  rw [h]
  exact (after_unwritten (W.drop n) (writes_drop n) hx _).symm

theorem nu (n : ℕ) {y : Ref sig .tc} {v hy rest} (hseg : ops.drop n = nullary y v hy :: rest) (h : y ∉ W.drop (n + 1)) : V m c y = v := by
  rw [last m c n hseg h, nullary_result]

theorem un (n : ℕ) {x y : Ref sig .tc} {f hx hy rest} (hseg : ops.drop n = unary x y f hx hy :: rest) (h : y ∉ W.drop (n + 1))
    (h1 : x ∉ W.drop n) : V m c y = f (V m c x) := by
  rw [last m c n hseg h, unary_result, before m c n h1]

theorem bi (n : ℕ) {a b y : Ref sig .tc} {f ha hb hy rest} (hseg : ops.drop n = binary a b y f ha hb hy :: rest) (h : y ∉ W.drop (n + 1))
    (h1 : a ∉ W.drop n) (h2 : b ∉ W.drop n) : V m c y = f (V m c a) (V m c b) := by
  rw [last m c n hseg h, binary_result, before m c n h1, before m c n h2]

theorem te (n : ℕ) {a b d y : Ref sig .tc} {f ha hb hd hy rest} (hseg : ops.drop n = ternary a b d y f ha hb hd hy :: rest)
    (h : y ∉ W.drop (n + 1)) (h1 : a ∉ W.drop n) (h2 : b ∉ W.drop n) (h3 : d ∉ W.drop n) : V m c y = f (V m c a) (V m c b) (V m c d) := by
  rw [last m c n hseg h, ternary_result, before m c n h1, before m c n h2, before m c n h3]

theorem re (n : ℕ) {x y : Ref sig .tc} {he hn hx hy rest} (hseg : ops.drop n = reshape x y he hn hx hy :: rest) (h : y ∉ W.drop (n + 1))
    (h1 : x ∉ W.drop n) : V m c y = fun i => he ▸ shapeCast y.ty.shape (V m c x) hn i := by
  rw [last m c n hseg h, reshape_result, before m c n h1]

theorem na (n : ℕ) {k : ℕ} {xs : Fin k → Ref sig .tc} {y : Ref sig .tc} {f hxs hy rest} (hseg : ops.drop n = nary xs y f hxs hy :: rest)
    (h : y ∉ W.drop (n + 1)) (h1 : ∀ i, xs i ∉ W.drop n) : V m c y = f fun i => V m c (xs i) := by
  rw [last m c n hseg h, nary_result]
  exact congrArg f (funext fun i => before m c n (h1 i))

/-! ## The buffers -/

def u_arg0 : FVec Ideal S4096x1536 .f32 := V m c main_arg0
def u_arg1 : FVec Ideal S4096x2048 .f32 := V m c main_arg1
def u_arg2 : FVec Ideal S4096x8x64 .f32 := V m c main_arg2
def u_arg3 : FVec Ideal S4096x32 .f32 := V m c main_arg3
def u_arg4 : FVec Ideal S4096x32 .f32 := V m c main_arg4
def u_arg5 : FVec Ideal S4096x1024 .f32 := V m c main_arg5
def u0 : FVec Ideal S4096x8x192 .f32 := V m c main_v0
def u1 : FVec Ideal S4096x8x256 .f32 := V m c main_v1
def u2 : FVec Ideal S4096x8x128 .f32 := V m c main_v2
def u3 : FVec Ideal S4096x8x64 .f32 := V m c main_v3
def u4 : FVec Ideal S4096x1x32 .f32 := V m c main_v4
def u5 : FVec Ideal S4096x1x32 .f32 := V m c main_v5
def u6 : FVec Ideal S4096x8x32 .f32 := V m c main_v6
def u7 : FVec Ideal S4096x8x32 .f32 := V m c main_v7
def u8 : FVec Ideal S4096x8x32 .f32 := V m c main_v8
def u9 : FVec Ideal S4096x8x32 .f32 := V m c main_v9
def u10 : FVec Ideal S4096x8x32 .f32 := V m c main_v10
def u11 : FVec Ideal S4096x8x32 .f32 := V m c main_v11
def u12 : FVec Ideal S4096x8x32 .f32 := V m c main_v12
def u13 : FVec Ideal S4096x8x32 .f32 := V m c main_v13
def u14 : FVec Ideal S4096x8x32 .f32 := V m c main_v14
def u15 : FVec Ideal S4096x8x32 .f32 := V m c main_v15
def u16 : FVec Ideal S4096x8x32 .f32 := V m c main_v16
def u17 : FVec Ideal S4096x8x32 .f32 := V m c main_v17
def u18 : FVec Ideal S4096x8x64 .f32 := V m c main_v18
def u19 : FVec Ideal S4096x8x128 .f32 := V m c main_v19
def u20 : FVec Ideal S4096x8x128 .f32 := V m c main_v20
def u21 : FVec Ideal S8x4096x4096 .f32 := V m c main_v21
def u22 : FVec Ideal S8x4096x4096 .f32 := V m c main_v22
def u23 : FVec Ideal S8x4096x4096 .f32 := V m c main_v23
def u24 : Vec Ideal S4096x4096 .i32 := V m c main_v24
def u25 : Vec Ideal S4096x4096 .i32 := V m c main_v25
def u26 : Vec Ideal S4096x4096 .i1 := V m c main_v26
def u27 : Vec Ideal S1x4096x4096 .i1 := V m c main_v27
def u_cst : FVec Ideal S_ .f32 := V m c main_cst
def u28 : FVec Ideal S_ .f32 := V m c main_v28
def u29 : FVec Ideal S8x4096x4096 .f32 := V m c main_v29
def u30 : FVec Ideal S8x4096x4096 .f32 := V m c main_v30
def u_cst_0 : FVec Ideal S_ .f32 := V m c main_cst_0
def u_call0_v0 : FVec Ideal S_ .f32 := V m c main_call0_v0
def u_call0_v1 : Vec Ideal S8x4096x4096 .i1 := V m c main_call0_v1
def u_call0_v2 : FVec Ideal S8x4096x4096 .f32 := V m c main_call0_v2
def u31 : FVec Ideal S8x4096x4096 .f32 := V m c main_v31
def u_cst_1 : FVec Ideal S_ .f32 := V m c main_cst_1
def u32 : FVec Ideal S8x4096 .f32 := V m c main_v32
def u33 : FVec Ideal S8x4096x1 .f32 := V m c main_v33
def u34 : FVec Ideal S8x4096x4096 .f32 := V m c main_v34
def u35 : FVec Ideal S8x4096x4096 .f32 := V m c main_v35
def u36 : FVec Ideal S8x4096x4096 .f32 := V m c main_v36
def u_cst_2 : FVec Ideal S_ .f32 := V m c main_cst_2
def u37 : FVec Ideal S8x4096 .f32 := V m c main_v37
def u38 : FVec Ideal S8x4096x1 .f32 := V m c main_v38
def u39 : FVec Ideal S8x4096x4096 .f32 := V m c main_v39
def u40 : FVec Ideal S8x4096x4096 .f32 := V m c main_v40
def u41 : FVec Ideal S8x128x4096 .f32 := V m c main_v41
def u42 : FVec Ideal S4096x8x128 .f32 := V m c main_v42
def u43 : FVec Ideal S4096x1024 .f32 := V m c main_v43
def u44 : FVec Ideal S8x4096 .f32 := V m c main_v44
def u45 : FVec Ideal S8x4096 .f32 := V m c main_v45
def u_cst_3 : FVec Ideal S_ .f32 := V m c main_cst_3
def u46 : FVec Ideal S_ .f32 := V m c main_v46
def u47 : FVec Ideal S8x4096 .f32 := V m c main_v47
def u48 : FVec Ideal S8x4096 .f32 := V m c main_v48
def u49 : FVec Ideal S8x8x512 .f32 := V m c main_v49
def u50 : FVec Ideal S4096x1024 .f32 := V m c main_v50
def u51 : FVec Ideal S4096x8x128 .f32 := V m c main_v51
def u_cst_4 : FVec Ideal S_ .f32 := V m c main_cst_4
def u52 : FVec Ideal S4096x8 .f32 := V m c main_v52
def u53 : FVec Ideal S8x4096 .f32 := V m c main_v53
def u54 : FVec Ideal S8x8x512 .f32 := V m c main_v54
def u_cst_5 : FVec Ideal S_ .f32 := V m c main_cst_5
def u55 : FVec Ideal S4096x8x64 .f32 := V m c main_v55
def u56 : FVec Ideal S4096x8x256 .f32 := V m c main_v56
def u57 : FVec Ideal S4096x2048 .f32 := V m c main_v57
def u58 : FVec Ideal S4096x2048 .bf16 := V m c main_v58
def u59 : FVec Ideal S4096x8x256 .f32 := V m c main_v59
def u60 : FVec Ideal S4096x2048 .f32 := V m c main_v60
def u61 : FVec Ideal S4096x2048 .bf16 := V m c main_v61
def u_cst_6 : FVec Ideal S_ .f32 := V m c main_cst_6
def u62 : FVec Ideal S4096x64 .f32 := V m c main_v62
def u63 : FVec Ideal S4096x128 .f32 := V m c main_v63
def u64 : FVec Ideal S4096x32 .f32 := V m c main_v64
def u_cst_7 : FVec Ideal S_ .f32 := V m c main_cst_7
def u65 : FVec Ideal S4096x64 .f32 := V m c main_v65
def u66 : FVec Ideal S4096x128 .f32 := V m c main_v66
def u67 : FVec Ideal S4096x1024 .f32 := V m c main_v67
def u68 : FVec Ideal S4096x1024 .bf16 := V m c main_v68

/-! ## What each operation leaves -/

theorem e0 : u0 m c = shapeCast S4096x8x192 (u_arg0 m c) shapeCasts_S4096x1536_S4096x8x192 := by
  have e := re m c 0 (y := main_v0) rfl (by decide +kernel) (by decide +kernel)
  exact e
theorem e1 : u1 m c = shapeCast S4096x8x256 (u_arg1 m c) shapeCasts_S4096x2048_S4096x8x256 := by
  have e := re m c 1 (y := main_v1) rfl (by decide +kernel) (by decide +kernel)
  exact e
theorem e2 : u2 m c = extractStridedSlice S4096x8x128 ![0, 0, 0] (u0 m c) slices_S4096x8x192_S4096x8x128_0_0_0 := by
  have e := un m c 2 (y := main_v2) rfl (by decide +kernel) (by decide +kernel)
  exact e
theorem e3 : u3 m c = extractStridedSlice S4096x8x64 ![0, 0, 128] (u0 m c) slices_S4096x8x192_S4096x8x64_0_0_128 := by
  have e := un m c 3 (y := main_v3) rfl (by decide +kernel) (by decide +kernel)
  exact e
theorem e4 : u4 m c = broadcastInDim S4096x1x32 ![0, 2] bcast_S4096x32_S4096x1x32_0_2 (u_arg3 m c) := by
  have e := un m c 4 (y := main_v4) rfl (by decide +kernel) (by decide +kernel)
  exact e
theorem e5 : u5 m c = broadcastInDim S4096x1x32 ![0, 2] bcast_S4096x32_S4096x1x32_0_2 (u_arg4 m c) := by
  have e := un m c 5 (y := main_v5) rfl (by decide +kernel) (by decide +kernel)
  exact e
theorem e6 : u6 m c = extractStridedSlice S4096x8x32 ![0, 0, 0] (u3 m c) slices_S4096x8x64_S4096x8x32_0_0_0 := by
  have e := un m c 6 (y := main_v6) rfl (by decide +kernel) (by decide +kernel)
  exact e
theorem e7 : u7 m c = extractStridedSlice S4096x8x32 ![0, 0, 32] (u3 m c) slices_S4096x8x64_S4096x8x32_0_0_32 := by
  have e := un m c 7 (y := main_v7) rfl (by decide +kernel) (by decide +kernel)
  exact e
theorem e8 : u8 m c = broadcastInDim S4096x8x32 ![0, 1, 2] bcast_S4096x1x32_S4096x8x32_0_1_2 (u4 m c) := by
  have e := un m c 8 (y := main_v8) rfl (by decide +kernel) (by decide +kernel)
  exact e
theorem e9 : u9 m c = mulf (u6 m c) (u8 m c) := by
  have e := bi m c 9 (y := main_v9) rfl (by decide +kernel) (by decide +kernel) (by decide +kernel)
  exact e
theorem e10 : u10 m c = broadcastInDim S4096x8x32 ![0, 1, 2] bcast_S4096x1x32_S4096x8x32_0_1_2 (u5 m c) := by
  have e := un m c 10 (y := main_v10) rfl (by decide +kernel) (by decide +kernel)
  exact e
theorem e11 : u11 m c = mulf (u7 m c) (u10 m c) := by
  have e := bi m c 11 (y := main_v11) rfl (by decide +kernel) (by decide +kernel) (by decide +kernel)
  exact e
theorem e12 : u12 m c = subf (u9 m c) (u11 m c) := by
  have e := bi m c 12 (y := main_v12) rfl (by decide +kernel) (by decide +kernel) (by decide +kernel)
  exact e
theorem e13 : u13 m c = broadcastInDim S4096x8x32 ![0, 1, 2] bcast_S4096x1x32_S4096x8x32_0_1_2 (u4 m c) := by
  have e := un m c 13 (y := main_v13) rfl (by decide +kernel) (by decide +kernel)
  exact e
theorem e14 : u14 m c = mulf (u7 m c) (u13 m c) := by
  have e := bi m c 14 (y := main_v14) rfl (by decide +kernel) (by decide +kernel) (by decide +kernel)
  exact e
theorem e15 : u15 m c = broadcastInDim S4096x8x32 ![0, 1, 2] bcast_S4096x1x32_S4096x8x32_0_1_2 (u5 m c) := by
  have e := un m c 15 (y := main_v15) rfl (by decide +kernel) (by decide +kernel)
  exact e
theorem e16 : u16 m c = mulf (u6 m c) (u15 m c) := by
  have e := bi m c 16 (y := main_v16) rfl (by decide +kernel) (by decide +kernel) (by decide +kernel)
  exact e
theorem e17 : u17 m c = addf (u14 m c) (u16 m c) := by
  have e := bi m c 17 (y := main_v17) rfl (by decide +kernel) (by decide +kernel) (by decide +kernel)
  exact e
theorem e18 : u18 m c = concatenate S4096x8x64 2 [⟨S4096x8x32, (u12 m c)⟩, ⟨S4096x8x32, (u17 m c)⟩] concatenates_S4096x8x32_S4096x8x32_S4096x8x64_d2 := by
  have e := bi m c 18 (y := main_v18) rfl (by decide +kernel) (by decide +kernel) (by decide +kernel)
  exact e
theorem e19 : u19 m c = extractStridedSlice S4096x8x128 ![0, 0, 0] (u1 m c) slices_S4096x8x256_S4096x8x128_0_0_0 := by
  have e := un m c 19 (y := main_v19) rfl (by decide +kernel) (by decide +kernel)
  exact e
theorem e20 : u20 m c = extractStridedSlice S4096x8x128 ![0, 0, 128] (u1 m c) slices_S4096x8x256_S4096x8x128_0_0_128 := by
  have e := un m c 20 (y := main_v20) rfl (by decide +kernel) (by decide +kernel)
  exact e
theorem e21 : u21 m c = Host.dotGeneral dot_S4096x8x128_S4096x8x128_S8x4096x4096_2_2_0_0_1_1 none (u2 m c) (u19 m c) := by
  have e := bi m c 21 (y := main_v21) rfl (by decide +kernel) (by decide +kernel) (by decide +kernel)
  exact e
theorem e22 : u22 m c = Host.dotGeneral dot_S4096x8x64_S4096x8x64_S8x4096x4096_2_2_0_0_1_1 none (u18 m c) (u_arg2 m c) := by
  have e := bi m c 22 (y := main_v22) rfl (by decide +kernel) (by decide +kernel) (by decide +kernel)
  exact e
theorem e23 : u23 m c = addf (u21 m c) (u22 m c) := by
  have e := bi m c 23 (y := main_v23) rfl (by decide +kernel) (by decide +kernel) (by decide +kernel)
  exact e
theorem e24 : u24 m c = iotaInDim S4096x4096 32 0 := by
  have e := nu m c 24 (y := main_v24) rfl (by decide +kernel)
  exact e
theorem e25 : u25 m c = iotaInDim S4096x4096 32 1 := by
  have e := nu m c 25 (y := main_v25) rfl (by decide +kernel)
  exact e
theorem e26 : u26 m c = cmpi .sle (u25 m c) (u24 m c) := by
  have e := bi m c 26 (y := main_v26) rfl (by decide +kernel) (by decide +kernel) (by decide +kernel)
  exact e
theorem e27 : u27 m c = broadcastInDim S1x4096x4096 ![1, 2] bcast_S4096x4096_S1x4096x4096_1_2 (u26 m c) := by
  have e := un m c 27 (y := main_v27) rfl (by decide +kernel) (by decide +kernel)
  exact e
theorem e_cst : u_cst m c = constant S_ .f32 0x43400000#32 := by
  have e := nu m c 28 (y := main_cst) rfl (by decide +kernel)
  exact e
theorem e28 : u28 m c = Host.sqrt (u_cst m c) := by
  have e := un m c 29 (y := main_v28) rfl (by decide +kernel) (by decide +kernel)
  exact e
theorem e29 : u29 m c = broadcastInDim S8x4096x4096 ![] bcast_S_S8x4096x4096 (u28 m c) := by
  have e := un m c 30 (y := main_v29) rfl (by decide +kernel) (by decide +kernel)
  exact e
theorem e30 : u30 m c = Host.divf (u23 m c) (u29 m c) := by
  have e := bi m c 31 (y := main_v30) rfl (by decide +kernel) (by decide +kernel) (by decide +kernel)
  exact e
theorem e_cst_0 : u_cst_0 m c = constant S_ .f32 0xFF800000#32 := by
  have e := nu m c 32 (y := main_cst_0) rfl (by decide +kernel)
  exact e
theorem e_call0_v0 : u_call0_v0 m c = u_cst_0 m c := by
  have e := un m c 33 (y := main_call0_v0) rfl (by decide +kernel) (by decide +kernel)
  exact e
theorem e_call0_v1 : u_call0_v1 m c = broadcastInDim S8x4096x4096 ![0, 1, 2] bcast_S1x4096x4096_S8x4096x4096_0_1_2 (u27 m c) := by
  have e := un m c 34 (y := main_call0_v1) rfl (by decide +kernel) (by decide +kernel)
  exact e
theorem e_call0_v2 : u_call0_v2 m c = broadcastInDim S8x4096x4096 ![] bcast_S_S8x4096x4096 (u_call0_v0 m c) := by
  have e := un m c 35 (y := main_call0_v2) rfl (by decide +kernel) (by decide +kernel)
  exact e
theorem e31 : u31 m c = select (u_call0_v1 m c) (u30 m c) (u_call0_v2 m c) := by
  have e := te m c 36 (a := main_call0_v1) (b := main_v30) (d := main_call0_v2) (y := main_v31) (f := fun w u v => select w u v) rfl (by decide +kernel) (by decide +kernel) (by decide +kernel) (by decide +kernel)
  exact e
theorem e_cst_1 : u_cst_1 m c = constant S_ .f32 0xFF800000#32 := by
  have e := nu m c 37 (y := main_cst_1) rfl (by decide +kernel)
  exact e
theorem e32 : u32 m c = Host.reduce FloatOps.maximumf (u31 m c) (u_cst_1 m c) reducesTo_S8x4096x4096_S8x4096_d2 h_S_ := by
  have e := bi m c 38 (y := main_v32) rfl (by decide +kernel) (by decide +kernel) (by decide +kernel)
  exact e
theorem e33 : u33 m c = broadcastInDim S8x4096x1 ![0, 1] bcast_S8x4096_S8x4096x1_0_1 (u32 m c) := by
  have e := un m c 39 (y := main_v33) rfl (by decide +kernel) (by decide +kernel)
  exact e
theorem e34 : u34 m c = broadcastInDim S8x4096x4096 ![0, 1, 2] bcast_S8x4096x1_S8x4096x4096_0_1_2 (u33 m c) := by
  have e := un m c 40 (y := main_v34) rfl (by decide +kernel) (by decide +kernel)
  exact e
theorem e35 : u35 m c = subf (u31 m c) (u34 m c) := by
  have e := bi m c 41 (y := main_v35) rfl (by decide +kernel) (by decide +kernel) (by decide +kernel)
  exact e
theorem e36 : u36 m c = Host.exp (u35 m c) := by
  have e := un m c 42 (y := main_v36) rfl (by decide +kernel) (by decide +kernel)
  exact e
theorem e_cst_2 : u_cst_2 m c = constant S_ .f32 0x00000000#32 := by
  have e := nu m c 43 (y := main_cst_2) rfl (by decide +kernel)
  exact e
theorem e37 : u37 m c = Host.reduceAdd (u36 m c) (u_cst_2 m c) reducesTo_S8x4096x4096_S8x4096_d2 h_S_ := by
  have e := bi m c 44 (y := main_v37) rfl (by decide +kernel) (by decide +kernel) (by decide +kernel)
  exact e
theorem e38 : u38 m c = broadcastInDim S8x4096x1 ![0, 1] bcast_S8x4096_S8x4096x1_0_1 (u37 m c) := by
  have e := un m c 45 (y := main_v38) rfl (by decide +kernel) (by decide +kernel)
  exact e
theorem e39 : u39 m c = broadcastInDim S8x4096x4096 ![0, 1, 2] bcast_S8x4096x1_S8x4096x4096_0_1_2 (u38 m c) := by
  have e := un m c 46 (y := main_v39) rfl (by decide +kernel) (by decide +kernel)
  exact e
theorem e40 : u40 m c = Host.divf (u36 m c) (u39 m c) := by
  have e := bi m c 47 (y := main_v40) rfl (by decide +kernel) (by decide +kernel) (by decide +kernel)
  exact e
theorem e41 : u41 m c = Host.dotGeneral dot_S4096x8x128_S8x4096x4096_S8x128x4096_0_2_2_1_1_0 none (u20 m c) (u40 m c) := by
  have e := bi m c 48 (y := main_v41) rfl (by decide +kernel) (by decide +kernel) (by decide +kernel)
  exact e
theorem e42 : u42 m c = transpose S4096x8x128 [2, 0, 1] (u41 m c) transposes_S8x128x4096_S4096x8x128_2_0_1 := by
  have e := un m c 49 (y := main_v42) rfl (by decide +kernel) (by decide +kernel)
  exact e
theorem e43 : u43 m c = shapeCast S4096x1024 (u42 m c) shapeCasts_S4096x8x128_S4096x1024 := by
  have e := re m c 50 (y := main_v43) rfl (by decide +kernel) (by decide +kernel)
  exact e
theorem e44 : u44 m c = Host.log (u37 m c) := by
  have e := un m c 51 (y := main_v44) rfl (by decide +kernel) (by decide +kernel)
  exact e
theorem e45 : u45 m c = addf (u32 m c) (u44 m c) := by
  have e := bi m c 52 (y := main_v45) rfl (by decide +kernel) (by decide +kernel) (by decide +kernel)
  exact e
theorem e_cst_3 : u_cst_3 m c = constant S_ .f32 0x40000000#32 := by
  have e := nu m c 53 (y := main_cst_3) rfl (by decide +kernel)
  exact e
theorem e46 : u46 m c = Host.log (u_cst_3 m c) := by
  have e := un m c 54 (y := main_v46) rfl (by decide +kernel) (by decide +kernel)
  exact e
theorem e47 : u47 m c = broadcastInDim S8x4096 ![] bcast_S_S8x4096 (u46 m c) := by
  have e := un m c 55 (y := main_v47) rfl (by decide +kernel) (by decide +kernel)
  exact e
theorem e48 : u48 m c = Host.divf (u45 m c) (u47 m c) := by
  have e := bi m c 56 (y := main_v48) rfl (by decide +kernel) (by decide +kernel) (by decide +kernel)
  exact e
theorem e49 : u49 m c = shapeCast S8x8x512 (u48 m c) shapeCasts_S8x4096_S8x8x512 := by
  have e := re m c 57 (y := main_v49) rfl (by decide +kernel) (by decide +kernel)
  exact e
theorem e50 : u50 m c = mulf (u_arg5 m c) (u43 m c) := by
  have e := bi m c 58 (y := main_v50) rfl (by decide +kernel) (by decide +kernel) (by decide +kernel)
  exact e
theorem e51 : u51 m c = shapeCast S4096x8x128 (u50 m c) shapeCasts_S4096x1024_S4096x8x128 := by
  have e := re m c 59 (y := main_v51) rfl (by decide +kernel) (by decide +kernel)
  exact e
theorem e_cst_4 : u_cst_4 m c = constant S_ .f32 0x00000000#32 := by
  have e := nu m c 60 (y := main_cst_4) rfl (by decide +kernel)
  exact e
theorem e52 : u52 m c = Host.reduceAdd (u51 m c) (u_cst_4 m c) reducesTo_S4096x8x128_S4096x8_d2 h_S_ := by
  have e := bi m c 61 (y := main_v52) rfl (by decide +kernel) (by decide +kernel) (by decide +kernel)
  exact e
theorem e53 : u53 m c = transpose S8x4096 [1, 0] (u52 m c) transposes_S4096x8_S8x4096_1_0 := by
  have e := un m c 62 (y := main_v53) rfl (by decide +kernel) (by decide +kernel)
  exact e
theorem e54 : u54 m c = shapeCast S8x8x512 (u53 m c) shapeCasts_S8x4096_S8x8x512 := by
  have e := re m c 63 (y := main_v54) rfl (by decide +kernel) (by decide +kernel)
  exact e
theorem e_cst_5 : u_cst_5 m c = constant S_ .f32 0x00000000#32 := by
  have e := nu m c 64 (y := main_cst_5) rfl (by decide +kernel)
  exact e
theorem e55 : u55 m c = broadcastInDim S4096x8x64 ![] bcast_S_S4096x8x64 (u_cst_5 m c) := by
  have e := un m c 65 (y := main_v55) rfl (by decide +kernel) (by decide +kernel)
  exact e
theorem e56 : u56 m c = concatenate S4096x8x256 2 [⟨S4096x8x128, u2 m c⟩, ⟨S4096x8x64, u18 m c⟩, ⟨S4096x8x64, u55 m c⟩] concatenates_S4096x8x128_S4096x8x64_S4096x8x64_S4096x8x256_d2 := by
  have e := na m c 66 (y := main_v56) rfl (by decide +kernel) (by decide +kernel)
  exact e
theorem e57 : u57 m c = shapeCast S4096x2048 (u56 m c) shapeCasts_S4096x8x256_S4096x2048 := by
  have e := re m c 67 (y := main_v57) rfl (by decide +kernel) (by decide +kernel)
  exact e
theorem e58 : u58 m c = truncf .bf16 (u57 m c) bitsLt_bf16_f32 := by
  have e := un m c 68 (y := main_v58) rfl (by decide +kernel) (by decide +kernel)
  exact e
theorem e59 : u59 m c = concatenate S4096x8x256 2 [⟨S4096x8x128, u19 m c⟩, ⟨S4096x8x64, u_arg2 m c⟩, ⟨S4096x8x64, u55 m c⟩] concatenates_S4096x8x128_S4096x8x64_S4096x8x64_S4096x8x256_d2 := by
  have e := na m c 69 (y := main_v59) rfl (by decide +kernel) (by decide +kernel)
  exact e
theorem e60 : u60 m c = shapeCast S4096x2048 (u59 m c) shapeCasts_S4096x8x256_S4096x2048 := by
  have e := re m c 70 (y := main_v60) rfl (by decide +kernel) (by decide +kernel)
  exact e
theorem e61 : u61 m c = truncf .bf16 (u60 m c) bitsLt_bf16_f32 := by
  have e := un m c 71 (y := main_v61) rfl (by decide +kernel) (by decide +kernel)
  exact e
theorem e_cst_6 : u_cst_6 m c = constant S_ .f32 0x3F800000#32 := by
  have e := nu m c 72 (y := main_cst_6) rfl (by decide +kernel)
  exact e
theorem e62 : u62 m c = broadcastInDim S4096x64 ![] bcast_S_S4096x64 (u_cst_6 m c) := by
  have e := un m c 73 (y := main_v62) rfl (by decide +kernel) (by decide +kernel)
  exact e
theorem e63 : u63 m c = concatenate S4096x128 1 [⟨S4096x32, u_arg3 m c⟩, ⟨S4096x32, u_arg3 m c⟩, ⟨S4096x64, u62 m c⟩] concatenates_S4096x32_S4096x32_S4096x64_S4096x128_d1 := by
  have e := na m c 74 (y := main_v63) rfl (by decide +kernel) (by decide +kernel)
  exact e
theorem e64 : u64 m c = Host.negf (u_arg4 m c) := by
  have e := un m c 75 (y := main_v64) rfl (by decide +kernel) (by decide +kernel)
  exact e
theorem e_cst_7 : u_cst_7 m c = constant S_ .f32 0x00000000#32 := by
  have e := nu m c 76 (y := main_cst_7) rfl (by decide +kernel)
  exact e
theorem e65 : u65 m c = broadcastInDim S4096x64 ![] bcast_S_S4096x64 (u_cst_7 m c) := by
  have e := un m c 77 (y := main_v65) rfl (by decide +kernel) (by decide +kernel)
  exact e
theorem e66 : u66 m c = concatenate S4096x128 1 [⟨S4096x32, u64 m c⟩, ⟨S4096x32, u_arg4 m c⟩, ⟨S4096x64, u65 m c⟩] concatenates_S4096x32_S4096x32_S4096x64_S4096x128_d1 := by
  have e := na m c 78 (y := main_v66) rfl (by decide +kernel) (by decide +kernel)
  exact e
theorem e67 : u67 m c = shapeCast S4096x1024 (u20 m c) shapeCasts_S4096x8x128_S4096x1024 := by
  have e := re m c 79 (y := main_v67) rfl (by decide +kernel) (by decide +kernel)
  exact e
theorem e68 : u68 m c = truncf .bf16 (u67 m c) bitsLt_bf16_f32 := by
  have e := un m c 80 (y := main_v68) rfl (by decide +kernel) (by decide +kernel)
  exact e

end Cert.KernelIdeal.Host

end
-- ==== Proof.Flash.HostVal.lean ====
/- The arrays staged for the backward attention kernel, read at an entry when the inputs are real: the padded queries and
keys, the values, the rows' logarithms and means, and the two tables of the rotation. -/
module

public import proofs.«01_k».proof.Proof.Flash.Scalar
public import proofs.«01_k».proof.Proof.Flash.Host

@[expose] public section

noncomputable section

namespace Cert.KernelIdeal.Host

open Idealize.ShloMosaic Idealize.ShloMosaic.TcCoe Idealize.ShloMosaic.Tactic
open Cert.KernelIdeal.Gen Cert.Attention

variable {m : (ℓ : Loc nD τ sig) → Buf (Elt Ideal) ℓ} {c : Dev nD} {A : Inp}
  (H : Holds A (u_arg0 m c) (u_arg1 m c) (u_arg2 m c) (u_arg3 m c) (u_arg4 m c) (u_arg5 m c))
include H

theorem k2 (i : Fin 4096) (h : Fin 8) (d : Fin 128) : u2 m c (ix3 i h d) = (qn A h i d : EReal) := by
  rw [e2, e0]
  pointwise []
  exact H.q _ _

theorem k18 (i : Fin 4096) (h : Fin 8) (x : Fin 64) : u18 m c (ix3 i h x) = (qr A h i x : EReal) := by
  rw [e18, e12, e17, e9, e11, e14, e16, e8, e10, e13, e15, e6, e7, e4, e5, e3, e0]
  pointwise []
  simp only [H.q, H.cos, H.sin]
  unfold qr
  split
  · simp only [EReal.coe_sub, EReal.coe_mul]
  · simp only [EReal.coe_add, EReal.coe_mul]

theorem k19 (j : Fin 4096) (h : Fin 8) (d : Fin 128) : u19 m c (ix3 j h d) = (kn A h j d : EReal) := by
  rw [e19, e1]
  pointwise []
  exact H.kv _ _

theorem k20 (j : Fin 4096) (h : Fin 8) (d : Fin 128) : u20 m c (ix3 j h d) = (vv A h j d : EReal) := by
  rw [e20, e1]
  pointwise []
  exact H.kv _ _

theorem k30 (h : Fin 8) (i j : Fin 4096) : u30 m c (ix3 h i j) = (score A h i j : EReal) := by
  rw [e30, e29, e28, e_cst, e23, e21, e22]
  pointwise []
  rw [sum_mul_coe (fun d => k2 H i h d) (fun d => k19 H j h d), sum_mul_coe (fun x => k18 H i h x) (fun x => H.kr j h x), sqrt_192,
    ← EReal.coe_add, div_coe _ _ sqrt_ne]
  rfl

theorem k31 (h : Fin 8) (i j : Fin 4096) : u31 m c (ix3 h i j) = masked A h i j := by
  rw [e31, e_call0_v1, e_call0_v2, e_call0_v0, e_cst_0, e27, e26, e25, e24]
  pointwise []
  rw [select_sle j.val i.val (by omega) (by omega), k30 H, word_bot]
  rfl

theorem k32 (h : Fin 8) (i : Fin 4096) : u32 m c (ix2 h i) = (rowMax A h i : EReal) := by
  rw [e32, e_cst_1]
  pointwise []
  rw [word_bot, funext fun j => k31 H h i j]
  exact fold_eq A h i

theorem k36 (h : Fin 8) (i j : Fin 4096) : u36 m c (ix3 h i j) = (ex A h i j : EReal) := by
  rw [e36, e35, e34, e33]
  pointwise []
  rw [k31 H, k32 H]
  exact exp_masked A h i j

theorem k37 (h : Fin 8) (i : Fin 4096) : u37 m c (ix2 h i) = (tot A h i : EReal) := by
  rw [e37, e_cst_2]
  pointwise []
  exact sum_coe fun j => k36 H h i j

theorem k40 (h : Fin 8) (i j : Fin 4096) : u40 m c (ix3 h i j) = (prob A h i j : EReal) := by
  rw [e40, e39, e38]
  pointwise []
  rw [k36 H, k37 H]
  exact div_coe _ _ (tot_ne A h i)

theorem k41 (h : Fin 8) (d : Fin 128) (i : Fin 4096) : u41 m c (ix3 h d i) = ((∑ j, vv A h j d * prob A h i j : ℝ) : EReal) := by
  rw [e41]
  pointwise []
  exact sum_mul_coe (fun j => k20 H j h d) (fun j => k40 H h i j)

omit H in
theorem add_log (a b : FVec Ideal S8x4096 .f32) (h : Fin 8) (i : Fin 4096) (x y : ℝ) (hy : 0 < y) (ha : a (ix2 h i) = (x : EReal))
    (hb : b (ix2 h i) = (y : EReal)) : addf a (Host.log b) (ix2 h i) = ((x + Real.log y : ℝ) : EReal) := by
  pointwise []
  rw [ha, hb, Ideal.log_coe, if_neg (not_le.2 hy), ← EReal.coe_add]

theorem k45 (h : Fin 8) (i : Fin 4096) : u45 m c (ix2 h i) = ((rowMax A h i + Real.log (tot A h i) : ℝ) : EReal) := by
  rw [e45, e44]
  exact add_log _ _ h i _ _ (tot_pos A h i) (k32 H h i) (k37 H h i)

omit H in
theorem k47 (h : Fin 8) (i : Fin 4096) : u47 m c (ix2 h i) = ((Real.log 2 : ℝ) : EReal) := by
  rw [e47, e46, e_cst_3]
  pointwise []
  exact log_two

theorem k48 (h : Fin 8) (i : Fin 4096) : u48 m c (ix2 h i) = (((rowMax A h i + Real.log (tot A h i)) / Real.log 2 : ℝ) : EReal) := by
  rw [e48]
  pointwise []
  rw [k45 H, k47, div_coe _ _ log_ne]

theorem k49 (h r : Fin 8) (e : Fin 512) (i : Fin 4096) (hi : i.val = 512 * r.val + e.val) :
    u49 m c (ix3 h r e) = (((rowMax A h i + Real.log (tot A h i)) / Real.log 2 : ℝ) : EReal) := by
  rw [e49]
  pointwise []
  rw [← k48 H]
  congr 2
  exact Fin.ext (by show r.val * 512 + e.val = i.val; omega)

theorem k53 (h : Fin 8) (i : Fin 4096) : u53 m c (ix2 h i) = (mean A h i : EReal) := by
  rw [e53, e52, e_cst_4, e51, e50, e43, e42]
  pointwise []
  exact (sum_mul_coe (fun d => H.g _ _) (fun d => k41 H h d i)).trans (congrArg _ (mean_eq A h i))

theorem k54 (h r : Fin 8) (e : Fin 512) (i : Fin 4096) (hi : i.val = 512 * r.val + e.val) :
    u54 m c (ix3 h r e) = (mean A h i : EReal) := by
  rw [e54]
  pointwise []
  rw [← k53 H]
  congr 2
  exact Fin.ext (by show r.val * 512 + e.val = i.val; omega)

theorem k58 (i : Fin 4096) (n : Fin 2048) :
    u58 m c (ix2 i n) = (qc A ⟨n.val / 256, by omega⟩ i ⟨n.val % 256, Nat.mod_lt _ (by decide)⟩ : EReal) := by
  rw [e58, e57, e56, e55, e_cst_5]
  pointwise []
  simp only [k2 H, k18 H]
  unfold qc
  split
  · rfl
  · split <;> rfl

theorem k61 (i : Fin 4096) (n : Fin 2048) :
    u61 m c (ix2 i n) = (kc A ⟨n.val / 256, by omega⟩ i ⟨n.val % 256, Nat.mod_lt _ (by decide)⟩ : EReal) := by
  rw [e61, e60, e59, e55, e_cst_5]
  pointwise []
  simp only [k19 H, H.kr]
  unfold kc
  split
  · rfl
  · split <;> rfl

theorem k63 (i : Fin 4096) (x : Fin 128) : u63 m c (ix2 i x) = (cosT A i x : EReal) := by
  rw [e63, e62, e_cst_6]
  pointwise []
  simp only [H.cos]
  unfold cosT
  split
  · rfl
  · split <;> rfl

theorem k66 (i : Fin 4096) (x : Fin 128) : u66 m c (ix2 i x) = (sinT A i x : EReal) := by
  rw [e66, e65, e64, e_cst_7]
  pointwise []
  simp only [H.sin]
  unfold sinT
  split
  · rw [EReal.coe_neg]
  · split <;> rfl

theorem k68 (j : Fin 4096) (n : Fin 1024) :
    u68 m c (ix2 j n) = (vv A ⟨n.val / 128, by omega⟩ j ⟨n.val % 128, Nat.mod_lt _ (by decide)⟩ : EReal) := by
  rw [e68, e67]
  pointwise []
  exact k20 H _ _ _

end Cert.KernelIdeal.Host

end
-- ==== Proof.Flash.Pay.lean ====
/- The arithmetic of one tile of the backward attention kernel, read at an entry over the extended reals. -/
module

public import proofs.«01_k».proof.Proof.Flash.Scalar
public import proofs.«01_k».proof.Proof.Flash.Steps
public import Idealize.ShloMosaic.Lib.Pointwise

@[expose] public section

noncomputable section

namespace Cert.KernelIdeal.Flash

open Idealize.ShloMosaic Idealize.ShloMosaic.TcCoe Idealize.ShloMosaic.Tactic
open Cert.KernelIdeal.Gen
open Cert.Attention (select_sle)

/-- The two constants: the scale of the scores, and the scale of the scores in base 2. -/
abbrev sc : EReal := (((Real.sqrt 192)⁻¹ : ℝ) : EReal)
abbrev sc2 : EReal := (((Real.sqrt 192)⁻¹ * (Real.log 2)⁻¹ : ℝ) : EReal)

theorem named_sc : (Named.named κ "scale" 0x3D93CD3A#32 : Ideal .f32) = sc := IdealRules.named_const.ideal_named_scalar _ _ _ _ rfl
theorem named_sc2 : (Named.named κ "scale_log2e" 0x3DD53B95#32 : Ideal .f32) = sc2 := IdealRules.named_const.ideal_named_scalar _ _ _ _ rfl

theorem addi_ofNat (a b : ℕ) : IntOp.addi (BitVec.ofNat 32 a) (BitVec.ofNat 32 b) = BitVec.ofNat 32 (a + b) := (BitVec.ofNat_add a b).symm

theorem pay6_apply (k q : Vec Ideal S512x256 .bf16) (l : Vec Ideal S1x1x512 .f32) (j e : Fin 512) :
    k0_pay6 (F := Ideal) k q l (ix2 j e) = Ideal.exp2 ((∑ c : Fin 256, k (ix2 j c) * q (ix2 e c)) * sc2 - l (ix3 0 0 e)) := by
  pointwise [k0_pay6, k0_pay3, k0_pay4, named_sc2]
  rfl

theorem pay7_apply (k q : Vec Ideal S512x256 .bf16) (o : Vec Ideal S512x128 .f32) (l : Vec Ideal S1x1x512 .f32) (s : Vec Ideal S512x128 .f32) (j : Fin 512) (d : Fin 128) :
    k0_pay7 (F := Ideal) k q o l s (ix2 j d) = s (ix2 j d) + ∑ e : Fin 512, k0_pay6 (F := Ideal) k q l (ix2 j e) * o (ix2 e d) := by
  pointwise [k0_pay7, k0_pay5]

theorem pay8_apply (o : Vec Ideal S512x128 .f32) (v : Vec Ideal S512x128 .bf16) (j e : Fin 512) :
    k0_pay8 (F := Ideal) o v (ix2 j e) = ∑ d : Fin 128, v (ix2 j d) * o (ix2 e d) := by
  pointwise [k0_pay8, k0_pay5]

theorem pay9_apply (p w : FVec Ideal S512x512 .f32) (d : Vec Ideal S1x1x512 .f32) (j e : Fin 512) :
    k0_pay9 (F := Ideal) p w d (ix2 j e) = p (ix2 j e) * (w (ix2 j e) - d (ix3 0 0 e)) * sc := by
  pointwise [k0_pay9, named_sc]

theorem pay10_apply (q : FVec Ideal S512x256 .bf16) (p w : FVec Ideal S512x512 .f32) (d : Vec Ideal S1x1x512 .f32) (s : Vec Ideal S512x256 .f32) (j : Fin 512) (c : Fin 256) :
    k0_pay10 (F := Ideal) (k0_pay4 q) p w d s (ix2 j c) = s (ix2 j c) + ∑ e : Fin 512, k0_pay9 (F := Ideal) p w d (ix2 j e) * q (ix2 e c) := by
  pointwise [k0_pay10, k0_pay4]

theorem pay11_apply (k : FVec Ideal S512x256 .bf16) (p w : FVec Ideal S512x512 .f32) (d : Vec Ideal S1x1x512 .f32) (s : Vec Ideal S512x256 .f32) (e : Fin 512) (c : Fin 256) :
    k0_pay11 (F := Ideal) (k0_pay3 k) p w d s (ix2 e c) = s (ix2 e c) + ∑ j : Fin 512, k0_pay9 (F := Ideal) p w d (ix2 j e) * k (ix2 j c) := by
  pointwise [k0_pay11, k0_pay3]

/-! The block of the upper halves. -/

theorem pay80_apply (k q : Vec Ideal S256x256 .bf16) (l : Vec Ideal S1x1x256 .f32) (j e : Fin 256) :
    k0_pay80 (F := Ideal) (k0_pay78 k q l) k0_pay79 (ix2 j e)
      = if j.val ≤ e.val then Ideal.exp2 ((∑ c : Fin 256, k (ix2 j c) * q (ix2 e c)) * sc2 - l (ix3 0 0 e)) else 0 := by
  pointwise [k0_pay80, k0_pay78, k0_pay79, k0_pay75, k0_pay76, named_sc2]
  rw [addi_ofNat, select_sle _ _ (by omega) (by omega)]
  rfl

theorem pay81_apply (o : Vec Ideal S256x128 .f32) (s : Vec Ideal S256x128 .f32) (p : FVec Ideal S256x256 .f32) (b : IVec S256x256 1) (j : Fin 256) (d : Fin 128) :
    k0_pay81 (F := Ideal) (k0_pay77 o) p b s (ix2 j d) = s (ix2 j d) + ∑ e : Fin 256, k0_pay80 (F := Ideal) p b (ix2 j e) * o (ix2 e d) := by
  pointwise [k0_pay81, k0_pay77]

theorem pay82_apply (o : Vec Ideal S256x128 .f32) (v : Vec Ideal S256x128 .bf16) (dl : Vec Ideal S1x1x256 .f32) (p : FVec Ideal S256x256 .f32) (b : IVec S256x256 1) (j e : Fin 256) :
    k0_pay82 (F := Ideal) (k0_pay77 o) p b v dl (ix2 j e)
      = k0_pay80 (F := Ideal) p b (ix2 j e) * ((∑ d : Fin 128, v (ix2 j d) * o (ix2 e d)) - dl (ix3 0 0 e)) * sc := by
  pointwise [k0_pay82, k0_pay77, named_sc]

theorem pay83_apply (q : Vec Ideal S256x256 .bf16) (o : FVec Ideal S256x128 .bf16) (v : Vec Ideal S256x128 .bf16) (dl : Vec Ideal S1x1x256 .f32) (p : FVec Ideal S256x256 .f32) (b : IVec S256x256 1)
    (s : Vec Ideal S256x256 .f32) (j c : Fin 256) :
    k0_pay83 (F := Ideal) (k0_pay76 q) o p b v dl s (ix2 j c) = s (ix2 j c) + ∑ e : Fin 256, k0_pay82 (F := Ideal) o p b v dl (ix2 j e) * q (ix2 e c) := by
  pointwise [k0_pay83, k0_pay76]

theorem pay84_apply (k : Vec Ideal S256x256 .bf16) (o : FVec Ideal S256x128 .bf16) (v : Vec Ideal S256x128 .bf16) (dl : Vec Ideal S1x1x256 .f32) (p : FVec Ideal S256x256 .f32) (b : IVec S256x256 1)
    (s : Vec Ideal S256x256 .f32) (e c : Fin 256) :
    k0_pay84 (F := Ideal) (k0_pay75 k) o p b v dl s (ix2 e c) = s (ix2 e c) + ∑ j : Fin 256, k0_pay82 (F := Ideal) o p b v dl (ix2 j e) * k (ix2 j c) := by
  pointwise [k0_pay84, k0_pay75]

/-! The block of the lower half of the queries. -/

theorem pay88_apply (k : Vec Ideal S512x256 .bf16) (q : Vec Ideal S256x256 .bf16) (l : Vec Ideal S1x1x256 .f32) (j : Fin 512) (e : Fin 256) :
    k0_pay88 (F := Ideal) k q l (ix2 j e)
      = if j.val ≤ e.val + 256 then Ideal.exp2 ((∑ c : Fin 256, k (ix2 j c) * q (ix2 e c)) * sc2 - l (ix3 0 0 e)) else 0 := by
  pointwise [k0_pay88, k0_pay85, k0_pay86, named_sc2]
  rw [addi_ofNat, select_sle _ _ (by omega) (by omega)]
  rfl

theorem pay89_apply (k : Vec Ideal S512x256 .bf16) (q : Vec Ideal S256x256 .bf16) (o : Vec Ideal S256x128 .f32) (l : Vec Ideal S1x1x256 .f32) (s : Vec Ideal S512x128 .f32) (j : Fin 512) (d : Fin 128) :
    k0_pay89 (F := Ideal) k q o l s (ix2 j d) = s (ix2 j d) + ∑ e : Fin 256, k0_pay88 (F := Ideal) k q l (ix2 j e) * o (ix2 e d) := by
  pointwise [k0_pay89, k0_pay87]

theorem pay90_apply (o : Vec Ideal S256x128 .f32) (v : Vec Ideal S512x128 .bf16) (j : Fin 512) (e : Fin 256) :
    k0_pay90 (F := Ideal) o v (ix2 j e) = ∑ d : Fin 128, v (ix2 j d) * o (ix2 e d) := by
  pointwise [k0_pay90, k0_pay87]

theorem pay91_apply (p w : FVec Ideal S512x256 .f32) (d : Vec Ideal S1x1x256 .f32) (j : Fin 512) (e : Fin 256) :
    k0_pay91 (F := Ideal) p w d (ix2 j e) = p (ix2 j e) * (w (ix2 j e) - d (ix3 0 0 e)) * sc := by
  pointwise [k0_pay91, named_sc]

theorem pay92_apply (q : Vec Ideal S256x256 .bf16) (p w : FVec Ideal S512x256 .f32) (d : Vec Ideal S1x1x256 .f32) (s : Vec Ideal S512x256 .f32) (j : Fin 512) (c : Fin 256) :
    k0_pay92 (F := Ideal) (k0_pay86 q) p w d s (ix2 j c) = s (ix2 j c) + ∑ e : Fin 256, k0_pay91 (F := Ideal) p w d (ix2 j e) * q (ix2 e c) := by
  pointwise [k0_pay92, k0_pay86]

theorem pay93_apply (k : Vec Ideal S512x256 .bf16) (p w : FVec Ideal S512x256 .f32) (d : Vec Ideal S1x1x256 .f32) (s : Vec Ideal S256x256 .f32) (e c : Fin 256) :
    k0_pay93 (F := Ideal) (k0_pay85 k) p w d s (ix2 e c) = s (ix2 e c) + ∑ j : Fin 512, k0_pay91 (F := Ideal) p w d (ix2 j e) * k (ix2 j c) := by
  pointwise [k0_pay93, k0_pay85]

theorem pay72_apply (i : Fin 4096) (c : Fin 256) : (k0_pay72 (F := Ideal)) (ix2 i c) = 0 := by pointwise [k0_pay72]
theorem pay73_apply (i : Fin 512) (c : Fin 256) : (k0_pay73 (F := Ideal)) (ix2 i c) = 0 := by pointwise [k0_pay73]
theorem pay74_apply (i : Fin 512) (c : Fin 128) : (k0_pay74 (F := Ideal)) (ix2 i c) = 0 := by pointwise [k0_pay74]
theorem pay106_apply (s : Vec Ideal S512x128 .f32) (i : Fin 512) (c : Fin 128) : k0_pay106 (F := Ideal) s (ix2 i c) = s (ix2 i c) := by pointwise [k0_pay106]
theorem pay107_apply (s : Vec Ideal S512x128 .f32) (i : Fin 512) (c : Fin 128) : k0_pay107 (F := Ideal) s (ix2 i c) = s (ix2 i c) := by pointwise [k0_pay107]
theorem pay1_apply (s : Vec Ideal S4096x128 .f32) (i : Fin 4096) (c : Fin 128) : k0_pay1 (F := Ideal) s (ix2 i c) = s (ix2 i c) := by pointwise [k0_pay1]
/-- The last 128 columns of dq turned back by the tables: the partner of column `c` is column `c - 32` plus column `c + 32`, around the edge. -/
theorem pay2_apply (s cos sin : Vec Ideal S4096x128 .f32) (i : Fin 4096) (c : Fin 128) :
    k0_pay2 (F := Ideal) s cos sin (ix2 i c)
      = s (ix2 i c) * cos (ix2 i c) - (s (ix2 i ⟨(c.val + 128 - 32) % 128, Nat.mod_lt _ (by decide)⟩) + s (ix2 i ⟨(c.val + 128 - 96) % 128, Nat.mod_lt _ (by decide)⟩)) * sin (ix2 i c) := by
  pointwise [k0_pay2]

end Cert.KernelIdeal.Flash
end
-- ==== Proof.Flash.Sums.lean ====
/- What the backward attention kernel leaves after one key tile, as sums over the query rows and the keys. -/
module

public import proofs.«01_k».proof.Proof.Flash.Pay

@[expose] public section

noncomputable section

namespace Cert.KernelIdeal.Flash

open Idealize.ShloMosaic Idealize.ShloMosaic.TcCoe Idealize.ShloMosaic.Tactic
open Cert.KernelIdeal.Gen

/-! ## Windows and puts at an entry -/

section Windows

variable {α : Type}

theorem window_ix2 {N W : ℕ} (a b n w : ℕ) (x : (Shape.mk 2 ![N, W]).Idx → α) (inb) (e : Fin n) (c : Fin w) (i : Fin N) (k : Fin W)
    (hi : i.val = a + e.val) (hk : k.val = b + c.val) :
    VecWindow.window x ![a, b] ![n, w] inb (ix2 e c) = x (ix2 i k) := by
  unfold VecWindow.window
  congr 1
  funext z
  apply Fin.ext
  match z with
  | ⟨0, _⟩ => show a + 1 * e.val = i.val; omega
  | ⟨1, _⟩ => show b + 1 * c.val = k.val; omega

theorem window_ix3 {M N W : ℕ} (o a b m n w : ℕ) (x : (Shape.mk 3 ![M, N, W]).Idx → α) (inb) (u : Fin m) (e : Fin n) (c : Fin w) (g : Fin M) (i : Fin N) (k : Fin W)
    (hg : g.val = o + u.val) (hi : i.val = a + e.val) (hk : k.val = b + c.val) :
    VecWindow.window x ![o, a, b] ![m, n, w] inb (ix3 u e c) = x (ix3 g i k) := by
  unfold VecWindow.window
  congr 1
  funext z
  apply Fin.ext
  match z with
  | ⟨0, _⟩ => show o + 1 * u.val = g.val; omega
  | ⟨1, _⟩ => show a + 1 * e.val = i.val; omega
  | ⟨2, _⟩ => show b + 1 * c.val = k.val; omega

theorem put_in {N W : ℕ} (a b n w : ℕ) (x : (Shape.mk 2 ![N, W]).Idx → α) (y : (Shape.mk 2 ![n, w]).Idx → α) (i : Fin N) (k : Fin W) (e : Fin n) (c : Fin w)
    (hi : i.val = a + e.val) (hk : k.val = b + c.val) :
    VecWindow.put x ![a, b] ![n, w] y (ix2 i k) = y (ix2 e c) := by
  unfold VecWindow.put
  have he := e.isLt
  have hc := c.isLt
  rw [dif_pos (Fin.forall_fin_two.mpr ⟨by show a ≤ i.val ∧ i.val < a + n; omega, by show b ≤ k.val ∧ k.val < b + w; omega⟩)]
  congr 1
  funext z
  apply Fin.ext
  match z with
  | ⟨0, _⟩ => show i.val - a = e.val; omega
  | ⟨1, _⟩ => show k.val - b = c.val; omega

theorem put_out {N W : ℕ} (a b n w : ℕ) (x : (Shape.mk 2 ![N, W]).Idx → α) (y : (Shape.mk 2 ![n, w]).Idx → α) (i : Fin N) (k : Fin W)
    (h : (i.val < a ∨ a + n ≤ i.val) ∨ (k.val < b ∨ b + w ≤ k.val)) :
    VecWindow.put x ![a, b] ![n, w] y (ix2 i k) = x (ix2 i k) := by
  unfold VecWindow.put
  rw [dif_neg]
  intro hh
  have h0 : a ≤ i.val ∧ i.val < a + n := hh 0
  have h1 : b ≤ k.val ∧ k.val < b + w := hh 1
  omega

end Windows

/-! ## Sums over the first rows -/

/-- The sum of `f` over the first `n` rows. -/
def upto (n : ℕ) (f : Fin 4096 → EReal) : EReal := ∑ k ∈ Finset.range n, if h : k < 4096 then f ⟨k, h⟩ else 0

theorem upto_add (n m : ℕ) (h : n + m ≤ 4096) (f : Fin 4096 → EReal) :
    upto (n + m) f = upto n f + ∑ e : Fin m, f ⟨n + e.val, by omega⟩ := by
  unfold upto
  rw [Finset.sum_range_add, Finset.sum_range (n := m)]
  congr 1
  refine Finset.sum_congr rfl fun e _ => ?_
  rw [dif_pos (by omega)]

theorem upto_all (f : Fin 4096 → EReal) : upto 4096 f = ∑ i : Fin 4096, f i := by
  unfold upto
  rw [Finset.sum_range]
  exact Finset.sum_congr rfl fun e _ => dif_pos e.isLt

theorem upto_zero (n : ℕ) (f : Fin 4096 → EReal) (h : ∀ i : Fin 4096, i.val < n → f i = 0) : upto n f = 0 := by
  unfold upto
  refine Finset.sum_eq_zero fun k hk => ?_
  by_cases c : k < 4096
  · rw [dif_pos c]; exact h ⟨k, c⟩ (Finset.mem_range.mp hk)
  · rw [dif_neg c]

/-! ## The entries of a key tile -/

section Entries

variable (x : Ins Ideal)

/-- The scores' exponential of query row `i` and key `j` of the tile, and the gradient with respect to the probability less the row sum. -/
def pU (i : Fin 4096) (j : Fin 512) : EReal :=
  Ideal.exp2 ((∑ c : Fin 256, x.k (ix2 j c) * x.q (ix2 i c)) * sc2 - x.l (ix3 0 ⟨i.val / 512, by omega⟩ ⟨i.val % 512, Nat.mod_lt _ (by decide)⟩))
def wU (i : Fin 4096) (j : Fin 512) : EReal :=
  (∑ d : Fin 128, x.v (ix2 j d) * x.o (ix2 i d)) - x.d (ix3 0 ⟨i.val / 512, by omega⟩ ⟨i.val % 512, Nat.mod_lt _ (by decide)⟩)
/-- The same under the causal mask, for key tile `b`. -/
def pM (b : ℕ) (i : Fin 4096) (j : Fin 512) : EReal := if 512 * b + j.val ≤ i.val then pU x i j else 0
def dM (b : ℕ) (i : Fin 4096) (j : Fin 512) : EReal := pM x b i j * wU x i j * sc

theorem pM_zero {b : ℕ} {i : Fin 4096} {j : Fin 512} (h : i.val < 512 * b + j.val) : pM x b i j = 0 := if_neg (by omega)
theorem dM_zero {b : ℕ} {i : Fin 4096} {j : Fin 512} (h : i.val < 512 * b + j.val) : dM x b i j = 0 := by
  unfold dM; rw [pM_zero x h, zero_mul, zero_mul]
theorem pM_pos {b : ℕ} {i : Fin 4096} {j : Fin 512} (h : 512 * b + j.val ≤ i.val) : pM x b i j = pU x i j := if_pos h

variable {x} {r b : ℕ}

theorem qT_apply (h : r < 8) (e : Fin 512) (c : Fin 256) : qT x h (ix2 e c) = x.q (ix2 ⟨512 * r + e.val, by omega⟩ c) :=
  window_ix2 _ _ _ _ x.q _ e c _ _ rfl (Nat.zero_add _).symm
theorem oT_apply (h : r < 8) (e : Fin 512) (c : Fin 128) : oT x h (ix2 e c) = x.o (ix2 ⟨512 * r + e.val, by omega⟩ c) :=
  window_ix2 _ _ _ _ x.o _ e c _ _ rfl (Nat.zero_add _).symm
theorem lT_apply (h : r < 8) (e : Fin 512) : lT x h (ix3 0 0 e) = x.l (ix3 0 ⟨r, h⟩ e) :=
  window_ix3 _ _ _ _ _ _ x.l _ 0 0 e _ _ _ rfl rfl (Nat.zero_add _).symm
theorem dT_apply (h : r < 8) (e : Fin 512) : dT x h (ix3 0 0 e) = x.d (ix3 0 ⟨r, h⟩ e) :=
  window_ix3 _ _ _ _ _ _ x.d _ 0 0 e _ _ _ rfl rfl (Nat.zero_add _).symm

theorem p6_eq (h : r < 8) (hb : b < r) (j e : Fin 512) :
    k0_pay6 (F := Ideal) x.k (qT x h) (lT x h) (ix2 j e) = pM x b ⟨512 * r + e.val, by omega⟩ j := by
  rw [pay6_apply, pM_pos x (by show 512 * b + j.val ≤ 512 * r + e.val; omega), lT_apply]
  unfold pU
  congr 2
  · congr 1
    exact Finset.sum_congr rfl fun c _ => by rw [qT_apply]
  · congr 1
    congr 1
    · apply Fin.ext; show r = (512 * r + e.val) / 512; omega
    · apply Fin.ext; show e.val = (512 * r + e.val) % 512; omega

theorem p9_eq (h : r < 8) (hb : b < r) (j e : Fin 512) :
    k0_pay9 (F := Ideal) (k0_pay6 x.k (qT x h) (lT x h)) (k0_pay8 (oT x h) x.v) (dT x h) (ix2 j e) = dM x b ⟨512 * r + e.val, by omega⟩ j := by
  rw [pay9_apply, p6_eq h hb, pay8_apply, dT_apply]
  unfold dM wU
  congr 3
  · exact Finset.sum_congr rfl fun d _ => by rw [oT_apply]
  · congr 1
    congr 1
    · apply Fin.ext; show r = (512 * r + e.val) / 512; omega
    · apply Fin.ext; show e.val = (512 * r + e.val) % 512; omega

/-! One query tile below the diagonal. -/

theorem plus_dv (h : r < 8) (hb : b < r) (s : St Ideal) (j : Fin 512) (d : Fin 128) :
    (step x h s).dv (ix2 j d) = s.dv (ix2 j d) + ∑ e : Fin 512, pM x b ⟨512 * r + e.val, by omega⟩ j * x.o (ix2 ⟨512 * r + e.val, by omega⟩ d) := by
  unfold step
  dsimp only
  rw [pay7_apply]
  congr 1
  exact Finset.sum_congr rfl fun e _ => by rw [p6_eq h hb, oT_apply]

theorem plus_dk (h : r < 8) (hb : b < r) (s : St Ideal) (j : Fin 512) (c : Fin 256) :
    (step x h s).dk (ix2 j c) = s.dk (ix2 j c) + ∑ e : Fin 512, dM x b ⟨512 * r + e.val, by omega⟩ j * x.q (ix2 ⟨512 * r + e.val, by omega⟩ c) := by
  unfold step
  dsimp only
  rw [pay10_apply]
  congr 1
  exact Finset.sum_congr rfl fun e _ => by rw [p9_eq h hb, qT_apply]

theorem plus_dq_in (h : r < 8) (hb : b < r) (s : St Ideal) (i : Fin 4096) (c : Fin 256) (hi : 512 * r ≤ i.val ∧ i.val < 512 * r + 512) :
    (step x h s).dq (ix2 i c) = s.dq (ix2 i c) + ∑ j : Fin 512, dM x b i j * x.k (ix2 j c) := by
  unfold step
  dsimp only
  refine (put_in (512 * r) 0 512 256 s.dq _ i c ⟨i.val - 512 * r, by omega⟩ c (by show i.val = 512 * r + (i.val - 512 * r); omega) (Nat.zero_add _).symm).trans ?_
  have ei : (⟨512 * r + (i.val - 512 * r), by omega⟩ : Fin 4096) = i := Fin.ext (by show 512 * r + (i.val - 512 * r) = i.val; omega)
  rw [pay11_apply]
  congr 1
  · exact window_ix2 _ _ _ _ s.dq _ _ _ i c (by show i.val = 512 * r + (i.val - 512 * r); omega) (Nat.zero_add _).symm
  · refine Finset.sum_congr rfl fun j _ => ?_
    rw [p9_eq h hb]
    dsimp only
    rw [ei]

theorem plus_dq_out (h : r < 8) (s : St Ideal) (i : Fin 4096) (c : Fin 256) (hi : i.val < 512 * r ∨ 512 * r + 512 ≤ i.val) :
    (step x h s).dq (ix2 i c) = s.dq (ix2 i c) :=
  put_out (512 * r) 0 512 256 s.dq _ i c (Or.inl hi)

/-! The two diagonal blocks. -/

theorem kG_apply (j : Fin 256) (c : Fin 256) : kG x (ix2 j c) = x.k (ix2 ⟨j.val, by omega⟩ c) :=
  window_ix2 _ _ _ _ x.k _ j c _ _ (Nat.zero_add _).symm (Nat.zero_add _).symm
theorem vG_apply (j : Fin 256) (c : Fin 128) : vG x (ix2 j c) = x.v (ix2 ⟨j.val, by omega⟩ c) :=
  window_ix2 _ _ _ _ x.v _ j c _ _ (Nat.zero_add _).symm (Nat.zero_add _).symm
theorem qG_apply (h : b < 8) (e : Fin 256) (c : Fin 256) : qG x h (ix2 e c) = x.q (ix2 ⟨512 * b + e.val, by omega⟩ c) :=
  window_ix2 _ _ _ _ x.q _ e c _ _ rfl (Nat.zero_add _).symm
theorem oG_apply (h : b < 8) (e : Fin 256) (c : Fin 128) : oG x h (ix2 e c) = x.o (ix2 ⟨512 * b + e.val, by omega⟩ c) :=
  window_ix2 _ _ _ _ x.o _ e c _ _ rfl (Nat.zero_add _).symm
theorem lG_apply (h : b < 8) (e : Fin 256) : lG x h (ix3 0 0 e) = x.l (ix3 0 ⟨b, h⟩ ⟨e.val, by omega⟩) :=
  window_ix3 _ _ _ _ _ _ x.l _ 0 0 e _ _ _ rfl rfl (Nat.zero_add _).symm
theorem dG_apply (h : b < 8) (e : Fin 256) : dG x h (ix3 0 0 e) = x.d (ix3 0 ⟨b, h⟩ ⟨e.val, by omega⟩) :=
  window_ix3 _ _ _ _ _ _ x.d _ 0 0 e _ _ _ rfl rfl (Nat.zero_add _).symm
theorem qH_apply (h : b < 8) (e : Fin 256) (c : Fin 256) : qH x h (ix2 e c) = x.q (ix2 ⟨512 * b + 256 + e.val, by omega⟩ c) :=
  window_ix2 _ _ _ _ x.q _ e c _ _ rfl (Nat.zero_add _).symm
theorem oH_apply (h : b < 8) (e : Fin 256) (c : Fin 128) : oH x h (ix2 e c) = x.o (ix2 ⟨512 * b + 256 + e.val, by omega⟩ c) :=
  window_ix2 _ _ _ _ x.o _ e c _ _ rfl (Nat.zero_add _).symm
theorem lH_apply (h : b < 8) (e : Fin 256) : lH x h (ix3 0 0 e) = x.l (ix3 0 ⟨b, h⟩ ⟨256 + e.val, by omega⟩) :=
  window_ix3 _ _ _ _ _ _ x.l _ 0 0 e _ _ _ rfl rfl rfl
theorem dH_apply (h : b < 8) (e : Fin 256) : dH x h (ix3 0 0 e) = x.d (ix3 0 ⟨b, h⟩ ⟨256 + e.val, by omega⟩) :=
  window_ix3 _ _ _ _ _ _ x.d _ 0 0 e _ _ _ rfl rfl rfl

theorem p80_eq (h : b < 8) (j e : Fin 256) :
    k0_pay80 (F := Ideal) (k0_pay78 (kG x) (qG x h) (lG x h)) k0_pay79 (ix2 j e) = pM x b ⟨512 * b + e.val, by omega⟩ ⟨j.val, by omega⟩ := by
  rw [pay80_apply, lG_apply]
  unfold pM pU
  refine ite_congr (propext (by show j.val ≤ e.val ↔ 512 * b + j.val ≤ 512 * b + e.val; omega)) (fun _ => ?_) fun _ => rfl
  congr 2
  · congr 1
    exact Finset.sum_congr rfl fun c _ => by rw [qG_apply, kG_apply]
  · congr 1
    congr 1
    · apply Fin.ext; show b = (512 * b + e.val) / 512; omega
    · apply Fin.ext; show e.val = (512 * b + e.val) % 512; omega

theorem p82_eq (h : b < 8) (j e : Fin 256) :
    k0_pay82 (F := Ideal) (k0_pay77 (oG x h)) (k0_pay78 (kG x) (qG x h) (lG x h)) k0_pay79 (vG x) (dG x h) (ix2 j e)
      = dM x b ⟨512 * b + e.val, by omega⟩ ⟨j.val, by omega⟩ := by
  rw [pay82_apply, p80_eq, dG_apply]
  unfold dM wU
  congr 3
  · exact Finset.sum_congr rfl fun c _ => by rw [oG_apply, vG_apply]
  · congr 1
    congr 1
    · apply Fin.ext; show b = (512 * b + e.val) / 512; omega
    · apply Fin.ext; show e.val = (512 * b + e.val) % 512; omega

theorem p88_eq (h : b < 8) (j : Fin 512) (e : Fin 256) :
    k0_pay88 (F := Ideal) x.k (qH x h) (lH x h) (ix2 j e) = pM x b ⟨512 * b + 256 + e.val, by omega⟩ j := by
  rw [pay88_apply, lH_apply]
  unfold pM pU
  refine ite_congr (propext (by show j.val ≤ e.val + 256 ↔ 512 * b + j.val ≤ 512 * b + 256 + e.val; omega)) (fun _ => ?_) fun _ => rfl
  congr 2
  · congr 1
    exact Finset.sum_congr rfl fun c _ => by rw [qH_apply]
  · congr 1
    congr 1
    · apply Fin.ext; show b = (512 * b + 256 + e.val) / 512; omega
    · apply Fin.ext; show 256 + e.val = (512 * b + 256 + e.val) % 512; omega

theorem p91_eq (h : b < 8) (j : Fin 512) (e : Fin 256) :
    k0_pay91 (F := Ideal) (k0_pay88 x.k (qH x h) (lH x h)) (k0_pay90 (oH x h) x.v) (dH x h) (ix2 j e) = dM x b ⟨512 * b + 256 + e.val, by omega⟩ j := by
  rw [pay91_apply, p88_eq, pay90_apply, dH_apply]
  unfold dM wU
  congr 3
  · exact Finset.sum_congr rfl fun c _ => by rw [oH_apply]
  · congr 1
    congr 1
    · apply Fin.ext; show b = (512 * b + 256 + e.val) / 512; omega
    · apply Fin.ext; show 256 + e.val = (512 * b + 256 + e.val) % 512; omega

/-- A sum over the 512 keys of which the last 256 give nothing. -/
theorem sum_lower (f : Fin 512 → EReal) (h : ∀ j : Fin 512, 256 ≤ j.val → f j = 0) : ∑ j : Fin 512, f j = ∑ j : Fin 256, f ⟨j.val, by omega⟩ := by
  have e : ∑ j : Fin 512, f j = (∑ k : Fin 256, f ⟨k.val, by omega⟩) + ∑ k : Fin 256, f ⟨256 + k.val, by omega⟩ := Fin.sum_univ_add (a := 256) (b := 256) f
  rw [e, Finset.sum_eq_zero (s := Finset.univ) (f := fun k : Fin 256 => f ⟨256 + k.val, by omega⟩) (fun k _ => h _ (Nat.le_add_right _ _)), add_zero]

theorem diagG_dv (h : b < 8) (s : St Ideal) (j : Fin 512) (d : Fin 128) :
    (diagG x h s).dv (ix2 j d) = s.dv (ix2 j d) + ∑ e : Fin 256, pM x b ⟨512 * b + e.val, by omega⟩ j * x.o (ix2 ⟨512 * b + e.val, by omega⟩ d) := by
  unfold diagG
  dsimp only
  by_cases hj : j.val < 256
  · refine (put_in 0 0 256 128 s.dv _ j d ⟨j.val, hj⟩ d (Nat.zero_add _).symm (Nat.zero_add _).symm).trans ?_
    rw [pay81_apply]
    congr 1
    · exact window_ix2 _ _ _ _ s.dv _ _ _ j d (Nat.zero_add _).symm (Nat.zero_add _).symm
    · exact Finset.sum_congr rfl fun e _ => by rw [p80_eq, oG_apply]
  · refine (put_out 0 0 256 128 s.dv _ j d (by omega)).trans ?_
    rw [Finset.sum_eq_zero, add_zero]
    intro e _
    rw [pM_zero x (by show 512 * b + e.val < 512 * b + j.val; omega), zero_mul]

theorem diagG_dk (h : b < 8) (s : St Ideal) (j : Fin 512) (c : Fin 256) :
    (diagG x h s).dk (ix2 j c) = s.dk (ix2 j c) + ∑ e : Fin 256, dM x b ⟨512 * b + e.val, by omega⟩ j * x.q (ix2 ⟨512 * b + e.val, by omega⟩ c) := by
  unfold diagG
  dsimp only
  by_cases hj : j.val < 256
  · refine (put_in 0 0 256 256 s.dk _ j c ⟨j.val, hj⟩ c (Nat.zero_add _).symm (Nat.zero_add _).symm).trans ?_
    rw [pay83_apply]
    congr 1
    · exact window_ix2 _ _ _ _ s.dk _ _ _ j c (Nat.zero_add _).symm (Nat.zero_add _).symm
    · exact Finset.sum_congr rfl fun e _ => by rw [p82_eq, qG_apply]
  · refine (put_out 0 0 256 256 s.dk _ j c (by omega)).trans ?_
    rw [Finset.sum_eq_zero, add_zero]
    intro e _
    rw [dM_zero x (by show 512 * b + e.val < 512 * b + j.val; omega), zero_mul]

theorem diagG_dq_in (h : b < 8) (s : St Ideal) (i : Fin 4096) (c : Fin 256) (hi : 512 * b ≤ i.val ∧ i.val < 512 * b + 256) :
    (diagG x h s).dq (ix2 i c) = s.dq (ix2 i c) + ∑ j : Fin 512, dM x b i j * x.k (ix2 j c) := by
  unfold diagG
  dsimp only
  refine (put_in (512 * b + 256 * 0) 0 256 256 s.dq _ i c ⟨i.val - 512 * b, by omega⟩ c (by show i.val = 512 * b + 256 * 0 + (i.val - 512 * b); omega) (Nat.zero_add _).symm).trans ?_
  have ei : (⟨512 * b + (i.val - 512 * b), by omega⟩ : Fin 4096) = i := Fin.ext (by show 512 * b + (i.val - 512 * b) = i.val; omega)
  rw [pay84_apply, sum_lower _ fun j hj => by rw [dM_zero x (by omega), zero_mul]]
  congr 1
  · exact window_ix2 _ _ _ _ s.dq _ _ _ i c (by show i.val = 512 * b + 256 * 0 + (i.val - 512 * b); omega) (Nat.zero_add _).symm
  · refine Finset.sum_congr rfl fun j _ => ?_
    rw [p82_eq, kG_apply]
    dsimp only
    rw [ei]

theorem diagG_dq_out (h : b < 8) (s : St Ideal) (i : Fin 4096) (c : Fin 256) (hi : i.val < 512 * b ∨ 512 * b + 256 ≤ i.val) :
    (diagG x h s).dq (ix2 i c) = s.dq (ix2 i c) :=
  put_out (512 * b + 256 * 0) 0 256 256 s.dq _ i c (Or.inl (by omega))

theorem diagH_dv (h : b < 8) (s : St Ideal) (j : Fin 512) (d : Fin 128) :
    (diagH x h s).dv (ix2 j d) = s.dv (ix2 j d) + ∑ e : Fin 256, pM x b ⟨512 * b + 256 + e.val, by omega⟩ j * x.o (ix2 ⟨512 * b + 256 + e.val, by omega⟩ d) := by
  unfold diagH
  dsimp only
  rw [pay89_apply]
  refine congrArg (s.dv (ix2 j d) + ·) ?_
  exact Finset.sum_congr rfl fun e _ => by rw [p88_eq, oH_apply]

theorem diagH_dk (h : b < 8) (s : St Ideal) (j : Fin 512) (c : Fin 256) :
    (diagH x h s).dk (ix2 j c) = s.dk (ix2 j c) + ∑ e : Fin 256, dM x b ⟨512 * b + 256 + e.val, by omega⟩ j * x.q (ix2 ⟨512 * b + 256 + e.val, by omega⟩ c) := by
  unfold diagH
  dsimp only
  rw [pay92_apply]
  refine congrArg (s.dk (ix2 j c) + ·) ?_
  exact Finset.sum_congr rfl fun e _ => by rw [p91_eq, qH_apply]

theorem diagH_dq_in (h : b < 8) (s : St Ideal) (i : Fin 4096) (c : Fin 256) (hi : 512 * b + 256 ≤ i.val ∧ i.val < 512 * b + 512) :
    (diagH x h s).dq (ix2 i c) = s.dq (ix2 i c) + ∑ j : Fin 512, dM x b i j * x.k (ix2 j c) := by
  unfold diagH
  dsimp only
  refine (put_in (512 * b + 256 * 1) 0 256 256 s.dq _ i c ⟨i.val - (512 * b + 256), by omega⟩ c (by show i.val = 512 * b + 256 * 1 + (i.val - (512 * b + 256)); omega) (Nat.zero_add _).symm).trans ?_
  have ei : (⟨512 * b + 256 + (i.val - (512 * b + 256)), by omega⟩ : Fin 4096) = i := Fin.ext (by show 512 * b + 256 + (i.val - (512 * b + 256)) = i.val; omega)
  rw [pay93_apply]
  refine congrArg₂ (· + ·) ?_ ?_
  · exact window_ix2 _ _ _ _ s.dq _ _ _ i c (by show i.val = 512 * b + 256 * 1 + (i.val - (512 * b + 256)); omega) (Nat.zero_add _).symm
  · refine Finset.sum_congr rfl fun j _ => ?_
    rw [p91_eq]
    dsimp only
    rw [ei]

theorem diagH_dq_out (h : b < 8) (s : St Ideal) (i : Fin 4096) (c : Fin 256) (hi : i.val < 512 * b + 256 ∨ 512 * b + 512 ≤ i.val) :
    (diagH x h s).dq (ix2 i c) = s.dq (ix2 i c) :=
  put_out (512 * b + 256 * 1) 0 256 256 s.dq _ i c (Or.inl (by omega))

/-! The whole key tile. -/

/-- The state after the rows below `n`, from the state `s` at the tile's start. -/
structure Upto (x : Ins Ideal) (b : ℕ) (s t : St Ideal) (n : ℕ) : Prop where
  dv : ∀ (j : Fin 512) (d : Fin 128), t.dv (ix2 j d) = s.dv (ix2 j d) + upto n fun i => pM x b i j * x.o (ix2 i d)
  dk : ∀ (j : Fin 512) (c : Fin 256), t.dk (ix2 j c) = s.dk (ix2 j c) + upto n fun i => dM x b i j * x.q (ix2 i c)
  dq_lt : ∀ (i : Fin 4096) (c : Fin 256), i.val < n → t.dq (ix2 i c) = s.dq (ix2 i c) + ∑ j : Fin 512, dM x b i j * x.k (ix2 j c)
  dq_ge : ∀ (i : Fin 4096) (c : Fin 256), n ≤ i.val → t.dq (ix2 i c) = s.dq (ix2 i c)

theorem Upto.init (s : St Ideal) : Upto x b s s (512 * b) where
  dv j d := by rw [upto_zero _ _ fun i hi => by rw [pM_zero x (by omega), zero_mul], add_zero]
  dk j c := by rw [upto_zero _ _ fun i hi => by rw [dM_zero x (by omega), zero_mul], add_zero]
  dq_lt i c hi := by rw [Finset.sum_eq_zero, add_zero]; intro j _; rw [dM_zero x (by omega), zero_mul]
  dq_ge _ _ _ := rfl

theorem Upto.diagG {s t : St Ideal} (h : b < 8) (u : Upto x b s t (512 * b)) : Upto x b s (diagG x h t) (512 * b + 256) where
  dv j d := by rw [diagG_dv h, u.dv, upto_add _ _ (by omega), add_assoc]
  dk j c := by rw [diagG_dk h, u.dk, upto_add _ _ (by omega), add_assoc]
  dq_lt i c hi := by
    by_cases hh : i.val < 512 * b
    · rw [diagG_dq_out h _ i c (Or.inl hh), u.dq_lt i c hh]
    · rw [diagG_dq_in h _ i c ⟨by omega, hi⟩, u.dq_ge i c (by omega)]
  dq_ge i c hi := by rw [diagG_dq_out h _ i c (Or.inr hi), u.dq_ge i c (by omega)]

theorem Upto.diagH {s t : St Ideal} (h : b < 8) (u : Upto x b s t (512 * b + 256)) : Upto x b s (diagH x h t) (512 * b + 256 + 256) where
  dv j d := by rw [diagH_dv h, u.dv, upto_add (512 * b + 256) 256 (by omega), add_assoc]
  dk j c := by rw [diagH_dk h, u.dk, upto_add (512 * b + 256) 256 (by omega), add_assoc]
  dq_lt i c hi := by
    by_cases hh : i.val < 512 * b + 256
    · rw [diagH_dq_out h _ i c (Or.inl hh), u.dq_lt i c hh]
    · rw [diagH_dq_in h _ i c ⟨by omega, by omega⟩, u.dq_ge i c (by omega)]
  dq_ge i c hi := by rw [diagH_dq_out h _ i c (Or.inr (by omega)), u.dq_ge i c (by omega)]

theorem Upto.step {s t : St Ideal} (h : r < 8) (hb : b < r) (u : Upto x b s t (512 * r)) : Upto x b s (step x h t) (512 * r + 512) where
  dv j d := by rw [plus_dv h hb, u.dv, upto_add _ _ (by omega), add_assoc]
  dk j c := by rw [plus_dk h hb, u.dk, upto_add _ _ (by omega), add_assoc]
  dq_lt i c hi := by
    by_cases hh : i.val < 512 * r
    · rw [plus_dq_out h _ i c (Or.inl hh), u.dq_lt i c hh]
    · rw [plus_dq_in h hb _ i c ⟨by omega, hi⟩, u.dq_ge i c (by omega)]
  dq_ge i c hi := by rw [plus_dq_out h _ i c (Or.inr hi), u.dq_ge i c (by omega)]

theorem Upto.sweep {s t : St Ideal} {a : ℕ} (hb : b < a) (u : Upto x b s t (512 * a)) (n : ℕ) (hn : a + n ≤ 8) :
    Upto x b s (sweep x a t n) (512 * (a + n)) := by
  induction n with
  | zero => exact u
  | succ n ih =>
    rw [sweep_succ, stepN_of_lt x (show a + n < 8 by omega)]
    exact (ih (by omega)).step (by omega) (by omega)

theorem after_upto (h : b < 8) (dq : Vec Ideal S4096x256 .f32) : Upto x b (start b dq) (after x h dq) 4096 := by
  have u := (((Upto.init (x := x) (b := b) (start b dq)).diagG h).diagH h)
  have w := Upto.sweep (a := b + 1) (Nat.lt_succ_self b) (show Upto x b _ _ (512 * (b + 1)) from u) (7 - b) (by omega)
  have e : b + 1 + (7 - b) = 8 := by omega
  rw [e] at w
  exact w

/-- What a key tile leaves in dv and dk, and what it adds to dq. -/
theorem after_dv (h : b < 8) (dq : Vec Ideal S4096x256 .f32) (j : Fin 512) (d : Fin 128) :
    (after x h dq).dv (ix2 j d) = ∑ i : Fin 4096, pM x b i j * x.o (ix2 i d) := by
  rw [(after_upto h dq).dv, upto_all]
  exact (congrArg (· + _) (pay74_apply j d)).trans (zero_add _)

theorem after_dk (h : b < 8) (dq : Vec Ideal S4096x256 .f32) (j : Fin 512) (c : Fin 256) :
    (after x h dq).dk (ix2 j c) = ∑ i : Fin 4096, dM x b i j * x.q (ix2 i c) := by
  rw [(after_upto h dq).dk, upto_all]
  exact (congrArg (· + _) (pay73_apply j c)).trans (zero_add _)

theorem after_dq (h : b < 8) (dq : Vec Ideal S4096x256 .f32) (i : Fin 4096) (c : Fin 256) :
    (after x h dq).dq (ix2 i c) = (if b = 0 then 0 else dq (ix2 i c)) + ∑ j : Fin 512, dM x b i j * x.k (ix2 j c) := by
  rw [(after_upto h dq).dq_lt i c i.isLt]
  congr 1
  unfold start
  by_cases hb : b = 0
  · rw [if_pos hb, if_pos hb]; exact pay72_apply i c
  · rw [if_neg hb, if_neg hb]

end Entries

end Cert.KernelIdeal.Flash
end
-- ==== Proof.Flash.Points.lean ====
/- The three outputs of the backward attention kernel, entry by entry, in terms of the arrays it stages. -/
module

public import proofs.«01_k».proof.Proof.Flash.Sums
public import proofs.«01_k».proof.Proof.Flash.Run
public import Idealize.ShloMosaic.Lib.Pipeline.Value

@[expose] public section

noncomputable section

namespace Cert.KernelIdeal.Flash

open Idealize.ShloMosaic Idealize.ShloMosaic.TcCoe Idealize.ShloMosaic.Tactic Idealize.SL.Sem
open Idealize.ShloMosaic.Pipeline (Dat)
open Cert.KernelIdeal.Gen

variable (m : (ℓ : Loc nD τ sig) → Buf (Elt Ideal) ℓ)

/-! ## The staged arrays -/

abbrev aQ (c : Dev nD) : Vec Ideal S4096x2048 .bf16 := V m c main_v58
abbrev aK (c : Dev nD) : Vec Ideal S4096x2048 .bf16 := V m c main_v61
abbrev aV (c : Dev nD) : Vec Ideal S4096x1024 .bf16 := V m c main_v68
abbrev aO (c : Dev nD) : Vec Ideal S4096x1024 .f32 := V m c main_arg5
abbrev aL (c : Dev nD) : Vec Ideal S8x8x512 .f32 := V m c main_v49
abbrev aD (c : Dev nD) : Vec Ideal S8x8x512 .f32 := V m c main_v54
abbrev aCos (c : Dev nD) : Vec Ideal S4096x128 .f32 := V m c main_v63
abbrev aSin (c : Dev nD) : Vec Ideal S4096x128 .f32 := V m c main_v66

/-- Column `k` of head `h` among columns of `w` per head. -/
abbrev col (w : ℕ) (h : Fin 8) (k : Fin w) : Fin (8 * w) :=
  ⟨w * h.val + k.val, by have := h.isLt; have := k.isLt; calc w * h.val + k.val < w * h.val + w := by omega
    _ = w * (h.val + 1) := by ring
    _ ≤ w * 8 := Nat.mul_le_mul_left _ (by omega)
    _ = 8 * w := by ring⟩

theorem idx_q : ∀ t : Fin cfg0.N, win0_0.index t (0 : Fin 2) = 0 ∧ win0_0.index t (1 : Fin 2) = t.val / 8 :=
  (by decide +kernel : ∀ t : Fin grid0.N, _)
theorem idx_k : ∀ t : Fin cfg0.N, win0_1.index t (0 : Fin 2) = t.val % 8 ∧ win0_1.index t (1 : Fin 2) = t.val / 8 :=
  (by decide +kernel : ∀ t : Fin grid0.N, _)
theorem idx_v : ∀ t : Fin cfg0.N, win0_2.index t (0 : Fin 2) = t.val % 8 ∧ win0_2.index t (1 : Fin 2) = t.val / 8 :=
  (by decide +kernel : ∀ t : Fin grid0.N, _)
theorem idx_o : ∀ t : Fin cfg0.N, win0_3.index t (0 : Fin 2) = 0 ∧ win0_3.index t (1 : Fin 2) = t.val / 8 :=
  (by decide +kernel : ∀ t : Fin grid0.N, _)
theorem idx_l : ∀ t : Fin cfg0.N, win0_4.index t (0 : Fin 3) = t.val / 8 ∧ win0_4.index t (1 : Fin 3) = 0 ∧ win0_4.index t (2 : Fin 3) = 0 :=
  (by decide +kernel : ∀ t : Fin grid0.N, _)
theorem idx_d : ∀ t : Fin cfg0.N, win0_5.index t (0 : Fin 3) = t.val / 8 ∧ win0_5.index t (1 : Fin 3) = 0 ∧ win0_5.index t (2 : Fin 3) = 0 :=
  (by decide +kernel : ∀ t : Fin grid0.N, _)
theorem idx_cos : ∀ t : Fin cfg0.N, win0_6.index t (0 : Fin 2) = 0 ∧ win0_6.index t (1 : Fin 2) = 0 :=
  (by decide +kernel : ∀ t : Fin grid0.N, _)
theorem idx_sin : ∀ t : Fin cfg0.N, win0_7.index t (0 : Fin 2) = 0 ∧ win0_7.index t (1 : Fin 2) = 0 :=
  (by decide +kernel : ∀ t : Fin grid0.N, _)

section Reads

variable (c : Dev nD) (t : Fin cfg0.N) (h : Fin 8) (b : ℕ)

theorem q_apply (hh : h.val = t.val / 8) (i : Fin 4096) (k : Fin 256) : (insAt m c t).q (ix2 i k) = aQ m c (ix2 i (col 256 h k)) := by
  obtain ⟨e0, e1⟩ := idx_q t
  show iblk m c 0 t (ix2 i k) = _
  unfold iblk
  rw [View.read_apply]
  show V m c main_v58 _ = V m c main_v58 _
  refine congrArg (V m c main_v58) ?_
  funext a; apply Fin.ext
  match a with
  | ⟨0, _⟩ => show win0_0.index t 0 * 4096 + 1 * i.val = i.val; rw [e0]; omega
  | ⟨1, _⟩ => show win0_0.index t 1 * 256 + 1 * k.val = 256 * h.val + k.val; rw [e1]; omega

theorem k_apply (hh : h.val = t.val / 8) (hb : b = t.val % 8) (j : Fin 512) (k : Fin 256) (j' : Fin 4096) (hj : j'.val = 512 * b + j.val) :
    (insAt m c t).k (ix2 j k) = aK m c (ix2 j' (col 256 h k)) := by
  obtain ⟨e0, e1⟩ := idx_k t
  show iblk m c 1 t (ix2 j k) = _
  unfold iblk
  rw [View.read_apply]
  show V m c main_v61 _ = V m c main_v61 _
  refine congrArg (V m c main_v61) ?_
  funext a; apply Fin.ext
  match a with
  | ⟨0, _⟩ => show win0_1.index t 0 * 512 + 1 * j.val = j'.val; rw [e0]; omega
  | ⟨1, _⟩ => show win0_1.index t 1 * 256 + 1 * k.val = 256 * h.val + k.val; rw [e1]; omega

theorem v_apply (hh : h.val = t.val / 8) (hb : b = t.val % 8) (j : Fin 512) (k : Fin 128) (j' : Fin 4096) (hj : j'.val = 512 * b + j.val) :
    (insAt m c t).v (ix2 j k) = aV m c (ix2 j' (col 128 h k)) := by
  obtain ⟨e0, e1⟩ := idx_v t
  show iblk m c 2 t (ix2 j k) = _
  unfold iblk
  rw [View.read_apply]
  show V m c main_v68 _ = V m c main_v68 _
  refine congrArg (V m c main_v68) ?_
  funext a; apply Fin.ext
  match a with
  | ⟨0, _⟩ => show win0_2.index t 0 * 512 + 1 * j.val = j'.val; rw [e0]; omega
  | ⟨1, _⟩ => show win0_2.index t 1 * 128 + 1 * k.val = 128 * h.val + k.val; rw [e1]; omega

theorem o_apply (hh : h.val = t.val / 8) (i : Fin 4096) (k : Fin 128) : (insAt m c t).o (ix2 i k) = aO m c (ix2 i (col 128 h k)) := by
  obtain ⟨e0, e1⟩ := idx_o t
  show iblk m c 3 t (ix2 i k) = _
  unfold iblk
  rw [View.read_apply]
  show V m c main_arg5 _ = V m c main_arg5 _
  refine congrArg (V m c main_arg5) ?_
  funext a; apply Fin.ext
  match a with
  | ⟨0, _⟩ => show win0_3.index t 0 * 4096 + 1 * i.val = i.val; rw [e0]; omega
  | ⟨1, _⟩ => show win0_3.index t 1 * 128 + 1 * k.val = 128 * h.val + k.val; rw [e1]; omega

theorem l_apply (hh : h.val = t.val / 8) (r : Fin 8) (e : Fin 512) : (insAt m c t).l (ix3 0 r e) = aL m c (ix3 h r e) := by
  obtain ⟨e0, e1, e2⟩ := idx_l t
  show iblk m c 4 t (ix3 0 r e) = _
  unfold iblk
  rw [View.read_apply]
  show V m c main_v49 _ = V m c main_v49 _
  refine congrArg (V m c main_v49) ?_
  funext a; apply Fin.ext
  match a with
  | ⟨0, _⟩ => show win0_4.index t 0 * 1 + 1 * 0 = h.val; rw [e0]; omega
  | ⟨1, _⟩ => show win0_4.index t 1 * 8 + 1 * r.val = r.val; rw [e1]; omega
  | ⟨2, _⟩ => show win0_4.index t 2 * 512 + 1 * e.val = e.val; rw [e2]; omega

theorem d_apply (hh : h.val = t.val / 8) (r : Fin 8) (e : Fin 512) : (insAt m c t).d (ix3 0 r e) = aD m c (ix3 h r e) := by
  obtain ⟨e0, e1, e2⟩ := idx_d t
  show iblk m c 5 t (ix3 0 r e) = _
  unfold iblk
  rw [View.read_apply]
  show V m c main_v54 _ = V m c main_v54 _
  refine congrArg (V m c main_v54) ?_
  funext a; apply Fin.ext
  match a with
  | ⟨0, _⟩ => show win0_5.index t 0 * 1 + 1 * 0 = h.val; rw [e0]; omega
  | ⟨1, _⟩ => show win0_5.index t 1 * 8 + 1 * r.val = r.val; rw [e1]; omega
  | ⟨2, _⟩ => show win0_5.index t 2 * 512 + 1 * e.val = e.val; rw [e2]; omega

theorem cos_apply (i : Fin 4096) (k : Fin 128) : (iblk m c 6 t : Vec Ideal S4096x128 .f32) (ix2 i k) = aCos m c (ix2 i k) := by
  obtain ⟨e0, e1⟩ := idx_cos t
  unfold iblk
  rw [View.read_apply]
  show V m c main_v63 _ = V m c main_v63 _
  refine congrArg (V m c main_v63) ?_
  funext a; apply Fin.ext
  match a with
  | ⟨0, _⟩ => show win0_6.index t 0 * 4096 + 1 * i.val = i.val; rw [e0]; omega
  | ⟨1, _⟩ => show win0_6.index t 1 * 128 + 1 * k.val = k.val; rw [e1]; omega

theorem sin_apply (i : Fin 4096) (k : Fin 128) : (iblk m c 7 t : Vec Ideal S4096x128 .f32) (ix2 i k) = aSin m c (ix2 i k) := by
  obtain ⟨e0, e1⟩ := idx_sin t
  unfold iblk
  rw [View.read_apply]
  show V m c main_v66 _ = V m c main_v66 _
  refine congrArg (V m c main_v66) ?_
  funext a; apply Fin.ext
  match a with
  | ⟨0, _⟩ => show win0_7.index t 0 * 4096 + 1 * i.val = i.val; rw [e0]; omega
  | ⟨1, _⟩ => show win0_7.index t 1 * 128 + 1 * k.val = k.val; rw [e1]; omega

end Reads

/-! ## The probabilities and the gradients of a head -/

variable (c : Dev nD) (h : Fin 8)

/-- The probability of key `j` at query row `i`, from the saved row statistics. -/
def prb (i j : Fin 4096) : EReal :=
  if j.val ≤ i.val then
    Ideal.exp2 ((∑ k : Fin 256, aK m c (ix2 j (col 256 h k)) * aQ m c (ix2 i (col 256 h k))) * sc2
      - aL m c (ix3 h ⟨i.val / 512, by omega⟩ ⟨i.val % 512, Nat.mod_lt _ (by decide)⟩))
  else 0
/-- The gradient of the score of key `j` at query row `i`. -/
def dsc (i j : Fin 4096) : EReal :=
  prb m c h i j * ((∑ d : Fin 128, aV m c (ix2 j (col 128 h d)) * aO m c (ix2 i (col 128 h d)))
      - aD m c (ix3 h ⟨i.val / 512, by omega⟩ ⟨i.val % 512, Nat.mod_lt _ (by decide)⟩)) * sc
def gQ (i : Fin 4096) (k : Fin 256) : EReal := ∑ j : Fin 4096, dsc m c h i j * aK m c (ix2 j (col 256 h k))
def gK (j : Fin 4096) (k : Fin 256) : EReal := ∑ i : Fin 4096, dsc m c h i j * aQ m c (ix2 i (col 256 h k))
def gV (j : Fin 4096) (d : Fin 128) : EReal := ∑ i : Fin 4096, prb m c h i j * aO m c (ix2 i (col 128 h d))

section Tile

variable {m c h}
variable {t : Fin cfg0.N} {b : ℕ} (hh : h.val = t.val / 8) (hb : b = t.val % 8)
include hh hb

theorem pM_eq (i : Fin 4096) (j : Fin 512) (j' : Fin 4096) (hj : j'.val = 512 * b + j.val) : pM (insAt m c t) b i j = prb m c h i j' := by
  unfold pM pU prb
  rw [hj]
  refine if_congr Iff.rfl ?_ rfl
  rw [l_apply m c t h hh, Finset.sum_congr rfl fun k _ => by rw [k_apply m c t h b hh hb j k j' hj, q_apply m c t h hh]]

theorem dM_eq (i : Fin 4096) (j : Fin 512) (j' : Fin 4096) (hj : j'.val = 512 * b + j.val) : dM (insAt m c t) b i j = dsc m c h i j' := by
  unfold dM wU dsc
  rw [pM_eq hh hb i j j' hj, d_apply m c t h hh, Finset.sum_congr rfl fun k _ => by rw [v_apply m c t h b hh hb j k j' hj, o_apply m c t h hh]]

theorem pre_dv (j : Fin 512) (d : Fin 128) (j' : Fin 4096) (hj : j'.val = 512 * b + j.val) : (pre m c (t.val + 1)).dv (ix2 j d) = gV m c h j' d := by
  have hc : (grid0.coords t 1).val = b := (coord_1 t).trans hb.symm
  rw [pre_succ, after_dv]
  unfold gV
  refine Finset.sum_congr rfl fun i _ => ?_
  rw [hc, pM_eq hh hb i j j' hj, o_apply m c t h hh]

theorem pre_dk (j : Fin 512) (k : Fin 256) (j' : Fin 4096) (hj : j'.val = 512 * b + j.val) : (pre m c (t.val + 1)).dk (ix2 j k) = gK m c h j' k := by
  have hc : (grid0.coords t 1).val = b := (coord_1 t).trans hb.symm
  rw [pre_succ, after_dk]
  unfold gK
  refine Finset.sum_congr rfl fun i _ => ?_
  rw [hc, dM_eq hh hb i j j' hj, q_apply m c t h hh]

theorem pre_dq_step (i : Fin 4096) (k : Fin 256) : (pre m c (t.val + 1)).dq (ix2 i k) = (if b = 0 then 0 else (pre m c t.val).dq (ix2 i k))
    + ∑ e : Fin 512, dsc m c h i ⟨512 * b + e.val, by omega⟩ * aK m c (ix2 ⟨512 * b + e.val, by omega⟩ (col 256 h k)) := by
  have hc : (grid0.coords t 1).val = b := (coord_1 t).trans hb.symm
  rw [pre_succ, after_dq, hc]
  refine congrArg (_ + ·) (Finset.sum_congr rfl fun j _ => ?_)
  rw [dM_eq hh hb i j ⟨512 * b + j.val, by omega⟩ rfl, k_apply m c t h b hh hb j k ⟨512 * b + j.val, by omega⟩ rfl]

end Tile

theorem pre_dq_upto (i : Fin 4096) (k : Fin 256) : ∀ b : ℕ, b < 8 →
    (pre m c (8 * h.val + b + 1)).dq (ix2 i k) = upto (512 * b + 512) fun j => dsc m c h i j * aK m c (ix2 j (col 256 h k))
  | 0, _ => by
    have e := pre_dq_step (m := m) (c := c) (h := h) (t := ⟨8 * h.val + 0, lt_of_lt_of_eq (by omega) N_0.symm⟩) (b := 0)
      (by show h.val = (8 * h.val + 0) / 8; omega) (by show 0 = (8 * h.val + 0) % 8; omega) i k
    rw [if_pos rfl] at e
    rw [upto_add (512 * 0) 512 (by omega), upto_zero _ _ (fun _ hi => absurd hi (by omega))]
    exact e
  | b + 1, hb => by
    have e := pre_dq_step (m := m) (c := c) (h := h) (t := ⟨8 * h.val + (b + 1), lt_of_lt_of_eq (by omega) N_0.symm⟩) (b := b + 1)
      (by show h.val = (8 * h.val + (b + 1)) / 8; omega) (by show b + 1 = (8 * h.val + (b + 1)) % 8; omega) i k
    rw [if_neg (by omega)] at e
    have u := pre_dq_upto i k b (by omega)
    rw [show 512 * b + 512 = 512 * (b + 1) from by ring] at u
    rw [upto_add (512 * (b + 1)) 512 (by omega), ← u]
    exact e

theorem pre_dq (i : Fin 4096) (k : Fin 256) : (pre m c (8 * h.val + 7 + 1)).dq (ix2 i k) = gQ m c h i k := by
  rw [pre_dq_upto m c h i k 7 (by decide)]
  exact upto_all _

/-! ## The three arrays -/

/-- The gradient of the queries with its last 128 columns turned back. -/
def oQ (i : Fin 4096) (k : Fin 256) : EReal :=
  if h' : k.val < 128 then gQ m c h i k
  else gQ m c h i k * aCos m c (ix2 i ⟨k.val - 128, by omega⟩)
    - (gQ m c h i ⟨128 + (k.val - 128 + 128 - 32) % 128, by omega⟩ + gQ m c h i ⟨128 + (k.val - 128 + 128 - 96) % 128, by omega⟩)
      * aSin m c (ix2 i ⟨k.val - 128, by omega⟩)
/-- The gradient of the plain part of the keys beside that of the values. -/
def oKV (j : Fin 4096) (k : Fin 256) : EReal :=
  if h' : k.val < 128 then gK m c h j k else gV m c h j ⟨k.val - 128, by omega⟩
/-- The gradient of the turned part of the keys. -/
def oKR (j : Fin 4096) (k : Fin 128) : EReal := gK m c h j ⟨128 + k.val, by omega⟩

theorem outQ_apply {t : Fin cfg0.N} (hh : h.val = t.val / 8) (h7 : t.val % 8 = 7) (i : Fin 4096) (k : Fin 256) :
    outQ (iblk m c 6 t) (iblk m c 7 t) (pre m c (t.val + 1)) (ix2 i k) = oQ m c h i k := by
  have ht : t.val + 1 = 8 * h.val + 7 + 1 := by omega
  unfold outQ oQ
  by_cases hk : k.val < 128
  · rw [dif_pos hk, put_out _ _ _ _ _ _ _ _ (by omega), put_in _ _ _ _ _ _ _ _ i ⟨k.val, hk⟩ (by omega) (by simp), pay1_apply,
      window_ix2 _ _ _ _ _ _ _ _ i k (by omega) (by simp), ht, pre_dq]
  · rw [dif_neg hk, put_in _ _ _ _ _ _ _ _ i ⟨k.val - 128, by omega⟩ (by omega) (by show k.val = 128 + (k.val - 128); omega), pay2_apply,
      window_ix2 _ _ _ _ _ _ _ _ i k (by omega) (by show k.val = 128 + (k.val - 128); omega),
      window_ix2 _ _ _ _ _ _ _ _ i ⟨128 + (k.val - 128 + 128 - 32) % 128, by omega⟩ (by omega) rfl,
      window_ix2 _ _ _ _ _ _ _ _ i ⟨128 + (k.val - 128 + 128 - 96) % 128, by omega⟩ (by omega) rfl,
      cos_apply, sin_apply, ht, pre_dq, pre_dq, pre_dq]

theorem outKV_apply {t : Fin cfg0.N} (hh : h.val = t.val / 8) (j : Fin 512) (k : Fin 256) (j' : Fin 4096) (hj : j'.val = 512 * (t.val % 8) + j.val) :
    outKV (pre m c (t.val + 1)) (ix2 j k) = oKV m c h j' k := by
  unfold outKV oKV
  by_cases hk : k.val < 128
  · rw [dif_pos hk, put_out _ _ _ _ _ _ _ _ (by omega), put_in _ _ _ _ _ _ _ _ j ⟨k.val, hk⟩ (by omega) (by simp), pay106_apply,
      window_ix2 _ _ _ _ _ _ _ _ j k (by omega) (by simp), pre_dk hh rfl j k j' hj]
  · rw [dif_neg hk, put_in _ _ _ _ _ _ _ _ j ⟨k.val - 128, by omega⟩ (by omega) (by show k.val = 128 + (k.val - 128); omega), pay107_apply,
      pre_dv hh rfl j _ j' hj]

theorem outKR_apply {t : Fin cfg0.N} (hh : h.val = t.val / 8) (j : Fin 512) (k : Fin 128) (j' : Fin 4096) (hj : j'.val = 512 * (t.val % 8) + j.val) :
    outKR (pre m c (t.val + 1)) (ix2 j k) = oKR m c h j' k := by
  unfold outKR oKR
  rw [window_ix2 _ _ _ _ _ _ _ _ j ⟨128 + k.val, by omega⟩ (by omega) rfl, pre_dk hh rfl j _ j' hj]

end Cert.KernelIdeal.Flash

end
-- ==== Proof.Flash.Real.lean ====
/- The kernel's probabilities and gradients, when the inputs are real, are the plain sums. -/
module

public import proofs.«01_k».proof.Proof.Flash.HostVal
public import proofs.«01_k».proof.Proof.Flash.Points

@[expose] public section

noncomputable section

namespace Cert.KernelIdeal.Flash

open Idealize.ShloMosaic Idealize.ShloMosaic.TcCoe
open Cert.KernelIdeal.Gen Cert.KernelIdeal.Host
open Cert.Attention (Inp Holds qc kc vv gg cosT sinT prob gp mean gs gq gk dvv score ex rowMax tot)

/-- The six inputs of the backward attention call are the reals `A`. -/
abbrev IsReal (A : Inp) (m : (ℓ : Loc nD τ sig) → Buf (Elt Ideal) ℓ) (c : Dev nD) : Prop :=
  Holds A (u_arg0 m c) (u_arg1 m c) (u_arg2 m c) (u_arg3 m c) (u_arg4 m c) (u_arg5 m c)

variable {m : (ℓ : Loc nD τ sig) → Buf (Elt Ideal) ℓ} {c : Dev nD} {A : Inp} (H : IsReal A m c) (h : Fin 8)

theorem col_head256 (k : Fin 256) (p : (col 256 h k).val / 256 < 8) : (⟨(col 256 h k).val / 256, p⟩ : Fin 8) = h :=
  Fin.ext (by show (256 * h.val + k.val) / 256 = h.val; omega)
theorem col_part256 (k : Fin 256) (p : (col 256 h k).val % 256 < 256) : (⟨(col 256 h k).val % 256, p⟩ : Fin 256) = k :=
  Fin.ext (by show (256 * h.val + k.val) % 256 = k.val; omega)
theorem col_head128 (k : Fin 128) (p : (col 128 h k).val / 128 < 8) : (⟨(col 128 h k).val / 128, p⟩ : Fin 8) = h :=
  Fin.ext (by show (128 * h.val + k.val) / 128 = h.val; omega)
theorem col_part128 (k : Fin 128) (p : (col 128 h k).val % 128 < 128) : (⟨(col 128 h k).val % 128, p⟩ : Fin 128) = k :=
  Fin.ext (by show (128 * h.val + k.val) % 128 = k.val; omega)

include H

theorem q_real (i : Fin 4096) (k : Fin 256) : aQ m c (ix2 i (col 256 h k)) = (qc A h i k : EReal) := by
  have e := k58 H i (col 256 h k)
  rw [col_head256, col_part256] at e
  exact e
theorem k_real (j : Fin 4096) (k : Fin 256) : aK m c (ix2 j (col 256 h k)) = (kc A h j k : EReal) := by
  have e := k61 H j (col 256 h k)
  rw [col_head256, col_part256] at e
  exact e
theorem v_real (j : Fin 4096) (d : Fin 128) : aV m c (ix2 j (col 128 h d)) = (vv A h j d : EReal) := by
  have e := k68 H j (col 128 h d)
  rw [col_head128, col_part128] at e
  exact e
theorem o_real (i : Fin 4096) (d : Fin 128) : aO m c (ix2 i (col 128 h d)) = (gg A h i d : EReal) := by
  refine (H.g i (col 128 h d)).trans ?_
  unfold gg
  refine congrArg (fun n => ((A.g i n : ℝ) : EReal)) (Fin.ext ?_)
  show 128 * h.val + d.val = h.val * 128 + d.val
  omega
theorem l_real (i : Fin 4096) : aL m c (ix3 h ⟨i.val / 512, by omega⟩ ⟨i.val % 512, Nat.mod_lt _ (by decide)⟩)
    = (((rowMax A h i + Real.log (tot A h i)) / Real.log 2 : ℝ) : EReal) :=
  k49 H h _ _ i (by show i.val = 512 * (i.val / 512) + i.val % 512; omega)
theorem d_real (i : Fin 4096) : aD m c (ix3 h ⟨i.val / 512, by omega⟩ ⟨i.val % 512, Nat.mod_lt _ (by decide)⟩) = (mean A h i : EReal) :=
  k54 H h _ _ i (by show i.val = 512 * (i.val / 512) + i.val % 512; omega)

theorem prb_real (i j : Fin 4096) : prb m c h i j = (prob A h i j : EReal) := by
  unfold prb
  split
  · rename_i hij
    rw [l_real H, Cert.Attention.sum_mul_coe (fun k => k_real H h j k) (fun k => q_real H h i k), ← EReal.coe_mul, ← EReal.coe_sub, Ideal.exp2_coe]
    exact congrArg _ (Cert.Attention.prob_pow A h hij _ (Cert.Attention.score_cat A h i j))
  · rename_i hij
    unfold prob ex
    rw [if_neg hij, zero_div, EReal.coe_zero]

theorem dsc_real (i j : Fin 4096) : dsc m c h i j = (gs A h i j : EReal) := by
  unfold dsc
  rw [prb_real H, d_real H, Cert.Attention.sum_mul_coe (fun d => v_real H h j d) (fun d => o_real H h i d), ← EReal.coe_sub, ← EReal.coe_mul, ← EReal.coe_mul]
  unfold gs gp
  rw [Finset.sum_congr rfl fun d _ => mul_comm (vv A h j d) (gg A h i d)]

theorem gQ_real (i : Fin 4096) (k : Fin 256) : gQ m c h i k = (gq A h i k : EReal) :=
  Cert.Attention.sum_mul_coe (fun j => dsc_real H h i j) (fun j => k_real H h j k)
theorem gK_real (j : Fin 4096) (k : Fin 256) : gK m c h j k = (gk A h j k : EReal) :=
  Cert.Attention.sum_mul_coe (fun i => dsc_real H h i j) (fun i => q_real H h i k)
theorem gV_real (j : Fin 4096) (d : Fin 128) : gV m c h j d = (dvv A h j d : EReal) :=
  Cert.Attention.sum_mul_coe (fun i => prb_real H h i j) (fun i => o_real H h i d)

theorem oQ_real (i : Fin 4096) (k : Fin 256) : oQ m c h i k = (Cert.Attention.outQ A h i k : EReal) := by
  unfold oQ
  split
  · rename_i hk
    rw [gQ_real H, Cert.Attention.gq_eq, dif_pos hk]
    unfold Cert.Attention.outQ
    rw [dif_pos hk]
  · rename_i hk
    rw [gQ_real H, gQ_real H, gQ_real H,
      show aCos m c (ix2 i ⟨k.val - 128, by omega⟩) = (cosT A i ⟨k.val - 128, by omega⟩ : EReal) from k63 H i _,
      show aSin m c (ix2 i ⟨k.val - 128, by omega⟩) = (sinT A i ⟨k.val - 128, by omega⟩ : EReal) from k66 H i _,
      ← EReal.coe_add, ← EReal.coe_mul, ← EReal.coe_mul, ← EReal.coe_sub]
    exact congrArg _ (Cert.Attention.turn_eq A h i k _ _ ⟨k.val - 128, by omega⟩ (by show k.val = 128 + (k.val - 128); omega) rfl rfl)

theorem oKV_real (j : Fin 4096) (k : Fin 256) : oKV m c h j k = (Cert.Attention.outKV A h j k : EReal) := by
  unfold oKV Cert.Attention.outKV
  split
  · rename_i hk
    rw [gK_real H, Cert.Attention.gk_eq, dif_pos hk]
  · rw [gV_real H]

theorem oKR_real (j : Fin 4096) (k : Fin 128) : oKR m c h j k = (Cert.Attention.outKR A h j k : EReal) := by
  unfold oKR Cert.Attention.outKR
  rw [gK_real H, Cert.Attention.gk_eq, dif_neg (by show ¬ 128 + k.val < 128; omega)]
  have ek : ∀ p, (⟨128 + k.val - 128, p⟩ : Fin 64).val = k.val := fun _ => by show 128 + k.val - 128 = k.val; omega
  by_cases hk : k.val < 64
  · rw [dif_pos (show 128 + k.val - 128 < 64 by omega), dif_pos hk]
    exact congrArg (fun x => ((Cert.Attention.dkr A h j x : ℝ) : EReal)) (Fin.ext (ek _))
  · rw [dif_neg (show ¬ 128 + k.val - 128 < 64 by omega), dif_neg hk]

end Cert.KernelIdeal.Flash

end
-- ==== Proof.Flash.Out.lean ====
/- The three arrays the backward attention kernel ends with, put together from the blocks its points write back. -/
module

public import proofs.«01_k».proof.Proof.Flash.Points
public import Idealize.ShloMosaic.Lib.Pipeline.Value

@[expose] public section

noncomputable section

namespace Cert.KernelIdeal.Flash

open Idealize.ShloMosaic Idealize.ShloMosaic.TcCoe Idealize.SL.Sem
open Cert.KernelIdeal.Gen

variable (m : (ℓ : Loc nD τ sig) → Buf (Elt Ideal) ℓ) (c : Dev nD)

/-- The whole arrays: column `n` of the first two is column `n % 256` of head `n / 256`, of the third `n % 128` of `n / 128`. -/
def arrQ : Vec Ideal S4096x2048 .bf16 := fun i =>
  oQ m c ⟨(i 1).val / 256, by have : (i 1).val < 2048 := (i 1).isLt; omega⟩ (i 0) ⟨(i 1).val % 256, Nat.mod_lt _ (by decide)⟩
def arrKV : Vec Ideal S4096x2048 .bf16 := fun i =>
  oKV m c ⟨(i 1).val / 256, by have : (i 1).val < 2048 := (i 1).isLt; omega⟩ (i 0) ⟨(i 1).val % 256, Nat.mod_lt _ (by decide)⟩
def arrKR : Vec Ideal S4096x1024 .f32 := fun i =>
  oKR m c ⟨(i 1).val / 128, by have : (i 1).val < 1024 := (i 1).isLt; omega⟩ (i 0) ⟨(i 1).val % 128, Nat.mod_lt _ (by decide)⟩

theorem idx_8 : ∀ t : Fin cfg0.N, win0_8.index t (0 : Fin 2) = 0 ∧ win0_8.index t (1 : Fin 2) = t.val / 8 :=
  (by decide +kernel : ∀ t : Fin grid0.N, _)
theorem idx_9 : ∀ t : Fin cfg0.N, win0_9.index t (0 : Fin 2) = t.val % 8 ∧ win0_9.index t (1 : Fin 2) = t.val / 8 :=
  (by decide +kernel : ∀ t : Fin grid0.N, _)
theorem idx_10 : ∀ t : Fin cfg0.N, win0_10.index t (0 : Fin 2) = t.val % 8 ∧ win0_10.index t (1 : Fin 2) = t.val / 8 :=
  (by decide +kernel : ∀ t : Fin grid0.N, _)

theorem head_lt (t : Fin cfg0.N) : t.val / 8 < 8 := by
  have := lt_of_lt_of_eq t.isLt (show cfg0.N = 64 from N_0)
  omega

theorem flushed_8 (t : Fin cfg0.N) (hf : (cfg0.win 8).flush t = true) :
    (dats m 0 c).flushed 8 t = ((cfg0.win 8).blk t).view.read (Elt Ideal) (arrQ m c) := by
  show (cfg0.win 8).cut (grid0.coords t) ((dats m 0 c).after 8 t) = _
  rw [after0_8]
  obtain ⟨e0, e1⟩ := idx_8 t
  funext y
  have hy0 : (y 0).val < 4096 := (y 0).isLt
  have hy1 : (y 1).val < 256 := (y 1).isLt
  have hb0 : (((cfg0.win 8).blk t).view.emb y 0).val = win0_8.index t (0 : Fin 2) * 4096 + 1 * (y 0).val := rfl
  have hb1 : (((cfg0.win 8).blk t).view.emb y 1).val = win0_8.index t (1 : Fin 2) * 256 + 1 * (y 1).val := rfl
  rw [View.read_apply]
  have ex : (cfg0.win 8).xinj (grid0.coords t) y = ix2 (⟨(y 0).val, hy0⟩ : Fin 4096) (⟨(y 1).val, hy1⟩ : Fin 256) := by
    funext a
    match a with
    | ⟨0, _⟩ => rfl
    | ⟨1, _⟩ => rfl
  show outQ (iblk m c 6 t) (iblk m c 7 t) (pre m c (t.val + 1)) ((cfg0.win 8).xinj (grid0.coords t) y) = arrQ m c (((cfg0.win 8).blk t).view.emb y)
  rw [ex, outQ_apply m c ⟨t.val / 8, head_lt t⟩ rfl ((flush0_8 t).mp hf)]
  unfold arrQ
  congr 1
  · exact Fin.ext (by show t.val / 8 = (((cfg0.win 8).blk t).view.emb y 1).val / 256; rw [hb1, e1]; omega)
  · exact Fin.ext (by show (y 0).val = (((cfg0.win 8).blk t).view.emb y 0).val; rw [hb0, e0]; omega)
  · exact Fin.ext (by show (y 1).val = (((cfg0.win 8).blk t).view.emb y 1).val % 256; rw [hb1, e1]; omega)

theorem flushed_9 (t : Fin cfg0.N) :
    (dats m 0 c).flushed 9 t = ((cfg0.win 9).blk t).view.read (Elt Ideal) (arrKV m c) := by
  show (cfg0.win 9).cut (grid0.coords t) ((dats m 0 c).after 9 t) = _
  rw [after0_9]
  obtain ⟨e0, e1⟩ := idx_9 t
  funext y
  have hy0 : (y 0).val < 512 := (y 0).isLt
  have hy1 : (y 1).val < 256 := (y 1).isLt
  have hb0 : (((cfg0.win 9).blk t).view.emb y 0).val = win0_9.index t (0 : Fin 2) * 512 + 1 * (y 0).val := rfl
  have hb1 : (((cfg0.win 9).blk t).view.emb y 1).val = win0_9.index t (1 : Fin 2) * 256 + 1 * (y 1).val := rfl
  rw [View.read_apply]
  have ex : (cfg0.win 9).xinj (grid0.coords t) y = ix2 (⟨(y 0).val, hy0⟩ : Fin 512) (⟨(y 1).val, hy1⟩ : Fin 256) := by
    funext a
    match a with
    | ⟨0, _⟩ => rfl
    | ⟨1, _⟩ => rfl
  show outKV (pre m c (t.val + 1)) ((cfg0.win 9).xinj (grid0.coords t) y) = arrKV m c (((cfg0.win 9).blk t).view.emb y)
  rw [ex, outKV_apply m c ⟨t.val / 8, head_lt t⟩ rfl ⟨(y 0).val, hy0⟩ ⟨(y 1).val, hy1⟩ ⟨512 * (t.val % 8) + (y 0).val, by omega⟩ rfl]
  unfold arrKV
  congr 1
  · exact Fin.ext (by show t.val / 8 = (((cfg0.win 9).blk t).view.emb y 1).val / 256; rw [hb1, e1]; omega)
  · exact Fin.ext (by show 512 * (t.val % 8) + (y 0).val = (((cfg0.win 9).blk t).view.emb y 0).val; rw [hb0, e0]; omega)
  · exact Fin.ext (by show (y 1).val = (((cfg0.win 9).blk t).view.emb y 1).val % 256; rw [hb1, e1]; omega)

theorem flushed_10 (t : Fin cfg0.N) :
    (dats m 0 c).flushed 10 t = ((cfg0.win 10).blk t).view.read (Elt Ideal) (arrKR m c) := by
  show (cfg0.win 10).cut (grid0.coords t) ((dats m 0 c).after 10 t) = _
  rw [after0_10]
  obtain ⟨e0, e1⟩ := idx_10 t
  funext y
  have hy0 : (y 0).val < 512 := (y 0).isLt
  have hy1 : (y 1).val < 128 := (y 1).isLt
  have hb0 : (((cfg0.win 10).blk t).view.emb y 0).val = win0_10.index t (0 : Fin 2) * 512 + 1 * (y 0).val := rfl
  have hb1 : (((cfg0.win 10).blk t).view.emb y 1).val = win0_10.index t (1 : Fin 2) * 128 + 1 * (y 1).val := rfl
  rw [View.read_apply]
  have ex : (cfg0.win 10).xinj (grid0.coords t) y = ix2 (⟨(y 0).val, hy0⟩ : Fin 512) (⟨(y 1).val, hy1⟩ : Fin 128) := by
    funext a
    match a with
    | ⟨0, _⟩ => rfl
    | ⟨1, _⟩ => rfl
  show outKR (pre m c (t.val + 1)) ((cfg0.win 10).xinj (grid0.coords t) y) = arrKR m c (((cfg0.win 10).blk t).view.emb y)
  rw [ex, outKR_apply m c ⟨t.val / 8, head_lt t⟩ rfl ⟨(y 0).val, hy0⟩ ⟨(y 1).val, hy1⟩ ⟨512 * (t.val % 8) + (y 0).val, by omega⟩ rfl]
  unfold arrKR
  congr 1
  · exact Fin.ext (by show t.val / 8 = (((cfg0.win 10).blk t).view.emb y 1).val / 128; rw [hb1, e1]; omega)
  · exact Fin.ext (by show 512 * (t.val % 8) + (y 0).val = (((cfg0.win 10).blk t).view.emb y 0).val; rw [hb0, e0]; omega)
  · exact Fin.ext (by show (y 1).val = (((cfg0.win 10).blk t).view.emb y 1).val % 128; rw [hb1, e1]; omega)

theorem mem_8 (t : Fin cfg0.N) (i : S4096x2048.Idx) :
    i ∈ ((cfg0.win 8).blk t).view.set ↔ ∀ a : Fin 2, win0_8.index t a * S4096x256.size a ≤ (i a).val ∧ (i a).val < win0_8.index t a * S4096x256.size a + S4096x256.size a := by
  show i ∈ ((View.whole main_v69_0).slice (win0_8.rect t)).set ↔ _
  rw [View.set_slice_whole, Rect.mem_set_unit]
  exact Iff.rfl
theorem mem_9 (t : Fin cfg0.N) (i : S4096x2048.Idx) :
    i ∈ ((cfg0.win 9).blk t).view.set ↔ ∀ a : Fin 2, win0_9.index t a * S512x256.size a ≤ (i a).val ∧ (i a).val < win0_9.index t a * S512x256.size a + S512x256.size a := by
  show i ∈ ((View.whole main_v69_1).slice (win0_9.rect t)).set ↔ _
  rw [View.set_slice_whole, Rect.mem_set_unit]
  exact Iff.rfl
theorem mem_10 (t : Fin cfg0.N) (i : S4096x1024.Idx) :
    i ∈ ((cfg0.win 10).blk t).view.set ↔ ∀ a : Fin 2, win0_10.index t a * S512x128.size a ≤ (i a).val ∧ (i a).val < win0_10.index t a * S512x128.size a + S512x128.size a := by
  show i ∈ ((View.whole main_v69_2).slice (win0_10.rect t)).set ↔ _
  rw [View.set_slice_whole, Rect.mem_set_unit]
  exact Iff.rfl

theorem final_8 : (dats m 0 c).arrAt 8 cfg0.N = arrQ m c :=
  (dats m 0 c).arrAt_eq_of_cover 8 _ (fun t hf => flushed_8 m c t hf) (fun i => by
    have h0 : (i 0).val < 4096 := (i 0).isLt
    have h1 : (i 1).val < 2048 := (i 1).isLt
    have hN : cfg0.N = 64 := N_0
    have ht : 8 * ((i 1).val / 256) + 7 < cfg0.N := by rw [hN]; omega
    obtain ⟨e0, e1⟩ := idx_8 ⟨8 * ((i 1).val / 256) + 7, ht⟩
    have e1' : win0_8.index ⟨8 * ((i 1).val / 256) + 7, ht⟩ (1 : Fin 2) = (8 * ((i 1).val / 256) + 7) / 8 := e1
    refine ⟨⟨8 * ((i 1).val / 256) + 7, ht⟩, (flush0_8 _).mpr (by show (8 * ((i 1).val / 256) + 7) % 8 = 7; omega), (mem_8 _ i).mpr fun a => ?_⟩
    match a with
    | ⟨0, _⟩ => show win0_8.index _ (0 : Fin 2) * 4096 ≤ (i 0).val ∧ (i 0).val < win0_8.index _ (0 : Fin 2) * 4096 + 4096; rw [e0]; omega
    | ⟨1, _⟩ => show win0_8.index _ (1 : Fin 2) * 256 ≤ (i 1).val ∧ (i 1).val < win0_8.index _ (1 : Fin 2) * 256 + 256; rw [e1']; omega)

theorem final_9 : (dats m 0 c).arrAt 9 cfg0.N = arrKV m c :=
  (dats m 0 c).arrAt_eq_of_cover 9 _ (fun t _ => flushed_9 m c t) (fun i => by
    have h0 : (i 0).val < 4096 := (i 0).isLt
    have h1 : (i 1).val < 2048 := (i 1).isLt
    have hN : cfg0.N = 64 := N_0
    have ht : 8 * ((i 1).val / 256) + (i 0).val / 512 < cfg0.N := by rw [hN]; omega
    obtain ⟨e0, e1⟩ := idx_9 ⟨8 * ((i 1).val / 256) + (i 0).val / 512, ht⟩
    have e0' : win0_9.index ⟨8 * ((i 1).val / 256) + (i 0).val / 512, ht⟩ (0 : Fin 2) = (8 * ((i 1).val / 256) + (i 0).val / 512) % 8 := e0
    have e1' : win0_9.index ⟨8 * ((i 1).val / 256) + (i 0).val / 512, ht⟩ (1 : Fin 2) = (8 * ((i 1).val / 256) + (i 0).val / 512) / 8 := e1
    refine ⟨⟨8 * ((i 1).val / 256) + (i 0).val / 512, ht⟩, flush0_9 _, (mem_9 _ i).mpr fun a => ?_⟩
    match a with
    | ⟨0, _⟩ => show win0_9.index _ (0 : Fin 2) * 512 ≤ (i 0).val ∧ (i 0).val < win0_9.index _ (0 : Fin 2) * 512 + 512; rw [e0']; omega
    | ⟨1, _⟩ => show win0_9.index _ (1 : Fin 2) * 256 ≤ (i 1).val ∧ (i 1).val < win0_9.index _ (1 : Fin 2) * 256 + 256; rw [e1']; omega)

theorem final_10 : (dats m 0 c).arrAt 10 cfg0.N = arrKR m c :=
  (dats m 0 c).arrAt_eq_of_cover 10 _ (fun t _ => flushed_10 m c t) (fun i => by
    have h0 : (i 0).val < 4096 := (i 0).isLt
    have h1 : (i 1).val < 1024 := (i 1).isLt
    have hN : cfg0.N = 64 := N_0
    have ht : 8 * ((i 1).val / 128) + (i 0).val / 512 < cfg0.N := by rw [hN]; omega
    obtain ⟨e0, e1⟩ := idx_10 ⟨8 * ((i 1).val / 128) + (i 0).val / 512, ht⟩
    have e0' : win0_10.index ⟨8 * ((i 1).val / 128) + (i 0).val / 512, ht⟩ (0 : Fin 2) = (8 * ((i 1).val / 128) + (i 0).val / 512) % 8 := e0
    have e1' : win0_10.index ⟨8 * ((i 1).val / 128) + (i 0).val / 512, ht⟩ (1 : Fin 2) = (8 * ((i 1).val / 128) + (i 0).val / 512) / 8 := e1
    refine ⟨⟨8 * ((i 1).val / 128) + (i 0).val / 512, ht⟩, flush0_10 _, (mem_10 _ i).mpr fun a => ?_⟩
    match a with
    | ⟨0, _⟩ => show win0_10.index _ (0 : Fin 2) * 512 ≤ (i 0).val ∧ (i 0).val < win0_10.index _ (0 : Fin 2) * 512 + 512; rw [e0']; omega
    | ⟨1, _⟩ => show win0_10.index _ (1 : Fin 2) * 128 ≤ (i 1).val ∧ (i 1).val < win0_10.index _ (1 : Fin 2) * 128 + 128; rw [e1']; omega)

end Cert.KernelIdeal.Flash

end
-- ==== Proof.Flash.Ref.lean ====
/- The reference's three gradients over the extended reals, at real entries: each is one of the plain sums. -/
module

public import proofs.«01_k».proof.Proof.Flash.Scalar
public import proofs.«01_k».proof.Proof.Gen.ReferenceIdeal.Read

@[expose] public section

noncomputable section

namespace Cert.ReferenceIdeal.Read

open Cert.ReferenceIdeal Cert.ReferenceIdeal.Gen Idealize.ShloMosaic Idealize.ShloMosaic.TcCoe Idealize.ShloMosaic.Tactic
open Cert.Attention

variable {x0 : Vec Ideal S4096x1536 .f32} {x1 : Vec Ideal S4096x2048 .f32} {x2 : Vec Ideal S4096x8x64 .f32} {x3 x4 : Vec Ideal S4096x32 .f32}
  {x5 : Vec Ideal S4096x1024 .f32} {A : Inp} (H : Holds A x0 x1 x2 x3 x4 x5)
include H

theorem r2 (i : Fin 4096) (h : Fin 8) (d : Fin 128) : val_main_v2 (F := Ideal) x0 (ix3 i h d) = (qn A h i d : EReal) := by
  pointwise [val_main_v2, val_main_v0]
  exact H.q _ _

theorem r20 (i : Fin 4096) (h : Fin 8) (c : Fin 64) : val_main_v20 (F := Ideal) x0 x3 x4 (ix3 i h c) = (qr A h i c : EReal) := by
  pointwise [val_main_v20, val_main_v19, val_main_v18, val_main_v17, val_main_v16, val_main_v15, val_main_v14, val_main_v13, val_main_v12, val_main_v11, val_main_v10, val_main_v9, val_main_v8, val_main_v7, val_main_v6, val_main_v3, val_main_v0]
  simp only [H.q, H.cos, H.sin]
  unfold qr
  split
  · simp only [EReal.coe_sub, EReal.coe_mul]
  · simp only [EReal.coe_add, EReal.coe_mul]

theorem r4 (j : Fin 4096) (h : Fin 8) (d : Fin 128) : val_main_v4 (F := Ideal) x1 (ix3 j h d) = (kn A h j d : EReal) := by
  pointwise [val_main_v4, val_main_v1]
  exact H.kv _ _

theorem r5 (j : Fin 4096) (h : Fin 8) (d : Fin 128) : val_main_v5 (F := Ideal) x1 (ix3 j h d) = (vv A h j d : EReal) := by
  pointwise [val_main_v5, val_main_v1]
  exact H.kv _ _

theorem r26 (h : Fin 8) (i j : Fin 4096) : val_main_v26 (F := Ideal) x0 x1 x2 x3 x4 (ix3 h i j) = (score A h i j : EReal) := by
  pointwise [val_main_v26, val_main_v25, val_main_v24, val_main_cst, val_main_v23, val_main_v22, val_main_v21]
  rw [sum_mul_coe (fun d => r2 H i h d) (fun d => r4 H j h d), sum_mul_coe (fun c => r20 H i h c) (fun c => H.kr j h c), sqrt_192,
    ← EReal.coe_add, div_coe _ _ sqrt_ne]
  rfl

omit H in
theorem r34 (h : Fin 8) (i j : Fin 4096) (x y : EReal) :
    Scalar.select (val_main_v34_1 (F := Ideal) (ix3 h i j)) x y = if j.val ≤ i.val then x else y := by
  have e : val_main_v34_1 (F := Ideal) (ix3 h i j) = IntOp.cmpi .sle (BitVec.ofNat 32 j.val) (BitVec.ofNat 32 i.val) := by
    pointwise [val_main_v34_1, val_main_v33, val_main_v32, val_main_v31, val_main_v30, val_main_v29, val_main_v28, val_main_v27]
  rw [e]
  exact select_sle j.val i.val (by omega) (by omega) x y

theorem r34_0 (h : Fin 8) (i j : Fin 4096) : val_main_v34_0 (F := Ideal) x0 x1 x2 x3 x4 (ix3 h i j) = masked A h i j := by
  pointwise [val_main_v34_0, val_main_call0_v2, val_main_call0_v0, val_main_cst_0]
  rw [r34, r26 H]
  show (if _ then _ else Ideal.ofBits .f32 0xFF800000#32) = _
  rw [word_bot]
  rfl

theorem r35 (h : Fin 8) (i : Fin 4096) : val_main_v35 (F := Ideal) x0 x1 x2 x3 x4 (ix2 h i) = (rowMax A h i : EReal) := by
  pointwise [val_main_v35, val_main_cst_1]
  rw [word_bot, funext fun j => r34_0 H h i j]
  exact fold_eq A h i

omit H in
theorem r41 (h : Fin 8) (i : Fin 4096) : val_main_v41 (F := Ideal) (ix2 h i) = (⊥ : EReal) := by
  pointwise [val_main_v41, val_main_cst_3]
  exact word_bot

omit H in
theorem r42_max (h : Fin 8) (i : Fin 4096) (y : Vec Ideal S8x4096 .f32) :
    maximumf (F := Ideal) (φ := .f32) (val_main_v41 (F := Ideal)) y (ix2 h i) = max (val_main_v41 (F := Ideal) (ix2 h i) : EReal) (y (ix2 h i) : EReal) := rfl

theorem r42 (h : Fin 8) (i : Fin 4096) : val_main_v42 (F := Ideal) x0 x1 x2 x3 x4 (ix2 h i) = (rowMax A h i : EReal) := by
  exact (r42_max h i _).trans ((congrArg (max _) (r35 H h i)).trans (by rw [r41, max_eq_right bot_le]))

theorem r55 (h : Fin 8) (i j : Fin 4096) : val_main_v55 (F := Ideal) x0 x1 x2 x3 x4 (ix3 h i j) = (ex A h i j : EReal) := by
  pointwise [val_main_v55, val_main_v54, val_main_v53, val_main_v52]
  rw [r34_0 H, r42 H]
  exact exp_masked A h i j

theorem r56 (h : Fin 8) (i : Fin 4096) : val_main_v56 (F := Ideal) x0 x1 x2 x3 x4 (ix2 h i) = (tot A h i : EReal) := by
  pointwise [val_main_v56, val_main_cst_9]
  exact sum_coe fun j => r55 H h i j

theorem r59 (h : Fin 8) (i j : Fin 4096) : val_main_v59 (F := Ideal) x0 x1 x2 x3 x4 (ix3 h i j) = (prob A h i j : EReal) := by
  pointwise [val_main_v59, val_main_v58, val_main_v57]
  rw [r55 H, r56 H]
  exact div_coe _ _ (tot_ne A h i)

theorem r67 (h : Fin 8) (d : Fin 128) (i : Fin 4096) : val_main_v67 (F := Ideal) x5 (ix3 h d i) = (gg A h i d : EReal) := by
  pointwise [val_main_v67, val_main_v66]
  exact H.g _ _

theorem r68 (h : Fin 8) (i j : Fin 4096) : val_main_v68 (F := Ideal) x1 x5 (ix3 h i j) = (gp A h i j : EReal) := by
  pointwise [val_main_v68]
  exact sum_mul_coe (fun d => r67 H h d i) (fun d => r5 H j h d)

theorem r76 (h : Fin 8) (i : Fin 4096) : val_main_v79 (F := Ideal) x0 x1 x2 x3 x4 x5 (ix2 h i)
    = ((-∑ k, gp A h i k * (1 / (tot A h i * tot A h i)) * ex A h i k : ℝ) : EReal) := by
  pointwise [val_main_v79, val_main_v76, val_main_v75, val_main_v74, val_main_v73, val_main_v72, val_main_v71, val_main_v62, val_main_v61, val_main_v60, val_main_v57, val_main_cst_12, val_main_cst_11, val_main_cst_10]
  rw [Fin.sum_univ_one]
  rw [sum_coe fun k => by
    rw [r68 H, r56 H, r55 H, ← EReal.coe_mul, ← EReal.coe_one, div_coe _ _ (mul_ne_zero (tot_ne A h i) (tot_ne A h i)), ← EReal.coe_mul, ← EReal.coe_mul]]
  rfl

theorem r85 (h : Fin 8) (i j : Fin 4096) : val_main_v85 (F := Ideal) x0 x1 x2 x3 x4 x5 (ix3 h i j) = (gs A h i j : EReal) := by
  pointwise [val_main_v85, val_main_v84, val_main_v24, val_main_cst, val_main_v83, val_main_v82, val_main_v81, val_main_v80, val_main_v78, val_main_v77, val_main_v57, val_main_call1_cst, val_main_call1_v0]
  rw [r34, r76 H, r68 H, r56 H, r55 H, sqrt_192, div_coe _ _ (tot_ne A h i), ← EReal.coe_add, ← EReal.coe_mul]
  by_cases hij : j.val ≤ i.val
  · rw [if_pos hij, div_coe _ _ sqrt_ne, gs_quotient]
  · rw [if_neg hij, ← EReal.coe_zero, div_coe _ _ sqrt_ne, zero_div, gs_after A h hij]

theorem r87 (j : Fin 4096) (h : Fin 8) (c : Fin 64) : val_main_v87 (F := Ideal) x0 x1 x2 x3 x4 x5 (ix3 j h c) = (dkr A h j c : EReal) := by
  pointwise [val_main_v87, val_main_v86]
  exact sum_mul_coe (fun i => r85 H h i j) (fun i => r20 H i h c)

theorem r89 (i : Fin 4096) (h : Fin 8) (c : Fin 64) : val_main_v89 (F := Ideal) x0 x1 x2 x3 x4 x5 (ix3 i h c) = (dqr A h i c : EReal) := by
  pointwise [val_main_v89, val_main_v88]
  exact sum_mul_coe (fun j => r85 H h i j) (fun j => H.kr j h c)

theorem r91 (j : Fin 4096) (h : Fin 8) (d : Fin 128) : val_main_v91 (F := Ideal) x0 x1 x2 x3 x4 x5 (ix3 j h d) = (dkn A h j d : EReal) := by
  pointwise [val_main_v91, val_main_v90]
  exact sum_mul_coe (fun i => r85 H h i j) (fun i => r2 H i h d)

theorem r93 (i : Fin 4096) (h : Fin 8) (d : Fin 128) : val_main_v93 (F := Ideal) x0 x1 x2 x3 x4 x5 (ix3 i h d) = (dqn A h i d : EReal) := by
  pointwise [val_main_v93, val_main_v92]
  exact sum_mul_coe (fun j => r85 H h i j) (fun j => r4 H j h d)

theorem r70 (j : Fin 4096) (h : Fin 8) (d : Fin 128) : val_main_v70 (F := Ideal) x0 x1 x2 x3 x4 x5 (ix3 j h d) = (dvv A h j d : EReal) := by
  pointwise [val_main_v70, val_main_v69]
  refine (sum_mul_coe (fun i => r67 H h d i) (fun i => r59 H h i j)).trans (congrArg _ ?_)
  exact Finset.sum_congr rfl fun i _ => mul_comm _ _

theorem r109 (i : Fin 4096) (h : Fin 8) (c : Fin 64) : val_main_v109 (F := Ideal) x0 x1 x2 x3 x4 x5 (ix3 i h c) = (turned A h i c : EReal) := by
  pointwise [val_main_v109, val_main_v108, val_main_v107, val_main_v106, val_main_v105, val_main_v104, val_main_v103, val_main_v102, val_main_v101, val_main_v100, val_main_v99, val_main_v98, val_main_v97, val_main_v96, val_main_v95, val_main_v94, val_main_v6, val_main_v7, val_main_cst_13, val_main_cst_14]
  simp only [r89 H, H.cos, H.sin]
  unfold turned
  by_cases hc : c.val < 32
  · rw [dif_neg (by omega), dif_pos hc, dif_pos hc, zero_add, ← EReal.coe_mul, ← EReal.coe_mul, ← EReal.coe_add, add_comm]
  · rw [dif_pos ⟨by omega, by omega⟩, dif_neg hc, dif_neg hc, add_zero, ← EReal.coe_neg, ← EReal.coe_mul, ← EReal.coe_mul, ← EReal.coe_add]
    have e : (⟨32 + (c.val - 32), by omega⟩ : Fin 64) = c := Fin.ext (by show 32 + (c.val - 32) = c.val; omega)
    rw [e]
    congr 1
    ring

omit H in
theorem sitofp_zero : (FloatOps.sitofp FTy.f32 (0#32 : BitVec 32) : Ideal .f32) = (0 : EReal) := by
  show (((0#32 : BitVec 32).toInt : ℝ) : EReal) = 0
  simp

theorem r123 (i : Fin 4096) (n : Fin 2048) : val_main_v123 (F := Ideal) x0 x1 x2 x3 x4 x5 (ix2 i n)
    = (outQ A ⟨n.val / 256, by omega⟩ i ⟨n.val % 256, Nat.mod_lt _ (by decide)⟩ : EReal) := by
  pointwise [val_main_v123, val_main_v120, val_main_v119, val_main_v118, val_main_v117, val_main_v115, val_main_v114, val_main_v113, val_main_cst_17, val_main_cst_18, val_main_call2_v0, val_main_c]
  simp only [r109 H, r93 H]
  have zero : (FloatOps.sitofp FTy.f32 (0#32 : BitVec 32) : Ideal .f32) = (0 : EReal) := sitofp_zero
  unfold outQ
  have := n.isLt
  by_cases h1 : n.val % 256 < 128
  · have c1 : n.val / 256 < 8 ∧ n.val % 256 < 192 := ⟨by omega, by omega⟩
    have c2 : ¬(n.val / 256 < 8 ∧ 128 ≤ n.val % 256 ∧ n.val % 256 - 128 < 64) := by omega
    have c3 : n.val / 256 < 8 ∧ n.val % 256 < 128 := ⟨by omega, h1⟩
    simp only [dif_pos c1, dif_neg c2, dif_pos c3, dif_pos h1, zero_add]
  · have c3 : ¬(n.val / 256 < 8 ∧ n.val % 256 < 128) := by omega
    by_cases h2 : n.val % 256 < 192
    · have c1 : n.val / 256 < 8 ∧ n.val % 256 < 192 := ⟨by omega, by omega⟩
      have c2 : n.val / 256 < 8 ∧ 128 ≤ n.val % 256 ∧ n.val % 256 - 128 < 64 := ⟨by omega, by omega, by omega⟩
      simp only [dif_pos c1, dif_pos c2, dif_neg c3, dif_neg h1, dif_pos h2, add_zero]
    · have c1 : ¬(n.val / 256 < 8 ∧ n.val % 256 < 192) := by omega
      simp only [dif_neg c1, dif_neg h1, dif_neg h2]
      exact zero.trans EReal.coe_zero.symm

theorem r124 (i : Fin 4096) (n : Fin 2048) : val_main_v124 (F := Ideal) x0 x1 x2 x3 x4 x5 (ix2 i n)
    = (outKV A ⟨n.val / 256, by omega⟩ i ⟨n.val % 256, Nat.mod_lt _ (by decide)⟩ : EReal) := by
  pointwise [val_main_v124, val_main_v116, val_main_v112, val_main_v111, val_main_v110, val_main_cst_15, val_main_cst_16]
  simp only [r70 H, r91 H]
  unfold outKV
  have := n.isLt
  by_cases h1 : n.val % 256 < 128
  · rw [dif_neg (by omega), dif_pos ⟨by omega, h1⟩, zero_add, dif_pos h1]
  · rw [dif_pos ⟨by omega, by omega, by omega⟩, dif_neg (by omega), add_zero, dif_neg h1]

theorem r122 (i : Fin 4096) (n : Fin 1024) : val_main_v122 (F := Ideal) x0 x1 x2 x3 x4 x5 (ix2 i n)
    = (outKR A ⟨n.val / 128, by omega⟩ i ⟨n.val % 128, Nat.mod_lt _ (by decide)⟩ : EReal) := by
  pointwise [val_main_v122, val_main_v121, val_main_call3_v0, val_main_c_19]
  simp only [r87 H]
  unfold outKR
  have := n.isLt
  by_cases h1 : n.val % 128 < 64
  · rw [dif_pos ⟨by omega, h1⟩, dif_pos h1]
  · rw [dif_neg (by omega), dif_neg h1]
    exact sitofp_zero.trans EReal.coe_zero.symm

end Cert.ReferenceIdeal.Read

end
-- ==== Proof.Flash.Value.lean ====
/- The backward attention kernel and the reference leave the same three arrays. -/
module

public import proofs.«01_k».proof.Defs
public import proofs.«01_k».proof.Proof.Gen.Pre_finite
public import proofs.«01_k».proof.Proof.Gen.ReferenceIdeal.Run
public import proofs.«01_k».proof.Proof.Flash.Real
public import proofs.«01_k».proof.Proof.Flash.Out
public import proofs.«01_k».proof.Proof.Flash.Ref
public import proofs.«01_k».proof.Proof.Flash.Finite

@[expose] public section

noncomputable section

namespace Cert.KernelIdeal.Flash

open Idealize.ShloMosaic Idealize.ShloMosaic.TcCoe Idealize.SL.Sem
open Cert.KernelIdeal.Gen Cert.KernelIdeal.Host
open Cert.Attention (Inp Holds)

theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69_0) = arrQ m c
      ∧ r.2.mem ((c.tc : Thread nD τ).loc main_v69_1) = arrKV m c
      ∧ r.2.mem ((c.tc : Thread nD τ).loc main_v69_2) = arrKR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 8).trans (final_8 m c), ((h.1 c).1 9).trans (final_9 m c), ((h.1 c).1 10).trans (final_10 m c),
      (h.2.1 c).1, (h.2.1 c).2.1, (h.2.1 c).2.2.1, (h.2.1 c).2.2.2.1, (h.2.1 c).2.2.2.2.1, (h.2.1 c).2.2.2.2.2⟩)
    (θ_run_and (run_main m ρ) (unchanged m ρ))

variable {m : (ℓ : Loc nD τ sig) → Buf (Elt Ideal) ℓ} {c : Dev nD} {A : Inp} (H : IsReal A m c)

section Same
include H

theorem same_q {x0 x1 x2 x3 x4 x5} (H' : Holds A x0 x1 x2 x3 x4 x5) :
    Cert.ReferenceIdeal.Read.val_main_v123 (F := Ideal) x0 x1 x2 x3 x4 x5 = arrQ m c := by
  funext i
  obtain ⟨a, n, rfl⟩ : ∃ (a : Fin 4096) (n : Fin 2048), i = ix2 a n := ⟨i 0, i 1, by
    funext b
    match b with
    | ⟨0, _⟩ => rfl
    | ⟨1, _⟩ => rfl⟩
  exact (Cert.ReferenceIdeal.Read.r123 H' a n).trans (oQ_real H ⟨n.val / 256, by omega⟩ a ⟨n.val % 256, Nat.mod_lt _ (by decide)⟩).symm

theorem same_kv {x0 x1 x2 x3 x4 x5} (H' : Holds A x0 x1 x2 x3 x4 x5) :
    Cert.ReferenceIdeal.Read.val_main_v124 (F := Ideal) x0 x1 x2 x3 x4 x5 = arrKV m c := by
  funext i
  obtain ⟨a, n, rfl⟩ : ∃ (a : Fin 4096) (n : Fin 2048), i = ix2 a n := ⟨i 0, i 1, by
    funext b
    match b with
    | ⟨0, _⟩ => rfl
    | ⟨1, _⟩ => rfl⟩
  exact (Cert.ReferenceIdeal.Read.r124 H' a n).trans (oKV_real H ⟨n.val / 256, by omega⟩ a ⟨n.val % 256, Nat.mod_lt _ (by decide)⟩).symm

theorem same_kr {x0 x1 x2 x3 x4 x5} (H' : Holds A x0 x1 x2 x3 x4 x5) :
    Cert.ReferenceIdeal.Read.val_main_v122 (F := Ideal) x0 x1 x2 x3 x4 x5 = arrKR m c := by
  funext i
  obtain ⟨a, n, rfl⟩ : ∃ (a : Fin 4096) (n : Fin 1024), i = ix2 a n := ⟨i 0, i 1, by
    funext b
    match b with
    | ⟨0, _⟩ => rfl
    | ⟨1, _⟩ => rfl⟩
  exact (Cert.ReferenceIdeal.Read.r122 H' a n).trans (oKR_real H ⟨n.val / 128, by omega⟩ a ⟨n.val % 128, Nat.mod_lt _ (by decide)⟩).symm

end Same

/-- The precondition makes the six inputs reals. -/
theorem isReal (m : (ℓ : Loc nD τ sig) → Buf (Elt Ideal) ℓ) (hpre : Cert.Pre_KernelIdeal_finite m) (c : Dev nD) :
    ∃ A, IsReal A m c ∧ Holds A (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  have h := Cert.Attention.holds_of_finite _ _ _ _ _ _ (hpre c)
  refine ⟨_, ?_, h⟩
  have e0 : u_arg0 m c = m ((c.tc : Thread nD τ).loc main_arg0) := V_main_arg0 m c
  have e1 : u_arg1 m c = m ((c.tc : Thread nD τ).loc main_arg1) := V_main_arg1 m c
  have e2 : u_arg2 m c = m ((c.tc : Thread nD τ).loc main_arg2) := V_main_arg2 m c
  have e3 : u_arg3 m c = m ((c.tc : Thread nD τ).loc main_arg3) := V_main_arg3 m c
  have e4 : u_arg4 m c = m ((c.tc : Thread nD τ).loc main_arg4) := V_main_arg4 m c
  have e5 : u_arg5 m c = m ((c.tc : Thread nD τ).loc main_arg5) := V_main_arg5 m c
  unfold IsReal
  rw [e0, e1, e2, e3, e4, e5]
  exact h

/-- The kernel's three arrays and the reference's are the same arrays of extended reals. -/
theorem algebraic : Cert.algebraic_KernelIdeal_ReferenceIdeal_pre_finite := by
  intro m g m' g' hpre hagree
  refine ⟨fun c => arrQ m c, fun c => arrKV m c, fun c => arrKR m c, run_arrays m g, ?_⟩
  refine (θ_run Cert.ReferenceIdeal.defs _ _).mono (fun r h c => ?_) (Cert.ReferenceIdeal.Value.run m' g')
  obtain ⟨A, H, H'⟩ := isReal m hpre c
  obtain ⟨e0, e1, e2, e3, e4, e5⟩ := hagree c
  rw [← e0, ← e1, ← e2, ← e3, ← e4, ← e5] at H'
  obtain ⟨h0, h1, h2, hargs⟩ := h c
  exact ⟨h0.trans ((Cert.ReferenceIdeal.Read.val_main_v123_eq _).trans (same_q H H')),
    h1.trans ((Cert.ReferenceIdeal.Read.val_main_v124_eq _).trans (same_kv H H')),
    h2.trans ((Cert.ReferenceIdeal.Read.val_main_v122_eq _).trans (same_kr H H')), hargs⟩

end Cert.KernelIdeal.Flash

end
-- ==== Proof.Latent.Rows.lean ====
/- The root-mean-square norm of a row and its gradient, written the two ways they are computed, and sums over the rows taken
a block at a time. -/
module

public import proofs.«01_k».proof.Proof.Norm.Rows

@[expose] public section

noncomputable section

namespace Cert.Latent

open Idealize.ShloMosaic Idealize.ShloMosaic.TcCoe Cert.Norm Cert.Attention

/-- The constant added to the mean square. -/
def eps : ℝ := 8796093 / 8796093022208

theorem eps_pos : 0 < eps := by unfold eps; norm_num

theorem word_eps : Ideal.ofBits .f32 0x358637BD#32 = ((eps : ℝ) : EReal) := by
  unfold eps
  simp [Ideal.ofBits, Ideal.ieee, -EReal.coe_mul]; norm_num
theorem word_512 : Ideal.ofBits .f32 0x44000000#32 = ((512 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num

/-- A value added to the word of zero. -/
theorem zadd (a : EReal) : Ideal.ofBits .f32 0x00000000#32 + a = a := by rw [word_0, EReal.coe_zero, zero_add]
theorem addz (a : EReal) : a + Ideal.ofBits .f32 0x00000000#32 = a := by rw [word_0, EReal.coe_zero, add_zero]

section Row

variable {n : ℕ} (N : EReal) (x d : Fin n → EReal)

/-- The mean square of the row with the constant added. -/
def ms : EReal := Ideal.div (∑ k, x k * x k) N + Ideal.ofBits .f32 0x358637BD#32

/-- Its reciprocal square root. -/
def rsq : EReal := Ideal.rsqrt (ms N x)

/-- The gradient of the row from the gradient `d` of its normalised entries, as one expression. -/
def kdx (j : Fin n) : EReal :=
  rsq N x * d j - x j * (rsq N x * rsq N x * rsq N x) * Ideal.div (∑ k, d k * x k) N

/-- The same gradient, one path of the chain rule at a time. -/
def rdx (j : Fin n) : EReal :=
  d j * rsq N x + Ideal.div ((∑ k, x k * d k) * (Ideal.ofBits .f32 0xBF000000#32 * Ideal.div (rsq N x) (ms N x))) N
    * (Ideal.ofBits .f32 0x40000000#32 * x j)

variable {N x d}

theorem rdx_eq {R : ℝ} (hN : N = (R : EReal)) (hR : 0 < R) {X D : Fin n → ℝ} (hx : ∀ k, x k = ((X k : ℝ) : EReal))
    (hd : ∀ k, d k = ((D k : ℝ) : EReal)) (j : Fin n) : rdx N x d j = kdx N x d j := by
  have hp : 0 < (∑ k, X k * X k) / R + eps :=
    add_pos_of_nonneg_of_pos (div_nonneg (Finset.sum_nonneg fun k _ => mul_self_nonneg _) hR.le) eps_pos
  have hm : ms N x = (((∑ k, X k * X k) / R + eps : ℝ) : EReal) := by
    unfold ms
    rw [sum_mul_coe hx hx, hN, div_coe _ _ hR.ne', word_eps, ← EReal.coe_add]
  have hr : rsq N x = (((Real.sqrt ((∑ k, X k * X k) / R + eps))⁻¹ : ℝ) : EReal) := by
    unfold rsq
    rw [hm, rsqrt_pos _ hp]
  have hq : ((∑ k, X k * X k) / R + eps)⁻¹
      = (Real.sqrt ((∑ k, X k * X k) / R + eps))⁻¹ * (Real.sqrt ((∑ k, X k * X k) / R + eps))⁻¹ := by
    rw [← mul_inv, Real.mul_self_sqrt hp.le]
  unfold rdx kdx
  rw [hm, hr, sum_mul_coe hx hd, sum_mul_coe hd hx, hx, hd, hN, word_neg_half, word_2, div_coe _ _ hp.ne', div_eq_mul_inv _ ((∑ k, X k * X k) / R + eps), hq]
  generalize (Real.sqrt ((∑ k, X k * X k) / R + eps))⁻¹ = r
  have hs : ∑ k, X k * D k = ∑ k, D k * X k := Finset.sum_congr rfl fun k _ => mul_comm _ _
  rw [hs]
  generalize ∑ k, D k * X k = s
  simp only [← EReal.coe_mul, div_coe _ _ hR.ne', ← EReal.coe_add, ← EReal.coe_sub]
  congr 1
  ring

end Row

/-- The four groups of lanes of a row of the result, the last of zeros. -/
def lanes (a : Fin 512 → EReal) (b : Fin 256 → EReal) (r : Fin 64 → EReal) (j : Fin 1024) : EReal :=
  if h : j.val < 512 then a ⟨j.val, h⟩
  else if h : j.val - 512 < 256 then b ⟨j.val - 512, h⟩
  else if h : j.val - 512 - 256 < 64 then r ⟨j.val - 512 - 256, h⟩ else 0

/-! ## The rows of the arrays -/

section Arrays

variable (x2 : Vec Ideal ⟨3, ![4096, 8, 64]⟩ .f32) (x3 : Vec Ideal ⟨2, ![4096, 5120]⟩ .f32) (x4 x5 : Vec Ideal ⟨2, ![4096, 32]⟩ .f32)

/-- The two latents of a row, and the row's gradient of a latent's normalised entries before the gain. -/
def qx (i : Fin 4096) (k : Fin 512) : EReal := x3 (ix2 i (⟨k.val, by omega⟩ : Fin 5120))
def kx (i : Fin 4096) (k : Fin 256) : EReal := x3 (ix2 i (⟨512 + k.val, by omega⟩ : Fin 5120))
def dn {n : ℕ} (d : Vec Ideal ⟨2, ![4096, 2048]⟩ .bf16) (w : Vec Ideal ⟨2, ![2048, n]⟩ .bf16) (i : Fin 4096) (k : Fin n) : EReal :=
  ∑ l : Fin 2048, d (ix2 i l) * w (ix2 l k)

/-- The gradient of the rotated key the heads share: the sum over the heads. -/
def tot (i : Fin 4096) (l : Fin 64) : EReal := ∑ h : Fin 8, x2 (ix3 i h l)

/-- The gradient of the key before the rotation. -/
def unrot (i : Fin 4096) (l : Fin 64) : EReal :=
  if h : l.val < 32 then
    tot x2 i ⟨32 + l.val, by omega⟩ * x5 (ix2 i (⟨l.val, h⟩ : Fin 32)) + tot x2 i l * x4 (ix2 i (⟨l.val, h⟩ : Fin 32))
  else tot x2 i l * x4 (ix2 i (⟨l.val - 32, by omega⟩ : Fin 32)) + -tot x2 i ⟨l.val - 32, by omega⟩ * x5 (ix2 i (⟨l.val - 32, by omega⟩ : Fin 32))

/-- The rotation's transpose by two rotations of the lanes, the tables' lanes past the key's being ones and zeros. -/
theorem unrot_lane (i : Fin 4096) {t co si : Fin 128 → EReal} (ht : ∀ (l : Fin 128) (h : l.val < 64), t l = tot x2 i ⟨l.val, h⟩)
    (ht' : ∀ l : Fin 128, 64 ≤ l.val → t l = 0) (hc : ∀ (l : Fin 128) (h : l.val < 32), co l = x4 (ix2 i (⟨l.val, h⟩ : Fin 32)))
    (hc' : ∀ (l : Fin 128) (h : l.val - 32 < 32), 32 ≤ l.val → co l = x4 (ix2 i (⟨l.val - 32, h⟩ : Fin 32)))
    (hs : ∀ (l : Fin 128) (h : l.val < 32), si l = -x5 (ix2 i (⟨l.val, h⟩ : Fin 32)))
    (hs' : ∀ (l : Fin 128) (h : l.val - 32 < 32), 32 ≤ l.val → si l = x5 (ix2 i (⟨l.val - 32, h⟩ : Fin 32)))
    (hs'' : ∀ l : Fin 128, 64 ≤ l.val → si l = 0) (l : Fin 128) :
    t l * co l - (t ⟨(l.val + 128 - 32) % 128, by omega⟩ + t ⟨(l.val + 128 - 96) % 128, by omega⟩) * si l
      = if h : l.val < 64 then unrot x2 x4 x5 i ⟨l.val, h⟩ else 0 := by
  have hl := l.isLt
  by_cases h : l.val < 64
  · rw [dif_pos h]
    unfold unrot
    by_cases h' : l.val < 32
    · have e : (⟨(l.val + 128 - 96) % 128, by omega⟩ : Fin 128) = ⟨32 + l.val, by omega⟩ :=
        Fin.ext (by show (l.val + 128 - 96) % 128 = 32 + l.val; omega)
      rw [dif_pos h', ht l h, hc l h', hs l h', ht' ⟨(l.val + 128 - 32) % 128, by omega⟩ (by show 64 ≤ (l.val + 128 - 32) % 128; omega), zero_add, e,
        ht ⟨32 + l.val, by omega⟩ (by show 32 + l.val < 64; omega), mul_neg, sub_eq_add_neg, neg_neg, add_comm]
    · have e : (⟨(l.val + 128 - 32) % 128, by omega⟩ : Fin 128) = ⟨l.val - 32, by omega⟩ :=
        Fin.ext (by show (l.val + 128 - 32) % 128 = l.val - 32; omega)
      rw [dif_neg h', ht l h, hc' l (by omega) (by omega), hs' l (by omega) (by omega),
        ht' ⟨(l.val + 128 - 96) % 128, by omega⟩ (by show 64 ≤ (l.val + 128 - 96) % 128; omega), add_zero, e,
        ht ⟨l.val - 32, by omega⟩ (by show l.val - 32 < 64; omega), sub_eq_add_neg, neg_mul]
  · rw [dif_neg h, ht' l (by omega), hs'' l (by omega), zero_mul, mul_zero, sub_zero]

end Arrays

/-! ## Sums over the rows -/

/-- The row of the arrays a row of the `t`th block is. -/
def row (t : ℕ) (i : Fin 512) : Fin 4096 := ⟨t % 8 * 512 + i.val, by have := i.isLt; omega⟩

/-- The sum of a function of the rows over the first blocks. -/
def acc (f : Fin 4096 → EReal) (n : ℕ) : EReal := ∑ s ∈ Finset.range (n + 1), ∑ i : Fin 512, f (row s i)

theorem acc_zero (f : Fin 4096 → EReal) : acc f 0 = ∑ i : Fin 512, f (row 0 i) := by
  unfold acc
  rw [Finset.sum_range_one]

theorem acc_succ (f : Fin 4096 → EReal) (n : ℕ) : acc f (n + 1) = acc f n + ∑ i : Fin 512, f (row (n + 1) i) := by
  unfold acc
  rw [Finset.sum_range_succ]

theorem acc_all (f : Fin 4096 → EReal) : acc f 7 = ∑ k, f k := by
  unfold acc
  rw [Finset.sum_range (n := 7 + 1), ← Fintype.sum_prod_type']
  refine Fintype.sum_equiv (finProdFinEquiv (m := 8) (n := 512)) _ _ fun p => congrArg f (Fin.ext ?_)
  have h := p.1.isLt
  show p.1.val % 8 * 512 + p.2.val = p.2.val + 512 * p.1.val
  omega

end Cert.Latent

end
-- ==== Proof.Latent.Kernel.lean ====
/- The gradient of the latent projections: what each grid point of the kernel computes. -/
module

public import proofs.«01_k».proof.Defs
public import proofs.«01_k».proof.Proof.Latent.Rows
public import proofs.«01_k».proof.Proof.Gen.Kernel10Ideal.Value
public import Idealize.ShloMosaic.Lib.Pointwise
public import Idealize.ShloMosaic.Lib.VecWindow
public import Idealize.ShloMosaic.Lib.Claim

@[expose] public section

noncomputable section

namespace Cert.Kernel10Ideal.Latent

open Cert.Kernel10Ideal Cert.Kernel10Ideal.Gen Cert.Latent Idealize.ShloMosaic Idealize.ShloMosaic.TcCoe Idealize.SL.Sem

section Pays

variable (dq : Vec Ideal S512x2048 .bf16)

theorem pay1_apply (j : Fin 512) : k0_pay1 (F := Ideal) (ix2 (0 : Fin 1) j) = 0 := by pointwise [k0_pay1]
theorem pay2_apply (j : Fin 256) : k0_pay2 (F := Ideal) (ix2 (0 : Fin 1) j) = 0 := by pointwise [k0_pay2]
theorem pay3_apply (l : Fin 2048) (j : Fin 512) : k0_pay3 (F := Ideal) (ix2 l j) = 0 := by pointwise [k0_pay3]
theorem pay4_apply (l : Fin 2048) (j : Fin 256) : k0_pay4 (F := Ideal) (ix2 l j) = 0 := by pointwise [k0_pay4]

/-- The weights' gradients. -/
theorem pay5_apply (o : Vec Ideal S2048x512 .f32) (q : Vec Ideal S512x512 .bf16) (l : Fin 2048) (j : Fin 512) :
    k0_pay5 (F := Ideal) o dq q (ix2 l j) = o (ix2 l j) + ∑ i : Fin 512, dq (ix2 i l) * q (ix2 i j) := by
  pointwise [k0_pay5]
theorem pay6_apply (o : Vec Ideal S2048x256 .f32) (q : Vec Ideal S512x256 .bf16) (l : Fin 2048) (j : Fin 256) :
    k0_pay6 (F := Ideal) o dq q (ix2 l j) = o (ix2 l j) + ∑ i : Fin 512, dq (ix2 i l) * q (ix2 i j) := by
  pointwise [k0_pay6]

theorem pay11_apply (w : Vec Ideal S2048x512 .bf16) (i : Fin 512) (k : Fin 512) :
    k0_pay11 (F := Ideal) dq w (ix2 i k) = ∑ l : Fin 2048, dq (ix2 i l) * w (ix2 l k) := by
  pointwise [k0_pay11]
theorem pay17_apply (w : Vec Ideal S2048x256 .bf16) (i : Fin 512) (k : Fin 256) :
    k0_pay17 (F := Ideal) dq w (ix2 i k) = ∑ l : Fin 2048, dq (ix2 i l) * w (ix2 l k) := by
  pointwise [k0_pay17]

theorem pay12_apply (x : Vec Ideal S512x512 .f32) (i : Fin 512) (z : Fin 1) :
    k0_pay12 (F := Ideal) x (ix2 i z) = rsq (Ideal.ofBits .f32 0x44000000#32) (fun k : Fin 512 => x (ix2 i k)) := by
  pointwise [k0_pay12]
  rfl
theorem pay18_apply (x : Vec Ideal S512x256 .f32) (i : Fin 512) (z : Fin 1) :
    k0_pay18 (F := Ideal) x (ix2 i z) = rsq (Ideal.ofBits .f32 0x43800000#32) (fun k : Fin 256 => x (ix2 i k)) := by
  pointwise [k0_pay18]
  rfl

/-- The gradient of a latent. -/
theorem pay15_apply (w : Vec Ideal S2048x512 .bf16) (x : Vec Ideal S512x512 .f32) (g : Vec Ideal S1x512 .f32) (i j : Fin 512) :
    k0_pay23 (F := Ideal) (k0_pay15 x (k0_pay12 x) (k0_pay13 dq w g) (k0_pay14 dq w x g)) (ix2 i j)
      = kdx (Ideal.ofBits .f32 0x44000000#32) (fun k : Fin 512 => x (ix2 i k))
        (fun k => (∑ l : Fin 2048, dq (ix2 i l) * w (ix2 l k)) * g (ix2 (0 : Fin 1) k)) j := by
  pointwise [k0_pay23, k0_pay15, k0_pay13, k0_pay14]
  simp only [pay12_apply, pay11_apply]
  rfl
theorem pay24_apply (w : Vec Ideal S2048x256 .bf16) (x : Vec Ideal S512x256 .f32) (g : Vec Ideal S1x256 .f32) (i : Fin 512) (j : Fin 256) :
    k0_pay24 (F := Ideal) x (k0_pay18 x) (k0_pay19 dq w g) (k0_pay20 dq w x g) (k0_pay21 x) (ix2 i j)
      = kdx (Ideal.ofBits .f32 0x43800000#32) (fun k : Fin 256 => x (ix2 i k))
        (fun k => (∑ l : Fin 2048, dq (ix2 i l) * w (ix2 l k)) * g (ix2 (0 : Fin 1) k)) j := by
  pointwise [k0_pay24, k0_pay19, k0_pay20, k0_pay21]
  simp only [pay18_apply, pay17_apply]
  rfl

/-- The gains' gradients. -/
theorem pay16_apply (w : Vec Ideal S2048x512 .bf16) (x : Vec Ideal S512x512 .f32) (o : Vec Ideal S1x512 .f32) (j : Fin 512) :
    k0_pay16 (F := Ideal) (k0_pay11 dq w) x (k0_pay12 x) o (ix2 (0 : Fin 1) j) = o (ix2 (0 : Fin 1) j)
      + ∑ i : Fin 512, (∑ l : Fin 2048, dq (ix2 i l) * w (ix2 l j)) * (x (ix2 i j) * rsq (Ideal.ofBits .f32 0x44000000#32) (fun k : Fin 512 => x (ix2 i k))) := by
  pointwise [k0_pay16]
  simp only [pay12_apply, pay11_apply]
theorem pay22_apply (w : Vec Ideal S2048x256 .bf16) (x : Vec Ideal S512x256 .f32) (o : Vec Ideal S1x256 .f32) (j : Fin 256) :
    k0_pay22 (F := Ideal) (k0_pay17 dq w) x (k0_pay18 x) o (ix2 (0 : Fin 1) j) = o (ix2 (0 : Fin 1) j)
      + ∑ i : Fin 512, (∑ l : Fin 2048, dq (ix2 i l) * w (ix2 l j)) * (x (ix2 i j) * rsq (Ideal.ofBits .f32 0x43800000#32) (fun k : Fin 256 => x (ix2 i k))) := by
  pointwise [k0_pay22]
  simp only [pay18_apply, pay17_apply]

theorem pay26_apply (i : Fin 512) (j : Fin 128) : k0_pay26 (F := Ideal) (ix2 i j) = 0 := by
  pointwise [k0_pay26]

theorem pay25_apply (co si t : Vec Ideal S512x128 .f32) (i : Fin 512) (j : Fin 128) : k0_pay25 (F := Ideal) (k0_pay7 co) (k0_pay8 si) t (ix2 i j)
    = t (ix2 i j) * co (ix2 i j) - (t (ix2 i ⟨(j.val + 128 - 32) % 128, by omega⟩) + t (ix2 i ⟨(j.val + 128 - 96) % 128, by omega⟩)) * si (ix2 i j) := by
  pointwise [k0_pay25, k0_pay7, k0_pay8]

theorem pay10_apply (a0 a1 a2 a3 a4 a5 a6 a7 : Vec Ideal S512x128 .f32) (i : Fin 512) (j : Fin 128) :
    k0_pay10 (F := Ideal) (k0_pay9 a0 a1) a2 a3 a4 a5 a6 a7 (ix2 i j)
    = a0 (ix2 i j) + a1 (ix2 i j) + a2 (ix2 i j) + a3 (ix2 i j) + a4 (ix2 i j) + a5 (ix2 i j) + a6 (ix2 i j) + a7 (ix2 i j) := by
  pointwise [k0_pay10, k0_pay9]

end Pays

/-! ## The row of the first result, a group of lanes at a time -/

section Lanes

variable (x0 x1 : Vec Ideal S512x2048 .bf16) (x2 : Vec Ideal S512x1024 .f32) (x5 : Vec Ideal S512x512 .f32) (x6 : Vec Ideal S512x256 .f32)
  (x7 x8 : Vec Ideal S512x128 .f32) (x9 : Vec Ideal S1x512 .f32) (x10 : Vec Ideal S1x256 .f32) (x11 : Vec Ideal S2048x512 .bf16) (x12 : Vec Ideal S2048x256 .bf16)

/-- The sum of the heads' lanes. -/
def heads : Vec Ideal S512x128 .f32 :=
  k0_pay10 (k0_pay9 (View.ld x2 (Rect.unit ![0, 0] ![512, 128] inb_S512x1024_S512x128_0_0)) (View.ld x2 (Rect.unit ![0, 128] ![512, 128] inb_S512x1024_S512x128_0_128))) (View.ld x2 (Rect.unit ![0, 256] ![512, 128] inb_S512x1024_S512x128_0_256)) (View.ld x2 (Rect.unit ![0, 384] ![512, 128] inb_S512x1024_S512x128_0_384))
    (View.ld x2 (Rect.unit ![0, 512] ![512, 128] inb_S512x1024_S512x128_0_512)) (View.ld x2 (Rect.unit ![0, 640] ![512, 128] inb_S512x1024_S512x128_0_640)) (View.ld x2 (Rect.unit ![0, 768] ![512, 128] inb_S512x1024_S512x128_0_768)) (View.ld x2 (Rect.unit ![0, 896] ![512, 128] inb_S512x1024_S512x128_0_896))

theorem heads_apply (i : Fin 512) (l : Fin 128) : heads x2 (ix2 i l) = ∑ h : Fin 8, x2 (ix2 i (⟨128 * h.val + l.val, by omega⟩ : Fin 1024)) := by
  unfold heads
  rw [pay10_apply, Fin.sum_univ_eight]
  have e : ∀ (b : ℕ) (inb : ∀ a, (![0, b] : Fin 2 → ℕ) a + (![512, 128] : Fin 2 → ℕ) a ≤ S512x1024.size a) (k : Fin 1024), k.val = b + l.val →
      View.ld x2 (Rect.unit (![0, b] : Fin 2 → ℕ) ![512, 128] inb) (ix2 i l) = x2 (ix2 i k) := fun b inb k hk => by
    refine congrArg x2 (funext fun a => Fin.ext ?_)
    match a with
    | ⟨0, _⟩ => show 0 + 1 * i.val = i.val; omega
    | ⟨1, _⟩ => show b + 1 * l.val = k.val; omega
  rw [e 0 _ ⟨128 * 0 + l.val, by omega⟩ rfl, e 128 _ ⟨128 * 1 + l.val, by omega⟩ rfl, e 256 _ ⟨128 * 2 + l.val, by omega⟩ rfl,
    e 384 _ ⟨128 * 3 + l.val, by omega⟩ rfl, e 512 _ ⟨128 * 4 + l.val, by omega⟩ rfl, e 640 _ ⟨128 * 5 + l.val, by omega⟩ rfl,
    e 768 _ ⟨128 * 6 + l.val, by omega⟩ rfl, e 896 _ ⟨128 * 7 + l.val, by omega⟩ rfl]
  rfl

/-- The four stores of a block of the first result. -/
def pieces : List (View.Piece (Elt Ideal) S512x1024 .bf16) :=
  [⟨Rect.unit ![0, 896] ![512, 128] inb_S512x1024_S512x128_0_896, k0_pay26 (F := Ideal)⟩,
    ⟨Rect.unit ![0, 768] ![512, 128] inb_S512x1024_S512x128_0_768, k0_pay25 (F := Ideal) (k0_pay7 x7) (k0_pay8 x8) (heads x2)⟩,
    ⟨Rect.unit ![0, 512] ![512, 256] inb_S512x1024_S512x256_0_512,
      k0_pay24 (F := Ideal) x6 (k0_pay18 x6) (k0_pay19 x1 x12 x10) (k0_pay20 x1 x12 x6 x10) (k0_pay21 x6)⟩,
    ⟨Rect.unit ![0, 0] ![512, 512] inb_S512x1024_S512x512_0_0,
      k0_pay23 (F := Ideal) (k0_pay15 x5 (k0_pay12 x5) (k0_pay13 x0 x11 x9) (k0_pay14 x0 x11 x5 x9))⟩]

theorem not_mem {b w : ℕ} {inb} {i : Fin 512} {j : Fin 1024} (h : j.val < b ∨ b + w ≤ j.val) :
    (ix2 i j : S512x1024.Idx) ∉ (Rect.unit (s := S512x1024) (![0, b] : Fin 2 → ℕ) ![512, w] inb).set := fun hm => by
  have := (Rect.mem_set_unit.mp hm) (1 : Fin 2)
  have h1 : b ≤ j.val := this.1
  have h2 : j.val < b + w := this.2
  omega

theorem emb_eq {b w : ℕ} {inb} (i : Fin 512) (j : Fin 1024) (k : Fin w) (h : j.val = b + k.val) :
    (ix2 i j : S512x1024.Idx) = (Rect.unit (s := S512x1024) (![0, b] : Fin 2 → ℕ) ![512, w] inb).emb (ix2 i k) := by
  funext a
  match a with
  | ⟨0, _⟩ => exact Fin.ext (by show i.val = 0 + 1 * i.val; omega)
  | ⟨1, _⟩ => exact Fin.ext (by show j.val = b + 1 * k.val; omega)

theorem canon_skip {b w : ℕ} {inb} {v : (Rect.unit (s := S512x1024) (![0, b] : Fin 2 → ℕ) ![512, w] inb).shape.Idx → Elt Ideal .bf16}
    (L : List (View.Piece (Elt Ideal) S512x1024 .bf16)) {i : Fin 512} {j : Fin 1024} (h : j.val < b ∨ b + w ≤ j.val) :
    View.canon (⟨Rect.unit (![0, b] : Fin 2 → ℕ) ![512, w] inb, v⟩ :: L) (ix2 i j) = View.canon L (ix2 i j) :=
  View.canon_cons_of_not_mem _ L (not_mem (inb := inb) h)

theorem canon_hit {b w : ℕ} {inb} (v : (Rect.unit (s := S512x1024) (![0, b] : Fin 2 → ℕ) ![512, w] inb).shape.Idx → Elt Ideal .bf16)
    (L : List (View.Piece (Elt Ideal) S512x1024 .bf16)) (i : Fin 512) (j : Fin 1024) (k : Fin w) (h : j.val = b + k.val) :
    View.canon (⟨Rect.unit (![0, b] : Fin 2 → ℕ) ![512, w] inb, v⟩ :: L) (ix2 i j) = v (ix2 i k) := by
  rw [emb_eq (inb := inb) i j k h]
  exact View.canon_cons_emb _ v L _

theorem pieces_apply (i : Fin 512) (j : Fin 1024) {u : Fin 64 → EReal}
    (hu : ∀ l : Fin 128, k0_pay25 (F := Ideal) (k0_pay7 x7) (k0_pay8 x8) (heads x2) (ix2 i l) = if h : l.val < 64 then u ⟨l.val, h⟩ else 0) :
    View.canon (pieces x0 x1 x2 x5 x6 x7 x8 x9 x10 x11 x12) (ix2 i j) = lanes
      (kdx (Ideal.ofBits .f32 0x44000000#32) (fun k : Fin 512 => x5 (ix2 i k))
        (fun k => (∑ l : Fin 2048, x0 (ix2 i l) * x11 (ix2 l k)) * x9 (ix2 (0 : Fin 1) k)))
      (kdx (Ideal.ofBits .f32 0x43800000#32) (fun k : Fin 256 => x6 (ix2 i k))
        (fun k => (∑ l : Fin 2048, x1 (ix2 i l) * x12 (ix2 l k)) * x10 (ix2 (0 : Fin 1) k))) u j := by
  have hj := j.isLt
  unfold pieces lanes
  by_cases h1 : j.val < 512
  · rw [dif_pos h1]
    refine (canon_skip (b := 896) (w := 128) _ (by omega)).trans ((canon_skip (b := 768) (w := 128) _ (by omega)).trans
      ((canon_skip (b := 512) (w := 256) _ (by omega)).trans ((canon_hit (b := 0) (w := 512) _ _ i j ⟨j.val, h1⟩ (by show j.val = 0 + j.val; omega)).trans ?_)))
    exact pay15_apply _ _ _ _ _ _
  rw [dif_neg h1]
  by_cases h2 : j.val - 512 < 256
  · rw [dif_pos h2]
    refine (canon_skip (b := 896) (w := 128) _ (by omega)).trans ((canon_skip (b := 768) (w := 128) _ (by omega)).trans
      ((canon_hit (b := 512) (w := 256) _ _ i j ⟨j.val - 512, h2⟩ (by show j.val = 512 + (j.val - 512); omega)).trans ?_))
    exact pay24_apply _ _ _ _ _ _
  rw [dif_neg h2]
  by_cases h3 : j.val < 896
  · refine (canon_skip (b := 896) (w := 128) _ (by omega)).trans
      ((canon_hit (b := 768) (w := 128) _ _ i j ⟨j.val - 512 - 256, by omega⟩ (by show j.val = 768 + (j.val - 512 - 256); omega)).trans ?_)
    exact hu _
  · rw [dif_neg (by omega)]
    refine (canon_hit (b := 896) (w := 128) _ _ i j ⟨j.val - 896, by omega⟩ (by show j.val = 896 + (j.val - 896); omega)).trans ?_
    exact pay26_apply _ _

end Lanes

theorem hz : (![0, 0] : Fin 2 → Nat) = fun _ => 0 := funext fun a => by fin_cases a <;> rfl

section Points

variable (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x1024 .f32) (harg3 : arg3.IsWhole) (arg4 : Memref sig .tc .vmem S512x512 .bf16) (harg4 : arg4.IsWhole) (arg5 : Memref sig .tc .vmem S512x256 .bf16) (harg5 : arg5.IsWhole) (arg6 : Memref sig .tc .vmem S512x512 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512 .f32) (harg10 : arg10.IsWhole) (arg11 : Memref sig .tc .vmem S1x256 .f32) (harg11 : arg11.IsWhole) (arg12 : Memref sig .tc .vmem S2048x512 .bf16) (harg12 : arg12.IsWhole) (arg13 : Memref sig .tc .vmem S2048x256 .bf16) (harg13 : arg13.IsWhole) (arg14 : Memref sig .tc .vmem S512x1024 .bf16) (harg14 : arg14.IsWhole) (arg15 : Memref sig .tc .vmem S1x512 .f32) (harg15 : arg15.IsWhole) (arg16 : Memref sig .tc .vmem S1x256 .f32) (harg16 : arg16.IsWhole) (arg17 : Memref sig .tc .vmem S2048x512 .f32) (harg17 : arg17.IsWhole) (arg18 : Memref sig .tc .vmem S2048x256 .f32) (harg18 : arg18.IsWhole)
  (x0 : Vec Ideal S512x2048 .bf16) (x1 : Vec Ideal S512x2048 .bf16) (x2 : Vec Ideal S512x1024 .f32) (x3 : Vec Ideal S512x512 .bf16) (x4 : Vec Ideal S512x256 .bf16) (x5 : Vec Ideal S512x512 .f32) (x6 : Vec Ideal S512x256 .f32) (x7 : Vec Ideal S512x128 .f32) (x8 : Vec Ideal S512x128 .f32) (x9 : Vec Ideal S1x512 .f32) (x10 : Vec Ideal S1x256 .f32) (x11 : Vec Ideal S2048x512 .bf16) (x12 : Vec Ideal S2048x256 .bf16)
  (o14 : Vec Ideal S1x512 .f32) (o15 : Vec Ideal S1x256 .f32) (o16 : Vec Ideal S2048x512 .f32) (o17 : Vec Ideal S2048x256 .f32)

theorem out_A_14 (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = k0_pay16 (k0_pay11 x0 x11) x5 (k0_pay12 x5) (k0_pay1 (F := Ideal)) := by
  unfold out0_A_14
  unfold kernelRun0_A
  dsimp only
  sl_unfold_words
  refine (View.read_writes_full (s := S1x512) _ _ _ _ _).trans ?_
  rw [View.readCov_unit_zero (S := S1x512) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg17.read_unread, harg18.read_unread, View.ld_unit_zero (S := S512x2048) hz, View.ld_unit_zero (S := S512x512) hz, View.ld_unit_zero (S := S512x256) hz, View.ld_unit_zero (S := S512x128) hz, View.ld_unit_zero (S := S1x512) hz, View.ld_unit_zero (S := S1x256) hz, View.ld_unit_zero (S := S2048x512) hz, View.ld_unit_zero (S := S2048x256) hz]

theorem out_B_14 (hc0 : ¬cond0_0 i) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o14 o15 o16 o17 = k0_pay16 (k0_pay11 x0 x11) x5 (k0_pay12 x5) o14 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o14 o15 o16 o17)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg17.read_unread, harg18.read_unread, View.ld_unit_zero (S := S512x2048) hz, View.ld_unit_zero (S := S512x512) hz, View.ld_unit_zero (S := S512x256) hz, View.ld_unit_zero (S := S512x128) hz, View.ld_unit_zero (S := S1x512) hz, View.ld_unit_zero (S := S1x256) hz, View.ld_unit_zero (S := S2048x512) hz, View.ld_unit_zero (S := S2048x256) hz]

theorem out_A_15 (hc0 : cond0_0 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = k0_pay22 (k0_pay17 x1 x12) x6 (k0_pay18 x6) (k0_pay2 (F := Ideal)) := by
  unfold out0_A_15
  unfold kernelRun0_A
  dsimp only
  sl_unfold_words
  refine (View.read_writes_full (s := S1x256) _ _ _ _ _).trans ?_
  rw [View.readCov_unit_zero (S := S1x256) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg17.read_unread, harg18.read_unread, View.ld_unit_zero (S := S512x2048) hz, View.ld_unit_zero (S := S512x512) hz, View.ld_unit_zero (S := S512x256) hz, View.ld_unit_zero (S := S512x128) hz, View.ld_unit_zero (S := S1x512) hz, View.ld_unit_zero (S := S1x256) hz, View.ld_unit_zero (S := S2048x512) hz, View.ld_unit_zero (S := S2048x256) hz]

theorem out_B_15 (hc0 : ¬cond0_0 i) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o14 o15 o16 o17 = k0_pay22 (k0_pay17 x1 x12) x6 (k0_pay18 x6) o15 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o14 o15 o16 o17)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg17.read_unread, harg18.read_unread, View.ld_unit_zero (S := S512x2048) hz, View.ld_unit_zero (S := S512x512) hz, View.ld_unit_zero (S := S512x256) hz, View.ld_unit_zero (S := S512x128) hz, View.ld_unit_zero (S := S1x512) hz, View.ld_unit_zero (S := S1x256) hz, View.ld_unit_zero (S := S2048x512) hz, View.ld_unit_zero (S := S2048x256) hz]

theorem out_A_16 (hc0 : cond0_0 i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = k0_pay5 (k0_pay3 (F := Ideal)) x0 x3 := by
  unfold out0_A_16
  unfold kernelRun0_A
  dsimp only
  sl_unfold_words
  refine (View.read_writes_full (s := S2048x512) _ _ _ _ _).trans ?_
  rw [View.readCov_unit_zero (S := S2048x512) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg17.read_unread, harg18.read_unread, View.ld_unit_zero (S := S512x2048) hz, View.ld_unit_zero (S := S512x512) hz, View.ld_unit_zero (S := S512x256) hz, View.ld_unit_zero (S := S512x128) hz, View.ld_unit_zero (S := S1x512) hz, View.ld_unit_zero (S := S1x256) hz, View.ld_unit_zero (S := S2048x512) hz, View.ld_unit_zero (S := S2048x256) hz]

theorem out_B_16 (hc0 : ¬cond0_0 i) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o14 o15 o16 o17 = k0_pay5 o16 x0 x3 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o14 o15 o16 o17)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg17.read_unread, harg18.read_unread, View.ld_unit_zero (S := S512x2048) hz, View.ld_unit_zero (S := S512x512) hz, View.ld_unit_zero (S := S512x256) hz, View.ld_unit_zero (S := S512x128) hz, View.ld_unit_zero (S := S1x512) hz, View.ld_unit_zero (S := S1x256) hz, View.ld_unit_zero (S := S2048x512) hz, View.ld_unit_zero (S := S2048x256) hz]

theorem out_A_17 (hc0 : cond0_0 i) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = k0_pay6 (k0_pay4 (F := Ideal)) x1 x4 := by
  unfold out0_A_17
  unfold kernelRun0_A
  dsimp only
  sl_unfold_words
  refine (View.read_writes_full (s := S2048x256) _ _ _ _ _).trans ?_
  rw [View.readCov_unit_zero (S := S2048x256) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg17.read_unread, harg18.read_unread, View.ld_unit_zero (S := S512x2048) hz, View.ld_unit_zero (S := S512x512) hz, View.ld_unit_zero (S := S512x256) hz, View.ld_unit_zero (S := S512x128) hz, View.ld_unit_zero (S := S1x512) hz, View.ld_unit_zero (S := S1x256) hz, View.ld_unit_zero (S := S2048x512) hz, View.ld_unit_zero (S := S2048x256) hz]

theorem out_B_17 (hc0 : ¬cond0_0 i) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o14 o15 o16 o17 = k0_pay6 o17 x1 x4 := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o14 o15 o16 o17)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg17.read_unread, harg18.read_unread, View.ld_unit_zero (S := S512x2048) hz, View.ld_unit_zero (S := S512x512) hz, View.ld_unit_zero (S := S512x256) hz, View.ld_unit_zero (S := S512x128) hz, View.ld_unit_zero (S := S1x512) hz, View.ld_unit_zero (S := S1x256) hz, View.ld_unit_zero (S := S2048x512) hz, View.ld_unit_zero (S := S2048x256) hz]

theorem out_A_13 (hc0 : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = View.canon (pieces x0 x1 x2 x5 x6 x7 x8 x9 x10 x11 x12) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg17.read_unread, harg18.read_unread, View.ld_unit_zero (S := S512x2048) hz, View.ld_unit_zero (S := S512x512) hz, View.ld_unit_zero (S := S512x256) hz, View.ld_unit_zero (S := S512x128) hz, View.ld_unit_zero (S := S1x512) hz, View.ld_unit_zero (S := S1x256) hz, View.ld_unit_zero (S := S2048x512) hz, View.ld_unit_zero (S := S2048x256) hz]
  rfl

theorem out_B_13 (hc0 : ¬cond0_0 i) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o14 o15 o16 o17 = View.canon (pieces x0 x1 x2 x5 x6 x7 x8 x9 x10 x11 x12) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o14 o15 o16 o17)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg17.read_unread, harg18.read_unread, View.ld_unit_zero (S := S512x2048) hz, View.ld_unit_zero (S := S512x512) hz, View.ld_unit_zero (S := S512x256) hz, View.ld_unit_zero (S := S512x128) hz, View.ld_unit_zero (S := S1x512) hz, View.ld_unit_zero (S := S1x256) hz, View.ld_unit_zero (S := S2048x512) hz, View.ld_unit_zero (S := S2048x256) hz]
  rfl

end Points

end Cert.Kernel10Ideal.Latent

end
-- ==== Proof.Latent.Host.lean ====
/- What the host operations before the latents' gradient kernel leave in the arrays it reads, and the blocks it reads of them. -/
module

public import proofs.«01_k».proof.Proof.Latent.Kernel
public import proofs.«01_k».proof.Proof.Gen.Kernel10Ideal.Value

@[expose] public section

noncomputable section

namespace Cert.Kernel10Ideal.Latent

open Cert.Kernel10Ideal Cert.Kernel10Ideal.Gen Cert.Norm Cert.Attention Cert.Latent Idealize.ShloMosaic Idealize.ShloMosaic.TcCoe Idealize.SL.Sem

/-! ## The operations' functions -/

section Functions

variable (x2 : FVec Ideal S4096x8x64 .f32) (x3 : FVec Ideal S4096x5120 .f32) (x4 x5 : FVec Ideal S4096x32 .f32) (x6 : FVec Ideal S512 .f32) (x7 : FVec Ideal S256 .f32)

/-- The two latents, and their norms with the gain. -/
def sq : FVec Ideal S4096x512 .f32 := extractStridedSlice S4096x512 ![0, 0] x3 slices_S4096x5120_S4096x512_0_0
def sk : FVec Ideal S4096x256 .f32 := extractStridedSlice S4096x256 ![0, 512] x3 slices_S4096x5120_S4096x256_0_512
def qn : FVec Ideal S4096x512 .bf16 :=
  truncf .bf16 (mulf (mulf (sq x3) (broadcastInDim S4096x512 ![0, 1] bcast_S4096x1_S4096x512_0_1 (Host.rsqrt (addf (Host.divf
    (broadcastInDim S4096x1 ![0] bcast_S4096_S4096x1_0 (Host.reduceAdd (mulf (sq x3) (sq x3)) (constant (F := Ideal) S_ .f32 0x00000000#32) reducesTo_S4096x512_S4096_d1 h_S_))
    (broadcastInDim S4096x1 ![] bcast_S_S4096x1 (constant (F := Ideal) S_ .f32 0x44000000#32))) (broadcastInDim S4096x1 ![] bcast_S_S4096x1 (constant (F := Ideal) S_ .f32 0x358637BD#32))))))
    (broadcastInDim S4096x512 ![0, 1] bcast_S1x512_S4096x512_0_1 (broadcastInDim S1x512 ![1] bcast_S512_S1x512_1 x6))) bitsLt_bf16_f32
def kn : FVec Ideal S4096x256 .bf16 :=
  truncf .bf16 (mulf (mulf (sk x3) (broadcastInDim S4096x256 ![0, 1] bcast_S4096x1_S4096x256_0_1 (Host.rsqrt (addf (Host.divf
    (broadcastInDim S4096x1 ![0] bcast_S4096_S4096x1_0 (Host.reduceAdd (mulf (sk x3) (sk x3)) (constant (F := Ideal) S_ .f32 0x00000000#32) reducesTo_S4096x256_S4096_d1 h_S_))
    (broadcastInDim S4096x1 ![] bcast_S_S4096x1 (constant (F := Ideal) S_ .f32 0x43800000#32))) (broadcastInDim S4096x1 ![] bcast_S_S4096x1 (constant (F := Ideal) S_ .f32 0x358637BD#32))))))
    (broadcastInDim S4096x256 ![0, 1] bcast_S1x256_S4096x256_0_1 (broadcastInDim S1x256 ![1] bcast_S256_S1x256_1 x7))) bitsLt_bf16_f32

/-- The rotation's tables, and the rotated key's gradient with the lanes past it. -/
def tc : FVec Ideal S4096x128 .f32 := concatenate S4096x128 1 [⟨S4096x32, x4⟩, ⟨S4096x32, x4⟩,
  ⟨S4096x64, broadcastInDim S4096x64 ![] bcast_S_S4096x64 (constant (F := Ideal) S_ .f32 0x3F800000#32)⟩] concatenates_S4096x32_S4096x32_S4096x64_S4096x128_d1
def ts : FVec Ideal S4096x128 .f32 := concatenate S4096x128 1 [⟨S4096x32, Host.negf x5⟩, ⟨S4096x32, x5⟩,
  ⟨S4096x64, broadcastInDim S4096x64 ![] bcast_S_S4096x64 (constant (F := Ideal) S_ .f32 0x00000000#32)⟩] concatenates_S4096x32_S4096x32_S4096x64_S4096x128_d1
def kr : FVec Ideal S4096x8x128 .f32 := concatenate S4096x8x128 2 [⟨S4096x8x64, x2⟩,
  ⟨S4096x8x64, broadcastInDim S4096x8x64 ![] bcast_S_S4096x8x64 (constant (F := Ideal) S_ .f32 0x00000000#32)⟩] concatenates_S4096x8x64_S4096x8x64_S4096x8x128_d2

theorem qn_apply (i : Fin 4096) (j : Fin 512) :
    qn x3 x6 (ix2 i j) = qx x3 i j * rsq (Ideal.ofBits .f32 0x44000000#32) (qx x3 i) * x6 (ix1 j) := by
  pointwise [qn, sq]
  rfl
theorem kn_apply (i : Fin 4096) (j : Fin 256) :
    kn x3 x7 (ix2 i j) = kx x3 i j * rsq (Ideal.ofBits .f32 0x43800000#32) (kx x3 i) * x7 (ix1 j) := by
  pointwise [kn, sk]
  rfl
theorem tc_apply (i : Fin 4096) (l : Fin 128) : tc x4 (ix2 i l) = if h : l.val < 32 then x4 (ix2 i (⟨l.val, h⟩ : Fin 32))
    else if h : l.val - 32 < 32 then x4 (ix2 i (⟨l.val - 32, h⟩ : Fin 32)) else Ideal.ofBits .f32 0x3F800000#32 := by
  pointwise [tc]
theorem ts_apply (i : Fin 4096) (l : Fin 128) : ts x5 (ix2 i l) = if h : l.val < 32 then -x5 (ix2 i (⟨l.val, h⟩ : Fin 32))
    else if h : l.val - 32 < 32 then x5 (ix2 i (⟨l.val - 32, h⟩ : Fin 32)) else 0 := by
  pointwise [ts]
theorem kr_apply (i : Fin 4096) (h : Fin 8) (l : Fin 128) : kr x2 (ix3 i h l) = if h' : l.val < 64 then x2 (ix3 i h (⟨l.val, h'⟩ : Fin 64)) else 0 := by
  pointwise [kr]

end Functions

variable (m : (ℓ : Loc nD τ sig) → Buf (Elt Ideal) ℓ) (c : Dev nD)

theorem V_main_v14 : V m c main_v14 = qn (m ((c : Thread nD τ).loc main_arg3)) (m ((c : Thread nD τ).loc main_arg6)) := by
  unfold V
  simp only [hostOps0]
  after_results_simp
  rfl
theorem V_main_v29 : V m c main_v29 = kn (m ((c : Thread nD τ).loc main_arg3)) (m ((c : Thread nD τ).loc main_arg7)) := by
  unfold V
  simp only [hostOps0]
  after_results_simp
  rfl
theorem V_main_v31 : V m c main_v31 = tc (m ((c : Thread nD τ).loc main_arg4)) := by
  unfold V
  simp only [hostOps0]
  after_results_simp
  rfl
theorem V_main_v34 : V m c main_v34 = ts (m ((c : Thread nD τ).loc main_arg5)) := by
  unfold V
  simp only [hostOps0]
  after_results_simp
  rfl
theorem V_main_v37 : V m c main_v37 = fun i => shapeCast S4096x1024 (kr (m ((c : Thread nD τ).loc main_arg2))) shapeCasts_S4096x8x128_S4096x1024 i := by
  unfold V
  simp only [hostOps0]
  after_results_simp
  rfl
theorem V_main_v38 : V m c main_v38 = fun i => shapeCast S1x512 (m ((c : Thread nD τ).loc main_arg6)) shapeCasts_S512_S1x512 i := by
  unfold V
  simp only [hostOps0]
  after_results_simp
  rfl
theorem V_main_v39 : V m c main_v39 = fun i => shapeCast S1x256 (m ((c : Thread nD τ).loc main_arg7)) shapeCasts_S256_S1x256 i := by
  unfold V
  simp only [hostOps0]
  after_results_simp
  rfl

/-! ## The blocks -/

/-- The inputs. -/
abbrev A0 : Vec Ideal S4096x2048 .bf16 := m ((c : Thread nD τ).loc main_arg0)
abbrev A1 : Vec Ideal S4096x2048 .bf16 := m ((c : Thread nD τ).loc main_arg1)
abbrev A2 : Vec Ideal S4096x8x64 .f32 := m ((c : Thread nD τ).loc main_arg2)
abbrev A3 : Vec Ideal S4096x5120 .f32 := m ((c : Thread nD τ).loc main_arg3)
abbrev A4 : Vec Ideal S4096x32 .f32 := m ((c : Thread nD τ).loc main_arg4)
abbrev A5 : Vec Ideal S4096x32 .f32 := m ((c : Thread nD τ).loc main_arg5)
abbrev A6 : Vec Ideal S512 .f32 := m ((c : Thread nD τ).loc main_arg6)
abbrev A7 : Vec Ideal S256 .f32 := m ((c : Thread nD τ).loc main_arg7)
abbrev A8 : Vec Ideal S2048x512 .bf16 := m ((c : Thread nD τ).loc main_arg8)
abbrev A9 : Vec Ideal S2048x256 .bf16 := m ((c : Thread nD τ).loc main_arg9)

/-- The index maps, decided over the grid: a block of rows, or the whole array. -/
theorem idx_0 : ∀ t : Fin cfg0.N, win0_0.index t (0 : Fin 2) = t.val % 8 ∧ win0_0.index t (1 : Fin 2) = 0 := (by decide +kernel : ∀ t : Fin grid0.N, _)
theorem idx_1 : ∀ t : Fin cfg0.N, win0_1.index t (0 : Fin 2) = t.val % 8 ∧ win0_1.index t (1 : Fin 2) = 0 := (by decide +kernel : ∀ t : Fin grid0.N, _)
theorem idx_2 : ∀ t : Fin cfg0.N, win0_2.index t (0 : Fin 2) = t.val % 8 ∧ win0_2.index t (1 : Fin 2) = 0 := (by decide +kernel : ∀ t : Fin grid0.N, _)
theorem idx_3 : ∀ t : Fin cfg0.N, win0_3.index t (0 : Fin 2) = t.val % 8 ∧ win0_3.index t (1 : Fin 2) = 0 := (by decide +kernel : ∀ t : Fin grid0.N, _)
theorem idx_4 : ∀ t : Fin cfg0.N, win0_4.index t (0 : Fin 2) = t.val % 8 ∧ win0_4.index t (1 : Fin 2) = 0 := (by decide +kernel : ∀ t : Fin grid0.N, _)
theorem idx_5 : ∀ t : Fin cfg0.N, win0_5.index t (0 : Fin 2) = t.val % 8 ∧ win0_5.index t (1 : Fin 2) = 0 := (by decide +kernel : ∀ t : Fin grid0.N, _)
theorem idx_6 : ∀ t : Fin cfg0.N, win0_6.index t (0 : Fin 2) = t.val % 8 ∧ win0_6.index t (1 : Fin 2) = 2 := (by decide +kernel : ∀ t : Fin grid0.N, _)
theorem idx_7 : ∀ t : Fin cfg0.N, win0_7.index t (0 : Fin 2) = t.val % 8 ∧ win0_7.index t (1 : Fin 2) = 0 := (by decide +kernel : ∀ t : Fin grid0.N, _)
theorem idx_8 : ∀ t : Fin cfg0.N, win0_8.index t (0 : Fin 2) = t.val % 8 ∧ win0_8.index t (1 : Fin 2) = 0 := (by decide +kernel : ∀ t : Fin grid0.N, _)
theorem idx_9 : ∀ t : Fin cfg0.N, win0_9.index t (0 : Fin 2) = 0 ∧ win0_9.index t (1 : Fin 2) = 0 := (by decide +kernel : ∀ t : Fin grid0.N, _)
theorem idx_10 : ∀ t : Fin cfg0.N, win0_10.index t (0 : Fin 2) = 0 ∧ win0_10.index t (1 : Fin 2) = 0 := (by decide +kernel : ∀ t : Fin grid0.N, _)
theorem idx_11 : ∀ t : Fin cfg0.N, win0_11.index t (0 : Fin 2) = 0 ∧ win0_11.index t (1 : Fin 2) = 0 := (by decide +kernel : ∀ t : Fin grid0.N, _)
theorem idx_12 : ∀ t : Fin cfg0.N, win0_12.index t (0 : Fin 2) = 0 ∧ win0_12.index t (1 : Fin 2) = 0 := (by decide +kernel : ∀ t : Fin grid0.N, _)
theorem idx_13 : ∀ t : Fin cfg0.N, win0_13.index t (0 : Fin 2) = t.val % 8 ∧ win0_13.index t (1 : Fin 2) = 0 := (by decide +kernel : ∀ t : Fin grid0.N, _)
theorem idx_14 : ∀ t : Fin cfg0.N, win0_14.index t (0 : Fin 2) = 0 ∧ win0_14.index t (1 : Fin 2) = 0 := (by decide +kernel : ∀ t : Fin grid0.N, _)
theorem idx_15 : ∀ t : Fin cfg0.N, win0_15.index t (0 : Fin 2) = 0 ∧ win0_15.index t (1 : Fin 2) = 0 := (by decide +kernel : ∀ t : Fin grid0.N, _)
theorem idx_16 : ∀ t : Fin cfg0.N, win0_16.index t (0 : Fin 2) = 0 ∧ win0_16.index t (1 : Fin 2) = 0 := (by decide +kernel : ∀ t : Fin grid0.N, _)
theorem idx_17 : ∀ t : Fin cfg0.N, win0_17.index t (0 : Fin 2) = 0 ∧ win0_17.index t (1 : Fin 2) = 0 := (by decide +kernel : ∀ t : Fin grid0.N, _)

theorem ix2_of {a b : ℕ} (y : (⟨2, ![a, b]⟩ : Shape).Idx) (i : Fin a) (j : Fin b) (h0 : (y 0).val = i.val) (h1 : (y 1).val = j.val) : y = ix2 i j := by
  funext x
  match x with
  | ⟨0, _⟩ => exact Fin.ext h0
  | ⟨1, _⟩ => exact Fin.ext h1

variable (t : Fin cfg0.N)

theorem blk_0 (i : Fin 512) (k : Fin 2048) : (iblk m c 0 t : Vec Ideal S512x2048 .bf16) (ix2 i k) = A0 m c (ix2 (row t.val i) k) := by
  unfold iblk
  rw [View.read_apply]
  show V m c main_arg0 _ = _
  rw [V_main_arg0]
  exact congrArg _ (ix2_of _ _ _ (by show win0_0.index t 0 * 512 + 1 * i.val = t.val % 8 * 512 + i.val; rw [(idx_0 t).1]; omega)
    (by show win0_0.index t 1 * 2048 + 1 * k.val = k.val; rw [(idx_0 t).2]; omega))
theorem blk_1 (i : Fin 512) (k : Fin 2048) : (iblk m c 1 t : Vec Ideal S512x2048 .bf16) (ix2 i k) = A1 m c (ix2 (row t.val i) k) := by
  unfold iblk
  rw [View.read_apply]
  show V m c main_arg1 _ = _
  rw [V_main_arg1]
  exact congrArg _ (ix2_of _ _ _ (by show win0_1.index t 0 * 512 + 1 * i.val = t.val % 8 * 512 + i.val; rw [(idx_1 t).1]; omega)
    (by show win0_1.index t 1 * 2048 + 1 * k.val = k.val; rw [(idx_1 t).2]; omega))
theorem blk_2 (i : Fin 512) (h : Fin 8) (l : Fin 128) :
    (iblk m c 2 t : Vec Ideal S512x1024 .f32) (ix2 i (⟨128 * h.val + l.val, by omega⟩ : Fin 1024)) = kr (A2 m c) (ix3 (row t.val i) h l) := by
  unfold iblk
  rw [View.read_apply]
  show V m c main_v37 _ = _
  rw [V_main_v37]
  refine (congrArg _ (ix2_of _ (row t.val i) (⟨128 * h.val + l.val, by omega⟩ : Fin 1024)
    (by show win0_2.index t 0 * 512 + 1 * i.val = t.val % 8 * 512 + i.val; rw [(idx_2 t).1]; omega)
    (by show win0_2.index t 1 * 1024 + 1 * (128 * h.val + l.val) = 128 * h.val + l.val; rw [(idx_2 t).2]; omega))).trans ?_
  exact shapeCast_apply _ shapeCasts_S4096x8x128_S4096x1024 _ (ix3 (row t.val i) h l) (by
    rewrite [Shape.rowMajor_val_three, Shape.rowMajor_val_two]
    show ((row t.val i).val * 8 + h.val) * 128 + l.val = (row t.val i).val * 1024 + (128 * h.val + l.val)
    omega)
theorem blk_3 (i : Fin 512) (k : Fin 512) : (iblk m c 3 t : Vec Ideal S512x512 .bf16) (ix2 i k) = qn (A3 m c) (A6 m c) (ix2 (row t.val i) k) := by
  unfold iblk
  rw [View.read_apply]
  show V m c main_v14 _ = _
  rw [V_main_v14]
  exact congrArg _ (ix2_of _ _ _ (by show win0_3.index t 0 * 512 + 1 * i.val = t.val % 8 * 512 + i.val; rw [(idx_3 t).1]; omega)
    (by show win0_3.index t 1 * 512 + 1 * k.val = k.val; rw [(idx_3 t).2]; omega))
theorem blk_4 (i : Fin 512) (k : Fin 256) : (iblk m c 4 t : Vec Ideal S512x256 .bf16) (ix2 i k) = kn (A3 m c) (A7 m c) (ix2 (row t.val i) k) := by
  unfold iblk
  rw [View.read_apply]
  show V m c main_v29 _ = _
  rw [V_main_v29]
  exact congrArg _ (ix2_of _ _ _ (by show win0_4.index t 0 * 512 + 1 * i.val = t.val % 8 * 512 + i.val; rw [(idx_4 t).1]; omega)
    (by show win0_4.index t 1 * 256 + 1 * k.val = k.val; rw [(idx_4 t).2]; omega))
theorem blk_5 (i : Fin 512) (k : Fin 512) : (iblk m c 5 t : Vec Ideal S512x512 .f32) (ix2 i k) = qx (A3 m c) (row t.val i) k := by
  unfold iblk
  rw [View.read_apply]
  show V m c main_arg3 _ = _
  rw [V_main_arg3]
  exact congrArg _ (ix2_of _ _ _ (by show win0_5.index t 0 * 512 + 1 * i.val = t.val % 8 * 512 + i.val; rw [(idx_5 t).1]; omega)
    (by show win0_5.index t 1 * 512 + 1 * k.val = k.val; rw [(idx_5 t).2]; omega))
theorem blk_6 (i : Fin 512) (k : Fin 256) : (iblk m c 6 t : Vec Ideal S512x256 .f32) (ix2 i k) = kx (A3 m c) (row t.val i) k := by
  unfold iblk
  rw [View.read_apply]
  show V m c main_arg3 _ = _
  rw [V_main_arg3]
  exact congrArg _ (ix2_of _ _ _ (by show win0_6.index t 0 * 512 + 1 * i.val = t.val % 8 * 512 + i.val; rw [(idx_6 t).1]; omega)
    (by show win0_6.index t 1 * 256 + 1 * k.val = 512 + k.val; rw [(idx_6 t).2]; omega))
theorem blk_7 (i : Fin 512) (k : Fin 128) : (iblk m c 7 t : Vec Ideal S512x128 .f32) (ix2 i k) = tc (A4 m c) (ix2 (row t.val i) k) := by
  unfold iblk
  rw [View.read_apply]
  show V m c main_v31 _ = _
  rw [V_main_v31]
  exact congrArg _ (ix2_of _ _ _ (by show win0_7.index t 0 * 512 + 1 * i.val = t.val % 8 * 512 + i.val; rw [(idx_7 t).1]; omega)
    (by show win0_7.index t 1 * 128 + 1 * k.val = k.val; rw [(idx_7 t).2]; omega))
theorem blk_8 (i : Fin 512) (k : Fin 128) : (iblk m c 8 t : Vec Ideal S512x128 .f32) (ix2 i k) = ts (A5 m c) (ix2 (row t.val i) k) := by
  unfold iblk
  rw [View.read_apply]
  show V m c main_v34 _ = _
  rw [V_main_v34]
  exact congrArg _ (ix2_of _ _ _ (by show win0_8.index t 0 * 512 + 1 * i.val = t.val % 8 * 512 + i.val; rw [(idx_8 t).1]; omega)
    (by show win0_8.index t 1 * 128 + 1 * k.val = k.val; rw [(idx_8 t).2]; omega))
theorem blk_9 (k : Fin 512) : (iblk m c 9 t : Vec Ideal S1x512 .f32) (ix2 (0 : Fin 1) k) = A6 m c (ix1 k) := by
  unfold iblk
  rw [View.read_apply]
  show V m c main_v38 _ = _
  rw [V_main_v38]
  refine (congrArg _ (ix2_of _ (0 : Fin 1) k (by show win0_9.index t 0 * 1 + 1 * 0 = 0; rw [(idx_9 t).1])
    (by show win0_9.index t 1 * 512 + 1 * k.val = k.val; rw [(idx_9 t).2]; omega))).trans ?_
  exact shapeCast_apply _ shapeCasts_S512_S1x512 _ (ix1 k) (by
    rewrite [Shape.rowMajor_val_one, Shape.rowMajor_val_two]
    show k.val = 0 * 512 + k.val
    omega)
theorem blk_10 (k : Fin 256) : (iblk m c 10 t : Vec Ideal S1x256 .f32) (ix2 (0 : Fin 1) k) = A7 m c (ix1 k) := by
  unfold iblk
  rw [View.read_apply]
  show V m c main_v39 _ = _
  rw [V_main_v39]
  refine (congrArg _ (ix2_of _ (0 : Fin 1) k (by show win0_10.index t 0 * 1 + 1 * 0 = 0; rw [(idx_10 t).1])
    (by show win0_10.index t 1 * 256 + 1 * k.val = k.val; rw [(idx_10 t).2]; omega))).trans ?_
  exact shapeCast_apply _ shapeCasts_S256_S1x256 _ (ix1 k) (by
    rewrite [Shape.rowMajor_val_one, Shape.rowMajor_val_two]
    show k.val = 0 * 256 + k.val
    omega)
theorem blk_11 (l : Fin 2048) (k : Fin 512) : (iblk m c 11 t : Vec Ideal S2048x512 .bf16) (ix2 l k) = A8 m c (ix2 l k) := by
  unfold iblk
  rw [View.read_apply]
  show V m c main_arg8 _ = _
  rw [V_main_arg8]
  exact congrArg _ (ix2_of _ _ _ (by show win0_11.index t 0 * 2048 + 1 * l.val = l.val; rw [(idx_11 t).1]; omega)
    (by show win0_11.index t 1 * 512 + 1 * k.val = k.val; rw [(idx_11 t).2]; omega))
theorem blk_12 (l : Fin 2048) (k : Fin 256) : (iblk m c 12 t : Vec Ideal S2048x256 .bf16) (ix2 l k) = A9 m c (ix2 l k) := by
  unfold iblk
  rw [View.read_apply]
  show V m c main_arg9 _ = _
  rw [V_main_arg9]
  exact congrArg _ (ix2_of _ _ _ (by show win0_12.index t 0 * 2048 + 1 * l.val = l.val; rw [(idx_12 t).1]; omega)
    (by show win0_12.index t 1 * 256 + 1 * k.val = k.val; rw [(idx_12 t).2]; omega))

end Cert.Kernel10Ideal.Latent

end
-- ==== Proof.Latent.Ref.lean ====
/- The gradient of the latent projections by the chain rule: each operation of the reference's, over the extended reals. -/
module

public import proofs.«01_k».proof.Defs
public import proofs.«01_k».proof.Proof.Latent.Rows
public import proofs.«01_k».proof.Proof.Gen.Reference10Ideal.Run
public import proofs.«01_k».proof.Proof.Gen.Reference10Ideal.Read
public import Idealize.ShloMosaic.Lib.Pointwise

@[expose] public section

noncomputable section

namespace Cert.Reference10Ideal.Latent

open Cert.Reference10Ideal Cert.Reference10Ideal.Read Cert.Latent Idealize.ShloMosaic Idealize.ShloMosaic.TcCoe

variable (x0 x1 : Vec Ideal S4096x2048 .bf16) (x2 : Vec Ideal S4096x8x64 .f32) (x3 : Vec Ideal S4096x5120 .f32) (x4 x5 : Vec Ideal S4096x32 .f32)
  (x6 : Vec Ideal S512 .f32) (x7 : Vec Ideal S256 .f32) (x8 : Vec Ideal S2048x512 .bf16) (x9 : Vec Ideal S2048x256 .bf16)

theorem v15 (i : Fin 4096) (z : Fin 1) : val_main_v15 (F := Ideal) x3 (ix2 i z) = ms (Ideal.ofBits .f32 0x44000000#32) (qx x3 i) := by
  pointwise [val_main_v15, val_main_v13, val_main_v14, val_main_cst_2, val_main_v11, val_main_v12, val_main_cst_1, val_main_v10, val_main_cst_0, val_main_v7, val_main_v4]
  rfl

theorem v16 (i : Fin 4096) (z : Fin 1) : val_main_v16 (F := Ideal) x3 (ix2 i z) = rsq (Ideal.ofBits .f32 0x44000000#32) (qx x3 i) := by
  pointwise [val_main_v16]
  rw [v15]
  rfl

theorem v96 (i : Fin 4096) (k : Fin 512) : val_main_v96 (F := Ideal) x0 x8 (ix2 i k) = dn x0 x8 i k := by
  pointwise [val_main_v96, val_main_v56, val_main_v1, val_main_v0]
  rfl

theorem v114 (i : Fin 4096) (j : Fin 512) :
    val_main_v114 (F := Ideal) x0 x3 x6 x8 (ix2 i j) = rdx (Ideal.ofBits .f32 0x44000000#32) (qx x3 i) (fun k => dn x0 x8 i k * x6 (ix1 k)) j := by
  pointwise [val_main_v114, val_main_v107, val_main_v113, val_main_v101, val_main_v106, val_main_v112, val_main_v9, val_main_v8, val_main_cst, val_main_v111, val_main_cst_22, val_main_v110, val_main_v109, val_main_cst_21, val_main_v108, val_main_v105, val_main_v104, val_main_cst_20, val_main_v103, val_main_v19, val_main_v18, val_main_cst_3, val_main_v17, val_main_v100, val_main_v22, val_main_v4]
  simp only [v96, v16, v15]
  try rw [Fintype.sum_unique]
  rfl

/-- The gradient of the gain. -/
theorem v118 (j : Fin 512) :
    val_main_v118 (F := Ideal) x0 x3 x8 (ix2 (0 : Fin 1) j) = ∑ i : Fin 4096, dn x0 x8 i j * (qx x3 i j * rsq (Ideal.ofBits .f32 0x44000000#32) (qx x3 i)) := by
  pointwise [val_main_v118, val_main_v102, val_main_cst_19, val_main_v99, val_main_v98, val_main_cst_18, val_main_v97, val_main_v21, val_main_v20, val_main_v4]
  simp only [v96, v16]
  try rw [Fintype.sum_unique]
  exact Finset.sum_congr rfl fun i _ => mul_comm _ _

/-- The gradient of the weight. -/
theorem v120 (l : Fin 2048) (j : Fin 512) :
    val_main_v120 (F := Ideal) x0 x3 x6 (ix2 l j) = ∑ i : Fin 4096, x0 (ix2 i l) * (qx x3 i j * rsq (Ideal.ofBits .f32 0x44000000#32) (qx x3 i) * x6 (ix1 j)) := by
  pointwise [val_main_v120, val_main_v95, val_main_v94, val_main_v56, val_main_v24, val_main_v23, val_main_v22, val_main_v21, val_main_v20, val_main_v4]
  simp only [v16]
  rfl

theorem v34 (i : Fin 4096) (z : Fin 1) : val_main_v34 (F := Ideal) x3 (ix2 i z) = ms (Ideal.ofBits .f32 0x43800000#32) (kx x3 i) := by
  pointwise [val_main_v34, val_main_v32, val_main_v33, val_main_cst_7, val_main_v30, val_main_v31, val_main_cst_6, val_main_v29, val_main_cst_5, val_main_v26, val_main_v5]
  rfl

theorem v35 (i : Fin 4096) (z : Fin 1) : val_main_v35 (F := Ideal) x3 (ix2 i z) = rsq (Ideal.ofBits .f32 0x43800000#32) (kx x3 i) := by
  pointwise [val_main_v35]
  rw [v34]
  rfl

theorem v75 (i : Fin 4096) (k : Fin 256) : val_main_v75 (F := Ideal) x1 x9 (ix2 i k) = dn x1 x9 i k := by
  pointwise [val_main_v75, val_main_v57, val_main_v3, val_main_v2]
  rfl

theorem v93 (i : Fin 4096) (j : Fin 256) :
    val_main_v93 (F := Ideal) x1 x3 x7 x9 (ix2 i j) = rdx (Ideal.ofBits .f32 0x43800000#32) (kx x3 i) (fun k => dn x1 x9 i k * x7 (ix1 k)) j := by
  pointwise [val_main_v93, val_main_v86, val_main_v92, val_main_v80, val_main_v85, val_main_v91, val_main_v28, val_main_v27, val_main_cst_4, val_main_v90, val_main_cst_17, val_main_v89, val_main_v88, val_main_cst_16, val_main_v87, val_main_v84, val_main_v83, val_main_cst_15, val_main_v82, val_main_v38, val_main_v37, val_main_cst_8, val_main_v36, val_main_v79, val_main_v41, val_main_v5]
  simp only [v75, v35, v34]
  try rw [Fintype.sum_unique]
  rfl

/-- The gradient of the gain. -/
theorem v119 (j : Fin 256) :
    val_main_v119 (F := Ideal) x1 x3 x9 (ix2 (0 : Fin 1) j) = ∑ i : Fin 4096, dn x1 x9 i j * (kx x3 i j * rsq (Ideal.ofBits .f32 0x43800000#32) (kx x3 i)) := by
  pointwise [val_main_v119, val_main_v81, val_main_cst_14, val_main_v78, val_main_v77, val_main_cst_13, val_main_v76, val_main_v40, val_main_v39, val_main_v5]
  simp only [v75, v35]
  try rw [Fintype.sum_unique]
  exact Finset.sum_congr rfl fun i _ => mul_comm _ _

/-- The gradient of the weight. -/
theorem v121 (l : Fin 2048) (j : Fin 256) :
    val_main_v121 (F := Ideal) x1 x3 x7 (ix2 l j) = ∑ i : Fin 4096, x1 (ix2 i l) * (kx x3 i j * rsq (Ideal.ofBits .f32 0x43800000#32) (kx x3 i) * x7 (ix1 j)) := by
  pointwise [val_main_v121, val_main_v74, val_main_v73, val_main_v57, val_main_v43, val_main_v42, val_main_v41, val_main_v40, val_main_v39, val_main_v5]
  simp only [v35]
  rfl

theorem v72 (i : Fin 4096) (l : Fin 64) : val_main_v72 (F := Ideal) x2 x4 x5 (ix2 i l) = unrot x2 x4 x5 i l := by
  pointwise [val_main_v72, val_main_v70, val_main_v71, val_main_v67, val_main_v69, val_main_v63, val_main_v64, val_main_v65, val_main_v66, val_main_v68, val_main_v61, val_main_v62, val_main_v60, val_main_v59, val_main_v58, val_main_cst_9, val_main_cst_10, val_main_cst_11, val_main_cst_12]
  simp only [Fintype.sum_unique]
  unfold unrot tot
  have hl := l.isLt
  by_cases h : l.val < 32
  · rw [dif_neg (by omega), dif_pos h, dif_pos h, zero_add]
  · rw [dif_pos (by omega), dif_neg h, dif_neg h, add_zero]
    have e : (⟨32 + (l.val - 32), by omega⟩ : Fin 64) = l := Fin.ext (by show 32 + (l.val - 32) = l.val; omega)
    rw [e]

theorem v117 (i : Fin 4096) (j : Fin 1024) : val_main_v117 (F := Ideal) x0 x1 x2 x3 x4 x5 x6 x7 x8 x9 (ix2 i j) =
    lanes (rdx (Ideal.ofBits .f32 0x44000000#32) (qx x3 i) (fun k => dn x0 x8 i k * x6 (ix1 k)))
      (rdx (Ideal.ofBits .f32 0x43800000#32) (kx x3 i) (fun k => dn x1 x9 i k * x7 (ix1 k))) (unrot x2 x4 x5 i) j := by
  pointwise [val_main_v117, val_main_v116, val_main_v115, val_main_cst_23]
  simp only [v114, v93, v72]
  rfl

end Cert.Reference10Ideal.Latent

end
-- ==== Proof.Latent.Value.lean ====
/- The latent projections' gradient: the kernel's five results are the reference's. -/
module

public import proofs.«01_k».proof.Proof.Latent.Host
public import proofs.«01_k».proof.Proof.Latent.Ref
public import proofs.«01_k».proof.Proof.Flash.Finite
public import proofs.«01_k».proof.Proof.Gen.Pre_finite_latent

@[expose] public section

noncomputable section

namespace Cert.Kernel10Ideal.Latent

open Cert.Kernel10Ideal Cert.Kernel10Ideal.Gen Cert.Norm Cert.Attention Cert.Latent Idealize.ShloMosaic Idealize.ShloMosaic.TcCoe Idealize.SL.Sem

variable (m : (ℓ : Loc nD τ sig) → Buf (Elt Ideal) ℓ) (c : Dev nD)

/-- A row of the first result. -/
def kout (i : Fin 4096) : Fin 1024 → EReal :=
  lanes (kdx (Ideal.ofBits .f32 0x44000000#32) (qx (A3 m c) i) (fun k => dn (A0 m c) (A8 m c) i k * A6 m c (ix1 k)))
    (kdx (Ideal.ofBits .f32 0x43800000#32) (kx (A3 m c) i) (fun k => dn (A1 m c) (A9 m c) i k * A7 m c (ix1 k)))
    (unrot (A2 m c) (A4 m c) (A5 m c) i)

/-- What a row adds to the gradients of the gains and of the weights. -/
def gq (i : Fin 4096) (_ : Fin 1) (j : Fin 512) : EReal :=
  dn (A0 m c) (A8 m c) i j * (qx (A3 m c) i j * rsq (Ideal.ofBits .f32 0x44000000#32) (qx (A3 m c) i))
def gk (i : Fin 4096) (_ : Fin 1) (j : Fin 256) : EReal :=
  dn (A1 m c) (A9 m c) i j * (kx (A3 m c) i j * rsq (Ideal.ofBits .f32 0x43800000#32) (kx (A3 m c) i))
def wq (i : Fin 4096) (l : Fin 2048) (j : Fin 512) : EReal :=
  A0 m c (ix2 i l) * (qx (A3 m c) i j * rsq (Ideal.ofBits .f32 0x44000000#32) (qx (A3 m c) i) * A6 m c (ix1 j))
def wk (i : Fin 4096) (l : Fin 2048) (j : Fin 256) : EReal :=
  A1 m c (ix2 i l) * (kx (A3 m c) i j * rsq (Ideal.ofBits .f32 0x43800000#32) (kx (A3 m c) i) * A7 m c (ix1 j))

section Block

variable (t : Fin cfg0.N)

/-- The rotated key's gradient of a block, taken back through the rotation. -/
theorem rope_apply (i : Fin 512) (l : Fin 128) :
    k0_pay25 (F := Ideal) (k0_pay7 (iblk m c 7 t)) (k0_pay8 (iblk m c 8 t)) (heads (iblk m c 2 t)) (ix2 i l)
      = if h : l.val < 64 then unrot (A2 m c) (A4 m c) (A5 m c) (row t.val i) ⟨l.val, h⟩ else 0 := by
  have hk : ∀ l : Fin 128, heads (iblk m c 2 t) (ix2 i l) = ∑ h : Fin 8, kr (A2 m c) (ix3 (row t.val i) h l) := fun l =>
    (heads_apply _ i l).trans (Finset.sum_congr rfl fun h _ => blk_2 m c t i h l)
  refine (pay25_apply _ _ _ i l).trans (unrot_lane (A2 m c) (A4 m c) (A5 m c) (row t.val i) (t := fun l => heads (iblk m c 2 t) (ix2 i l))
    (co := fun l => (iblk m c 7 t : Vec Ideal S512x128 .f32) (ix2 i l)) (si := fun l => (iblk m c 8 t : Vec Ideal S512x128 .f32) (ix2 i l))
    (fun l h => ?_) (fun l h => ?_) (fun l h => ?_) (fun l h h' => ?_) (fun l h => ?_) (fun l h h' => ?_) (fun l h => ?_) l)
  · refine (hk l).trans (Finset.sum_congr rfl fun k _ => ?_)
    rw [kr_apply, dif_pos h]
  · refine (hk l).trans (Finset.sum_eq_zero fun k _ => ?_)
    rw [kr_apply, dif_neg (by omega)]
  · refine (blk_7 m c t i l).trans ?_
    rw [tc_apply, dif_pos h]
  · refine (blk_7 m c t i l).trans ?_
    rw [tc_apply, dif_neg (by omega), dif_pos h]
  · refine (blk_8 m c t i l).trans ?_
    rw [ts_apply, dif_pos h]
  · refine (blk_8 m c t i l).trans ?_
    rw [ts_apply, dif_neg (by omega), dif_pos h]
  · refine (blk_8 m c t i l).trans ?_
    rw [ts_apply, dif_neg (by omega), dif_neg (by omega)]

/-- The blocks, at their shapes. -/
abbrev B0 : Vec Ideal S512x2048 .bf16 := iblk m c 0 t
abbrev B1 : Vec Ideal S512x2048 .bf16 := iblk m c 1 t
abbrev B2 : Vec Ideal S512x1024 .f32 := iblk m c 2 t
abbrev B3 : Vec Ideal S512x512 .bf16 := iblk m c 3 t
abbrev B4 : Vec Ideal S512x256 .bf16 := iblk m c 4 t
abbrev B5 : Vec Ideal S512x512 .f32 := iblk m c 5 t
abbrev B6 : Vec Ideal S512x256 .f32 := iblk m c 6 t
abbrev B7 : Vec Ideal S512x128 .f32 := iblk m c 7 t
abbrev B8 : Vec Ideal S512x128 .f32 := iblk m c 8 t
abbrev B9 : Vec Ideal S1x512 .f32 := iblk m c 9 t
abbrev B10 : Vec Ideal S1x256 .f32 := iblk m c 10 t
abbrev B11 : Vec Ideal S2048x512 .bf16 := iblk m c 11 t
abbrev B12 : Vec Ideal S2048x256 .bf16 := iblk m c 12 t

theorem x5_eq (i : Fin 512) : (fun k : Fin 512 => B5 m c t (ix2 i k)) = qx (A3 m c) (row t.val i) := funext fun k => blk_5 m c t i k
theorem x6_eq (i : Fin 512) : (fun k : Fin 256 => B6 m c t (ix2 i k)) = kx (A3 m c) (row t.val i) := funext fun k => blk_6 m c t i k
theorem dq_eq (i : Fin 512) (k : Fin 512) : ∑ l : Fin 2048, B0 m c t (ix2 i l) * B11 m c t (ix2 l k) = dn (A0 m c) (A8 m c) (row t.val i) k := by
  unfold dn
  refine Finset.sum_congr rfl fun l _ => ?_
  rw [show B0 m c t (ix2 i l) = _ from blk_0 m c t i l, show B11 m c t (ix2 l k) = _ from blk_11 m c t l k]
theorem dk_eq (i : Fin 512) (k : Fin 256) : ∑ l : Fin 2048, B1 m c t (ix2 i l) * B12 m c t (ix2 l k) = dn (A1 m c) (A9 m c) (row t.val i) k := by
  unfold dn
  refine Finset.sum_congr rfl fun l _ => ?_
  rw [show B1 m c t (ix2 i l) = _ from blk_1 m c t i l, show B12 m c t (ix2 l k) = _ from blk_12 m c t l k]

/-- A row of the block of the first result. -/
theorem out_13 (i : Fin 512) (j : Fin 1024) : View.canon (pieces (B0 m c t) (B1 m c t) (B2 m c t) (B5 m c t) (B6 m c t) (B7 m c t)
    (B8 m c t) (B9 m c t) (B10 m c t) (B11 m c t) (B12 m c t)) (ix2 i j) = kout m c (row t.val i) j := by
  rw [pieces_apply (B0 m c t) (B1 m c t) (B2 m c t) (B5 m c t) (B6 m c t) (B7 m c t) (B8 m c t) (B9 m c t) (B10 m c t) (B11 m c t) (B12 m c t) i j (rope_apply m c t i),
    x5_eq, x6_eq]
  have hq : (fun k : Fin 512 => (∑ l : Fin 2048, B0 m c t (ix2 i l) * B11 m c t (ix2 l k)) * B9 m c t (ix2 (0 : Fin 1) k))
      = fun k => dn (A0 m c) (A8 m c) (row t.val i) k * A6 m c (ix1 k) := funext fun k => by
    rw [dq_eq, show B9 m c t (ix2 (0 : Fin 1) k) = _ from blk_9 m c t k]
  have hk : (fun k : Fin 256 => (∑ l : Fin 2048, B1 m c t (ix2 i l) * B12 m c t (ix2 l k)) * B10 m c t (ix2 (0 : Fin 1) k))
      = fun k => dn (A1 m c) (A9 m c) (row t.val i) k * A7 m c (ix1 k) := funext fun k => by
    rw [dk_eq, show B10 m c t (ix2 (0 : Fin 1) k) = _ from blk_10 m c t k]
  rw [hq, hk]
  rfl

/-- What the block adds to each of the four sums. -/
theorem out_14 (o : Vec Ideal S1x512 .f32) (j : Fin 512) :
    k0_pay16 (F := Ideal) (k0_pay11 (B0 m c t) (B11 m c t)) (B5 m c t) (k0_pay12 (B5 m c t)) o (ix2 (0 : Fin 1) j)
      = o (ix2 (0 : Fin 1) j) + ∑ i : Fin 512, gq m c (row t.val i) 0 j := by
  rw [pay16_apply]
  refine congrArg (_ + ·) (Finset.sum_congr rfl fun i _ => ?_)
  rw [dq_eq, x5_eq, show B5 m c t (ix2 i j) = _ from blk_5 m c t i j]
  rfl
theorem out_15 (o : Vec Ideal S1x256 .f32) (j : Fin 256) :
    k0_pay22 (F := Ideal) (k0_pay17 (B1 m c t) (B12 m c t)) (B6 m c t) (k0_pay18 (B6 m c t)) o (ix2 (0 : Fin 1) j)
      = o (ix2 (0 : Fin 1) j) + ∑ i : Fin 512, gk m c (row t.val i) 0 j := by
  rw [pay22_apply]
  refine congrArg (_ + ·) (Finset.sum_congr rfl fun i _ => ?_)
  rw [dk_eq, x6_eq, show B6 m c t (ix2 i j) = _ from blk_6 m c t i j]
  rfl
theorem out_16 (o : Vec Ideal S2048x512 .f32) (l : Fin 2048) (j : Fin 512) :
    k0_pay5 (F := Ideal) o (B0 m c t) (B3 m c t) (ix2 l j) = o (ix2 l j) + ∑ i : Fin 512, wq m c (row t.val i) l j := by
  rw [pay5_apply]
  refine congrArg (_ + ·) (Finset.sum_congr rfl fun i _ => ?_)
  rw [show B0 m c t (ix2 i l) = _ from blk_0 m c t i l, show B3 m c t (ix2 i j) = _ from blk_3 m c t i j, qn_apply]
  rfl
theorem out_17 (o : Vec Ideal S2048x256 .f32) (l : Fin 2048) (j : Fin 256) :
    k0_pay6 (F := Ideal) o (B1 m c t) (B4 m c t) (ix2 l j) = o (ix2 l j) + ∑ i : Fin 512, wk m c (row t.val i) l j := by
  rw [pay6_apply]
  refine congrArg (_ + ·) (Finset.sum_congr rfl fun i _ => ?_)
  rw [show B1 m c t (ix2 i l) = _ from blk_1 m c t i l, show B4 m c t (ix2 i j) = _ from blk_4 m c t i j, kn_apply]
  rfl

end Block

/-- What the point writes of the first result, and what the four sums hold after it. -/
theorem outs (n : ℕ) (hn : n < cfg0.N) :
    (∀ (i : Fin 512) (j : Fin 1024), (outsAt0 m c n hn).1 (ix2 i j) = kout m c (row n i) j)
    ∧ (∀ j : Fin 512, (outsAt0 m c n hn).2.1 (ix2 (0 : Fin 1) j) = acc (fun k => gq m c k 0 j) n)
    ∧ (∀ j : Fin 256, (outsAt0 m c n hn).2.2.1 (ix2 (0 : Fin 1) j) = acc (fun k => gk m c k 0 j) n)
    ∧ (∀ (l : Fin 2048) (j : Fin 512), (outsAt0 m c n hn).2.2.2.1 (ix2 l j) = acc (fun k => wq m c k l j) n)
    ∧ (∀ (l : Fin 2048) (j : Fin 256), (outsAt0 m c n hn).2.2.2.2 (ix2 l j) = acc (fun k => wk m c k l j) n) := by
  cases n with
  | zero =>
    rw [outsAt0_A m c ⟨0, hn⟩ rfl]
    dsimp only
    rw [out_A_13, out_A_14, out_A_15, out_A_16, out_A_17]
    refine ⟨fun i j => out_13 m c ⟨0, hn⟩ i j, fun j => (out_14 m c ⟨0, hn⟩ _ j).trans ?_, fun j => (out_15 m c ⟨0, hn⟩ _ j).trans ?_,
      fun l j => (out_16 m c ⟨0, hn⟩ _ l j).trans ?_, fun l j => (out_17 m c ⟨0, hn⟩ _ l j).trans ?_⟩
    · rw [pay1_apply, zero_add, acc_zero]
    · rw [pay2_apply, zero_add, acc_zero]
    · rw [pay3_apply, zero_add, acc_zero]
    · rw [pay4_apply, zero_add, acc_zero]
  | succ n =>
    have hN : cfg0.N = 8 := N_0
    obtain ⟨-, h4, h5, h6, h7⟩ := outs n (Nat.lt_of_succ_lt hn)
    rw [outsAt0_B m c ⟨n + 1, hn⟩ (by show ¬(n + 1) % 8 = 0; omega)]
    dsimp only
    rw [out_B_13, out_B_14, out_B_15, out_B_16, out_B_17]
    refine ⟨fun i j => out_13 m c ⟨n + 1, hn⟩ i j, fun j => (out_14 m c ⟨n + 1, hn⟩ _ j).trans ?_, fun j => (out_15 m c ⟨n + 1, hn⟩ _ j).trans ?_,
      fun l j => (out_16 m c ⟨n + 1, hn⟩ _ l j).trans ?_, fun l j => (out_17 m c ⟨n + 1, hn⟩ _ l j).trans ?_⟩
    · rw [acc_succ]
      exact congrArg (· + _) (h4 j)
    · rw [acc_succ]
      exact congrArg (· + _) (h5 j)
    · rw [acc_succ]
      exact congrArg (· + _) (h6 l j)
    · rw [acc_succ]
      exact congrArg (· + _) (h7 l j)

/-- The first result, and the sum over the rows of a function of row and entry, as arrays. -/
def gx : Vec Ideal S4096x1024 .bf16 := fun y => kout m c (y 0) (y 1)
def total {a b : ℕ} (f : Fin 4096 → Fin a → Fin b → EReal) : Vec Ideal ⟨2, ![a, b]⟩ .f32 := fun y => ∑ k, f k (y 0) (y 1)

theorem mem_blk_13 (t : Fin cfg0.N) (i : S4096x1024.Idx) :
    i ∈ ((cfg0.win 13).blk t).view.set ↔ ∀ a : Fin 2, win0_13.index t a * S512x1024.size a ≤ (i a).val ∧ (i a).val < win0_13.index t a * S512x1024.size a + S512x1024.size a := by
  show i ∈ ((View.whole main_v40_0).slice (win0_13.rect t)).set ↔ _
  rw [View.set_slice_whole, Rect.mem_set_unit]
  exact Iff.rfl

theorem flushed_13 (t : Fin cfg0.N) : (dats m 0 c).flushed 13 t = ((cfg0.win 13).blk t).view.read (Elt Ideal) (gx m c) := by
  rw [Value.flushed13]
  obtain ⟨e0, e1⟩ := idx_13 t
  funext y
  have hy0 : (y 0).val < 512 := (y 0).isLt
  have hy1 : (y 1).val < 1024 := (y 1).isLt
  have hb0 : (((cfg0.win 13).blk t).view.emb y 0).val = win0_13.index t (0 : Fin 2) * 512 + 1 * (y 0).val := rfl
  have hb1 : (((cfg0.win 13).blk t).view.emb y 1).val = win0_13.index t (1 : Fin 2) * 1024 + 1 * (y 1).val := rfl
  rw [View.read_apply]
  have ex : (cfg0.win 13).xinj (grid0.coords t) y = ix2 (⟨(y 0).val, hy0⟩ : Fin 512) (⟨(y 1).val, hy1⟩ : Fin 1024) :=
    ix2_of _ _ _ rfl rfl
  show (outsAt0 m c t.val t.isLt).1 ((cfg0.win 13).xinj (grid0.coords t) y) = _
  rw [ex, (outs m c t.val t.isLt).1]
  unfold gx
  have r0 : row t.val ⟨(y 0).val, hy0⟩ = ((cfg0.win 13).blk t).view.emb y 0 :=
    Fin.ext (by rw [hb0, e0]; show t.val % 8 * 512 + (y 0).val = _; omega)
  have r1 : (⟨(y 1).val, hy1⟩ : Fin 1024) = ((cfg0.win 13).blk t).view.emb y 1 :=
    Fin.ext (by rw [hb1, e1]; show (y 1).val = _; omega)
  rw [r0, r1]
  rfl

theorem final_13 : (dats m 0 c).arrAt 13 cfg0.N = gx m c :=
  (dats m 0 c).arrAt_eq_of_cover 13 _ (fun t _ => flushed_13 m c t) (fun i => by
    have h0 : (i 0).val < 4096 := (i 0).isLt
    have h1 : (i 1).val < 1024 := (i 1).isLt
    have hN : cfg0.N = 8 := N_0
    have ht : (i 0).val / 512 < cfg0.N := by rw [hN]; omega
    obtain ⟨e0, e1⟩ := idx_13 ⟨(i 0).val / 512, ht⟩
    have e0' : win0_13.index ⟨(i 0).val / 512, ht⟩ (0 : Fin 2) = (i 0).val / 512 % 8 := e0
    refine ⟨⟨(i 0).val / 512, ht⟩, flush0_13 _, ?_⟩
    refine (mem_blk_13 _ i).mpr fun a => ?_
    match a with
    | ⟨0, _⟩ => show win0_13.index _ (0 : Fin 2) * 512 ≤ (i 0).val ∧ (i 0).val < win0_13.index _ (0 : Fin 2) * 512 + 512; rw [e0']; omega
    | ⟨1, _⟩ => show win0_13.index _ (1 : Fin 2) * 1024 ≤ (i 1).val ∧ (i 1).val < win0_13.index _ (1 : Fin 2) * 1024 + 1024; rw [e1]; omega)

theorem mem_blk_14 (t : Fin cfg0.N) (i : S1x512.Idx) :
    i ∈ ((cfg0.win 14).blk t).view.set ↔ ∀ a : Fin 2, win0_14.index t a * S1x512.size a ≤ (i a).val ∧ (i a).val < win0_14.index t a * S1x512.size a + S1x512.size a := by
  show i ∈ ((View.whole main_v40_1).slice (win0_14.rect t)).set ↔ _
  rw [View.set_slice_whole, Rect.mem_set_unit]
  exact Iff.rfl

theorem flushed_14 (t : Fin cfg0.N) (h : t.val % 8 = 7) :
    (dats m 0 c).flushed 14 t = ((cfg0.win 14).blk t).view.read (Elt Ideal) (total (gq m c)) := by
  rw [Value.flushed14]
  obtain ⟨e0, e1⟩ := idx_14 t
  have hN : cfg0.N = 8 := N_0
  have ht : t.val = 7 := by have := t.isLt; omega
  funext y
  have hy0 : (y 0).val < 1 := (y 0).isLt
  have hy1 : (y 1).val < 512 := (y 1).isLt
  have hb0 : (((cfg0.win 14).blk t).view.emb y 0).val = win0_14.index t (0 : Fin 2) * 1 + 1 * (y 0).val := rfl
  have hb1 : (((cfg0.win 14).blk t).view.emb y 1).val = win0_14.index t (1 : Fin 2) * 512 + 1 * (y 1).val := rfl
  rw [View.read_apply]
  have ex : (cfg0.win 14).xinj (grid0.coords t) y = ix2 (0 : Fin 1) (⟨(y 1).val, hy1⟩ : Fin 512) := ix2_of _ _ _ (by show (y 0).val = 0; omega) rfl
  show (outsAt0 m c t.val t.isLt).2.1 ((cfg0.win 14).xinj (grid0.coords t) y) = _
  rw [ex, (outs m c t.val t.isLt).2.1, ht, acc_all]
  have r0 : (0 : Fin 1) = ((cfg0.win 14).blk t).view.emb y 0 :=
    Fin.ext (by rw [hb0, e0]; show 0 = _; omega)
  have r1 : (⟨(y 1).val, hy1⟩ : Fin 512) = ((cfg0.win 14).blk t).view.emb y 1 :=
    Fin.ext (by rw [hb1, e1]; show (y 1).val = _; omega)
  rw [r0, r1]
  rfl

theorem final_14 : (dats m 0 c).arrAt 14 cfg0.N = total (gq m c) :=
  (dats m 0 c).arrAt_eq_of_cover 14 _ (fun t h => flushed_14 m c t ((flush0_14 t).1 h)) (fun i => by
    have h0 : (i 0).val < 1 := (i 0).isLt
    have h1 : (i 1).val < 512 := (i 1).isLt
    have ht : 7 < cfg0.N := by rw [show cfg0.N = 8 from N_0]; omega
    obtain ⟨e0, e1⟩ := idx_14 ⟨7, ht⟩
    refine ⟨⟨7, ht⟩, (flush0_14 _).2 rfl, ?_⟩
    refine (mem_blk_14 _ i).mpr fun a => ?_
    match a with
    | ⟨0, _⟩ => show win0_14.index _ (0 : Fin 2) * 1 ≤ (i 0).val ∧ (i 0).val < win0_14.index _ (0 : Fin 2) * 1 + 1; rw [e0]; omega
    | ⟨1, _⟩ => show win0_14.index _ (1 : Fin 2) * 512 ≤ (i 1).val ∧ (i 1).val < win0_14.index _ (1 : Fin 2) * 512 + 512; rw [e1]; omega)

theorem mem_blk_15 (t : Fin cfg0.N) (i : S1x256.Idx) :
    i ∈ ((cfg0.win 15).blk t).view.set ↔ ∀ a : Fin 2, win0_15.index t a * S1x256.size a ≤ (i a).val ∧ (i a).val < win0_15.index t a * S1x256.size a + S1x256.size a := by
  show i ∈ ((View.whole main_v40_2).slice (win0_15.rect t)).set ↔ _
  rw [View.set_slice_whole, Rect.mem_set_unit]
  exact Iff.rfl

theorem flushed_15 (t : Fin cfg0.N) (h : t.val % 8 = 7) :
    (dats m 0 c).flushed 15 t = ((cfg0.win 15).blk t).view.read (Elt Ideal) (total (gk m c)) := by
  rw [Value.flushed15]
  obtain ⟨e0, e1⟩ := idx_15 t
  have hN : cfg0.N = 8 := N_0
  have ht : t.val = 7 := by have := t.isLt; omega
  funext y
  have hy0 : (y 0).val < 1 := (y 0).isLt
  have hy1 : (y 1).val < 256 := (y 1).isLt
  have hb0 : (((cfg0.win 15).blk t).view.emb y 0).val = win0_15.index t (0 : Fin 2) * 1 + 1 * (y 0).val := rfl
  have hb1 : (((cfg0.win 15).blk t).view.emb y 1).val = win0_15.index t (1 : Fin 2) * 256 + 1 * (y 1).val := rfl
  rw [View.read_apply]
  have ex : (cfg0.win 15).xinj (grid0.coords t) y = ix2 (0 : Fin 1) (⟨(y 1).val, hy1⟩ : Fin 256) := ix2_of _ _ _ (by show (y 0).val = 0; omega) rfl
  show (outsAt0 m c t.val t.isLt).2.2.1 ((cfg0.win 15).xinj (grid0.coords t) y) = _
  rw [ex, (outs m c t.val t.isLt).2.2.1, ht, acc_all]
  have r0 : (0 : Fin 1) = ((cfg0.win 15).blk t).view.emb y 0 :=
    Fin.ext (by rw [hb0, e0]; show 0 = _; omega)
  have r1 : (⟨(y 1).val, hy1⟩ : Fin 256) = ((cfg0.win 15).blk t).view.emb y 1 :=
    Fin.ext (by rw [hb1, e1]; show (y 1).val = _; omega)
  rw [r0, r1]
  rfl

theorem final_15 : (dats m 0 c).arrAt 15 cfg0.N = total (gk m c) :=
  (dats m 0 c).arrAt_eq_of_cover 15 _ (fun t h => flushed_15 m c t ((flush0_15 t).1 h)) (fun i => by
    have h0 : (i 0).val < 1 := (i 0).isLt
    have h1 : (i 1).val < 256 := (i 1).isLt
    have ht : 7 < cfg0.N := by rw [show cfg0.N = 8 from N_0]; omega
    obtain ⟨e0, e1⟩ := idx_15 ⟨7, ht⟩
    refine ⟨⟨7, ht⟩, (flush0_15 _).2 rfl, ?_⟩
    refine (mem_blk_15 _ i).mpr fun a => ?_
    match a with
    | ⟨0, _⟩ => show win0_15.index _ (0 : Fin 2) * 1 ≤ (i 0).val ∧ (i 0).val < win0_15.index _ (0 : Fin 2) * 1 + 1; rw [e0]; omega
    | ⟨1, _⟩ => show win0_15.index _ (1 : Fin 2) * 256 ≤ (i 1).val ∧ (i 1).val < win0_15.index _ (1 : Fin 2) * 256 + 256; rw [e1]; omega)

theorem mem_blk_16 (t : Fin cfg0.N) (i : S2048x512.Idx) :
    i ∈ ((cfg0.win 16).blk t).view.set ↔ ∀ a : Fin 2, win0_16.index t a * S2048x512.size a ≤ (i a).val ∧ (i a).val < win0_16.index t a * S2048x512.size a + S2048x512.size a := by
  show i ∈ ((View.whole main_v40_3).slice (win0_16.rect t)).set ↔ _
  rw [View.set_slice_whole, Rect.mem_set_unit]
  exact Iff.rfl

theorem flushed_16 (t : Fin cfg0.N) (h : t.val % 8 = 7) :
    (dats m 0 c).flushed 16 t = ((cfg0.win 16).blk t).view.read (Elt Ideal) (total (wq m c)) := by
  rw [Value.flushed16]
  obtain ⟨e0, e1⟩ := idx_16 t
  have hN : cfg0.N = 8 := N_0
  have ht : t.val = 7 := by have := t.isLt; omega
  funext y
  have hy0 : (y 0).val < 2048 := (y 0).isLt
  have hy1 : (y 1).val < 512 := (y 1).isLt
  have hb0 : (((cfg0.win 16).blk t).view.emb y 0).val = win0_16.index t (0 : Fin 2) * 2048 + 1 * (y 0).val := rfl
  have hb1 : (((cfg0.win 16).blk t).view.emb y 1).val = win0_16.index t (1 : Fin 2) * 512 + 1 * (y 1).val := rfl
  rw [View.read_apply]
  have ex : (cfg0.win 16).xinj (grid0.coords t) y = ix2 (⟨(y 0).val, hy0⟩ : Fin 2048) (⟨(y 1).val, hy1⟩ : Fin 512) := ix2_of _ _ _ rfl rfl
  show (outsAt0 m c t.val t.isLt).2.2.2.1 ((cfg0.win 16).xinj (grid0.coords t) y) = _
  rw [ex, (outs m c t.val t.isLt).2.2.2.1, ht, acc_all]
  have r0 : (⟨(y 0).val, hy0⟩ : Fin 2048) = ((cfg0.win 16).blk t).view.emb y 0 :=
    Fin.ext (by rw [hb0, e0]; show (y 0).val = _; omega)
  have r1 : (⟨(y 1).val, hy1⟩ : Fin 512) = ((cfg0.win 16).blk t).view.emb y 1 :=
    Fin.ext (by rw [hb1, e1]; show (y 1).val = _; omega)
  rw [r0, r1]
  rfl

theorem final_16 : (dats m 0 c).arrAt 16 cfg0.N = total (wq m c) :=
  (dats m 0 c).arrAt_eq_of_cover 16 _ (fun t h => flushed_16 m c t ((flush0_16 t).1 h)) (fun i => by
    have h0 : (i 0).val < 2048 := (i 0).isLt
    have h1 : (i 1).val < 512 := (i 1).isLt
    have ht : 7 < cfg0.N := by rw [show cfg0.N = 8 from N_0]; omega
    obtain ⟨e0, e1⟩ := idx_16 ⟨7, ht⟩
    refine ⟨⟨7, ht⟩, (flush0_16 _).2 rfl, ?_⟩
    refine (mem_blk_16 _ i).mpr fun a => ?_
    match a with
    | ⟨0, _⟩ => show win0_16.index _ (0 : Fin 2) * 2048 ≤ (i 0).val ∧ (i 0).val < win0_16.index _ (0 : Fin 2) * 2048 + 2048; rw [e0]; omega
    | ⟨1, _⟩ => show win0_16.index _ (1 : Fin 2) * 512 ≤ (i 1).val ∧ (i 1).val < win0_16.index _ (1 : Fin 2) * 512 + 512; rw [e1]; omega)

theorem mem_blk_17 (t : Fin cfg0.N) (i : S2048x256.Idx) :
    i ∈ ((cfg0.win 17).blk t).view.set ↔ ∀ a : Fin 2, win0_17.index t a * S2048x256.size a ≤ (i a).val ∧ (i a).val < win0_17.index t a * S2048x256.size a + S2048x256.size a := by
  show i ∈ ((View.whole main_v40_4).slice (win0_17.rect t)).set ↔ _
  rw [View.set_slice_whole, Rect.mem_set_unit]
  exact Iff.rfl

theorem flushed_17 (t : Fin cfg0.N) (h : t.val % 8 = 7) :
    (dats m 0 c).flushed 17 t = ((cfg0.win 17).blk t).view.read (Elt Ideal) (total (wk m c)) := by
  rw [Value.flushed17]
  obtain ⟨e0, e1⟩ := idx_17 t
  have hN : cfg0.N = 8 := N_0
  have ht : t.val = 7 := by have := t.isLt; omega
  funext y
  have hy0 : (y 0).val < 2048 := (y 0).isLt
  have hy1 : (y 1).val < 256 := (y 1).isLt
  have hb0 : (((cfg0.win 17).blk t).view.emb y 0).val = win0_17.index t (0 : Fin 2) * 2048 + 1 * (y 0).val := rfl
  have hb1 : (((cfg0.win 17).blk t).view.emb y 1).val = win0_17.index t (1 : Fin 2) * 256 + 1 * (y 1).val := rfl
  rw [View.read_apply]
  have ex : (cfg0.win 17).xinj (grid0.coords t) y = ix2 (⟨(y 0).val, hy0⟩ : Fin 2048) (⟨(y 1).val, hy1⟩ : Fin 256) := ix2_of _ _ _ rfl rfl
  show (outsAt0 m c t.val t.isLt).2.2.2.2 ((cfg0.win 17).xinj (grid0.coords t) y) = _
  rw [ex, (outs m c t.val t.isLt).2.2.2.2, ht, acc_all]
  have r0 : (⟨(y 0).val, hy0⟩ : Fin 2048) = ((cfg0.win 17).blk t).view.emb y 0 :=
    Fin.ext (by rw [hb0, e0]; show (y 0).val = _; omega)
  have r1 : (⟨(y 1).val, hy1⟩ : Fin 256) = ((cfg0.win 17).blk t).view.emb y 1 :=
    Fin.ext (by rw [hb1, e1]; show (y 1).val = _; omega)
  rw [r0, r1]
  rfl

theorem final_17 : (dats m 0 c).arrAt 17 cfg0.N = total (wk m c) :=
  (dats m 0 c).arrAt_eq_of_cover 17 _ (fun t h => flushed_17 m c t ((flush0_17 t).1 h)) (fun i => by
    have h0 : (i 0).val < 2048 := (i 0).isLt
    have h1 : (i 1).val < 256 := (i 1).isLt
    have ht : 7 < cfg0.N := by rw [show cfg0.N = 8 from N_0]; omega
    obtain ⟨e0, e1⟩ := idx_17 ⟨7, ht⟩
    refine ⟨⟨7, ht⟩, (flush0_17 _).2 rfl, ?_⟩
    refine (mem_blk_17 _ i).mpr fun a => ?_
    match a with
    | ⟨0, _⟩ => show win0_17.index _ (0 : Fin 2) * 2048 ≤ (i 0).val ∧ (i 0).val < win0_17.index _ (0 : Fin 2) * 2048 + 2048; rw [e0]; omega
    | ⟨1, _⟩ => show win0_17.index _ (1 : Fin 2) * 256 ≤ (i 1).val ∧ (i 1).val < win0_17.index _ (1 : Fin 2) * 256 + 256; rw [e1]; omega)

/-! ## The reference's results -/

section Reference

open Cert.Reference10Ideal.Read (val_main_v117 val_main_v118 val_main_v119 val_main_v120 val_main_v121)

variable {x0 x1 : Vec Ideal S4096x2048 .bf16} {x2 : Vec Ideal S4096x8x64 .f32} {x3 : Vec Ideal S4096x5120 .f32} {x4 x5 : Vec Ideal S4096x32 .f32}
  {x6 : Vec Ideal S512 .f32} {x7 : Vec Ideal S256 .f32} {x8 : Vec Ideal S2048x512 .bf16} {x9 : Vec Ideal S2048x256 .bf16}
  (e0 : x0 = A0 m c) (e1 : x1 = A1 m c) (e2 : x2 = A2 m c) (e3 : x3 = A3 m c) (e4 : x4 = A4 m c) (e5 : x5 = A5 m c)
  (e6 : x6 = A6 m c) (e7 : x7 = A7 m c) (e8 : x8 = A8 m c) (e9 : x9 = A9 m c)

include e0 e1 e2 e3 e4 e5 e6 e7 e8 e9 in
theorem ref_13 (kq : ∀ i j, rdx (Ideal.ofBits .f32 0x44000000#32) (qx (A3 m c) i) (fun k => dn (A0 m c) (A8 m c) i k * A6 m c (ix1 k)) j
      = kdx (Ideal.ofBits .f32 0x44000000#32) (qx (A3 m c) i) (fun k => dn (A0 m c) (A8 m c) i k * A6 m c (ix1 k)) j)
    (kk : ∀ i j, rdx (Ideal.ofBits .f32 0x43800000#32) (kx (A3 m c) i) (fun k => dn (A1 m c) (A9 m c) i k * A7 m c (ix1 k)) j
      = kdx (Ideal.ofBits .f32 0x43800000#32) (kx (A3 m c) i) (fun k => dn (A1 m c) (A9 m c) i k * A7 m c (ix1 k)) j) :
    val_main_v117 (F := Ideal) x0 x1 x2 x3 x4 x5 x6 x7 x8 x9 = gx m c := by
  subst e0 e1 e2 e3 e4 e5 e6 e7 e8 e9
  funext y
  refine (congrArg _ (eq_ix2 y)).trans ((Cert.Reference10Ideal.Latent.v117 _ _ _ _ _ _ _ _ _ _ (y 0) (y 1)).trans ?_)
  show _ = kout m c (y 0) (y 1)
  unfold kout
  rw [← funext (kq (y 0)), ← funext (kk (y 0))]

include e0 e3 e8 in
theorem ref_14 : val_main_v118 (F := Ideal) x0 x3 x8 = total (gq m c) := by
  subst e0 e3 e8
  funext y
  have h : (y 0).val < 1 := (y 0).isLt
  exact (congrArg _ (ix2_of y (0 : Fin 1) (y 1) (by show (y 0).val = 0; omega) rfl)).trans (Cert.Reference10Ideal.Latent.v118 _ _ _ (y 1))

include e1 e3 e9 in
theorem ref_15 : val_main_v119 (F := Ideal) x1 x3 x9 = total (gk m c) := by
  subst e1 e3 e9
  funext y
  have h : (y 0).val < 1 := (y 0).isLt
  exact (congrArg _ (ix2_of y (0 : Fin 1) (y 1) (by show (y 0).val = 0; omega) rfl)).trans (Cert.Reference10Ideal.Latent.v119 _ _ _ (y 1))

include e0 e3 e6 in
theorem ref_16 : val_main_v120 (F := Ideal) x0 x3 x6 = total (wq m c) := by
  subst e0 e3 e6
  funext y
  exact (congrArg _ (eq_ix2 y)).trans (Cert.Reference10Ideal.Latent.v120 _ _ _ (y 0) (y 1))

include e1 e3 e7 in
theorem ref_17 : val_main_v121 (F := Ideal) x1 x3 x7 = total (wk m c) := by
  subst e1 e3 e7
  funext y
  exact (congrArg _ (eq_ix2 y)).trans (Cert.Reference10Ideal.Latent.v121 _ _ _ (y 0) (y 1))

end Reference

/-- For finite arguments the two ways of writing a latent's gradient agree. -/
theorem paths (hp : Cert.Pre_finite_latent.fn (F := Ideal) (A0 m c) (A1 m c) (A2 m c) (A3 m c) (A4 m c) (A5 m c) (A6 m c) (A7 m c) (A8 m c) (A9 m c) = fun _ => 1#1) :
    (∀ i j, rdx (Ideal.ofBits .f32 0x44000000#32) (qx (A3 m c) i) (fun k => dn (A0 m c) (A8 m c) i k * A6 m c (ix1 k)) j
      = kdx (Ideal.ofBits .f32 0x44000000#32) (qx (A3 m c) i) (fun k => dn (A0 m c) (A8 m c) i k * A6 m c (ix1 k)) j)
    ∧ (∀ i j, rdx (Ideal.ofBits .f32 0x43800000#32) (kx (A3 m c) i) (fun k => dn (A1 m c) (A9 m c) i k * A7 m c (ix1 k)) j
      = kdx (Ideal.ofBits .f32 0x43800000#32) (kx (A3 m c) i) (fun k => dn (A1 m c) (A9 m c) i k * A7 m c (ix1 k)) j) := by
  have e := congrFun hp (fun a => a.elim0)
  unfold Cert.Pre_finite_latent.fn Cert.Pre_finite_latent.fn_part1 Cert.Pre_finite_latent.fn_part2 at e
  obtain ⟨e, p9⟩ := IntOp.andi_eq_one.1 e
  obtain ⟨e, p8⟩ := IntOp.andi_eq_one.1 e
  obtain ⟨e, p7⟩ := IntOp.andi_eq_one.1 e
  obtain ⟨e, p6⟩ := IntOp.andi_eq_one.1 e
  obtain ⟨e, p3⟩ := IntOp.andi_eq_one.1 e
  obtain ⟨p0, p1⟩ := IntOp.andi_eq_one.1 e
  have h0 := real_of_reduce _ _ _ _ _ p0
  have h1 := real_of_reduce _ _ _ _ _ p1
  have h3 := real_of_reduce _ _ _ _ _ p3
  have h6 := real_of_reduce _ _ _ _ _ p6
  have h7 := real_of_reduce _ _ _ _ _ p7
  have h8 := real_of_reduce _ _ _ _ _ p8
  have h9 := real_of_reduce _ _ _ _ _ p9
  exact ⟨fun i j => rdx_eq word_512 (by norm_num) (fun k => h3 (ix2 i _)) (fun k =>
      (congrArg₂ (· * ·) (sum_mul_coe (fun l => h0 (ix2 i l)) (fun l => h8 (ix2 l k))) (h6 (ix1 k))).trans (EReal.coe_mul _ _).symm) j,
    fun i j => rdx_eq word_256 (by norm_num) (fun k => h3 (ix2 i _)) (fun k =>
      (congrArg₂ (· * ·) (sum_mul_coe (fun l => h1 (ix2 i l)) (fun l => h9 (ix2 l k))) (h7 (ix1 k))).trans (EReal.coe_mul _ _).symm) j⟩

/-- The kernel's five results and the reference's are the same arrays of extended reals. -/
theorem algebraic : Cert.algebraic_Kernel10Ideal_Reference10Ideal_pre_finite_latent := by
  intro m g m' g' hpre hagree
  refine ⟨fun c => (dats m 0 c).arrAt 13 cfg0.N, fun c => (dats m 0 c).arrAt 14 cfg0.N, fun c => (dats m 0 c).arrAt 15 cfg0.N,
    fun c => (dats m 0 c).arrAt 16 cfg0.N, fun c => (dats m 0 c).arrAt 17 cfg0.N, Value.run_blocks m g, ?_⟩
  refine (θ_run Cert.Reference10Ideal.defs _ _).mono (fun r h c => ?_) (Cert.Reference10Ideal.Value.run m' g')
  obtain ⟨r13, r14, r15, r16, r17, ra⟩ := h c
  obtain ⟨e0, e1, e2, e3, e4, e5, e6, e7, e8, e9⟩ := hagree c
  obtain ⟨kq, kk⟩ := paths m c (hpre c)
  have q13 := ref_13 m c e0 e1 e2 e3 e4 e5 e6 e7 e8 e9 kq kk
  have q14 := ref_14 m c e0 e3 e8
  have q15 := ref_15 m c e1 e3 e9
  have q16 := ref_16 m c e0 e3 e6
  have q17 := ref_17 m c e1 e3 e7
  refine ⟨r13.trans ?_, r14.trans ?_, r15.trans ?_, r16.trans ?_, r17.trans ?_, ra⟩
  · exact (Cert.Reference10Ideal.Read.val_main_v117_eq m' c).trans (q13.trans (final_13 m c).symm)
  · exact (Cert.Reference10Ideal.Read.val_main_v118_eq _ _ _).trans (q14.trans (final_14 m c).symm)
  · exact (Cert.Reference10Ideal.Read.val_main_v119_eq _ _ _).trans (q15.trans (final_15 m c).symm)
  · exact (Cert.Reference10Ideal.Read.val_main_v120_eq _ _ _).trans (q16.trans (final_16 m c).symm)
  · exact (Cert.Reference10Ideal.Read.val_main_v121_eq _ _ _).trans (q17.trans (final_17 m c).symm)

end Cert.Kernel10Ideal.Latent

end
-- ==== Proof.lean ====
/- The proof of the claims about the gradients of the attention and of the layer norm, and about the step's projections. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Dense.Dh
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Dense.Dmix
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Dense.DwOut
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Dense.InProj
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Pre_finite_ln
public import proofs.«01_k».proof.Proof.Norm.Value
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.OutProj.Residual
public import proofs.«01_k».proof.Proof.OutProj.Norm
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite_latent
public import Idealize.ShloMosaic.Lib.Quiescent
public import proofs.«01_k».proof.Proof.Flash.Run
public import proofs.«01_k».proof.Proof.Flash.Words
public import proofs.«01_k».proof.Proof.DwIn.Value
public import proofs.«01_k».proof.Proof.Flash.Value
public import proofs.«01_k».proof.Proof.Latent.Value

@[expose] public section

noncomputable section

namespace Cert.Proof

open Idealize.ShloMosaic Idealize.SL.Sem

set_option maxHeartbeats 1000000 in
theorem frame_kernel : Cert.quiescent_Kernel := fun m ρ _ => by
  have h := Cert.KernelIdeal.Flash.unchanged (F := Bits) m ρ
  rw [Cert.KernelIdeal.Flash.Words.main_eq, Cert.KernelIdeal.Flash.Words.defs_eq] at h
  exact h

theorem frame_kernelIdeal : Cert.quiescent_KernelIdeal := fun m ρ _ => Cert.KernelIdeal.Flash.unchanged m ρ

theorem frame_kernelIdeal_finite : Cert.quiescent_KernelIdeal_pre_finite := fun m ρ _ => Cert.KernelIdeal.Flash.unchanged m ρ

theorem frame_referenceIdeal : Cert.quiescent_ReferenceIdeal := fun m ρ _ =>
  (θ_run Cert.ReferenceIdeal.defs _ _).mono (fun r h => ⟨fun c => (h c).2.2.2, sem_eq_zero_of_no_sems rfl r.2⟩) (Cert.ReferenceIdeal.Value.run m ρ)

theorem frame_referenceIdeal_finite : Cert.quiescent_ReferenceIdeal_pre_finite := fun m ρ _ => frame_referenceIdeal m ρ trivial

theorem preserves_kernel : Cert.preserves_Kernel_KernelIdeal :=
  ⟨IdealRules.named_const.statement Cert.KernelIdeal.κ "scale_log2e" .f32 0x3DD53B95#32 _ rfl,
    IdealRules.named_const.statement Cert.KernelIdeal.κ "scale" .f32 0x3D93CD3A#32 _ rfl⟩

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r h => ⟨fun c => (h c).2, sem_eq_zero_of_no_sems rfl r.2⟩) (Cert.Reference2Ideal.Value.run m ρ)

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2, sem_eq_zero_of_no_sems rfl r.2⟩) (Cert.Reference3Ideal.Value.run m ρ)

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => (h c).2, sem_eq_zero_of_no_sems rfl r.2⟩) (Cert.Reference4Ideal.Value.run m ρ)

theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5Ideal : Cert.quiescent_Reference5Ideal := fun m ρ _ =>
  (θ_run Cert.Reference5Ideal.defs _ _).mono (fun r h => ⟨fun c => (h c).2, sem_eq_zero_of_no_sems rfl r.2⟩) (Cert.Reference5Ideal.Value.run m ρ)

theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6Ideal : Cert.quiescent_Reference6Ideal := fun m ρ _ =>
  (θ_run Cert.Reference6Ideal.defs _ _).mono (fun r h => ⟨fun c => (h c).2, sem_eq_zero_of_no_sems rfl r.2⟩) (Cert.Reference6Ideal.Value.run m ρ)

theorem frame_kernel7 : Cert.quiescent_Kernel7 := fun m ρ _ => Cert.Kernel7.Gen.frame m ρ

theorem frame_kernel7Ideal : Cert.quiescent_Kernel7Ideal := fun m ρ _ => Cert.Kernel7Ideal.Gen.frame m ρ

theorem frame_kernel7Ideal_finite : Cert.quiescent_Kernel7Ideal_pre_finite_ln := fun m ρ _ => Cert.Kernel7Ideal.Gen.frame m ρ

theorem frame_reference7Ideal : Cert.quiescent_Reference7Ideal := fun m ρ _ =>
  (θ_run Cert.Reference7Ideal.defs _ _).mono (fun r h => ⟨fun c => (h c).2.2.2.2, sem_eq_zero_of_no_sems rfl r.2⟩) (Cert.Reference7Ideal.Value.run m ρ)

theorem frame_reference7Ideal_finite : Cert.quiescent_Reference7Ideal_pre_finite_ln := fun m ρ _ => frame_reference7Ideal m ρ trivial

theorem frame_kernel8 : Cert.quiescent_Kernel8 := fun m ρ _ => Cert.Kernel8.Gen.frame m ρ

theorem frame_kernel8Ideal : Cert.quiescent_Kernel8Ideal := fun m ρ _ => Cert.Kernel8Ideal.Gen.frame m ρ

theorem frame_reference8Ideal : Cert.quiescent_Reference8Ideal := fun m ρ _ =>
  (θ_run Cert.Reference8Ideal.defs _ _).mono (fun r h => ⟨fun c => (h c).2.2.2, sem_eq_zero_of_no_sems rfl r.2⟩) (Cert.Reference8Ideal.Value.run m ρ)

theorem frame_kernel9 : Cert.quiescent_Kernel9 := fun m ρ _ => Cert.Kernel9.Gen.frame m ρ

theorem frame_kernel9Ideal : Cert.quiescent_Kernel9Ideal := fun m ρ _ => Cert.Kernel9Ideal.Gen.frame m ρ

theorem frame_reference9Ideal : Cert.quiescent_Reference9Ideal := fun m ρ _ =>
  (θ_run Cert.Reference9Ideal.defs _ _).mono (fun r h => ⟨fun c => (h c).2, sem_eq_zero_of_no_sems rfl r.2⟩) (Cert.Reference9Ideal.Value.run m ρ)

theorem frame_kernel10 : Cert.quiescent_Kernel10 := fun m ρ _ => Cert.Kernel10.Gen.frame m ρ

theorem frame_kernel10Ideal : Cert.quiescent_Kernel10Ideal := fun m ρ _ => Cert.Kernel10Ideal.Gen.frame m ρ

theorem frame_kernel10Ideal_finite : Cert.quiescent_Kernel10Ideal_pre_finite_latent := fun m ρ _ => Cert.Kernel10Ideal.Gen.frame m ρ

theorem frame_reference10Ideal : Cert.quiescent_Reference10Ideal := fun m ρ _ =>
  (θ_run Cert.Reference10Ideal.defs _ _).mono (fun r h => ⟨fun c => (h c).2.2.2.2.2, sem_eq_zero_of_no_sems rfl r.2⟩) (Cert.Reference10Ideal.Value.run m ρ)

theorem frame_reference10Ideal_finite : Cert.quiescent_Reference10Ideal_pre_finite_latent := fun m ρ _ => frame_reference10Ideal m ρ trivial

theorem preserves_kernel3 : Cert.preserves_Kernel3_Kernel3Ideal :=
  IdealRules.named_const.statement Cert.Kernel3Ideal.κ "alpha" .f32 0x3FB504F3#32 _ rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.Gen.facts, Cert.Pre_finite_ln.Gen.facts, Cert.Pre_finite_latent.Gen.facts,
    frame_kernel, frame_kernelIdeal, frame_kernelIdeal_finite, frame_referenceIdeal, frame_referenceIdeal_finite,
    frame_kernel2, frame_kernel2Ideal, frame_reference2Ideal,
    frame_kernel3, frame_kernel3Ideal, frame_reference3Ideal,
    frame_kernel4, frame_kernel4Ideal, frame_reference4Ideal,
    frame_kernel5, frame_kernel5Ideal, frame_reference5Ideal,
    frame_kernel6, frame_kernel6Ideal, frame_reference6Ideal,
    frame_kernel7, frame_kernel7Ideal, frame_kernel7Ideal_finite, frame_reference7Ideal, frame_reference7Ideal_finite,
    frame_kernel8, frame_kernel8Ideal, frame_reference8Ideal,
    frame_kernel9, frame_kernel9Ideal, frame_reference9Ideal,
    frame_kernel10, frame_kernel10Ideal, frame_kernel10Ideal_finite, frame_reference10Ideal, frame_reference10Ideal_finite,
    preserves_kernel, Cert.KernelIdeal.Flash.algebraic, trivial, Cert.Kernel2Ideal.DwIn.algebraic,
    preserves_kernel3, Cert.Kernel3Ideal.Dh.algebraic, trivial, Cert.Kernel4Ideal.Dmix.algebraic,
    trivial, Cert.Kernel5Ideal.DwOut.algebraic, trivial, Cert.Kernel6Ideal.InProj.algebraic,
    trivial, Cert.Kernel7Ideal.Norm.algebraic, trivial, Cert.Kernel8Ideal.OutProj.algebraic, trivial, Cert.Kernel9Ideal.OutProj.algebraic,
    trivial, Cert.Kernel10Ideal.Latent.algebraic⟩

end Cert.Proof

end
